-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10)
      ∧ r.2.mem ((c.tc : Thread Cert.Kernel2.nD Cert.Kernel2.τ).loc Cert.Kernel2.main_arg11) = m ((c.tc : Thread Cert.Kernel2.nD Cert.Kernel2.τ).loc Cert.Kernel2.main_arg11)
      ∧ r.2.mem ((c.tc : Thread Cert.Kernel2.nD Cert.Kernel2.τ).loc Cert.Kernel2.main_arg12) = m ((c.tc : Thread Cert.Kernel2.nD Cert.Kernel2.τ).loc Cert.Kernel2.main_arg12))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
      ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
      ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10)
      ∧ r.2.mem ((c.tc : Thread Cert.Reference2Ideal.nD Cert.Reference2Ideal.τ).loc Cert.Reference2Ideal.main_arg11) = m ((c.tc : Thread Cert.Reference2Ideal.nD Cert.Reference2Ideal.τ).loc Cert.Reference2Ideal.main_arg11)
      ∧ r.2.mem ((c.tc : Thread Cert.Reference2Ideal.nD Cert.Reference2Ideal.τ).loc Cert.Reference2Ideal.main_arg12) = m ((c.tc : Thread Cert.Reference2Ideal.nD Cert.Reference2Ideal.τ).loc Cert.Reference2Ideal.main_arg12))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6)
      ∧ r.2.mem ((c.tc : Thread Cert.Kernel6.nD Cert.Kernel6.τ).loc Cert.Kernel6.main_arg7) = m ((c.tc : Thread Cert.Kernel6.nD Cert.Kernel6.τ).loc Cert.Kernel6.main_arg7)
      ∧ r.2.mem ((c.tc : Thread Cert.Kernel6.nD Cert.Kernel6.τ).loc Cert.Kernel6.main_arg8) = m ((c.tc : Thread Cert.Kernel6.nD Cert.Kernel6.τ).loc Cert.Kernel6.main_arg8)
      ∧ r.2.mem ((c.tc : Thread Cert.Kernel6.nD Cert.Kernel6.τ).loc Cert.Kernel6.main_arg9) = m ((c.tc : Thread Cert.Kernel6.nD Cert.Kernel6.τ).loc Cert.Kernel6.main_arg9)
      ∧ r.2.mem ((c.tc : Thread Cert.Kernel6.nD Cert.Kernel6.τ).loc Cert.Kernel6.main_arg10) = m ((c.tc : Thread Cert.Kernel6.nD Cert.Kernel6.τ).loc Cert.Kernel6.main_arg10))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
      ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
      ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9)
      ∧ r.2.mem ((c.tc : Thread Cert.Kernel6Ideal.nD Cert.Kernel6Ideal.τ).loc Cert.Kernel6Ideal.main_arg10) = m ((c.tc : Thread Cert.Kernel6Ideal.nD Cert.Kernel6Ideal.τ).loc Cert.Kernel6Ideal.main_arg10))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7)
      ∧ r.2.mem ((c.tc : Thread Cert.Reference6Ideal.nD Cert.Reference6Ideal.τ).loc Cert.Reference6Ideal.main_arg8) = m ((c.tc : Thread Cert.Reference6Ideal.nD Cert.Reference6Ideal.τ).loc Cert.Reference6Ideal.main_arg8)
      ∧ r.2.mem ((c.tc : Thread Cert.Reference6Ideal.nD Cert.Reference6Ideal.τ).loc Cert.Reference6Ideal.main_arg9) = m ((c.tc : Thread Cert.Reference6Ideal.nD Cert.Reference6Ideal.τ).loc Cert.Reference6Ideal.main_arg9)
      ∧ r.2.mem ((c.tc : Thread Cert.Reference6Ideal.nD Cert.Reference6Ideal.τ).loc Cert.Reference6Ideal.main_arg10) = m ((c.tc : Thread Cert.Reference6Ideal.nD Cert.Reference6Ideal.τ).loc Cert.Reference6Ideal.main_arg10))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5)
      ∧ r.2.mem ((c.tc : Thread Cert.Kernel7.nD Cert.Kernel7.τ).loc Cert.Kernel7.main_arg6) = m ((c.tc : Thread Cert.Kernel7.nD Cert.Kernel7.τ).loc Cert.Kernel7.main_arg6)
      ∧ r.2.mem ((c.tc : Thread Cert.Kernel7.nD Cert.Kernel7.τ).loc Cert.Kernel7.main_arg7) = m ((c.tc : Thread Cert.Kernel7.nD Cert.Kernel7.τ).loc Cert.Kernel7.main_arg7)
      ∧ r.2.mem ((c.tc : Thread Cert.Kernel7.nD Cert.Kernel7.τ).loc Cert.Kernel7.main_arg8) = m ((c.tc : Thread Cert.Kernel7.nD Cert.Kernel7.τ).loc Cert.Kernel7.main_arg8)
      ∧ r.2.mem ((c.tc : Thread Cert.Kernel7.nD Cert.Kernel7.τ).loc Cert.Kernel7.main_arg9) = m ((c.tc : Thread Cert.Kernel7.nD Cert.Kernel7.τ).loc Cert.Kernel7.main_arg9)
      ∧ r.2.mem ((c.tc : Thread Cert.Kernel7.nD Cert.Kernel7.τ).loc Cert.Kernel7.main_arg10) = m ((c.tc : Thread Cert.Kernel7.nD Cert.Kernel7.τ).loc Cert.Kernel7.main_arg10)
      ∧ r.2.mem ((c.tc : Thread Cert.Kernel7.nD Cert.Kernel7.τ).loc Cert.Kernel7.main_arg11) = m ((c.tc : Thread Cert.Kernel7.nD Cert.Kernel7.τ).loc Cert.Kernel7.main_arg11)
      ∧ r.2.mem ((c.tc : Thread Cert.Kernel7.nD Cert.Kernel7.τ).loc Cert.Kernel7.main_arg12) = m ((c.tc : Thread Cert.Kernel7.nD Cert.Kernel7.τ).loc Cert.Kernel7.main_arg12))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
      ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
      ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8)
      ∧ r.2.mem ((c.tc : Thread Cert.Kernel7Ideal.nD Cert.Kernel7Ideal.τ).loc Cert.Kernel7Ideal.main_arg9) = m ((c.tc : Thread Cert.Kernel7Ideal.nD Cert.Kernel7Ideal.τ).loc Cert.Kernel7Ideal.main_arg9)
      ∧ r.2.mem ((c.tc : Thread Cert.Kernel7Ideal.nD Cert.Kernel7Ideal.τ).loc Cert.Kernel7Ideal.main_arg10) = m ((c.tc : Thread Cert.Kernel7Ideal.nD Cert.Kernel7Ideal.τ).loc Cert.Kernel7Ideal.main_arg10)
      ∧ r.2.mem ((c.tc : Thread Cert.Kernel7Ideal.nD Cert.Kernel7Ideal.τ).loc Cert.Kernel7Ideal.main_arg11) = m ((c.tc : Thread Cert.Kernel7Ideal.nD Cert.Kernel7Ideal.τ).loc Cert.Kernel7Ideal.main_arg11)
      ∧ r.2.mem ((c.tc : Thread Cert.Kernel7Ideal.nD Cert.Kernel7Ideal.τ).loc Cert.Kernel7Ideal.main_arg12) = m ((c.tc : Thread Cert.Kernel7Ideal.nD Cert.Kernel7Ideal.τ).loc Cert.Kernel7Ideal.main_arg12))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6)
      ∧ r.2.mem ((c.tc : Thread Cert.Reference7Ideal.nD Cert.Reference7Ideal.τ).loc Cert.Reference7Ideal.main_arg7) = m ((c.tc : Thread Cert.Reference7Ideal.nD Cert.Reference7Ideal.τ).loc Cert.Reference7Ideal.main_arg7)
      ∧ r.2.mem ((c.tc : Thread Cert.Reference7Ideal.nD Cert.Reference7Ideal.τ).loc Cert.Reference7Ideal.main_arg8) = m ((c.tc : Thread Cert.Reference7Ideal.nD Cert.Reference7Ideal.τ).loc Cert.Reference7Ideal.main_arg8)
      ∧ r.2.mem ((c.tc : Thread Cert.Reference7Ideal.nD Cert.Reference7Ideal.τ).loc Cert.Reference7Ideal.main_arg9) = m ((c.tc : Thread Cert.Reference7Ideal.nD Cert.Reference7Ideal.τ).loc Cert.Reference7Ideal.main_arg9)
      ∧ r.2.mem ((c.tc : Thread Cert.Reference7Ideal.nD Cert.Reference7Ideal.τ).loc Cert.Reference7Ideal.main_arg10) = m ((c.tc : Thread Cert.Reference7Ideal.nD Cert.Reference7Ideal.τ).loc Cert.Reference7Ideal.main_arg10)
      ∧ r.2.mem ((c.tc : Thread Cert.Reference7Ideal.nD Cert.Reference7Ideal.τ).loc Cert.Reference7Ideal.main_arg11) = m ((c.tc : Thread Cert.Reference7Ideal.nD Cert.Reference7Ideal.τ).loc Cert.Reference7Ideal.main_arg11)
      ∧ r.2.mem ((c.tc : Thread Cert.Reference7Ideal.nD Cert.Reference7Ideal.τ).loc Cert.Reference7Ideal.main_arg12) = m ((c.tc : Thread Cert.Reference7Ideal.nD Cert.Reference7Ideal.τ).loc Cert.Reference7Ideal.main_arg12))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4)
      ∧ r.2.mem ((c.tc : Thread Cert.Kernel8.nD Cert.Kernel8.τ).loc Cert.Kernel8.main_arg5) = m ((c.tc : Thread Cert.Kernel8.nD Cert.Kernel8.τ).loc Cert.Kernel8.main_arg5))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v15_0)) (v1 : (c : Dev Cert.KernelIdeal.nD) → Buf (Elt Ideal) ((c.tc : Thread Cert.KernelIdeal.nD Cert.KernelIdeal.τ).loc Cert.KernelIdeal.main_v15_1)) (v2 : (c : Dev Cert.KernelIdeal.nD) → Buf (Elt Ideal) ((c.tc : Thread Cert.KernelIdeal.nD Cert.KernelIdeal.τ).loc Cert.KernelIdeal.main_v15_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15_0) = v0 c
          ∧ r.2.mem ((c.tc : Thread Cert.KernelIdeal.nD Cert.KernelIdeal.τ).loc Cert.KernelIdeal.main_v15_1) = v1 c
          ∧ r.2.mem ((c.tc : Thread Cert.KernelIdeal.nD Cert.KernelIdeal.τ).loc Cert.KernelIdeal.main_v15_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v88) = v0 c
          ∧ r.2.mem ((c.tc : Thread Cert.ReferenceIdeal.nD Cert.ReferenceIdeal.τ).loc Cert.ReferenceIdeal.main_v89) = v1 c
          ∧ r.2.mem ((c.tc : Thread Cert.ReferenceIdeal.nD Cert.ReferenceIdeal.τ).loc Cert.ReferenceIdeal.main_v90) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)
      ∧ m' ((c.tc : Thread Cert.Reference2Ideal.nD Cert.Reference2Ideal.τ).loc Cert.Reference2Ideal.main_arg11) = m ((c.tc : Thread Cert.Kernel2Ideal.nD Cert.Kernel2Ideal.τ).loc Cert.Kernel2Ideal.main_arg11)
      ∧ m' ((c.tc : Thread Cert.Reference2Ideal.nD Cert.Reference2Ideal.τ).loc Cert.Reference2Ideal.main_arg12) = m ((c.tc : Thread Cert.Kernel2Ideal.nD Cert.Kernel2Ideal.τ).loc Cert.Kernel2Ideal.main_arg12)) →
    ∃ (v0 : (c : Dev Cert.Kernel2Ideal.nD) → Buf (Elt Ideal) ((c.tc : Thread Cert.Kernel2Ideal.nD Cert.Kernel2Ideal.τ).loc Cert.Kernel2Ideal.main_v20)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v20) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
          ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
          ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v47) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10)
          ∧ r.2.mem ((c.tc : Thread Cert.Reference2Ideal.nD Cert.Reference2Ideal.τ).loc Cert.Reference2Ideal.main_arg11) = m' ((c.tc : Thread Cert.Reference2Ideal.nD Cert.Reference2Ideal.τ).loc Cert.Reference2Ideal.main_arg11)
          ∧ r.2.mem ((c.tc : Thread Cert.Reference2Ideal.nD Cert.Reference2Ideal.τ).loc Cert.Reference2Ideal.main_arg12) = m' ((c.tc : Thread Cert.Reference2Ideal.nD Cert.Reference2Ideal.τ).loc Cert.Reference2Ideal.main_arg12))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)) →
    ∃ (v0 : (c : Dev Cert.Kernel3Ideal.nD) → Buf (Elt Ideal) ((c.tc : Thread Cert.Kernel3Ideal.nD Cert.Kernel3Ideal.τ).loc Cert.Kernel3Ideal.main_v58_0)) (v1 : (c : Dev Cert.Kernel3Ideal.nD) → Buf (Elt Ideal) ((c.tc : Thread Cert.Kernel3Ideal.nD Cert.Kernel3Ideal.τ).loc Cert.Kernel3Ideal.main_v58_1)) (v2 : (c : Dev Cert.Kernel3Ideal.nD) → Buf (Elt Ideal) ((c.tc : Thread Cert.Kernel3Ideal.nD Cert.Kernel3Ideal.τ).loc Cert.Kernel3Ideal.main_v58_2)) (v3 : (c : Dev Cert.Kernel3Ideal.nD) → Buf (Elt Ideal) ((c.tc : Thread Cert.Kernel3Ideal.nD Cert.Kernel3Ideal.τ).loc Cert.Kernel3Ideal.main_v58_3)) (v4 : (c : Dev Cert.Kernel3Ideal.nD) → Buf (Elt Ideal) ((c.tc : Thread Cert.Kernel3Ideal.nD Cert.Kernel3Ideal.τ).loc Cert.Kernel3Ideal.main_v58_4)) (v5 : (c : Dev Cert.Kernel3Ideal.nD) → Buf (Elt Ideal) ((c.tc : Thread Cert.Kernel3Ideal.nD Cert.Kernel3Ideal.τ).loc Cert.Kernel3Ideal.main_v58_5)) (v6 : (c : Dev Cert.Kernel3Ideal.nD) → Buf (Elt Ideal) ((c.tc : Thread Cert.Kernel3Ideal.nD Cert.Kernel3Ideal.τ).loc Cert.Kernel3Ideal.main_v58_6)) (v7 : (c : Dev Cert.Kernel3Ideal.nD) → Buf (Elt Ideal) ((c.tc : Thread Cert.Kernel3Ideal.nD Cert.Kernel3Ideal.τ).loc Cert.Kernel3Ideal.main_v58_7)) (v8 : (c : Dev Cert.Kernel3Ideal.nD) → Buf (Elt Ideal) ((c.tc : Thread Cert.Kernel3Ideal.nD Cert.Kernel3Ideal.τ).loc Cert.Kernel3Ideal.main_v58_8)) (v9 : (c : Dev Cert.Kernel3Ideal.nD) → Buf (Elt Ideal) ((c.tc : Thread Cert.Kernel3Ideal.nD Cert.Kernel3Ideal.τ).loc Cert.Kernel3Ideal.main_v58_9)) (v10 : (c : Dev Cert.Kernel3Ideal.nD) → Buf (Elt Ideal) ((c.tc : Thread Cert.Kernel3Ideal.nD Cert.Kernel3Ideal.τ).loc Cert.Kernel3Ideal.main_v58_10)) (v11 : (c : Dev Cert.Kernel3Ideal.nD) → Buf (Elt Ideal) ((c.tc : Thread Cert.Kernel3Ideal.nD Cert.Kernel3Ideal.τ).loc Cert.Kernel3Ideal.main_v58_11)) (v12 : (c : Dev Cert.Kernel3Ideal.nD) → Buf (Elt Ideal) ((c.tc : Thread Cert.Kernel3Ideal.nD Cert.Kernel3Ideal.τ).loc Cert.Kernel3Ideal.main_v58_12)) (v13 : (c : Dev Cert.Kernel3Ideal.nD) → Buf (Elt Ideal) ((c.tc : Thread Cert.Kernel3Ideal.nD Cert.Kernel3Ideal.τ).loc Cert.Kernel3Ideal.main_v58_13)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v58_0) = v0 c
          ∧ r.2.mem ((c.tc : Thread Cert.Kernel3Ideal.nD Cert.Kernel3Ideal.τ).loc Cert.Kernel3Ideal.main_v58_1) = v1 c
          ∧ r.2.mem ((c.tc : Thread Cert.Kernel3Ideal.nD Cert.Kernel3Ideal.τ).loc Cert.Kernel3Ideal.main_v58_2) = v2 c
          ∧ r.2.mem ((c.tc : Thread Cert.Kernel3Ideal.nD Cert.Kernel3Ideal.τ).loc Cert.Kernel3Ideal.main_v58_3) = v3 c
          ∧ r.2.mem ((c.tc : Thread Cert.Kernel3Ideal.nD Cert.Kernel3Ideal.τ).loc Cert.Kernel3Ideal.main_v58_4) = v4 c
          ∧ r.2.mem ((c.tc : Thread Cert.Kernel3Ideal.nD Cert.Kernel3Ideal.τ).loc Cert.Kernel3Ideal.main_v58_5) = v5 c
          ∧ r.2.mem ((c.tc : Thread Cert.Kernel3Ideal.nD Cert.Kernel3Ideal.τ).loc Cert.Kernel3Ideal.main_v58_6) = v6 c
          ∧ r.2.mem ((c.tc : Thread Cert.Kernel3Ideal.nD Cert.Kernel3Ideal.τ).loc Cert.Kernel3Ideal.main_v58_7) = v7 c
          ∧ r.2.mem ((c.tc : Thread Cert.Kernel3Ideal.nD Cert.Kernel3Ideal.τ).loc Cert.Kernel3Ideal.main_v58_8) = v8 c
          ∧ r.2.mem ((c.tc : Thread Cert.Kernel3Ideal.nD Cert.Kernel3Ideal.τ).loc Cert.Kernel3Ideal.main_v58_9) = v9 c
          ∧ r.2.mem ((c.tc : Thread Cert.Kernel3Ideal.nD Cert.Kernel3Ideal.τ).loc Cert.Kernel3Ideal.main_v58_10) = v10 c
          ∧ r.2.mem ((c.tc : Thread Cert.Kernel3Ideal.nD Cert.Kernel3Ideal.τ).loc Cert.Kernel3Ideal.main_v58_11) = v11 c
          ∧ r.2.mem ((c.tc : Thread Cert.Kernel3Ideal.nD Cert.Kernel3Ideal.τ).loc Cert.Kernel3Ideal.main_v58_12) = v12 c
          ∧ r.2.mem ((c.tc : Thread Cert.Kernel3Ideal.nD Cert.Kernel3Ideal.τ).loc Cert.Kernel3Ideal.main_v58_13) = v13 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v114) = v0 c
          ∧ r.2.mem ((c.tc : Thread Cert.Reference3Ideal.nD Cert.Reference3Ideal.τ).loc Cert.Reference3Ideal.main_v128) = v1 c
          ∧ r.2.mem ((c.tc : Thread Cert.Reference3Ideal.nD Cert.Reference3Ideal.τ).loc Cert.Reference3Ideal.main_v131) = v2 c
          ∧ r.2.mem ((c.tc : Thread Cert.Reference3Ideal.nD Cert.Reference3Ideal.τ).loc Cert.Reference3Ideal.main_v132) = v3 c
          ∧ r.2.mem ((c.tc : Thread Cert.Reference3Ideal.nD Cert.Reference3Ideal.τ).loc Cert.Reference3Ideal.main_v136) = v4 c
          ∧ r.2.mem ((c.tc : Thread Cert.Reference3Ideal.nD Cert.Reference3Ideal.τ).loc Cert.Reference3Ideal.main_v140) = v5 c
          ∧ r.2.mem ((c.tc : Thread Cert.Reference3Ideal.nD Cert.Reference3Ideal.τ).loc Cert.Reference3Ideal.main_v142) = v6 c
          ∧ r.2.mem ((c.tc : Thread Cert.Reference3Ideal.nD Cert.Reference3Ideal.τ).loc Cert.Reference3Ideal.main_v143) = v7 c
          ∧ r.2.mem ((c.tc : Thread Cert.Reference3Ideal.nD Cert.Reference3Ideal.τ).loc Cert.Reference3Ideal.main_v145) = v8 c
          ∧ r.2.mem ((c.tc : Thread Cert.Reference3Ideal.nD Cert.Reference3Ideal.τ).loc Cert.Reference3Ideal.main_v147) = v9 c
          ∧ r.2.mem ((c.tc : Thread Cert.Reference3Ideal.nD Cert.Reference3Ideal.τ).loc Cert.Reference3Ideal.main_v149) = v10 c
          ∧ r.2.mem ((c.tc : Thread Cert.Reference3Ideal.nD Cert.Reference3Ideal.τ).loc Cert.Reference3Ideal.main_v154) = v11 c
          ∧ r.2.mem ((c.tc : Thread Cert.Reference3Ideal.nD Cert.Reference3Ideal.τ).loc Cert.Reference3Ideal.main_v159) = v12 c
          ∧ r.2.mem ((c.tc : Thread Cert.Reference3Ideal.nD Cert.Reference3Ideal.τ).loc Cert.Reference3Ideal.main_v161) = v13 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v18)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v18) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v38) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v2) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v24) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)
      ∧ m' ((c.tc : Thread Cert.Reference6Ideal.nD Cert.Reference6Ideal.τ).loc Cert.Reference6Ideal.main_arg7) = m ((c.tc : Thread Cert.Kernel6Ideal.nD Cert.Kernel6Ideal.τ).loc Cert.Kernel6Ideal.main_arg7)
      ∧ m' ((c.tc : Thread Cert.Reference6Ideal.nD Cert.Reference6Ideal.τ).loc Cert.Reference6Ideal.main_arg8) = m ((c.tc : Thread Cert.Kernel6Ideal.nD Cert.Kernel6Ideal.τ).loc Cert.Kernel6Ideal.main_arg8)
      ∧ m' ((c.tc : Thread Cert.Reference6Ideal.nD Cert.Reference6Ideal.τ).loc Cert.Reference6Ideal.main_arg9) = m ((c.tc : Thread Cert.Kernel6Ideal.nD Cert.Kernel6Ideal.τ).loc Cert.Kernel6Ideal.main_arg9)
      ∧ m' ((c.tc : Thread Cert.Reference6Ideal.nD Cert.Reference6Ideal.τ).loc Cert.Reference6Ideal.main_arg10) = m ((c.tc : Thread Cert.Kernel6Ideal.nD Cert.Kernel6Ideal.τ).loc Cert.Kernel6Ideal.main_arg10)) →
    ∃ (v0 : (c : Dev Cert.Kernel6Ideal.nD) → Buf (Elt Ideal) ((c.tc : Thread Cert.Kernel6Ideal.nD Cert.Kernel6Ideal.τ).loc Cert.Kernel6Ideal.main_v16_0)) (v1 : (c : Dev Cert.Kernel6Ideal.nD) → Buf (Elt Ideal) ((c.tc : Thread Cert.Kernel6Ideal.nD Cert.Kernel6Ideal.τ).loc Cert.Kernel6Ideal.main_v16_1)) (v2 : (c : Dev Cert.Kernel6Ideal.nD) → Buf (Elt Ideal) ((c.tc : Thread Cert.Kernel6Ideal.nD Cert.Kernel6Ideal.τ).loc Cert.Kernel6Ideal.main_v16_2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v16_0) = v0 c
          ∧ r.2.mem ((c.tc : Thread Cert.Kernel6Ideal.nD Cert.Kernel6Ideal.τ).loc Cert.Kernel6Ideal.main_v16_1) = v1 c
          ∧ r.2.mem ((c.tc : Thread Cert.Kernel6Ideal.nD Cert.Kernel6Ideal.τ).loc Cert.Kernel6Ideal.main_v16_2) = v2 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
          ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
          ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
          ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9)
          ∧ r.2.mem ((c.tc : Thread Cert.Kernel6Ideal.nD Cert.Kernel6Ideal.τ).loc Cert.Kernel6Ideal.main_arg10) = m ((c.tc : Thread Cert.Kernel6Ideal.nD Cert.Kernel6Ideal.τ).loc Cert.Kernel6Ideal.main_arg10))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v86) = v0 c
          ∧ r.2.mem ((c.tc : Thread Cert.Reference6Ideal.nD Cert.Reference6Ideal.τ).loc Cert.Reference6Ideal.main_v84) = v1 c
          ∧ r.2.mem ((c.tc : Thread Cert.Reference6Ideal.nD Cert.Reference6Ideal.τ).loc Cert.Reference6Ideal.main_v88) = v2 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6)
          ∧ r.2.mem ((c.tc : Thread Cert.Reference6Ideal.nD Cert.Reference6Ideal.τ).loc Cert.Reference6Ideal.main_arg7) = m' ((c.tc : Thread Cert.Reference6Ideal.nD Cert.Reference6Ideal.τ).loc Cert.Reference6Ideal.main_arg7)
          ∧ r.2.mem ((c.tc : Thread Cert.Reference6Ideal.nD Cert.Reference6Ideal.τ).loc Cert.Reference6Ideal.main_arg8) = m' ((c.tc : Thread Cert.Reference6Ideal.nD Cert.Reference6Ideal.τ).loc Cert.Reference6Ideal.main_arg8)
          ∧ r.2.mem ((c.tc : Thread Cert.Reference6Ideal.nD Cert.Reference6Ideal.τ).loc Cert.Reference6Ideal.main_arg9) = m' ((c.tc : Thread Cert.Reference6Ideal.nD Cert.Reference6Ideal.τ).loc Cert.Reference6Ideal.main_arg9)
          ∧ r.2.mem ((c.tc : Thread Cert.Reference6Ideal.nD Cert.Reference6Ideal.τ).loc Cert.Reference6Ideal.main_arg10) = m' ((c.tc : Thread Cert.Reference6Ideal.nD Cert.Reference6Ideal.τ).loc Cert.Reference6Ideal.main_arg10))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)
      ∧ m' ((c.tc : Thread Cert.Reference7Ideal.nD Cert.Reference7Ideal.τ).loc Cert.Reference7Ideal.main_arg6) = m ((c.tc : Thread Cert.Kernel7Ideal.nD Cert.Kernel7Ideal.τ).loc Cert.Kernel7Ideal.main_arg6)
      ∧ m' ((c.tc : Thread Cert.Reference7Ideal.nD Cert.Reference7Ideal.τ).loc Cert.Reference7Ideal.main_arg7) = m ((c.tc : Thread Cert.Kernel7Ideal.nD Cert.Kernel7Ideal.τ).loc Cert.Kernel7Ideal.main_arg7)
      ∧ m' ((c.tc : Thread Cert.Reference7Ideal.nD Cert.Reference7Ideal.τ).loc Cert.Reference7Ideal.main_arg8) = m ((c.tc : Thread Cert.Kernel7Ideal.nD Cert.Kernel7Ideal.τ).loc Cert.Kernel7Ideal.main_arg8)
      ∧ m' ((c.tc : Thread Cert.Reference7Ideal.nD Cert.Reference7Ideal.τ).loc Cert.Reference7Ideal.main_arg9) = m ((c.tc : Thread Cert.Kernel7Ideal.nD Cert.Kernel7Ideal.τ).loc Cert.Kernel7Ideal.main_arg9)
      ∧ m' ((c.tc : Thread Cert.Reference7Ideal.nD Cert.Reference7Ideal.τ).loc Cert.Reference7Ideal.main_arg10) = m ((c.tc : Thread Cert.Kernel7Ideal.nD Cert.Kernel7Ideal.τ).loc Cert.Kernel7Ideal.main_arg10)
      ∧ m' ((c.tc : Thread Cert.Reference7Ideal.nD Cert.Reference7Ideal.τ).loc Cert.Reference7Ideal.main_arg11) = m ((c.tc : Thread Cert.Kernel7Ideal.nD Cert.Kernel7Ideal.τ).loc Cert.Kernel7Ideal.main_arg11)
      ∧ m' ((c.tc : Thread Cert.Reference7Ideal.nD Cert.Reference7Ideal.τ).loc Cert.Reference7Ideal.main_arg12) = m ((c.tc : Thread Cert.Kernel7Ideal.nD Cert.Kernel7Ideal.τ).loc Cert.Kernel7Ideal.main_arg12)) →
    ∃ (v0 : (c : Dev Cert.Kernel7Ideal.nD) → Buf (Elt Ideal) ((c.tc : Thread Cert.Kernel7Ideal.nD Cert.Kernel7Ideal.τ).loc Cert.Kernel7Ideal.main_v17)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v17) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
          ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
          ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
          ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8)
          ∧ r.2.mem ((c.tc : Thread Cert.Kernel7Ideal.nD Cert.Kernel7Ideal.τ).loc Cert.Kernel7Ideal.main_arg9) = m ((c.tc : Thread Cert.Kernel7Ideal.nD Cert.Kernel7Ideal.τ).loc Cert.Kernel7Ideal.main_arg9)
          ∧ r.2.mem ((c.tc : Thread Cert.Kernel7Ideal.nD Cert.Kernel7Ideal.τ).loc Cert.Kernel7Ideal.main_arg10) = m ((c.tc : Thread Cert.Kernel7Ideal.nD Cert.Kernel7Ideal.τ).loc Cert.Kernel7Ideal.main_arg10)
          ∧ r.2.mem ((c.tc : Thread Cert.Kernel7Ideal.nD Cert.Kernel7Ideal.τ).loc Cert.Kernel7Ideal.main_arg11) = m ((c.tc : Thread Cert.Kernel7Ideal.nD Cert.Kernel7Ideal.τ).loc Cert.Kernel7Ideal.main_arg11)
          ∧ r.2.mem ((c.tc : Thread Cert.Kernel7Ideal.nD Cert.Kernel7Ideal.τ).loc Cert.Kernel7Ideal.main_arg12) = m ((c.tc : Thread Cert.Kernel7Ideal.nD Cert.Kernel7Ideal.τ).loc Cert.Kernel7Ideal.main_arg12))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v50) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5)
          ∧ r.2.mem ((c.tc : Thread Cert.Reference7Ideal.nD Cert.Reference7Ideal.τ).loc Cert.Reference7Ideal.main_arg6) = m' ((c.tc : Thread Cert.Reference7Ideal.nD Cert.Reference7Ideal.τ).loc Cert.Reference7Ideal.main_arg6)
          ∧ r.2.mem ((c.tc : Thread Cert.Reference7Ideal.nD Cert.Reference7Ideal.τ).loc Cert.Reference7Ideal.main_arg7) = m' ((c.tc : Thread Cert.Reference7Ideal.nD Cert.Reference7Ideal.τ).loc Cert.Reference7Ideal.main_arg7)
          ∧ r.2.mem ((c.tc : Thread Cert.Reference7Ideal.nD Cert.Reference7Ideal.τ).loc Cert.Reference7Ideal.main_arg8) = m' ((c.tc : Thread Cert.Reference7Ideal.nD Cert.Reference7Ideal.τ).loc Cert.Reference7Ideal.main_arg8)
          ∧ r.2.mem ((c.tc : Thread Cert.Reference7Ideal.nD Cert.Reference7Ideal.τ).loc Cert.Reference7Ideal.main_arg9) = m' ((c.tc : Thread Cert.Reference7Ideal.nD Cert.Reference7Ideal.τ).loc Cert.Reference7Ideal.main_arg9)
          ∧ r.2.mem ((c.tc : Thread Cert.Reference7Ideal.nD Cert.Reference7Ideal.τ).loc Cert.Reference7Ideal.main_arg10) = m' ((c.tc : Thread Cert.Reference7Ideal.nD Cert.Reference7Ideal.τ).loc Cert.Reference7Ideal.main_arg10)
          ∧ r.2.mem ((c.tc : Thread Cert.Reference7Ideal.nD Cert.Reference7Ideal.τ).loc Cert.Reference7Ideal.main_arg11) = m' ((c.tc : Thread Cert.Reference7Ideal.nD Cert.Reference7Ideal.τ).loc Cert.Reference7Ideal.main_arg11)
          ∧ r.2.mem ((c.tc : Thread Cert.Reference7Ideal.nD Cert.Reference7Ideal.τ).loc Cert.Reference7Ideal.main_arg12) = m' ((c.tc : Thread Cert.Reference7Ideal.nD Cert.Reference7Ideal.τ).loc Cert.Reference7Ideal.main_arg12))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)
      ∧ m' ((c.tc : Thread Cert.Reference8Ideal.nD Cert.Reference8Ideal.τ).loc Cert.Reference8Ideal.main_arg5) = m ((c.tc : Thread Cert.Kernel8Ideal.nD Cert.Kernel8Ideal.τ).loc Cert.Kernel8Ideal.main_arg5)) →
    ∃ (v0 : (c : Dev Cert.Kernel8Ideal.nD) → Buf (Elt Ideal) ((c.tc : Thread Cert.Kernel8Ideal.nD Cert.Kernel8Ideal.τ).loc Cert.Kernel8Ideal.main_v58_8)) (v1 : (c : Dev Cert.Kernel8Ideal.nD) → Buf (Elt Ideal) ((c.tc : Thread Cert.Kernel8Ideal.nD Cert.Kernel8Ideal.τ).loc Cert.Kernel8Ideal.main_v58_9)) (v2 : (c : Dev Cert.Kernel8Ideal.nD) → Buf (Elt Ideal) ((c.tc : Thread Cert.Kernel8Ideal.nD Cert.Kernel8Ideal.τ).loc Cert.Kernel8Ideal.main_v58_10)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v58_8) = v0 c
          ∧ r.2.mem ((c.tc : Thread Cert.Kernel8Ideal.nD Cert.Kernel8Ideal.τ).loc Cert.Kernel8Ideal.main_v58_9) = v1 c
          ∧ r.2.mem ((c.tc : Thread Cert.Kernel8Ideal.nD Cert.Kernel8Ideal.τ).loc Cert.Kernel8Ideal.main_v58_10) = v2 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
          ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v71) = v0 c
          ∧ r.2.mem ((c.tc : Thread Cert.Reference8Ideal.nD Cert.Reference8Ideal.τ).loc Cert.Reference8Ideal.main_v73) = v1 c
          ∧ r.2.mem ((c.tc : Thread Cert.Reference8Ideal.nD Cert.Reference8Ideal.τ).loc Cert.Reference8Ideal.main_v75) = v2 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4)
          ∧ r.2.mem ((c.tc : Thread Cert.Reference8Ideal.nD Cert.Reference8Ideal.τ).loc Cert.Reference8Ideal.main_arg5) = m' ((c.tc : Thread Cert.Reference8Ideal.nD Cert.Reference8Ideal.τ).loc Cert.Reference8Ideal.main_arg5))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
-- ==== Kernel.lean ====
abbrev S16384x1024 : Shape := ⟨2, ![16384, 1024]⟩
abbrev S1x4x1024 : Shape := ⟨3, ![1, 4, 1024]⟩
abbrev S1x1024 : Shape := ⟨2, ![1, 1024]⟩
abbrev S1x4x256x256 : Shape := ⟨4, ![1, 4, 256, 256]⟩
abbrev S4x1024 : Shape := ⟨2, ![4, 1024]⟩
abbrev S1024 : Shape := ⟨1, ![1024]⟩
abbrev S4x256x256 : Shape := ⟨3, ![4, 256, 256]⟩
abbrev S2x8192x1024 : Shape := ⟨3, ![2, 8192, 1024]⟩
abbrev S2x1x1024 : Shape := ⟨3, ![2, 1, 1024]⟩
abbrev S2x3x1024 : Shape := ⟨3, ![2, 3, 1024]⟩
abbrev S1x256x1024 : Shape := ⟨3, ![1, 256, 1024]⟩
abbrev S1x1x1024 : Shape := ⟨3, ![1, 1, 1024]⟩
abbrev S1x3x1024 : Shape := ⟨3, ![1, 3, 1024]⟩
abbrev S264x1024 : Shape := ⟨2, ![264, 1024]⟩
abbrev S8x1024 : Shape := ⟨2, ![8, 1024]⟩
abbrev S256x1024 : Shape := ⟨2, ![256, 1024]⟩
abbrev S256x256 : Shape := ⟨2, ![256, 256]⟩
abbrev S1x256x256 : Shape := ⟨3, ![1, 256, 256]⟩
abbrev S3x1024 : Shape := ⟨2, ![3, 1024]⟩

abbrev nBuf : Space → Nat
  | .hbm => 27
  | .vmem => 19
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S1x4x1024, .f32⟩
  | .hbm, ⟨3, _⟩ => ⟨S1x1024, .f32⟩
  | .hbm, ⟨4, _⟩ => ⟨S1x4x256x256, .f32⟩
  | .hbm, ⟨5, _⟩ => ⟨S1x1024, .f32⟩
  | .hbm, ⟨6, _⟩ => ⟨S1x4x256x256, .f32⟩
  | .hbm, ⟨7, _⟩ => ⟨S1x1024, .f32⟩
  | .hbm, ⟨8, _⟩ => ⟨S1x1024, .f32⟩
  | .hbm, ⟨9, _⟩ => ⟨S4x1024, .f32⟩
  | .hbm, ⟨10, _⟩ => ⟨S1024, .f32⟩
  | .hbm, ⟨11, _⟩ => ⟨S1x1024, .f32⟩
  | .hbm, ⟨12, _⟩ => ⟨S4x256x256, .f32⟩
  | .hbm, ⟨13, _⟩ => ⟨S4x256x256, .bf16⟩
  | .hbm, ⟨14, _⟩ => ⟨S4x256x256, .f32⟩
  | .hbm, ⟨15, _⟩ => ⟨S4x256x256, .bf16⟩
  | .hbm, ⟨16, _⟩ => ⟨S1024, .f32⟩
  | .hbm, ⟨17, _⟩ => ⟨S1x1024, .f32⟩
  | .hbm, ⟨18, _⟩ => ⟨S1024, .f32⟩
  | .hbm, ⟨19, _⟩ => ⟨S1x1024, .f32⟩
  | .hbm, ⟨20, _⟩ => ⟨S1024, .f32⟩
  | .hbm, ⟨21, _⟩ => ⟨S1x1024, .f32⟩
  | .hbm, ⟨22, _⟩ => ⟨S2x8192x1024, .f32⟩
  | .hbm, ⟨23, _⟩ => ⟨S2x8192x1024, .f32⟩
  | .hbm, ⟨24, _⟩ => ⟨S2x8192x1024, .bf16⟩
  | .hbm, ⟨25, _⟩ => ⟨S2x1x1024, .f32⟩
  | .hbm, ⟨26, _⟩ => ⟨S2x3x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x256x1024, .f32⟩
  | .local _ .vmem, ⟨3, _⟩ => ⟨S1x256x1024, .f32⟩
  | .local _ .vmem, ⟨4, _⟩ => ⟨S4x1024, .f32⟩
  | .local _ .vmem, ⟨5, _⟩ => ⟨S1x1024, .f32⟩
  | .local _ .vmem, ⟨6, _⟩ => ⟨S4x256x256, .bf16⟩
  | .local _ .vmem, ⟨7, _⟩ => ⟨S4x256x256, .bf16⟩
  | .local _ .vmem, ⟨8, _⟩ => ⟨S1x1024, .f32⟩
  | .local _ .vmem, ⟨9, _⟩ => ⟨S1x1024, .f32⟩
  | .local _ .vmem, ⟨10, _⟩ => ⟨S1x1024, .f32⟩
  | .local _ .vmem, ⟨11, _⟩ => ⟨S1x256x1024, .bf16⟩
  | .local _ .vmem, ⟨12, _⟩ => ⟨S1x256x1024, .bf16⟩
  | .local _ .vmem, ⟨13, _⟩ => ⟨S1x1x1024, .f32⟩
  | .local _ .vmem, ⟨14, _⟩ => ⟨S1x1x1024, .f32⟩
  | .local _ .vmem, ⟨15, _⟩ => ⟨S1x3x1024, .f32⟩
  | .local _ .vmem, ⟨16, _⟩ => ⟨S1x3x1024, .f32⟩
  | .local _ .vmem, ⟨17, _⟩ => ⟨S264x1024, .f32⟩
  | .local _ .vmem, ⟨18, _⟩ => ⟨S1x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15_0 : Ref sig .tc := ⟨.hbm, 24, rfl⟩
abbrev main_v15_1 : Ref sig .tc := ⟨.hbm, 25, rfl⟩
abbrev main_v15_2 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_scratch0 : Ref sig .tc := ⟨.vmem, 17, rfl⟩
abbrev cc0_scratch1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem9_1 : DmaSem sig := 12
abbrev cc0_sem10_0 : DmaSem sig := 13
abbrev cc0_sem10_1 : DmaSem sig := 14
abbrev cc0_sem11_0 : DmaSem sig := 15
abbrev cc0_sem11_1 : DmaSem sig := 16

abbrev nD : Nat := 1
abbrev τ : Topo := Topo.v7x

variable {F : FTy → Type} [FloatOps F]

abbrev grid0 : Pipeline.Grid := ⟨2, ![2, 32], ![false, false]⟩

def k0_cond2 (i : grid0.Coords) : BitVec 1 :=
  let arg1 : BitVec 32 := BitVec.ofNat 32 (i 1).val
  let c31_i32 : BitVec 32 := 31#32
  let v214 : BitVec 1 := Scalar.cmpi .eq arg1 c31_i32
  let v215 : BitVec 32 := Scalar.extui v214
  let c0_i32_103 : BitVec 32 := 0#32
  let v216 : BitVec 1 := Scalar.cmpi .ne v215 c0_i32_103
  v216

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S4x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S4x256x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S4x256x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x1x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S1x3x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]
-- ==== ReferenceIdeal.lean ====
abbrev S16384x1024 : Shape := ⟨2, ![16384, 1024]⟩
abbrev S1x4x1024 : Shape := ⟨3, ![1, 4, 1024]⟩
abbrev S1x1024 : Shape := ⟨2, ![1, 1024]⟩
abbrev S1x4x256x256 : Shape := ⟨4, ![1, 4, 256, 256]⟩
abbrev S2x8192x1024 : Shape := ⟨3, ![2, 8192, 1024]⟩
abbrev S4x1024 : Shape := ⟨2, ![4, 1024]⟩
abbrev S1024 : Shape := ⟨1, ![1024]⟩
abbrev S_ : Shape := ⟨0, ![]⟩
abbrev S2x3x1024 : Shape := ⟨3, ![2, 3, 1024]⟩
abbrev S2x8195x1024 : Shape := ⟨3, ![2, 8195, 1024]⟩
abbrev S1x1x1024 : Shape := ⟨3, ![1, 1, 1024]⟩
abbrev S2x8192x4x256 : Shape := ⟨4, ![2, 8192, 4, 256]⟩
abbrev S4x256x256 : Shape := ⟨3, ![4, 256, 256]⟩
abbrev S4x256x2x8192 : Shape := ⟨4, ![4, 256, 2, 8192]⟩
abbrev S2x1024 : Shape := ⟨2, ![2, 1024]⟩
abbrev S8192x2x1024 : Shape := ⟨3, ![8192, 2, 1024]⟩
abbrev S1x2x1024 : Shape := ⟨3, ![1, 2, 1024]⟩
abbrev S2x1x1024 : Shape := ⟨3, ![2, 1, 1024]⟩

abbrev nBuf : Space → Nat
  | .hbm => 145
  | .vmem => 0
  | .smem => 0
  | _ => 0

abbrev hbmTy0_0 (i : Nat) : BufTy := match i % 128 with
  | 0 => ⟨S16384x1024, .f32⟩
  | 1 => ⟨S16384x1024, .f32⟩
  | 2 => ⟨S1x4x1024, .f32⟩
  | 3 => ⟨S1x1024, .f32⟩
  | 4 => ⟨S1x4x256x256, .f32⟩
  | 5 => ⟨S1x1024, .f32⟩
  | 6 => ⟨S1x4x256x256, .f32⟩
  | 7 => ⟨S1x1024, .f32⟩
  | 8 => ⟨S1x1024, .f32⟩
  | 9 => ⟨S2x8192x1024, .f32⟩
  | 10 => ⟨S2x8192x1024, .f32⟩
  | 11 => ⟨S4x1024, .f32⟩
  | 12 => ⟨S1024, .f32⟩
  | 13 => ⟨S_, .f32⟩
  | 14 => ⟨S2x3x1024, .f32⟩
  | 15 => ⟨S2x8195x1024, .f32⟩
  | 16 => ⟨S1024, .f32⟩
  | 17 => ⟨S2x8192x1024, .f32⟩
  | 18 => ⟨S1x1024, .f32⟩
  | 19 => ⟨S1024, .f32⟩
  | 20 => ⟨S1x1x1024, .f32⟩
  | 21 => ⟨S2x8192x1024, .f32⟩
  | 22 => ⟨S2x8192x1024, .f32⟩
  | 23 => ⟨S1x1x1024, .f32⟩
  | 24 => ⟨S2x8192x1024, .f32⟩
  | 25 => ⟨S2x8192x1024, .f32⟩
  | 26 => ⟨S2x8192x1024, .f32⟩
  | 27 => ⟨S1x1024, .f32⟩
  | 28 => ⟨S1024, .f32⟩
  | 29 => ⟨S1x1x1024, .f32⟩
  | 30 => ⟨S2x8192x1024, .f32⟩
  | 31 => ⟨S2x8192x1024, .f32⟩
  | 32 => ⟨S2x8192x1024, .f32⟩
  | 33 => ⟨S2x8192x1024, .f32⟩
  | 34 => ⟨S1x1024, .f32⟩
  | 35 => ⟨S1024, .f32⟩
  | 36 => ⟨S1x1x1024, .f32⟩
  | 37 => ⟨S2x8192x1024, .f32⟩
  | 38 => ⟨S2x8192x1024, .f32⟩
  | 39 => ⟨S2x8192x1024, .f32⟩
  | 40 => ⟨S2x8192x1024, .f32⟩
  | 41 => ⟨S1x1024, .f32⟩
  | 42 => ⟨S1024, .f32⟩
  | 43 => ⟨S1x1x1024, .f32⟩
  | 44 => ⟨S2x8192x1024, .f32⟩
  | 45 => ⟨S2x8192x1024, .f32⟩
  | 46 => ⟨S2x8192x1024, .f32⟩
  | 47 => ⟨S2x8192x4x256, .f32⟩
  | 48 => ⟨S4x256x256, .f32⟩
  | 49 => ⟨S4x256x2x8192, .f32⟩
  | 50 => ⟨S2x8192x4x256, .f32⟩
  | 51 => ⟨S2x8192x1024, .f32⟩
  | 52 => ⟨S1024, .f32⟩
  | 53 => ⟨S1x1x1024, .f32⟩
  | 54 => ⟨S2x8192x1024, .f32⟩
  | 55 => ⟨S2x8192x1024, .f32⟩
  | 56 => ⟨S2x8192x1024, .f32⟩
  | 57 => ⟨S2x8192x1024, .f32⟩
  | 58 => ⟨S_, .f32⟩
  | 59 => ⟨S2x8192x1024, .f32⟩
  | 60 => ⟨S2x8192x1024, .f32⟩
  | 61 => ⟨S_, .f32⟩
  | 62 => ⟨S2x8192x1024, .f32⟩
  | 63 => ⟨S2x8192x1024, .f32⟩
  | 64 => ⟨S4x256x256, .f32⟩
  | 65 => ⟨S4x256x2x8192, .f32⟩
  | 66 => ⟨S2x8192x4x256, .f32⟩
  | 67 => ⟨S2x8192x1024, .f32⟩
  | 68 => ⟨S1024, .f32⟩
  | 69 => ⟨S1x1x1024, .f32⟩
  | 70 => ⟨S2x8192x1024, .f32⟩
  | 71 => ⟨S2x8192x1024, .f32⟩
  | 72 => ⟨S2x8192x1024, .f32⟩
  | 73 => ⟨S2x8192x1024, .f32⟩
  | 74 => ⟨S_, .f32⟩
  | 75 => ⟨S2x8192x1024, .f32⟩
  | 76 => ⟨S2x8192x1024, .f32⟩
  | 77 => ⟨S_, .f32⟩
  | 78 => ⟨S2x8192x1024, .f32⟩
  | 79 => ⟨S2x8192x1024, .f32⟩
  | 80 => ⟨S_, .f32⟩
  | 81 => ⟨S2x8192x1024, .f32⟩
  | 82 => ⟨S2x8192x1024, .f32⟩
  | 83 => ⟨S1024, .f32⟩
  | 84 => ⟨S_, .f32⟩
  | 85 => ⟨S1024, .f32⟩
  | 86 => ⟨S1024, .f32⟩
  | 87 => ⟨S1024, .f32⟩
  | 88 => ⟨S1024, .f32⟩
  | 89 => ⟨S1024, .i1⟩
  | 90 => ⟨S1024, .f32⟩
  | 91 => ⟨S1024, .f32⟩
  | 92 => ⟨S1024, .f32⟩
  | 93 => ⟨S1024, .f32⟩
  | 94 => ⟨S1024, .f32⟩
  | 95 => ⟨S1024, .f32⟩
  | 96 => ⟨S1024, .f32⟩
  | 97 => ⟨S1024, .f32⟩
  | 98 => ⟨S1x1x1024, .f32⟩
  | 99 => ⟨S2x8192x1024, .f32⟩
  | 100 => ⟨S2x8192x1024, .f32⟩
  | 101 => ⟨S2x8192x1024, .f32⟩
  | 102 => ⟨S_, .f32⟩
  | 103 => ⟨S2x8192x1024, .f32⟩
  | 104 => ⟨S2x8192x1024, .f32⟩
  | 105 => ⟨S2x8192x1024, .f32⟩
  | 106 => ⟨S2x8192x1024, .f32⟩
  | 107 => ⟨S2x8192x1024, .f32⟩
  | 108 => ⟨S2x8192x1024, .f32⟩
  | 109 => ⟨S2x8192x1024, .f32⟩
  | 110 => ⟨S_, .f32⟩
  | 111 => ⟨S2x1024, .f32⟩
  | 112 => ⟨S8192x2x1024, .f32⟩
  | 113 => ⟨S8192x2x1024, .f32⟩
  | 114 => ⟨S_, .f32⟩
  | 115 => ⟨S8192x2x1024, .f32⟩
  | 116 => ⟨S_, .i32⟩
  | 117 => ⟨S8192x2x1024, .f32⟩
  | 118 => ⟨S8192x2x1024, .f32⟩
  | 119 => ⟨S_, .i32⟩
  | 120 => ⟨S2x1024, .f32⟩
  | 121 => ⟨S8192x2x1024, .f32⟩
  | 122 => ⟨S_, .i32⟩
  | 123 => ⟨S_, .i1⟩
  | 124 => ⟨S_, .i32⟩
  | 125 => ⟨S_, .i32⟩
  | 126 => ⟨S1x2x1024, .f32⟩
  | 127 => ⟨S2x1024, .f32⟩
  | _ => ⟨S16384x1024, .f32⟩

abbrev hbmTy0_1 (i : Nat) : BufTy := match i % 128 with
  | 0 => ⟨S_, .i32⟩
  | 1 => ⟨S_, .i32⟩
  | 2 => ⟨S1x2x1024, .f32⟩
  | 3 => ⟨S2x1024, .f32⟩
  | 4 => ⟨S2x1024, .f32⟩
  | 5 => ⟨S2x1024, .f32⟩
  | 6 => ⟨S1x2x1024, .f32⟩
  | 7 => ⟨S_, .i32⟩
  | 8 => ⟨S_, .i32⟩
  | 9 => ⟨S8192x2x1024, .f32⟩
  | 10 => ⟨S_, .i32⟩
  | 11 => ⟨S_, .i32⟩
  | 12 => ⟨S2x8192x1024, .f32⟩
  | 13 => ⟨S2x8192x1024, .f32⟩
  | 14 => ⟨S2x8192x1024, .bf16⟩
  | 15 => ⟨S2x1x1024, .f32⟩
  | 16 => ⟨S2x3x1024, .f32⟩
  | _ => ⟨S16384x1024, .f32⟩

abbrev hbmTy (i : Nat) : BufTy := match i / 128 with
  | 0 => hbmTy0_0 i
  | 1 => hbmTy0_1 i
  | _ => ⟨S16384x1024, .f32⟩

abbrev bufTy : (tb : Table) → Fin (tcTables nBuf tb) → BufTy
  | .hbm, ⟨i, _⟩ => hbmTy i
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_cst_0 : Ref sig .tc := ⟨.hbm, 58, rfl⟩
abbrev main_v48 : Ref sig .tc := ⟨.hbm, 59, rfl⟩
abbrev main_v49 : Ref sig .tc := ⟨.hbm, 60, rfl⟩
abbrev main_cst_1 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_cst_2 : Ref sig .tc := ⟨.hbm, 74, rfl⟩
abbrev main_v62 : Ref sig .tc := ⟨.hbm, 75, rfl⟩
abbrev main_v63 : Ref sig .tc := ⟨.hbm, 76, rfl⟩
abbrev main_cst_3 : Ref sig .tc := ⟨.hbm, 77, rfl⟩
abbrev main_v64 : Ref sig .tc := ⟨.hbm, 78, rfl⟩
abbrev main_v65 : Ref sig .tc := ⟨.hbm, 79, rfl⟩
abbrev main_cst_4 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_call0_cst : Ref sig .tc := ⟨.hbm, 84, rfl⟩
abbrev main_call0_v0 : Ref sig .tc := ⟨.hbm, 85, rfl⟩
abbrev main_call0_v1 : Ref sig .tc := ⟨.hbm, 86, rfl⟩
abbrev main_call0_v2 : Ref sig .tc := ⟨.hbm, 87, rfl⟩
abbrev main_call0_v3 : Ref sig .tc := ⟨.hbm, 88, rfl⟩
abbrev main_call0_v4 : Ref sig .tc := ⟨.hbm, 89, rfl⟩
abbrev main_call0_v5 : Ref sig .tc := ⟨.hbm, 90, rfl⟩
abbrev main_call0_v6 : Ref sig .tc := ⟨.hbm, 91, rfl⟩
abbrev main_call0_v7 : Ref sig .tc := ⟨.hbm, 92, rfl⟩
abbrev main_call0_v8 : Ref sig .tc := ⟨.hbm, 93, rfl⟩
abbrev main_call0_v9 : Ref sig .tc := ⟨.hbm, 94, rfl⟩
abbrev main_call0_v10 : Ref sig .tc := ⟨.hbm, 95, rfl⟩
abbrev main_call0_v11 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_cst_5 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_cst_6 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_cst_7 : Ref sig .tc := ⟨.hbm, 114, rfl⟩
abbrev main_v84 : Ref sig .tc := ⟨.hbm, 115, rfl⟩
abbrev main_c : Ref sig .tc := ⟨.hbm, 116, rfl⟩
abbrev main_v85_0 : Ref sig .tc := ⟨.hbm, 117, rfl⟩
abbrev main_v85_1 : Ref sig .tc := ⟨.hbm, 118, rfl⟩
abbrev main_v85_2 : Ref sig .tc := ⟨.hbm, 119, rfl⟩
abbrev main_v85_3 : Ref sig .tc := ⟨.hbm, 120, rfl⟩
abbrev main_v85_4 : Ref sig .tc := ⟨.hbm, 121, rfl⟩
abbrev main_while0c_c_12 : Ref sig .tc := ⟨.hbm, 122, rfl⟩
abbrev main_while0c_v91 : Ref sig .tc := ⟨.hbm, 123, rfl⟩
abbrev main_while0b_call1_c : Ref sig .tc := ⟨.hbm, 124, rfl⟩
abbrev main_while0b_call1_c_0 : Ref sig .tc := ⟨.hbm, 125, rfl⟩
abbrev main_while0b_call1_v0 : Ref sig .tc := ⟨.hbm, 126, rfl⟩
abbrev main_while0b_v91 : Ref sig .tc := ⟨.hbm, 127, rfl⟩
abbrev main_while0b_call2_c : Ref sig .tc := ⟨.hbm, 128, rfl⟩
abbrev main_while0b_call2_c_0 : Ref sig .tc := ⟨.hbm, 129, rfl⟩
abbrev main_while0b_call2_v0 : Ref sig .tc := ⟨.hbm, 130, rfl⟩
abbrev main_while0b_v92 : Ref sig .tc := ⟨.hbm, 131, rfl⟩
abbrev main_while0b_v93 : Ref sig .tc := ⟨.hbm, 132, rfl⟩
abbrev main_while0b_v94 : Ref sig .tc := ⟨.hbm, 133, rfl⟩
abbrev main_while0b_call3_v0 : Ref sig .tc := ⟨.hbm, 134, rfl⟩
abbrev main_while0b_call3_c : Ref sig .tc := ⟨.hbm, 135, rfl⟩
abbrev main_while0b_call3_c_0 : Ref sig .tc := ⟨.hbm, 136, rfl⟩
abbrev main_while0b_v95 : Ref sig .tc := ⟨.hbm, 137, rfl⟩
abbrev main_while0b_c_12 : Ref sig .tc := ⟨.hbm, 138, rfl⟩
abbrev main_while0b_v96 : Ref sig .tc := ⟨.hbm, 139, rfl⟩
abbrev main_v86 : Ref sig .tc := ⟨.hbm, 140, rfl⟩
abbrev main_v87 : Ref sig .tc := ⟨.hbm, 141, rfl⟩
abbrev main_v88 : Ref sig .tc := ⟨.hbm, 142, rfl⟩
abbrev main_v89 : Ref sig .tc := ⟨.hbm, 143, rfl⟩
abbrev main_v90 : Ref sig .tc := ⟨.hbm, 144, rfl⟩

abbrev nD : Nat := 1
abbrev τ : Topo := Topo.v7x

variable {F : FTy → Type} [FloatOps F]

abbrev main_while0_count : Scf.Loop 32 := ⟨0#32, 8192#32, 1#32⟩
-- ==== Kernel2.lean ====
abbrev S2x8192x1024 : Shape := ⟨3, ![2, 8192, 1024]⟩
abbrev S2x8192x512 : Shape := ⟨3, ![2, 8192, 512]⟩
abbrev S16384x3072 : Shape := ⟨2, ![16384, 3072]⟩
abbrev S1x1024x1024 : Shape := ⟨3, ![1, 1024, 1024]⟩
abbrev S1x512x1024 : Shape := ⟨3, ![1, 512, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S1024x1024 : Shape := ⟨2, ![1024, 1024]⟩
abbrev S512x1024 : Shape := ⟨2, ![512, 1024]⟩
abbrev S1024 : Shape := ⟨1, ![1024]⟩
abbrev S1024x2816 : Shape := ⟨2, ![1024, 2816]⟩
abbrev S2816x1024 : Shape := ⟨2, ![2816, 1024]⟩
abbrev S16384x1024 : Shape := ⟨2, ![16384, 1024]⟩
abbrev S16384x512 : Shape := ⟨2, ![16384, 512]⟩
abbrev S256x1024 : Shape := ⟨2, ![256, 1024]⟩
abbrev S256x512 : Shape := ⟨2, ![256, 512]⟩
abbrev S256x3072 : Shape := ⟨2, ![256, 3072]⟩
abbrev S256 : Shape := ⟨1, ![256]⟩
abbrev S256x1 : Shape := ⟨2, ![256, 1]⟩
abbrev S256x2816 : Shape := ⟨2, ![256, 2816]⟩

abbrev nBuf : Space → Nat
  | .hbm => 34
  | .vmem => 20
  | .smem => 0
  | _ => 0

abbrev bufTy : (tb : Table) → Fin (tcTables nBuf tb) → BufTy
  | .hbm, ⟨0, _⟩ => ⟨S2x8192x1024, .f32⟩
  | .hbm, ⟨1, _⟩ => ⟨S2x8192x1024, .bf16⟩
  | .hbm, ⟨2, _⟩ => ⟨S2x8192x512, .bf16⟩
  | .hbm, ⟨3, _⟩ => ⟨S2x8192x512, .bf16⟩
  | .hbm, ⟨4, _⟩ => ⟨S16384x3072, .f32⟩
  | .hbm, ⟨5, _⟩ => ⟨S1x1024x1024, .f32⟩
  | .hbm, ⟨6, _⟩ => ⟨S1x512x1024, .f32⟩
  | .hbm, ⟨7, _⟩ => ⟨S1x512x1024, .f32⟩
  | .hbm, ⟨8, _⟩ => ⟨S1x1024x1024, .f32⟩
  | .hbm, ⟨9, _⟩ => ⟨S1x1024, .f32⟩
  | .hbm, ⟨10, _⟩ => ⟨S1x1024x2816, .f32⟩
  | .hbm, ⟨11, _⟩ => ⟨S1x1024x2816, .f32⟩
  | .hbm, ⟨12, _⟩ => ⟨S1x2816x1024, .f32⟩
  | .hbm, ⟨13, _⟩ => ⟨S1024x1024, .f32⟩
  | .hbm, ⟨14, _⟩ => ⟨S1024x1024, .bf16⟩
  | .hbm, ⟨15, _⟩ => ⟨S512x1024, .f32⟩
  | .hbm, ⟨16, _⟩ => ⟨S512x1024, .bf16⟩
  | .hbm, ⟨17, _⟩ => ⟨S512x1024, .f32⟩
  | .hbm, ⟨18, _⟩ => ⟨S512x1024, .bf16⟩
  | .hbm, ⟨19, _⟩ => ⟨S1024x1024, .f32⟩
  | .hbm, ⟨20, _⟩ => ⟨S1024x1024, .bf16⟩
  | .hbm, ⟨21, _⟩ => ⟨S1024, .f32⟩
  | .hbm, ⟨22, _⟩ => ⟨S1x1024, .f32⟩
  | .hbm, ⟨23, _⟩ => ⟨S1024x2816, .f32⟩
  | .hbm, ⟨24, _⟩ => ⟨S1024x2816, .bf16⟩
  | .hbm, ⟨25, _⟩ => ⟨S1024x2816, .f32⟩
  | .hbm, ⟨26, _⟩ => ⟨S1024x2816, .bf16⟩
  | .hbm, ⟨27, _⟩ => ⟨S2816x1024, .f32⟩
  | .hbm, ⟨28, _⟩ => ⟨S2816x1024, .bf16⟩
  | .hbm, ⟨29, _⟩ => ⟨S16384x1024, .f32⟩
  | .hbm, ⟨30, _⟩ => ⟨S16384x1024, .bf16⟩
  | .hbm, ⟨31, _⟩ => ⟨S16384x512, .bf16⟩
  | .hbm, ⟨32, _⟩ => ⟨S16384x512, .bf16⟩
  | .hbm, ⟨33, _⟩ => ⟨S16384x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .bf16⟩
  | .local _ .vmem, ⟨3, _⟩ => ⟨S256x1024, .bf16⟩
  | .local _ .vmem, ⟨4, _⟩ => ⟨S256x512, .bf16⟩
  | .local _ .vmem, ⟨5, _⟩ => ⟨S256x512, .bf16⟩
  | .local _ .vmem, ⟨6, _⟩ => ⟨S256x512, .bf16⟩
  | .local _ .vmem, ⟨7, _⟩ => ⟨S256x512, .bf16⟩
  | .local _ .vmem, ⟨8, _⟩ => ⟨S256x3072, .f32⟩
  | .local _ .vmem, ⟨9, _⟩ => ⟨S256x3072, .f32⟩
  | .local _ .vmem, ⟨10, _⟩ => ⟨S1024x1024, .bf16⟩
  | .local _ .vmem, ⟨11, _⟩ => ⟨S512x1024, .bf16⟩
  | .local _ .vmem, ⟨12, _⟩ => ⟨S512x1024, .bf16⟩
  | .local _ .vmem, ⟨13, _⟩ => ⟨S1024x1024, .bf16⟩
  | .local _ .vmem, ⟨14, _⟩ => ⟨S1x1024, .f32⟩
  | .local _ .vmem, ⟨15, _⟩ => ⟨S1024x2816, .bf16⟩
  | .local _ .vmem, ⟨16, _⟩ => ⟨S1024x2816, .bf16⟩
  | .local _ .vmem, ⟨17, _⟩ => ⟨S2816x1024, .bf16⟩
  | .local _ .vmem, ⟨18, _⟩ => ⟨S256x1024, .f32⟩
  | .local _ .vmem, ⟨19, _⟩ => ⟨S256x1024, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg13_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem13_0 : DmaSem sig := 18
abbrev cc0_sem13_1 : DmaSem sig := 19

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x3072 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x2816 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x2816 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S2816x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S256x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== Reference2Ideal.lean ====
abbrev S2x8192x1024 : Shape := ⟨3, ![2, 8192, 1024]⟩
abbrev S2x8192x512 : Shape := ⟨3, ![2, 8192, 512]⟩
abbrev S16384x3072 : Shape := ⟨2, ![16384, 3072]⟩
abbrev S1x1024x1024 : Shape := ⟨3, ![1, 1024, 1024]⟩
abbrev S1x512x1024 : Shape := ⟨3, ![1, 512, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S2x8192x3x1024 : Shape := ⟨4, ![2, 8192, 3, 1024]⟩
abbrev S2x8192x1x1024 : Shape := ⟨4, ![2, 8192, 1, 1024]⟩
abbrev S1024x1024 : Shape := ⟨2, ![1024, 1024]⟩
abbrev S512x1024 : Shape := ⟨2, ![512, 1024]⟩
abbrev S_ : Shape := ⟨0, ![]⟩
abbrev S2x8192 : Shape := ⟨2, ![2, 8192]⟩
abbrev S2x8192x1 : Shape := ⟨3, ![2, 8192, 1]⟩
abbrev S1024 : Shape := ⟨1, ![1024]⟩
abbrev S1x1x1024 : Shape := ⟨3, ![1, 1, 1024]⟩
abbrev S1024x2816 : Shape := ⟨2, ![1024, 2816]⟩
abbrev S2x8192x2816 : Shape := ⟨3, ![2, 8192, 2816]⟩
abbrev S2816x1024 : Shape := ⟨2, ![2816, 1024]⟩
abbrev S16384x1024 : Shape := ⟨2, ![16384, 1024]⟩

abbrev nBuf : Space → Nat
  | .hbm => 72
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S2x8192x1024, .bf16⟩
  | .hbm, ⟨2, _⟩ => ⟨S2x8192x512, .bf16⟩
  | .hbm, ⟨3, _⟩ => ⟨S2x8192x512, .bf16⟩
  | .hbm, ⟨4, _⟩ => ⟨S16384x3072, .f32⟩
  | .hbm, ⟨5, _⟩ => ⟨S1x1024x1024, .f32⟩
  | .hbm, ⟨6, _⟩ => ⟨S1x512x1024, .f32⟩
  | .hbm, ⟨7, _⟩ => ⟨S1x512x1024, .f32⟩
  | .hbm, ⟨8, _⟩ => ⟨S1x1024x1024, .f32⟩
  | .hbm, ⟨9, _⟩ => ⟨S1x1024, .f32⟩
  | .hbm, ⟨10, _⟩ => ⟨S1x1024x2816, .f32⟩
  | .hbm, ⟨11, _⟩ => ⟨S1x1024x2816, .f32⟩
  | .hbm, ⟨12, _⟩ => ⟨S1x2816x1024, .f32⟩
  | .hbm, ⟨13, _⟩ => ⟨S2x8192x3x1024, .f32⟩
  | .hbm, ⟨14, _⟩ => ⟨S2x8192x1x1024, .f32⟩
  | .hbm, ⟨15, _⟩ => ⟨S2x8192x1024, .f32⟩
  | .hbm, ⟨16, _⟩ => ⟨S2x8192x1024, .f32⟩
  | .hbm, ⟨17, _⟩ => ⟨S1024x1024, .f32⟩
  | .hbm, ⟨18, _⟩ => ⟨S2x8192x1024, .f32⟩
  | .hbm, ⟨19, _⟩ => ⟨S2x8192x1024, .f32⟩
  | .hbm, ⟨20, _⟩ => ⟨S2x8192x1x1024, .f32⟩
  | .hbm, ⟨21, _⟩ => ⟨S2x8192x1024, .f32⟩
  | .hbm, ⟨22, _⟩ => ⟨S2x8192x512, .f32⟩
  | .hbm, ⟨23, _⟩ => ⟨S512x1024, .f32⟩
  | .hbm, ⟨24, _⟩ => ⟨S2x8192x1024, .f32⟩
  | .hbm, ⟨25, _⟩ => ⟨S2x8192x1024, .f32⟩
  | .hbm, ⟨26, _⟩ => ⟨S2x8192x1024, .f32⟩
  | .hbm, ⟨27, _⟩ => ⟨S2x8192x1x1024, .f32⟩
  | .hbm, ⟨28, _⟩ => ⟨S2x8192x1024, .f32⟩
  | .hbm, ⟨29, _⟩ => ⟨S2x8192x512, .f32⟩
  | .hbm, ⟨30, _⟩ => ⟨S512x1024, .f32⟩
  | .hbm, ⟨31, _⟩ => ⟨S2x8192x1024, .f32⟩
  | .hbm, ⟨32, _⟩ => ⟨S2x8192x1024, .f32⟩
  | .hbm, ⟨33, _⟩ => ⟨S2x8192x1024, .f32⟩
  | .hbm, ⟨34, _⟩ => ⟨S1024x1024, .f32⟩
  | .hbm, ⟨35, _⟩ => ⟨S2x8192x1024, .f32⟩
  | .hbm, ⟨36, _⟩ => ⟨S2x8192x1024, .f32⟩
  | .hbm, ⟨37, _⟩ => ⟨S2x8192x1024, .f32⟩
  | .hbm, ⟨38, _⟩ => ⟨S_, .f32⟩
  | .hbm, ⟨39, _⟩ => ⟨S2x8192, .f32⟩
  | .hbm, ⟨40, _⟩ => ⟨S2x8192x1, .f32⟩
  | .hbm, ⟨41, _⟩ => ⟨S_, .f32⟩
  | .hbm, ⟨42, _⟩ => ⟨S2x8192x1, .f32⟩
  | .hbm, ⟨43, _⟩ => ⟨S2x8192x1, .f32⟩
  | .hbm, ⟨44, _⟩ => ⟨S_, .f32⟩
  | .hbm, ⟨45, _⟩ => ⟨S2x8192x1, .f32⟩
  | .hbm, ⟨46, _⟩ => ⟨S2x8192x1, .f32⟩
  | .hbm, ⟨47, _⟩ => ⟨S2x8192x1, .f32⟩
  | .hbm, ⟨48, _⟩ => ⟨S2x8192x1024, .f32⟩
  | .hbm, ⟨49, _⟩ => ⟨S2x8192x1024, .f32⟩
  | .hbm, ⟨50, _⟩ => ⟨S1024, .f32⟩
  | .hbm, ⟨51, _⟩ => ⟨S1x1x1024, .f32⟩
  | .hbm, ⟨52, _⟩ => ⟨S2x8192x1024, .f32⟩
  | .hbm, ⟨53, _⟩ => ⟨S2x8192x1024, .f32⟩
  | .hbm, ⟨54, _⟩ => ⟨S1024x2816, .f32⟩
  | .hbm, ⟨55, _⟩ => ⟨S2x8192x2816, .f32⟩
  | .hbm, ⟨56, _⟩ => ⟨S2x8192x2816, .f32⟩
  | .hbm, ⟨57, _⟩ => ⟨S2x8192x2816, .f32⟩
  | .hbm, ⟨58, _⟩ => ⟨S_, .f32⟩
  | .hbm, ⟨59, _⟩ => ⟨S2x8192x2816, .f32⟩
  | .hbm, ⟨60, _⟩ => ⟨S2x8192x2816, .f32⟩
  | .hbm, ⟨61, _⟩ => ⟨S_, .f32⟩
  | .hbm, ⟨62, _⟩ => ⟨S2x8192x2816, .f32⟩
  | .hbm, ⟨63, _⟩ => ⟨S2x8192x2816, .f32⟩
  | .hbm, ⟨64, _⟩ => ⟨S2x8192x2816, .f32⟩
  | .hbm, ⟨65, _⟩ => ⟨S1024x2816, .f32⟩
  | .hbm, ⟨66, _⟩ => ⟨S2x8192x2816, .f32⟩
  | .hbm, ⟨67, _⟩ => ⟨S2x8192x2816, .f32⟩
  | .hbm, ⟨68, _⟩ => ⟨S2816x1024, .f32⟩
  | .hbm, ⟨69, _⟩ => ⟨S2x8192x1024, .f32⟩
  | .hbm, ⟨70, _⟩ => ⟨S2x8192x1024, .f32⟩
  | .hbm, ⟨71, _⟩ => ⟨S16384x1024, .f32⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst : Ref sig .tc := ⟨.hbm, 38, rfl⟩
abbrev main_v25 : Ref sig .tc := ⟨.hbm, 39, rfl⟩
abbrev main_v26 : Ref sig .tc := ⟨.hbm, 40, rfl⟩
abbrev main_cst_0 : Ref sig .tc := ⟨.hbm, 41, rfl⟩
abbrev main_v27 : Ref sig .tc := ⟨.hbm, 42, rfl⟩
abbrev main_v28 : Ref sig .tc := ⟨.hbm, 43, rfl⟩
abbrev main_cst_1 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_call0_v0 : Ref sig .tc := ⟨.hbm, 56, rfl⟩
abbrev main_call0_v1 : Ref sig .tc := ⟨.hbm, 57, rfl⟩
abbrev main_call0_cst : Ref sig .tc := ⟨.hbm, 58, rfl⟩
abbrev main_call0_v2 : Ref sig .tc := ⟨.hbm, 59, rfl⟩
abbrev main_call0_v3 : Ref sig .tc := ⟨.hbm, 60, rfl⟩
abbrev main_call0_cst_0 : Ref sig .tc := ⟨.hbm, 61, rfl⟩
abbrev main_call0_v4 : Ref sig .tc := ⟨.hbm, 62, rfl⟩
abbrev main_call0_v5 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩

abbrev nD : Nat := 1
abbrev τ : Topo := Topo.v7x

variable {F : FTy → Type} [FloatOps F]
-- ==== Kernel3.lean ====
abbrev S2x8192x1024 : Shape := ⟨3, ![2, 8192, 1024]⟩
abbrev S1x1024 : Shape := ⟨2, ![1, 1024]⟩
abbrev S1x1024x6936 : Shape := ⟨3, ![1, 1024, 6936]⟩
abbrev S1x64 : Shape := ⟨2, ![1, 64]⟩
abbrev S1x3x64 : Shape := ⟨3, ![1, 3, 64]⟩
abbrev S1x128 : Shape := ⟨2, ![1, 128]⟩
abbrev S1024x6936 : Shape := ⟨2, ![1024, 6936]⟩
abbrev S64 : Shape := ⟨1, ![64]⟩
abbrev S3x64 : Shape := ⟨2, ![3, 64]⟩
abbrev S128 : Shape := ⟨1, ![128]⟩
abbrev S_ : Shape := ⟨0, ![]⟩
abbrev S1024x116 : Shape := ⟨2, ![1024, 116]⟩
abbrev S1024x3328 : Shape := ⟨2, ![1024, 3328]⟩
abbrev S1024x12 : Shape := ⟨2, ![1024, 12]⟩
abbrev S1024x3584 : Shape := ⟨2, ![1024, 3584]⟩
abbrev S1024x7168 : Shape := ⟨2, ![1024, 7168]⟩
abbrev S1024 : Shape := ⟨1, ![1024]⟩
abbrev S512 : Shape := ⟨1, ![512]⟩
abbrev S512x1 : Shape := ⟨2, ![512, 1]⟩
abbrev S1x512 : Shape := ⟨2, ![1, 512]⟩
abbrev S512x512 : Shape := ⟨2, ![512, 512]⟩
abbrev S128x1 : Shape := ⟨2, ![128, 1]⟩
abbrev S128x128 : Shape := ⟨2, ![128, 128]⟩
abbrev S8x64 : Shape := ⟨2, ![8, 64]⟩
abbrev S2x64 : Shape := ⟨2, ![2, 64]⟩
abbrev S4x128 : Shape := ⟨2, ![4, 128]⟩
abbrev S16384x1024 : Shape := ⟨2, ![16384, 1024]⟩
abbrev S16384x512 : Shape := ⟨2, ![16384, 512]⟩
abbrev S16384x256 : Shape := ⟨2, ![16384, 256]⟩
abbrev S16384x128 : Shape := ⟨2, ![16384, 128]⟩
abbrev S16384x3072 : Shape := ⟨2, ![16384, 3072]⟩
abbrev S2x256x8192 : Shape := ⟨3, ![2, 256, 8192]⟩
abbrev S2x128x8192 : Shape := ⟨3, ![2, 128, 8192]⟩
abbrev S256x1024 : Shape := ⟨2, ![256, 1024]⟩
abbrev S256x512 : Shape := ⟨2, ![256, 512]⟩
abbrev S256x256 : Shape := ⟨2, ![256, 256]⟩
abbrev S256x128 : Shape := ⟨2, ![256, 128]⟩
abbrev S256x3072 : Shape := ⟨2, ![256, 3072]⟩
abbrev S1x256x256 : Shape := ⟨3, ![1, 256, 256]⟩
abbrev S1x128x256 : Shape := ⟨3, ![1, 128, 256]⟩
abbrev S256 : Shape := ⟨1, ![256]⟩
abbrev S256x1 : Shape := ⟨2, ![256, 1]⟩
abbrev S1024x1024 : Shape := ⟨2, ![1024, 1024]⟩
abbrev S1024x512 : Shape := ⟨2, ![1024, 512]⟩
abbrev S1024x256 : Shape := ⟨2, ![1024, 256]⟩
abbrev S128x256 : Shape := ⟨2, ![128, 256]⟩
abbrev S1024x3072 : Shape := ⟨2, ![1024, 3072]⟩

abbrev nBuf : Space → Nat
  | .hbm => 130
  | .vmem => 39
  | .smem => 0
  | _ => 0

abbrev hbmTy0_0 (i : Nat) : BufTy := match i % 128 with
  | 0 => ⟨S2x8192x1024, .f32⟩
  | 1 => ⟨S1x1024, .f32⟩
  | 2 => ⟨S1x1024x6936, .f32⟩
  | 3 => ⟨S1x64, .f32⟩
  | 4 => ⟨S1x3x64, .f32⟩
  | 5 => ⟨S1x128, .f32⟩
  | 6 => ⟨S1024x6936, .f32⟩
  | 7 => ⟨S64, .f32⟩
  | 8 => ⟨S3x64, .f32⟩
  | 9 => ⟨S128, .f32⟩
  | 10 => ⟨S_, .f32⟩
  | 11 => ⟨S1024x116, .f32⟩
  | 12 => ⟨S1024x3328, .f32⟩
  | 13 => ⟨S1024x12, .f32⟩
  | 14 => ⟨S1024x12, .f32⟩
  | 15 => ⟨S1024x3584, .f32⟩
  | 16 => ⟨S1024x7168, .f32⟩
  | 17 => ⟨S1024x7168, .bf16⟩
  | 18 => ⟨S1024, .f32⟩
  | 19 => ⟨S1x1024, .f32⟩
  | 20 => ⟨S512, .i32⟩
  | 21 => ⟨S_, .i32⟩
  | 22 => ⟨S_, .i32⟩
  | 23 => ⟨S512, .i32⟩
  | 24 => ⟨S512, .i32⟩
  | 25 => ⟨S512, .i32⟩
  | 26 => ⟨S_, .i32⟩
  | 27 => ⟨S512, .i32⟩
  | 28 => ⟨S512, .i1⟩
  | 29 => ⟨S512, .i32⟩
  | 30 => ⟨S512, .i32⟩
  | 31 => ⟨S_, .i32⟩
  | 32 => ⟨S512, .i32⟩
  | 33 => ⟨S512, .i1⟩
  | 34 => ⟨S512, .i1⟩
  | 35 => ⟨S_, .i32⟩
  | 36 => ⟨S512, .i32⟩
  | 37 => ⟨S512, .i32⟩
  | 38 => ⟨S512, .i32⟩
  | 39 => ⟨S512x1, .i32⟩
  | 40 => ⟨S1x512, .i32⟩
  | 41 => ⟨S512x512, .i32⟩
  | 42 => ⟨S512x512, .i32⟩
  | 43 => ⟨S512x512, .i1⟩
  | 44 => ⟨S512x512, .bf16⟩
  | 45 => ⟨S128, .i32⟩
  | 46 => ⟨S_, .i32⟩
  | 47 => ⟨S_, .i32⟩
  | 48 => ⟨S128, .i32⟩
  | 49 => ⟨S128, .i32⟩
  | 50 => ⟨S128, .i32⟩
  | 51 => ⟨S_, .i32⟩
  | 52 => ⟨S128, .i32⟩
  | 53 => ⟨S128, .i1⟩
  | 54 => ⟨S128, .i32⟩
  | 55 => ⟨S128, .i32⟩
  | 56 => ⟨S_, .i32⟩
  | 57 => ⟨S128, .i32⟩
  | 58 => ⟨S128, .i1⟩
  | 59 => ⟨S128, .i1⟩
  | 60 => ⟨S_, .i32⟩
  | 61 => ⟨S128, .i32⟩
  | 62 => ⟨S128, .i32⟩
  | 63 => ⟨S128, .i32⟩
  | 64 => ⟨S128x1, .i32⟩
  | 65 => ⟨S1x128, .i32⟩
  | 66 => ⟨S128x128, .i32⟩
  | 67 => ⟨S128x128, .i32⟩
  | 68 => ⟨S128x128, .i1⟩
  | 69 => ⟨S128x128, .bf16⟩
  | 70 => ⟨S512, .i32⟩
  | 71 => ⟨S_, .i32⟩
  | 72 => ⟨S_, .i32⟩
  | 73 => ⟨S512, .i32⟩
  | 74 => ⟨S512, .i32⟩
  | 75 => ⟨S512, .i32⟩
  | 76 => ⟨S_, .i32⟩
  | 77 => ⟨S512, .i32⟩
  | 78 => ⟨S512, .i1⟩
  | 79 => ⟨S512, .i32⟩
  | 80 => ⟨S512, .i32⟩
  | 81 => ⟨S_, .i32⟩
  | 82 => ⟨S512, .i32⟩
  | 83 => ⟨S512, .i1⟩
  | 84 => ⟨S512, .i1⟩
  | 85 => ⟨S_, .i32⟩
  | 86 => ⟨S512, .i32⟩
  | 87 => ⟨S512, .i32⟩
  | 88 => ⟨S512, .i32⟩
  | 89 => ⟨S512x1, .i32⟩
  | 90 => ⟨S1x512, .i32⟩
  | 91 => ⟨S512x512, .i32⟩
  | 92 => ⟨S512x512, .i32⟩
  | 93 => ⟨S512x512, .i1⟩
  | 94 => ⟨S512x512, .bf16⟩
  | 95 => ⟨S1x64, .f32⟩
  | 96 => ⟨S8x64, .f32⟩
  | 97 => ⟨S512, .f32⟩
  | 98 => ⟨S1x512, .f32⟩
  | 99 => ⟨S1x64, .f32⟩
  | 100 => ⟨S64, .f32⟩
  | 101 => ⟨S1x64, .f32⟩
  | 102 => ⟨S2x64, .f32⟩
  | 103 => ⟨S128, .f32⟩
  | 104 => ⟨S1x128, .f32⟩
  | 105 => ⟨S1x64, .f32⟩
  | 106 => ⟨S64, .f32⟩
  | 107 => ⟨S1x64, .f32⟩
  | 108 => ⟨S2x64, .f32⟩
  | 109 => ⟨S128, .f32⟩
  | 110 => ⟨S1x128, .f32⟩
  | 111 => ⟨S1x128, .f32⟩
  | 112 => ⟨S4x128, .f32⟩
  | 113 => ⟨S512, .f32⟩
  | 114 => ⟨S1x512, .f32⟩
  | 115 => ⟨S16384x1024, .f32⟩
  | 116 => ⟨S16384x1024, .f32⟩
  | 117 => ⟨S16384x1024, .f32⟩
  | 118 => ⟨S16384x512, .f32⟩
  | 119 => ⟨S16384x256, .f32⟩
  | 120 => ⟨S16384x128, .bf16⟩
  | 121 => ⟨S16384x128, .bf16⟩
  | 122 => ⟨S16384x512, .bf16⟩
  | 123 => ⟨S16384x3072, .f32⟩
  | 124 => ⟨S2x256x8192, .f32⟩
  | 125 => ⟨S2x256x8192, .f32⟩
  | 126 => ⟨S2x256x8192, .f32⟩
  | 127 => ⟨S2x128x8192, .bf16⟩
  | _ => ⟨S2x8192x1024, .f32⟩

abbrev hbmTy0_1 (i : Nat) : BufTy := match i % 128 with
  | 0 => ⟨S2x128x8192, .bf16⟩
  | 1 => ⟨S2x256x8192, .f32⟩
  | _ => ⟨S2x8192x1024, .f32⟩

abbrev hbmTy (i : Nat) : BufTy := match i / 128 with
  | 0 => hbmTy0_0 i
  | 1 => hbmTy0_1 i
  | _ => ⟨S2x8192x1024, .f32⟩

abbrev bufTy : (tb : Table) → Fin (tcTables nBuf tb) → BufTy
  | .hbm, ⟨i, _⟩ => hbmTy i
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1024x7168, .bf16⟩
  | .local _ .vmem, ⟨4, _⟩ => ⟨S512x512, .bf16⟩
  | .local _ .vmem, ⟨5, _⟩ => ⟨S128x128, .bf16⟩
  | .local _ .vmem, ⟨6, _⟩ => ⟨S512x512, .bf16⟩
  | .local _ .vmem, ⟨7, _⟩ => ⟨S1x512, .f32⟩
  | .local _ .vmem, ⟨8, _⟩ => ⟨S1x128, .f32⟩
  | .local _ .vmem, ⟨9, _⟩ => ⟨S1x128, .f32⟩
  | .local _ .vmem, ⟨10, _⟩ => ⟨S1x512, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x512, .f32⟩
  | .local _ .vmem, ⟨16, _⟩ => ⟨S256x512, .f32⟩
  | .local _ .vmem, ⟨17, _⟩ => ⟨S256x256, .f32⟩
  | .local _ .vmem, ⟨18, _⟩ => ⟨S256x256, .f32⟩
  | .local _ .vmem, ⟨19, _⟩ => ⟨S256x128, .bf16⟩
  | .local _ .vmem, ⟨20, _⟩ => ⟨S256x128, .bf16⟩
  | .local _ .vmem, ⟨21, _⟩ => ⟨S256x128, .bf16⟩
  | .local _ .vmem, ⟨22, _⟩ => ⟨S256x128, .bf16⟩
  | .local _ .vmem, ⟨23, _⟩ => ⟨S256x512, .bf16⟩
  | .local _ .vmem, ⟨24, _⟩ => ⟨S256x512, .bf16⟩
  | .local _ .vmem, ⟨25, _⟩ => ⟨S256x3072, .f32⟩
  | .local _ .vmem, ⟨26, _⟩ => ⟨S256x3072, .f32⟩
  | .local _ .vmem, ⟨27, _⟩ => ⟨S1x256x256, .f32⟩
  | .local _ .vmem, ⟨28, _⟩ => ⟨S1x256x256, .f32⟩
  | .local _ .vmem, ⟨29, _⟩ => ⟨S1x256x256, .f32⟩
  | .local _ .vmem, ⟨30, _⟩ => ⟨S1x256x256, .f32⟩
  | .local _ .vmem, ⟨31, _⟩ => ⟨S1x256x256, .f32⟩
  | .local _ .vmem, ⟨32, _⟩ => ⟨S1x256x256, .f32⟩
  | .local _ .vmem, ⟨33, _⟩ => ⟨S1x128x256, .bf16⟩
  | .local _ .vmem, ⟨34, _⟩ => ⟨S1x128x256, .bf16⟩
  | .local _ .vmem, ⟨35, _⟩ => ⟨S1x128x256, .bf16⟩
  | .local _ .vmem, ⟨36, _⟩ => ⟨S1x128x256, .bf16⟩
  | .local _ .vmem, ⟨37, _⟩ => ⟨S1x256x256, .f32⟩
  | .local _ .vmem, ⟨38, _⟩ => ⟨S1x256x256, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | _, _ => false

abbrev semScoped : Fin 0 → Bool
  | ⟨_, h⟩ => absurd h (Nat.not_lt_zero _)

abbrev dmaSemScoped : Fin 39 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | _ => false

abbrev sig : RefSig :=
  ofTc nBuf bufTy 0 39 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_c : Ref sig .tc := ⟨.hbm, 21, rfl⟩
abbrev main_call0_v0 : Ref sig .tc := ⟨.hbm, 22, rfl⟩
abbrev main_call0_v1 : Ref sig .tc := ⟨.hbm, 23, rfl⟩
abbrev main_call0_v2 : Ref sig .tc := ⟨.hbm, 24, rfl⟩
abbrev main_call0_v3 : Ref sig .tc := ⟨.hbm, 25, rfl⟩
abbrev main_call0_v4 : Ref sig .tc := ⟨.hbm, 26, rfl⟩
abbrev main_call0_v5 : Ref sig .tc := ⟨.hbm, 27, rfl⟩
abbrev main_call0_v6 : Ref sig .tc := ⟨.hbm, 28, rfl⟩
abbrev main_call0_v7 : Ref sig .tc := ⟨.hbm, 29, rfl⟩
abbrev main_call0_v8 : Ref sig .tc := ⟨.hbm, 30, rfl⟩
abbrev main_call0_c : Ref sig .tc := ⟨.hbm, 31, rfl⟩
abbrev main_call0_v9 : Ref sig .tc := ⟨.hbm, 32, rfl⟩
abbrev main_call0_v10 : Ref sig .tc := ⟨.hbm, 33, rfl⟩
abbrev main_call0_v11 : Ref sig .tc := ⟨.hbm, 34, rfl⟩
abbrev main_call0_c_0 : Ref sig .tc := ⟨.hbm, 35, rfl⟩
abbrev main_call0_v12 : Ref sig .tc := ⟨.hbm, 36, rfl⟩
abbrev main_call0_v13 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_c_0 : Ref sig .tc := ⟨.hbm, 46, rfl⟩
abbrev main_call1_v0 : Ref sig .tc := ⟨.hbm, 47, rfl⟩
abbrev main_call1_v1 : Ref sig .tc := ⟨.hbm, 48, rfl⟩
abbrev main_call1_v2 : Ref sig .tc := ⟨.hbm, 49, rfl⟩
abbrev main_call1_v3 : Ref sig .tc := ⟨.hbm, 50, rfl⟩
abbrev main_call1_v4 : Ref sig .tc := ⟨.hbm, 51, rfl⟩
abbrev main_call1_v5 : Ref sig .tc := ⟨.hbm, 52, rfl⟩
abbrev main_call1_v6 : Ref sig .tc := ⟨.hbm, 53, rfl⟩
abbrev main_call1_v7 : Ref sig .tc := ⟨.hbm, 54, rfl⟩
abbrev main_call1_v8 : Ref sig .tc := ⟨.hbm, 55, rfl⟩
abbrev main_call1_c : Ref sig .tc := ⟨.hbm, 56, rfl⟩
abbrev main_call1_v9 : Ref sig .tc := ⟨.hbm, 57, rfl⟩
abbrev main_call1_v10 : Ref sig .tc := ⟨.hbm, 58, rfl⟩
abbrev main_call1_v11 : Ref sig .tc := ⟨.hbm, 59, rfl⟩
abbrev main_call1_c_0 : Ref sig .tc := ⟨.hbm, 60, rfl⟩
abbrev main_call1_v12 : Ref sig .tc := ⟨.hbm, 61, rfl⟩
abbrev main_call1_v13 : Ref sig .tc := ⟨.hbm, 62, rfl⟩
abbrev main_v22 : Ref sig .tc := ⟨.hbm, 63, rfl⟩
abbrev main_v23 : Ref sig .tc := ⟨.hbm, 64, rfl⟩
abbrev main_v24 : Ref sig .tc := ⟨.hbm, 65, rfl⟩
abbrev main_v25 : Ref sig .tc := ⟨.hbm, 66, rfl⟩
abbrev main_v26 : Ref sig .tc := ⟨.hbm, 67, rfl⟩
abbrev main_v27 : Ref sig .tc := ⟨.hbm, 68, rfl⟩
abbrev main_v28 : Ref sig .tc := ⟨.hbm, 69, rfl⟩
abbrev main_v29 : Ref sig .tc := ⟨.hbm, 70, rfl⟩
abbrev main_c_1 : Ref sig .tc := ⟨.hbm, 71, rfl⟩
abbrev main_call2_v0 : Ref sig .tc := ⟨.hbm, 72, rfl⟩
abbrev main_call2_v1 : Ref sig .tc := ⟨.hbm, 73, rfl⟩
abbrev main_call2_v2 : Ref sig .tc := ⟨.hbm, 74, rfl⟩
abbrev main_call2_v3 : Ref sig .tc := ⟨.hbm, 75, rfl⟩
abbrev main_call2_v4 : Ref sig .tc := ⟨.hbm, 76, rfl⟩
abbrev main_call2_v5 : Ref sig .tc := ⟨.hbm, 77, rfl⟩
abbrev main_call2_v6 : Ref sig .tc := ⟨.hbm, 78, rfl⟩
abbrev main_call2_v7 : Ref sig .tc := ⟨.hbm, 79, rfl⟩
abbrev main_call2_v8 : Ref sig .tc := ⟨.hbm, 80, rfl⟩
abbrev main_call2_c : Ref sig .tc := ⟨.hbm, 81, rfl⟩
abbrev main_call2_v9 : Ref sig .tc := ⟨.hbm, 82, rfl⟩
abbrev main_call2_v10 : Ref sig .tc := ⟨.hbm, 83, rfl⟩
abbrev main_call2_v11 : Ref sig .tc := ⟨.hbm, 84, rfl⟩
abbrev main_call2_c_0 : Ref sig .tc := ⟨.hbm, 85, rfl⟩
abbrev main_call2_v12 : Ref sig .tc := ⟨.hbm, 86, rfl⟩
abbrev main_call2_v13 : Ref sig .tc := ⟨.hbm, 87, rfl⟩
abbrev main_v30 : Ref sig .tc := ⟨.hbm, 88, rfl⟩
abbrev main_v31 : Ref sig .tc := ⟨.hbm, 89, rfl⟩
abbrev main_v32 : Ref sig .tc := ⟨.hbm, 90, rfl⟩
abbrev main_v33 : Ref sig .tc := ⟨.hbm, 91, rfl⟩
abbrev main_v34 : Ref sig .tc := ⟨.hbm, 92, rfl⟩
abbrev main_v35 : Ref sig .tc := ⟨.hbm, 93, rfl⟩
abbrev main_v36 : Ref sig .tc := ⟨.hbm, 94, rfl⟩
abbrev main_v37 : Ref sig .tc := ⟨.hbm, 95, rfl⟩
abbrev main_v38 : Ref sig .tc := ⟨.hbm, 96, rfl⟩
abbrev main_v39 : Ref sig .tc := ⟨.hbm, 97, rfl⟩
abbrev main_v40 : Ref sig .tc := ⟨.hbm, 98, rfl⟩
abbrev main_v41 : Ref sig .tc := ⟨.hbm, 99, rfl⟩
abbrev main_v42 : Ref sig .tc := ⟨.hbm, 100, rfl⟩
abbrev main_v43 : Ref sig .tc := ⟨.hbm, 101, rfl⟩
abbrev main_v44 : Ref sig .tc := ⟨.hbm, 102, rfl⟩
abbrev main_v45 : Ref sig .tc := ⟨.hbm, 103, rfl⟩
abbrev main_v46 : Ref sig .tc := ⟨.hbm, 104, rfl⟩
abbrev main_v47 : Ref sig .tc := ⟨.hbm, 105, rfl⟩
abbrev main_v48 : Ref sig .tc := ⟨.hbm, 106, rfl⟩
abbrev main_v49 : Ref sig .tc := ⟨.hbm, 107, rfl⟩
abbrev main_v50 : Ref sig .tc := ⟨.hbm, 108, rfl⟩
abbrev main_v51 : Ref sig .tc := ⟨.hbm, 109, rfl⟩
abbrev main_v52 : Ref sig .tc := ⟨.hbm, 110, rfl⟩
abbrev main_v53 : Ref sig .tc := ⟨.hbm, 111, rfl⟩
abbrev main_v54 : Ref sig .tc := ⟨.hbm, 112, rfl⟩
abbrev main_v55 : Ref sig .tc := ⟨.hbm, 113, rfl⟩
abbrev main_v56 : Ref sig .tc := ⟨.hbm, 114, rfl⟩
abbrev main_v57 : Ref sig .tc := ⟨.hbm, 115, rfl⟩
abbrev main_v58_0 : Ref sig .tc := ⟨.hbm, 116, rfl⟩
abbrev main_v58_1 : Ref sig .tc := ⟨.hbm, 117, rfl⟩
abbrev main_v58_2 : Ref sig .tc := ⟨.hbm, 118, rfl⟩
abbrev main_v58_3 : Ref sig .tc := ⟨.hbm, 119, rfl⟩
abbrev main_v58_4 : Ref sig .tc := ⟨.hbm, 120, rfl⟩
abbrev main_v58_5 : Ref sig .tc := ⟨.hbm, 121, rfl⟩
abbrev main_v58_6 : Ref sig .tc := ⟨.hbm, 122, rfl⟩
abbrev main_v58_7 : Ref sig .tc := ⟨.hbm, 123, rfl⟩
abbrev main_v58_8 : Ref sig .tc := ⟨.hbm, 124, rfl⟩
abbrev main_v58_9 : Ref sig .tc := ⟨.hbm, 125, rfl⟩
abbrev main_v58_10 : Ref sig .tc := ⟨.hbm, 126, rfl⟩
abbrev main_v58_11 : Ref sig .tc := ⟨.hbm, 127, rfl⟩
abbrev main_v58_12 : Ref sig .tc := ⟨.hbm, 128, rfl⟩
abbrev main_v58_13 : Ref sig .tc := ⟨.hbm, 129, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg10_1 : Ref sig .tc := ⟨.vmem, 12, rfl⟩
abbrev cc0_stg11_0 : Ref sig .tc := ⟨.vmem, 13, rfl⟩
abbrev cc0_stg11_1 : Ref sig .tc := ⟨.vmem, 14, rfl⟩
abbrev cc0_stg12_0 : Ref sig .tc := ⟨.vmem, 15, rfl⟩
abbrev cc0_stg12_1 : Ref sig .tc := ⟨.vmem, 16, rfl⟩
abbrev cc0_stg13_0 : Ref sig .tc := ⟨.vmem, 17, rfl⟩
abbrev cc0_stg13_1 : Ref sig .tc := ⟨.vmem, 18, rfl⟩
abbrev cc0_stg14_0 : Ref sig .tc := ⟨.vmem, 19, rfl⟩
abbrev cc0_stg14_1 : Ref sig .tc := ⟨.vmem, 20, rfl⟩
abbrev cc0_stg15_0 : Ref sig .tc := ⟨.vmem, 21, rfl⟩
abbrev cc0_stg15_1 : Ref sig .tc := ⟨.vmem, 22, rfl⟩
abbrev cc0_stg16_0 : Ref sig .tc := ⟨.vmem, 23, rfl⟩
abbrev cc0_stg16_1 : Ref sig .tc := ⟨.vmem, 24, rfl⟩
abbrev cc0_stg17_0 : Ref sig .tc := ⟨.vmem, 25, rfl⟩
abbrev cc0_stg17_1 : Ref sig .tc := ⟨.vmem, 26, rfl⟩
abbrev cc0_stg18_0 : Ref sig .tc := ⟨.vmem, 27, rfl⟩
abbrev cc0_stg18_1 : Ref sig .tc := ⟨.vmem, 28, rfl⟩
abbrev cc0_stg19_0 : Ref sig .tc := ⟨.vmem, 29, rfl⟩
abbrev cc0_stg19_1 : Ref sig .tc := ⟨.vmem, 30, rfl⟩
abbrev cc0_stg20_0 : Ref sig .tc := ⟨.vmem, 31, rfl⟩
abbrev cc0_stg20_1 : Ref sig .tc := ⟨.vmem, 32, rfl⟩
abbrev cc0_stg21_0 : Ref sig .tc := ⟨.vmem, 33, rfl⟩
abbrev cc0_stg21_1 : Ref sig .tc := ⟨.vmem, 34, rfl⟩
abbrev cc0_stg22_0 : Ref sig .tc := ⟨.vmem, 35, rfl⟩
abbrev cc0_stg22_1 : Ref sig .tc := ⟨.vmem, 36, rfl⟩
abbrev cc0_stg23_0 : Ref sig .tc := ⟨.vmem, 37, rfl⟩
abbrev cc0_stg23_1 : Ref sig .tc := ⟨.vmem, 38, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem10_1 : DmaSem sig := 12
abbrev cc0_sem11_0 : DmaSem sig := 13
abbrev cc0_sem11_1 : DmaSem sig := 14
abbrev cc0_sem12_0 : DmaSem sig := 15
abbrev cc0_sem12_1 : DmaSem sig := 16
abbrev cc0_sem13_0 : DmaSem sig := 17
abbrev cc0_sem13_1 : DmaSem sig := 18
abbrev cc0_sem14_0 : DmaSem sig := 19
abbrev cc0_sem14_1 : DmaSem sig := 20
abbrev cc0_sem15_0 : DmaSem sig := 21
abbrev cc0_sem15_1 : DmaSem sig := 22
abbrev cc0_sem16_0 : DmaSem sig := 23
abbrev cc0_sem16_1 : DmaSem sig := 24
abbrev cc0_sem17_0 : DmaSem sig := 25
abbrev cc0_sem17_1 : DmaSem sig := 26
abbrev cc0_sem18_0 : DmaSem sig := 27
abbrev cc0_sem18_1 : DmaSem sig := 28
abbrev cc0_sem19_0 : DmaSem sig := 29
abbrev cc0_sem19_1 : DmaSem sig := 30
abbrev cc0_sem20_0 : DmaSem sig := 31
abbrev cc0_sem20_1 : DmaSem sig := 32
abbrev cc0_sem21_0 : DmaSem sig := 33
abbrev cc0_sem21_1 : DmaSem sig := 34
abbrev cc0_sem22_0 : DmaSem sig := 35
abbrev cc0_sem22_1 : DmaSem sig := 36
abbrev cc0_sem23_0 : DmaSem sig := 37
abbrev cc0_sem23_1 : DmaSem sig := 38

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 3 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c32_i32_4 : BitVec 32 := 32#32
  let c0_i32_5 : BitVec 32 := 0#32
  let v17 : BitVec 1 := Scalar.cmpi .eq c32_i32_4 c0_i32_5
  let c1_i32_6 : BitVec 32 := 1#32
  let v18 : BitVec 32 := Scalar.select v17 c1_i32_6 c32_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_19 (i : grid0.Coords) : Fin 3 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c32_i32_4 : BitVec 32 := 32#32
  let c0_i32_5 : BitVec 32 := 0#32
  let v17 : BitVec 1 := Scalar.cmpi .eq c32_i32_4 c0_i32_5
  let c1_i32_6 : BitVec 32 := 1#32
  let v18 : BitVec 32 := Scalar.select v17 c1_i32_6 c32_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_20 (i : grid0.Coords) : Fin 3 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c32_i32_4 : BitVec 32 := 32#32
  let c0_i32_5 : BitVec 32 := 0#32
  let v17 : BitVec 1 := Scalar.cmpi .eq c32_i32_4 c0_i32_5
  let c1_i32_6 : BitVec 32 := 1#32
  let v18 : BitVec 32 := Scalar.select v17 c1_i32_6 c32_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_21 (i : grid0.Coords) : Fin 3 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c32_i32_4 : BitVec 32 := 32#32
  let c0_i32_5 : BitVec 32 := 0#32
  let v17 : BitVec 1 := Scalar.cmpi .eq c32_i32_4 c0_i32_5
  let c1_i32_6 : BitVec 32 := 1#32
  let v18 : BitVec 32 := Scalar.select v17 c1_i32_6 c32_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_22 (i : grid0.Coords) : Fin 3 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c32_i32_4 : BitVec 32 := 32#32
  let c0_i32_5 : BitVec 32 := 0#32
  let v17 : BitVec 1 := Scalar.cmpi .eq c32_i32_4 c0_i32_5
  let c1_i32_6 : BitVec 32 := 1#32
  let v18 : BitVec 32 := Scalar.select v17 c1_i32_6 c32_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_23 (i : grid0.Coords) : Fin 3 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c32_i32_4 : BitVec 32 := 32#32
  let c0_i32_5 : BitVec 32 := 0#32
  let v17 : BitVec 1 := Scalar.cmpi .eq c32_i32_4 c0_i32_5
  let c1_i32_6 : BitVec 32 := 1#32
  let v18 : BitVec 32 := Scalar.select v17 c1_i32_6 c32_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x7168 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x128 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x128 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x512 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S256x3072 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S1x256x256 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S1x256x256 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S1x256x256 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S1x128x256 .bf16 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 2 → Memref sig .tc .vmem S1x128x256 .bf16 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]

abbrev stage0_23 : Fin 2 → Memref sig .tc .vmem S1x256x256 .f32 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true]
-- ==== Reference3Ideal.lean ====
abbrev S2x8192x1024 : Shape := ⟨3, ![2, 8192, 1024]⟩
abbrev S1x1024 : Shape := ⟨2, ![1, 1024]⟩
abbrev S1x1024x6936 : Shape := ⟨3, ![1, 1024, 6936]⟩
abbrev S1x64 : Shape := ⟨2, ![1, 64]⟩
abbrev S1x3x64 : Shape := ⟨3, ![1, 3, 64]⟩
abbrev S1x128 : Shape := ⟨2, ![1, 128]⟩
abbrev S1024 : Shape := ⟨1, ![1024]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S1024x6936 : Shape := ⟨2, ![1024, 6936]⟩
abbrev S2x8192x6936 : Shape := ⟨3, ![2, 8192, 6936]⟩
abbrev S2x8192x512 : Shape := ⟨3, ![2, 8192, 512]⟩
abbrev S2x8192x768 : Shape := ⟨3, ![2, 8192, 768]⟩
abbrev S2x8192x24 : Shape := ⟨3, ![2, 8192, 24]⟩
abbrev S2x8192x3072 : Shape := ⟨3, ![2, 8192, 3072]⟩
abbrev S2x8192x8x64 : Shape := ⟨4, ![2, 8192, 8, 64]⟩
abbrev S64 : Shape := ⟨1, ![64]⟩
abbrev S2x8192x8 : Shape := ⟨3, ![2, 8192, 8]⟩
abbrev S2x8192x8x1 : Shape := ⟨4, ![2, 8192, 8, 1]⟩
abbrev S1x1x1x64 : Shape := ⟨4, ![1, 1, 1, 64]⟩
abbrev S2x8192x3x2x2x64 : Shape := ⟨6, ![2, 8192, 3, 2, 2, 64]⟩
abbrev S2x8192x1x2x2x64 : Shape := ⟨6, ![2, 8192, 1, 2, 2, 64]⟩
abbrev S2x8192x2x2x64 : Shape := ⟨5, ![2, 8192, 2, 2, 64]⟩
abbrev S2x8192x1x1x2x64 : Shape := ⟨6, ![2, 8192, 1, 1, 2, 64]⟩
abbrev S2x8192x2x64 : Shape := ⟨4, ![2, 8192, 2, 64]⟩
abbrev S1x1x64 : Shape := ⟨3, ![1, 1, 64]⟩
abbrev S2x8192x2 : Shape := ⟨3, ![2, 8192, 2]⟩
abbrev S2x8192x2x1 : Shape := ⟨4, ![2, 8192, 2, 1]⟩
abbrev S2x8192x1x2x64 : Shape := ⟨5, ![2, 8192, 1, 2, 64]⟩
abbrev S2x8192x2x12 : Shape := ⟨4, ![2, 8192, 2, 12]⟩
abbrev S2x8192x2x128 : Shape := ⟨4, ![2, 8192, 2, 128]⟩
abbrev S2x8192x4x128 : Shape := ⟨4, ![2, 8192, 4, 128]⟩
abbrev S128 : Shape := ⟨1, ![128]⟩
abbrev S2x8192x4 : Shape := ⟨3, ![2, 8192, 4]⟩
abbrev S2x8192x4x1 : Shape := ⟨4, ![2, 8192, 4, 1]⟩
abbrev S1x1x1x128 : Shape := ⟨4, ![1, 1, 1, 128]⟩
abbrev S16384x1024 : Shape := ⟨2, ![16384, 1024]⟩
abbrev S16384x512 : Shape := ⟨2, ![16384, 512]⟩
abbrev S16384x256 : Shape := ⟨2, ![16384, 256]⟩
abbrev S16384x128 : Shape := ⟨2, ![16384, 128]⟩
abbrev S16384x3072 : Shape := ⟨2, ![16384, 3072]⟩
abbrev S2x8192x256 : Shape := ⟨3, ![2, 8192, 256]⟩
abbrev S2x256x8192 : Shape := ⟨3, ![2, 256, 8192]⟩
abbrev S2x8192x128 : Shape := ⟨3, ![2, 8192, 128]⟩
abbrev S2x128x8192 : Shape := ⟨3, ![2, 128, 8192]⟩

abbrev nBuf : Space → Nat
  | .hbm => 194
  | .vmem => 0
  | .smem => 0
  | _ => 0

abbrev hbmTy0_0 (i : Nat) : BufTy := match i % 128 with
  | 0 => ⟨S2x8192x1024, .f32⟩
  | 1 => ⟨S1x1024, .f32⟩
  | 2 => ⟨S1x1024x6936, .f32⟩
  | 3 => ⟨S1x64, .f32⟩
  | 4 => ⟨S1x3x64, .f32⟩
  | 5 => ⟨S1x128, .f32⟩
  | 6 => ⟨S1024, .f32⟩
  | 7 => ⟨S2x8192x1024, .f32⟩
  | 8 => ⟨S_, .f32⟩
  | 9 => ⟨S2x8192, .f32⟩
  | 10 => ⟨S2x8192x1, .f32⟩
  | 11 => ⟨S_, .f32⟩
  | 12 => ⟨S2x8192x1, .f32⟩
  | 13 => ⟨S2x8192x1, .f32⟩
  | 14 => ⟨S_, .f32⟩
  | 15 => ⟨S2x8192x1, .f32⟩
  | 16 => ⟨S2x8192x1, .f32⟩
  | 17 => ⟨S2x8192x1, .f32⟩
  | 18 => ⟨S2x8192x1024, .f32⟩
  | 19 => ⟨S2x8192x1024, .f32⟩
  | 20 => ⟨S1x1x1024, .f32⟩
  | 21 => ⟨S2x8192x1024, .f32⟩
  | 22 => ⟨S2x8192x1024, .f32⟩
  | 23 => ⟨S1024x6936, .f32⟩
  | 24 => ⟨S2x8192x6936, .f32⟩
  | 25 => ⟨S2x8192x1024, .f32⟩
  | 26 => ⟨S2x8192x1024, .f32⟩
  | 27 => ⟨S2x8192x512, .f32⟩
  | 28 => ⟨S2x8192x768, .f32⟩
  | 29 => ⟨S2x8192x24, .f32⟩
  | 30 => ⟨S2x8192x512, .f32⟩
  | 31 => ⟨S2x8192x3072, .f32⟩
  | 32 => ⟨S2x8192x8x64, .f32⟩
  | 33 => ⟨S64, .f32⟩
  | 34 => ⟨S2x8192x8x64, .f32⟩
  | 35 => ⟨S_, .f32⟩
  | 36 => ⟨S2x8192x8, .f32⟩
  | 37 => ⟨S2x8192x8x1, .f32⟩
  | 38 => ⟨S_, .f32⟩
  | 39 => ⟨S2x8192x8x1, .f32⟩
  | 40 => ⟨S2x8192x8x1, .f32⟩
  | 41 => ⟨S_, .f32⟩
  | 42 => ⟨S2x8192x8x1, .f32⟩
  | 43 => ⟨S2x8192x8x1, .f32⟩
  | 44 => ⟨S2x8192x8x1, .f32⟩
  | 45 => ⟨S2x8192x8x64, .f32⟩
  | 46 => ⟨S2x8192x8x64, .f32⟩
  | 47 => ⟨S1x1x1x64, .f32⟩
  | 48 => ⟨S2x8192x8x64, .f32⟩
  | 49 => ⟨S2x8192x8x64, .f32⟩
  | 50 => ⟨S2x8192x3x2x2x64, .f32⟩
  | 51 => ⟨S2x8192x1x2x2x64, .f32⟩
  | 52 => ⟨S2x8192x2x2x64, .f32⟩
  | 53 => ⟨S2x8192x1x1x2x64, .f32⟩
  | 54 => ⟨S2x8192x2x64, .f32⟩
  | 55 => ⟨S1x1x64, .f32⟩
  | 56 => ⟨S64, .f32⟩
  | 57 => ⟨S2x8192x2x64, .f32⟩
  | 58 => ⟨S_, .f32⟩
  | 59 => ⟨S2x8192x2, .f32⟩
  | 60 => ⟨S2x8192x2x1, .f32⟩
  | 61 => ⟨S_, .f32⟩
  | 62 => ⟨S2x8192x2x1, .f32⟩
  | 63 => ⟨S2x8192x2x1, .f32⟩
  | 64 => ⟨S_, .f32⟩
  | 65 => ⟨S2x8192x2x1, .f32⟩
  | 66 => ⟨S2x8192x2x1, .f32⟩
  | 67 => ⟨S2x8192x2x1, .f32⟩
  | 68 => ⟨S2x8192x2x64, .f32⟩
  | 69 => ⟨S2x8192x2x64, .f32⟩
  | 70 => ⟨S1x1x1x64, .f32⟩
  | 71 => ⟨S2x8192x2x64, .f32⟩
  | 72 => ⟨S2x8192x2x64, .f32⟩
  | 73 => ⟨S2x8192x1x1x2x64, .f32⟩
  | 74 => ⟨S2x8192x2x64, .f32⟩
  | 75 => ⟨S2x8192x1x2x64, .f32⟩
  | 76 => ⟨S2x8192x1x2x64, .f32⟩
  | 77 => ⟨S2x8192x2x2x64, .f32⟩
  | 78 => ⟨S2x8192x1x1x2x64, .f32⟩
  | 79 => ⟨S2x8192x2x64, .f32⟩
  | 80 => ⟨S1x1x64, .f32⟩
  | 81 => ⟨S64, .f32⟩
  | 82 => ⟨S2x8192x2x64, .f32⟩
  | 83 => ⟨S_, .f32⟩
  | 84 => ⟨S2x8192x2, .f32⟩
  | 85 => ⟨S2x8192x2x1, .f32⟩
  | 86 => ⟨S_, .f32⟩
  | 87 => ⟨S2x8192x2x1, .f32⟩
  | 88 => ⟨S2x8192x2x1, .f32⟩
  | 89 => ⟨S_, .f32⟩
  | 90 => ⟨S2x8192x2x1, .f32⟩
  | 91 => ⟨S2x8192x2x1, .f32⟩
  | 92 => ⟨S2x8192x2x1, .f32⟩
  | 93 => ⟨S2x8192x2x64, .f32⟩
  | 94 => ⟨S2x8192x2x64, .f32⟩
  | 95 => ⟨S1x1x1x64, .f32⟩
  | 96 => ⟨S2x8192x2x64, .f32⟩
  | 97 => ⟨S2x8192x2x64, .f32⟩
  | 98 => ⟨S2x8192x1x1x2x64, .f32⟩
  | 99 => ⟨S2x8192x2x64, .f32⟩
  | 100 => ⟨S2x8192x1x2x64, .f32⟩
  | 101 => ⟨S2x8192x1x2x64, .f32⟩
  | 102 => ⟨S2x8192x2x2x64, .f32⟩
  | 103 => ⟨S2x8192x2x12, .f32⟩
  | 104 => ⟨S_, .i32⟩
  | 105 => ⟨S_, .f32⟩
  | 106 => ⟨S2x8192x2x128, .f32⟩
  | 107 => ⟨S2x8192x2x128, .f32⟩
  | 108 => ⟨S2x8192x2x128, .f32⟩
  | 109 => ⟨S_, .f32⟩
  | 110 => ⟨S2x8192x2x128, .f32⟩
  | 111 => ⟨S2x8192x2x128, .f32⟩
  | 112 => ⟨S_, .f32⟩
  | 113 => ⟨S2x8192x2x128, .f32⟩
  | 114 => ⟨S2x8192x2x128, .f32⟩
  | 115 => ⟨S2x8192x4x128, .f32⟩
  | 116 => ⟨S128, .f32⟩
  | 117 => ⟨S2x8192x4x128, .f32⟩
  | 118 => ⟨S_, .f32⟩
  | 119 => ⟨S2x8192x4, .f32⟩
  | 120 => ⟨S2x8192x4x1, .f32⟩
  | 121 => ⟨S_, .f32⟩
  | 122 => ⟨S2x8192x4x1, .f32⟩
  | 123 => ⟨S2x8192x4x1, .f32⟩
  | 124 => ⟨S_, .f32⟩
  | 125 => ⟨S2x8192x4x1, .f32⟩
  | 126 => ⟨S2x8192x4x1, .f32⟩
  | 127 => ⟨S2x8192x4x1, .f32⟩
  | _ => ⟨S2x8192x1024, .f32⟩

abbrev hbmTy0_1 (i : Nat) : BufTy := match i % 128 with
  | 0 => ⟨S2x8192x4x128, .f32⟩
  | 1 => ⟨S2x8192x4x128, .f32⟩
  | 2 => ⟨S1x1x1x128, .f32⟩
  | 3 => ⟨S2x8192x4x128, .f32⟩
  | 4 => ⟨S2x8192x4x128, .f32⟩
  | 5 => ⟨S2x8192x3072, .f32⟩
  | 6 => ⟨S2x8192x3072, .f32⟩
  | 7 => ⟨S_, .f32⟩
  | 8 => ⟨S2x8192x3072, .f32⟩
  | 9 => ⟨S2x8192x3072, .f32⟩
  | 10 => ⟨S_, .f32⟩
  | 11 => ⟨S2x8192x3072, .f32⟩
  | 12 => ⟨S2x8192x3072, .f32⟩
  | 13 => ⟨S16384x1024, .f32⟩
  | 14 => ⟨S2x8192x1024, .f32⟩
  | 15 => ⟨S2x8192x1024, .f32⟩
  | 16 => ⟨S_, .f32⟩
  | 17 => ⟨S2x8192x1024, .f32⟩
  | 18 => ⟨S2x8192x1024, .f32⟩
  | 19 => ⟨S2x8192x1024, .f32⟩
  | 20 => ⟨S_, .f32⟩
  | 21 => ⟨S2x8192x1024, .f32⟩
  | 22 => ⟨S2x8192x1024, .f32⟩
  | 23 => ⟨S2x8192x1024, .f32⟩
  | 24 => ⟨S_, .f32⟩
  | 25 => ⟨S2x8192x1024, .f32⟩
  | 26 => ⟨S2x8192x1024, .f32⟩
  | 27 => ⟨S_, .f32⟩
  | 28 => ⟨S2x8192x1024, .f32⟩
  | 29 => ⟨S2x8192x1024, .f32⟩
  | 30 => ⟨S2x8192x1024, .f32⟩
  | 31 => ⟨S16384x1024, .f32⟩
  | 32 => ⟨S_, .f32⟩
  | 33 => ⟨S2x8192x8x64, .f32⟩
  | 34 => ⟨S2x8192x8x64, .f32⟩
  | 35 => ⟨S16384x512, .f32⟩
  | 36 => ⟨S16384x256, .f32⟩
  | 37 => ⟨S2x8192x1x2x64, .f32⟩
  | 38 => ⟨S2x8192x2x64, .f32⟩
  | 39 => ⟨S16384x128, .f32⟩
  | 40 => ⟨S16384x128, .bf16⟩
  | 41 => ⟨S2x8192x1x2x64, .f32⟩
  | 42 => ⟨S2x8192x2x64, .f32⟩
  | 43 => ⟨S16384x128, .f32⟩
  | 44 => ⟨S16384x128, .bf16⟩
  | 45 => ⟨S16384x512, .f32⟩
  | 46 => ⟨S16384x512, .bf16⟩
  | 47 => ⟨S16384x3072, .f32⟩
  | 48 => ⟨S2x8192x256, .f32⟩
  | 49 => ⟨S2x256x8192, .f32⟩
  | 50 => ⟨S2x8192x256, .f32⟩
  | 51 => ⟨S2x256x8192, .f32⟩
  | 52 => ⟨S2x8192x256, .f32⟩
  | 53 => ⟨S2x256x8192, .f32⟩
  | 54 => ⟨S2x8192x1x2x64, .f32⟩
  | 55 => ⟨S2x8192x2x64, .f32⟩
  | 56 => ⟨S2x8192x128, .f32⟩
  | 57 => ⟨S2x128x8192, .f32⟩
  | 58 => ⟨S2x128x8192, .bf16⟩
  | 59 => ⟨S2x8192x1x2x64, .f32⟩
  | 60 => ⟨S2x8192x2x64, .f32⟩
  | 61 => ⟨S2x8192x128, .f32⟩
  | 62 => ⟨S2x128x8192, .f32⟩
  | 63 => ⟨S2x128x8192, .bf16⟩
  | 64 => ⟨S2x8192x256, .f32⟩
  | 65 => ⟨S2x256x8192, .f32⟩
  | _ => ⟨S2x8192x1024, .f32⟩

abbrev hbmTy (i : Nat) : BufTy := match i / 128 with
  | 0 => hbmTy0_0 i
  | 1 => hbmTy0_1 i
  | _ => ⟨S2x8192x1024, .f32⟩

abbrev bufTy : (tb : Table) → Fin (tcTables nBuf tb) → BufTy
  | .hbm, ⟨i, _⟩ => hbmTy i
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_2 : Ref sig .tc := ⟨.hbm, 35, rfl⟩
abbrev main_v26 : Ref sig .tc := ⟨.hbm, 36, rfl⟩
abbrev main_v27 : Ref sig .tc := ⟨.hbm, 37, rfl⟩
abbrev main_cst_3 : Ref sig .tc := ⟨.hbm, 38, rfl⟩
abbrev main_v28 : Ref sig .tc := ⟨.hbm, 39, rfl⟩
abbrev main_v29 : Ref sig .tc := ⟨.hbm, 40, rfl⟩
abbrev main_cst_4 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_cst_5 : Ref sig .tc := ⟨.hbm, 58, rfl⟩
abbrev main_v46 : Ref sig .tc := ⟨.hbm, 59, rfl⟩
abbrev main_v47 : Ref sig .tc := ⟨.hbm, 60, rfl⟩
abbrev main_cst_6 : Ref sig .tc := ⟨.hbm, 61, rfl⟩
abbrev main_v48 : Ref sig .tc := ⟨.hbm, 62, rfl⟩
abbrev main_v49 : Ref sig .tc := ⟨.hbm, 63, rfl⟩
abbrev main_cst_7 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_cst_8 : Ref sig .tc := ⟨.hbm, 83, rfl⟩
abbrev main_v68 : Ref sig .tc := ⟨.hbm, 84, rfl⟩
abbrev main_v69 : Ref sig .tc := ⟨.hbm, 85, rfl⟩
abbrev main_cst_9 : Ref sig .tc := ⟨.hbm, 86, rfl⟩
abbrev main_v70 : Ref sig .tc := ⟨.hbm, 87, rfl⟩
abbrev main_v71 : Ref sig .tc := ⟨.hbm, 88, rfl⟩
abbrev main_cst_10 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩
abbrev main_v81 : Ref sig .tc := ⟨.hbm, 99, rfl⟩
abbrev main_v82 : Ref sig .tc := ⟨.hbm, 100, rfl⟩
abbrev main_v83 : Ref sig .tc := ⟨.hbm, 101, rfl⟩
abbrev main_v84 : Ref sig .tc := ⟨.hbm, 102, rfl⟩
abbrev main_v85 : Ref sig .tc := ⟨.hbm, 103, rfl⟩
abbrev main_c : Ref sig .tc := ⟨.hbm, 104, rfl⟩
abbrev main_call0_v0 : Ref sig .tc := ⟨.hbm, 105, rfl⟩
abbrev main_v86 : Ref sig .tc := ⟨.hbm, 106, rfl⟩
abbrev main_v87 : Ref sig .tc := ⟨.hbm, 107, rfl⟩
abbrev main_v88 : Ref sig .tc := ⟨.hbm, 108, rfl⟩
abbrev main_cst_11 : Ref sig .tc := ⟨.hbm, 109, rfl⟩
abbrev main_v89 : Ref sig .tc := ⟨.hbm, 110, rfl⟩
abbrev main_v90 : Ref sig .tc := ⟨.hbm, 111, rfl⟩
abbrev main_cst_12 : Ref sig .tc := ⟨.hbm, 112, rfl⟩
abbrev main_v91 : Ref sig .tc := ⟨.hbm, 113, rfl⟩
abbrev main_v92 : Ref sig .tc := ⟨.hbm, 114, rfl⟩
abbrev main_v93 : Ref sig .tc := ⟨.hbm, 115, rfl⟩
abbrev main_v94 : Ref sig .tc := ⟨.hbm, 116, rfl⟩
abbrev main_v95 : Ref sig .tc := ⟨.hbm, 117, rfl⟩
abbrev main_cst_13 : Ref sig .tc := ⟨.hbm, 118, rfl⟩
abbrev main_v96 : Ref sig .tc := ⟨.hbm, 119, rfl⟩
abbrev main_v97 : Ref sig .tc := ⟨.hbm, 120, rfl⟩
abbrev main_cst_14 : Ref sig .tc := ⟨.hbm, 121, rfl⟩
abbrev main_v98 : Ref sig .tc := ⟨.hbm, 122, rfl⟩
abbrev main_v99 : Ref sig .tc := ⟨.hbm, 123, rfl⟩
abbrev main_cst_15 : Ref sig .tc := ⟨.hbm, 124, rfl⟩
abbrev main_v100 : Ref sig .tc := ⟨.hbm, 125, rfl⟩
abbrev main_v101 : Ref sig .tc := ⟨.hbm, 126, rfl⟩
abbrev main_v102 : Ref sig .tc := ⟨.hbm, 127, rfl⟩
abbrev main_v103 : Ref sig .tc := ⟨.hbm, 128, rfl⟩
abbrev main_v104 : Ref sig .tc := ⟨.hbm, 129, rfl⟩
abbrev main_v105 : Ref sig .tc := ⟨.hbm, 130, rfl⟩
abbrev main_v106 : Ref sig .tc := ⟨.hbm, 131, rfl⟩
abbrev main_v107 : Ref sig .tc := ⟨.hbm, 132, rfl⟩
abbrev main_v108 : Ref sig .tc := ⟨.hbm, 133, rfl⟩
abbrev main_v109 : Ref sig .tc := ⟨.hbm, 134, rfl⟩
abbrev main_cst_16 : Ref sig .tc := ⟨.hbm, 135, rfl⟩
abbrev main_v110 : Ref sig .tc := ⟨.hbm, 136, rfl⟩
abbrev main_v111 : Ref sig .tc := ⟨.hbm, 137, rfl⟩
abbrev main_cst_17 : Ref sig .tc := ⟨.hbm, 138, rfl⟩
abbrev main_v112 : Ref sig .tc := ⟨.hbm, 139, rfl⟩
abbrev main_v113 : Ref sig .tc := ⟨.hbm, 140, rfl⟩
abbrev main_v114 : Ref sig .tc := ⟨.hbm, 141, rfl⟩
abbrev main_v115 : Ref sig .tc := ⟨.hbm, 142, rfl⟩
abbrev main_v116 : Ref sig .tc := ⟨.hbm, 143, rfl⟩
abbrev main_cst_18 : Ref sig .tc := ⟨.hbm, 144, rfl⟩
abbrev main_v117 : Ref sig .tc := ⟨.hbm, 145, rfl⟩
abbrev main_v118 : Ref sig .tc := ⟨.hbm, 146, rfl⟩
abbrev main_v119 : Ref sig .tc := ⟨.hbm, 147, rfl⟩
abbrev main_cst_19 : Ref sig .tc := ⟨.hbm, 148, rfl⟩
abbrev main_v120 : Ref sig .tc := ⟨.hbm, 149, rfl⟩
abbrev main_v121 : Ref sig .tc := ⟨.hbm, 150, rfl⟩
abbrev main_v122 : Ref sig .tc := ⟨.hbm, 151, rfl⟩
abbrev main_cst_20 : Ref sig .tc := ⟨.hbm, 152, rfl⟩
abbrev main_v123 : Ref sig .tc := ⟨.hbm, 153, rfl⟩
abbrev main_v124 : Ref sig .tc := ⟨.hbm, 154, rfl⟩
abbrev main_cst_21 : Ref sig .tc := ⟨.hbm, 155, rfl⟩
abbrev main_v125 : Ref sig .tc := ⟨.hbm, 156, rfl⟩
abbrev main_v126 : Ref sig .tc := ⟨.hbm, 157, rfl⟩
abbrev main_v127 : Ref sig .tc := ⟨.hbm, 158, rfl⟩
abbrev main_v128 : Ref sig .tc := ⟨.hbm, 159, rfl⟩
abbrev main_cst_22 : Ref sig .tc := ⟨.hbm, 160, rfl⟩
abbrev main_v129 : Ref sig .tc := ⟨.hbm, 161, rfl⟩
abbrev main_v130 : Ref sig .tc := ⟨.hbm, 162, rfl⟩
abbrev main_v131 : Ref sig .tc := ⟨.hbm, 163, rfl⟩
abbrev main_v132 : Ref sig .tc := ⟨.hbm, 164, rfl⟩
abbrev main_v133 : Ref sig .tc := ⟨.hbm, 165, rfl⟩
abbrev main_v134 : Ref sig .tc := ⟨.hbm, 166, rfl⟩
abbrev main_v135 : Ref sig .tc := ⟨.hbm, 167, rfl⟩
abbrev main_v136 : Ref sig .tc := ⟨.hbm, 168, rfl⟩
abbrev main_v137 : Ref sig .tc := ⟨.hbm, 169, rfl⟩
abbrev main_v138 : Ref sig .tc := ⟨.hbm, 170, rfl⟩
abbrev main_v139 : Ref sig .tc := ⟨.hbm, 171, rfl⟩
abbrev main_v140 : Ref sig .tc := ⟨.hbm, 172, rfl⟩
abbrev main_v141 : Ref sig .tc := ⟨.hbm, 173, rfl⟩
abbrev main_v142 : Ref sig .tc := ⟨.hbm, 174, rfl⟩
abbrev main_v143 : Ref sig .tc := ⟨.hbm, 175, rfl⟩
abbrev main_v144 : Ref sig .tc := ⟨.hbm, 176, rfl⟩
abbrev main_v145 : Ref sig .tc := ⟨.hbm, 177, rfl⟩
abbrev main_v146 : Ref sig .tc := ⟨.hbm, 178, rfl⟩
abbrev main_v147 : Ref sig .tc := ⟨.hbm, 179, rfl⟩
abbrev main_v148 : Ref sig .tc := ⟨.hbm, 180, rfl⟩
abbrev main_v149 : Ref sig .tc := ⟨.hbm, 181, rfl⟩
abbrev main_v150 : Ref sig .tc := ⟨.hbm, 182, rfl⟩
abbrev main_v151 : Ref sig .tc := ⟨.hbm, 183, rfl⟩
abbrev main_v152 : Ref sig .tc := ⟨.hbm, 184, rfl⟩
abbrev main_v153 : Ref sig .tc := ⟨.hbm, 185, rfl⟩
abbrev main_v154 : Ref sig .tc := ⟨.hbm, 186, rfl⟩
abbrev main_v155 : Ref sig .tc := ⟨.hbm, 187, rfl⟩
abbrev main_v156 : Ref sig .tc := ⟨.hbm, 188, rfl⟩
abbrev main_v157 : Ref sig .tc := ⟨.hbm, 189, rfl⟩
abbrev main_v158 : Ref sig .tc := ⟨.hbm, 190, rfl⟩
abbrev main_v159 : Ref sig .tc := ⟨.hbm, 191, rfl⟩
abbrev main_v160 : Ref sig .tc := ⟨.hbm, 192, rfl⟩
abbrev main_v161 : Ref sig .tc := ⟨.hbm, 193, rfl⟩

abbrev nD : Nat := 1
abbrev τ : Topo := Topo.v7x

variable {F : FTy → Type} [FloatOps F]
-- ==== Kernel4.lean ====
abbrev S2x256x1024 : Shape := ⟨3, ![2, 256, 1024]⟩
abbrev S1x1024 : Shape := ⟨2, ![1, 1024]⟩
abbrev S1x1024x1024 : Shape := ⟨3, ![1, 1024, 1024]⟩
abbrev S1x128 : Shape := ⟨2, ![1, 128]⟩
abbrev S1024 : Shape := ⟨1, ![1024]⟩
abbrev S1024x1024 : Shape := ⟨2, ![1024, 1024]⟩
abbrev S512 : Shape := ⟨1, ![512]⟩
abbrev S_ : Shape := ⟨0, ![]⟩
abbrev S512x1 : Shape := ⟨2, ![512, 1]⟩
abbrev S1x512 : Shape := ⟨2, ![1, 512]⟩
abbrev S512x512 : Shape := ⟨2, ![512, 512]⟩
abbrev S128 : Shape := ⟨1, ![128]⟩
abbrev S4x128 : Shape := ⟨2, ![4, 128]⟩
abbrev S512x1024 : Shape := ⟨2, ![512, 1024]⟩

abbrev nBuf : Space → Nat
  | .hbm => 40
  | .vmem => 6
  | .smem => 0
  | _ => 0

abbrev bufTy : (tb : Table) → Fin (tcTables nBuf tb) → BufTy
  | .hbm, ⟨0, _⟩ => ⟨S2x256x1024, .f32⟩
  | .hbm, ⟨1, _⟩ => ⟨S1x1024, .f32⟩
  | .hbm, ⟨2, _⟩ => ⟨S1x1024x1024, .f32⟩
  | .hbm, ⟨3, _⟩ => ⟨S1x128, .f32⟩
  | .hbm, ⟨4, _⟩ => ⟨S1024, .f32⟩
  | .hbm, ⟨5, _⟩ => ⟨S1x1024, .f32⟩
  | .hbm, ⟨6, _⟩ => ⟨S1024x1024, .f32⟩
  | .hbm, ⟨7, _⟩ => ⟨S1024x1024, .bf16⟩
  | .hbm, ⟨8, _⟩ => ⟨S512, .i32⟩
  | .hbm, ⟨9, _⟩ => ⟨S_, .i32⟩
  | .hbm, ⟨10, _⟩ => ⟨S_, .i32⟩
  | .hbm, ⟨11, _⟩ => ⟨S512, .i32⟩
  | .hbm, ⟨12, _⟩ => ⟨S512, .i32⟩
  | .hbm, ⟨13, _⟩ => ⟨S512, .i32⟩
  | .hbm, ⟨14, _⟩ => ⟨S_, .i32⟩
  | .hbm, ⟨15, _⟩ => ⟨S512, .i32⟩
  | .hbm, ⟨16, _⟩ => ⟨S512, .i1⟩
  | .hbm, ⟨17, _⟩ => ⟨S512, .i32⟩
  | .hbm, ⟨18, _⟩ => ⟨S512, .i32⟩
  | .hbm, ⟨19, _⟩ => ⟨S_, .i32⟩
  | .hbm, ⟨20, _⟩ => ⟨S512, .i32⟩
  | .hbm, ⟨21, _⟩ => ⟨S512, .i1⟩
  | .hbm, ⟨22, _⟩ => ⟨S512, .i1⟩
  | .hbm, ⟨23, _⟩ => ⟨S_, .i32⟩
  | .hbm, ⟨24, _⟩ => ⟨S512, .i32⟩
  | .hbm, ⟨25, _⟩ => ⟨S512, .i32⟩
  | .hbm, ⟨26, _⟩ => ⟨S512, .i32⟩
  | .hbm, ⟨27, _⟩ => ⟨S512x1, .i32⟩
  | .hbm, ⟨28, _⟩ => ⟨S1x512, .i32⟩
  | .hbm, ⟨29, _⟩ => ⟨S512x512, .i32⟩
  | .hbm, ⟨30, _⟩ => ⟨S512x512, .i32⟩
  | .hbm, ⟨31, _⟩ => ⟨S512x512, .i1⟩
  | .hbm, ⟨32, _⟩ => ⟨S512x512, .bf16⟩
  | .hbm, ⟨33, _⟩ => ⟨S128, .f32⟩
  | .hbm, ⟨34, _⟩ => ⟨S1x128, .f32⟩
  | .hbm, ⟨35, _⟩ => ⟨S4x128, .f32⟩
  | .hbm, ⟨36, _⟩ => ⟨S512, .f32⟩
  | .hbm, ⟨37, _⟩ => ⟨S1x512, .f32⟩
  | .hbm, ⟨38, _⟩ => ⟨S512x1024, .f32⟩
  | .hbm, ⟨39, _⟩ => ⟨S512x1024, .f32⟩
  | .local _ .vmem, ⟨0, _⟩ => ⟨S512x1024, .f32⟩
  | .local _ .vmem, ⟨1, _⟩ => ⟨S1x1024, .f32⟩
  | .local _ .vmem, ⟨2, _⟩ => ⟨S1024x1024, .bf16⟩
  | .local _ .vmem, ⟨3, _⟩ => ⟨S512x512, .bf16⟩
  | .local _ .vmem, ⟨4, _⟩ => ⟨S1x512, .f32⟩
  | .local _ .vmem, ⟨5, _⟩ => ⟨S512x1024, .f32⟩
  | _, _ => ⟨S2x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_c : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_c : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_c_0 : Ref sig .tc := ⟨.hbm, 23, rfl⟩
abbrev main_call0_v12 : Ref sig .tc := ⟨.hbm, 24, rfl⟩
abbrev main_call0_v13 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== Reference4Ideal.lean ====
abbrev S2x256x1024 : Shape := ⟨3, ![2, 256, 1024]⟩
abbrev S1x1024 : Shape := ⟨2, ![1, 1024]⟩
abbrev S1x1024x1024 : Shape := ⟨3, ![1, 1024, 1024]⟩
abbrev S1x128 : Shape := ⟨2, ![1, 128]⟩
abbrev S1024 : Shape := ⟨1, ![1024]⟩
abbrev S_ : Shape := ⟨0, ![]⟩
abbrev S2x256 : Shape := ⟨2, ![2, 256]⟩
abbrev S2x256x1 : Shape := ⟨3, ![2, 256, 1]⟩
abbrev S1x1x1024 : Shape := ⟨3, ![1, 1, 1024]⟩
abbrev S1024x1024 : Shape := ⟨2, ![1024, 1024]⟩
abbrev S2x256x2x4x128 : Shape := ⟨5, ![2, 256, 2, 4, 128]⟩
abbrev S2x256x1x4x128 : Shape := ⟨5, ![2, 256, 1, 4, 128]⟩
abbrev S2x256x4x128 : Shape := ⟨4, ![2, 256, 4, 128]⟩
abbrev S128 : Shape := ⟨1, ![128]⟩
abbrev S2x256x4 : Shape := ⟨3, ![2, 256, 4]⟩
abbrev S2x256x4x1 : Shape := ⟨4, ![2, 256, 4, 1]⟩
abbrev S1x1x1x128 : Shape := ⟨4, ![1, 1, 1, 128]⟩
abbrev S512x1024 : Shape := ⟨2, ![512, 1024]⟩

abbrev nBuf : Space → Nat
  | .hbm => 49
  | .vmem => 0
  | .smem => 0
  | _ => 0

abbrev bufTy : (tb : Table) → Fin (tcTables nBuf tb) → BufTy
  | .hbm, ⟨0, _⟩ => ⟨S2x256x1024, .f32⟩
  | .hbm, ⟨1, _⟩ => ⟨S1x1024, .f32⟩
  | .hbm, ⟨2, _⟩ => ⟨S1x1024x1024, .f32⟩
  | .hbm, ⟨3, _⟩ => ⟨S1x128, .f32⟩
  | .hbm, ⟨4, _⟩ => ⟨S1024, .f32⟩
  | .hbm, ⟨5, _⟩ => ⟨S2x256x1024, .f32⟩
  | .hbm, ⟨6, _⟩ => ⟨S_, .f32⟩
  | .hbm, ⟨7, _⟩ => ⟨S2x256, .f32⟩
  | .hbm, ⟨8, _⟩ => ⟨S2x256x1, .f32⟩
  | .hbm, ⟨9, _⟩ => ⟨S_, .f32⟩
  | .hbm, ⟨10, _⟩ => ⟨S2x256x1, .f32⟩
  | .hbm, ⟨11, _⟩ => ⟨S2x256x1, .f32⟩
  | .hbm, ⟨12, _⟩ => ⟨S_, .f32⟩
  | .hbm, ⟨13, _⟩ => ⟨S2x256x1, .f32⟩
  | .hbm, ⟨14, _⟩ => ⟨S2x256x1, .f32⟩
  | .hbm, ⟨15, _⟩ => ⟨S2x256x1, .f32⟩
  | .hbm, ⟨16, _⟩ => ⟨S2x256x1024, .f32⟩
  | .hbm, ⟨17, _⟩ => ⟨S2x256x1024, .f32⟩
  | .hbm, ⟨18, _⟩ => ⟨S1x1x1024, .f32⟩
  | .hbm, ⟨19, _⟩ => ⟨S2x256x1024, .f32⟩
  | .hbm, ⟨20, _⟩ => ⟨S2x256x1024, .f32⟩
  | .hbm, ⟨21, _⟩ => ⟨S1024x1024, .f32⟩
  | .hbm, ⟨22, _⟩ => ⟨S2x256x1024, .f32⟩
  | .hbm, ⟨23, _⟩ => ⟨S2x256x2x4x128, .f32⟩
  | .hbm, ⟨24, _⟩ => ⟨S2x256x1x4x128, .f32⟩
  | .hbm, ⟨25, _⟩ => ⟨S2x256x4x128, .f32⟩
  | .hbm, ⟨26, _⟩ => ⟨S128, .f32⟩
  | .hbm, ⟨27, _⟩ => ⟨S2x256x4x128, .f32⟩
  | .hbm, ⟨28, _⟩ => ⟨S_, .f32⟩
  | .hbm, ⟨29, _⟩ => ⟨S2x256x4, .f32⟩
  | .hbm, ⟨30, _⟩ => ⟨S2x256x4x1, .f32⟩
  | .hbm, ⟨31, _⟩ => ⟨S_, .f32⟩
  | .hbm, ⟨32, _⟩ => ⟨S2x256x4x1, .f32⟩
  | .hbm, ⟨33, _⟩ => ⟨S2x256x4x1, .f32⟩
  | .hbm, ⟨34, _⟩ => ⟨S_, .f32⟩
  | .hbm, ⟨35, _⟩ => ⟨S2x256x4x1, .f32⟩
  | .hbm, ⟨36, _⟩ => ⟨S2x256x4x1, .f32⟩
  | .hbm, ⟨37, _⟩ => ⟨S2x256x4x1, .f32⟩
  | .hbm, ⟨38, _⟩ => ⟨S2x256x4x128, .f32⟩
  | .hbm, ⟨39, _⟩ => ⟨S2x256x4x128, .f32⟩
  | .hbm, ⟨40, _⟩ => ⟨S1x1x1x128, .f32⟩
  | .hbm, ⟨41, _⟩ => ⟨S2x256x4x128, .f32⟩
  | .hbm, ⟨42, _⟩ => ⟨S2x256x4x128, .f32⟩
  | .hbm, ⟨43, _⟩ => ⟨S2x256x1x4x128, .f32⟩
  | .hbm, ⟨44, _⟩ => ⟨S2x256x4x128, .f32⟩
  | .hbm, ⟨45, _⟩ => ⟨S2x256x1x4x128, .f32⟩
  | .hbm, ⟨46, _⟩ => ⟨S2x256x1x4x128, .f32⟩
  | .hbm, ⟨47, _⟩ => ⟨S2x256x2x4x128, .f32⟩
  | .hbm, ⟨48, _⟩ => ⟨S512x1024, .f32⟩
  | _, _ => ⟨S2x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_2 : Ref sig .tc := ⟨.hbm, 28, rfl⟩
abbrev main_v21 : Ref sig .tc := ⟨.hbm, 29, rfl⟩
abbrev main_v22 : Ref sig .tc := ⟨.hbm, 30, rfl⟩
abbrev main_cst_3 : Ref sig .tc := ⟨.hbm, 31, rfl⟩
abbrev main_v23 : Ref sig .tc := ⟨.hbm, 32, rfl⟩
abbrev main_v24 : Ref sig .tc := ⟨.hbm, 33, rfl⟩
abbrev main_cst_4 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩

abbrev nD : Nat := 1
abbrev τ : Topo := Topo.v7x

variable {F : FTy → Type} [FloatOps F]
-- ==== Kernel5.lean ====
abbrev S16384x512 : Shape := ⟨2, ![16384, 512]⟩
abbrev S512x1024 : Shape := ⟨2, ![512, 1024]⟩
abbrev S2x8192x512 : Shape := ⟨3, ![2, 8192, 512]⟩
abbrev S2x256x1024 : Shape := ⟨3, ![2, 256, 1024]⟩
abbrev S1x512x512 : Shape := ⟨3, ![1, 512, 512]⟩
abbrev S1x256x1024 : Shape := ⟨3, ![1, 256, 1024]⟩
abbrev S1x256x128 : Shape := ⟨3, ![1, 256, 128]⟩
abbrev S256x128 : Shape := ⟨2, ![256, 128]⟩
abbrev S1x512x128 : Shape := ⟨3, ![1, 512, 128]⟩
abbrev S512x128 : Shape := ⟨2, ![512, 128]⟩
abbrev S512x256 : Shape := ⟨2, ![512, 256]⟩
abbrev S512 : Shape := ⟨1, ![512]⟩
abbrev S512x1 : Shape := ⟨2, ![512, 1]⟩
abbrev S512x512 : Shape := ⟨2, ![512, 512]⟩

abbrev nBuf : Space → Nat
  | .hbm => 5
  | .vmem => 6
  | .smem => 0
  | _ => 0

abbrev bufTy : (tb : Table) → Fin (tcTables nBuf tb) → BufTy
  | .hbm, ⟨0, _⟩ => ⟨S16384x512, .bf16⟩
  | .hbm, ⟨1, _⟩ => ⟨S512x1024, .f32⟩
  | .hbm, ⟨2, _⟩ => ⟨S2x8192x512, .bf16⟩
  | .hbm, ⟨3, _⟩ => ⟨S2x256x1024, .f32⟩
  | .hbm, ⟨4, _⟩ => ⟨S2x8192x512, .bf16⟩
  | .local _ .vmem, ⟨0, _⟩ => ⟨S1x512x512, .bf16⟩
  | .local _ .vmem, ⟨1, _⟩ => ⟨S1x512x512, .bf16⟩
  | .local _ .vmem, ⟨2, _⟩ => ⟨S1x256x1024, .f32⟩
  | .local _ .vmem, ⟨3, _⟩ => ⟨S1x256x1024, .f32⟩
  | .local _ .vmem, ⟨4, _⟩ => ⟨S1x512x512, .bf16⟩
  | .local _ .vmem, ⟨5, _⟩ => ⟨S1x512x512, .bf16⟩
  | _, _ => ⟨S16384x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference5Ideal.lean ====
abbrev S16384x512 : Shape := ⟨2, ![16384, 512]⟩
abbrev S512x1024 : Shape := ⟨2, ![512, 1024]⟩
abbrev S2x8192x4x128 : Shape := ⟨4, ![2, 8192, 4, 128]⟩
abbrev S2x256x2x4x128 : Shape := ⟨5, ![2, 256, 2, 4, 128]⟩
abbrev S2x256x1x4x128 : Shape := ⟨5, ![2, 256, 1, 4, 128]⟩
abbrev S2x256x4x128 : Shape := ⟨4, ![2, 256, 4, 128]⟩
abbrev S2x4x8192x256 : Shape := ⟨4, ![2, 4, 8192, 256]⟩
abbrev S_ : Shape := ⟨0, ![]⟩
abbrev S2x4x8192 : Shape := ⟨3, ![2, 4, 8192]⟩
abbrev S2x4x8192x1 : Shape := ⟨4, ![2, 4, 8192, 1]⟩
abbrev S2x4x128x8192 : Shape := ⟨4, ![2, 4, 128, 8192]⟩
abbrev S2x8192x512 : Shape := ⟨3, ![2, 8192, 512]⟩

abbrev nBuf : Space → Nat
  | .hbm => 31
  | .vmem => 0
  | .smem => 0
  | _ => 0

abbrev bufTy : (tb : Table) → Fin (tcTables nBuf tb) → BufTy
  | .hbm, ⟨0, _⟩ => ⟨S16384x512, .bf16⟩
  | .hbm, ⟨1, _⟩ => ⟨S512x1024, .f32⟩
  | .hbm, ⟨2, _⟩ => ⟨S16384x512, .f32⟩
  | .hbm, ⟨3, _⟩ => ⟨S2x8192x4x128, .f32⟩
  | .hbm, ⟨4, _⟩ => ⟨S2x256x2x4x128, .f32⟩
  | .hbm, ⟨5, _⟩ => ⟨S2x256x1x4x128, .f32⟩
  | .hbm, ⟨6, _⟩ => ⟨S2x256x4x128, .f32⟩
  | .hbm, ⟨7, _⟩ => ⟨S2x4x8192x256, .f32⟩
  | .hbm, ⟨8, _⟩ => ⟨S_, .f32⟩
  | .hbm, ⟨9, _⟩ => ⟨S2x4x8192x256, .f32⟩
  | .hbm, ⟨10, _⟩ => ⟨S2x4x8192x256, .f32⟩
  | .hbm, ⟨11, _⟩ => ⟨S_, .f32⟩
  | .hbm, ⟨12, _⟩ => ⟨S2x4x8192, .f32⟩
  | .hbm, ⟨13, _⟩ => ⟨S_, .f32⟩
  | .hbm, ⟨14, _⟩ => ⟨S2x4x8192, .f32⟩
  | .hbm, ⟨15, _⟩ => ⟨S2x4x8192, .f32⟩
  | .hbm, ⟨16, _⟩ => ⟨S2x4x8192x1, .f32⟩
  | .hbm, ⟨17, _⟩ => ⟨S2x4x8192x256, .f32⟩
  | .hbm, ⟨18, _⟩ => ⟨S2x4x8192x256, .f32⟩
  | .hbm, ⟨19, _⟩ => ⟨S2x4x8192x256, .f32⟩
  | .hbm, ⟨20, _⟩ => ⟨S_, .f32⟩
  | .hbm, ⟨21, _⟩ => ⟨S2x4x8192, .f32⟩
  | .hbm, ⟨22, _⟩ => ⟨S2x4x8192x1, .f32⟩
  | .hbm, ⟨23, _⟩ => ⟨S2x4x8192x256, .f32⟩
  | .hbm, ⟨24, _⟩ => ⟨S2x4x8192x256, .f32⟩
  | .hbm, ⟨25, _⟩ => ⟨S2x256x1x4x128, .f32⟩
  | .hbm, ⟨26, _⟩ => ⟨S2x256x4x128, .f32⟩
  | .hbm, ⟨27, _⟩ => ⟨S2x4x128x8192, .f32⟩
  | .hbm, ⟨28, _⟩ => ⟨S2x8192x4x128, .f32⟩
  | .hbm, ⟨29, _⟩ => ⟨S2x8192x512, .f32⟩
  | .hbm, ⟨30, _⟩ => ⟨S2x8192x512, .bf16⟩
  | _, _ => ⟨S16384x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩
abbrev main_cst_0 : Ref sig .tc := ⟨.hbm, 11, rfl⟩
abbrev main_v8 : Ref sig .tc := ⟨.hbm, 12, rfl⟩
abbrev main_cst_1 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_2 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩

abbrev nD : Nat := 1
abbrev τ : Topo := Topo.v7x

variable {F : FTy → Type} [FloatOps F]
-- ==== Kernel6.lean ====
abbrev S128x1024 : Shape := ⟨2, ![128, 1024]⟩
abbrev S1x128x3x1024 : Shape := ⟨4, ![1, 128, 3, 1024]⟩
abbrev S1x128x1024 : Shape := ⟨3, ![1, 128, 1024]⟩
abbrev S1x4x1024 : Shape := ⟨3, ![1, 4, 1024]⟩
abbrev S1x1024 : Shape := ⟨2, ![1, 1024]⟩
abbrev S1x4x256x256 : Shape := ⟨4, ![1, 4, 256, 256]⟩
abbrev S4x1024 : Shape := ⟨2, ![4, 1024]⟩
abbrev S1024 : Shape := ⟨1, ![1024]⟩
abbrev S4x256x256 : Shape := ⟨3, ![4, 256, 256]⟩
abbrev S128x3x1024 : Shape := ⟨3, ![128, 3, 1024]⟩
abbrev S3x128x1024 : Shape := ⟨3, ![3, 128, 1024]⟩
abbrev S128x256 : Shape := ⟨2, ![128, 256]⟩
abbrev S1x256x256 : Shape := ⟨3, ![1, 256, 256]⟩
abbrev S256x256 : Shape := ⟨2, ![256, 256]⟩

abbrev nBuf : Space → Nat
  | .hbm => 30
  | .vmem => 14
  | .smem => 0
  | _ => 0

abbrev bufTy : (tb : Table) → Fin (tcTables nBuf tb) → BufTy
  | .hbm, ⟨0, _⟩ => ⟨S128x1024, .f32⟩
  | .hbm, ⟨1, _⟩ => ⟨S128x1024, .f32⟩
  | .hbm, ⟨2, _⟩ => ⟨S1x128x3x1024, .f32⟩
  | .hbm, ⟨3, _⟩ => ⟨S1x128x1024, .f32⟩
  | .hbm, ⟨4, _⟩ => ⟨S1x4x1024, .f32⟩
  | .hbm, ⟨5, _⟩ => ⟨S1x1024, .f32⟩
  | .hbm, ⟨6, _⟩ => ⟨S1x4x256x256, .f32⟩
  | .hbm, ⟨7, _⟩ => ⟨S1x1024, .f32⟩
  | .hbm, ⟨8, _⟩ => ⟨S1x4x256x256, .f32⟩
  | .hbm, ⟨9, _⟩ => ⟨S1x1024, .f32⟩
  | .hbm, ⟨10, _⟩ => ⟨S1x1024, .f32⟩
  | .hbm, ⟨11, _⟩ => ⟨S4x1024, .f32⟩
  | .hbm, ⟨12, _⟩ => ⟨S1024, .f32⟩
  | .hbm, ⟨13, _⟩ => ⟨S1x1024, .f32⟩
  | .hbm, ⟨14, _⟩ => ⟨S4x256x256, .f32⟩
  | .hbm, ⟨15, _⟩ => ⟨S4x256x256, .bf16⟩
  | .hbm, ⟨16, _⟩ => ⟨S4x256x256, .f32⟩
  | .hbm, ⟨17, _⟩ => ⟨S4x256x256, .bf16⟩
  | .hbm, ⟨18, _⟩ => ⟨S1024, .f32⟩
  | .hbm, ⟨19, _⟩ => ⟨S1x1024, .f32⟩
  | .hbm, ⟨20, _⟩ => ⟨S1024, .f32⟩
  | .hbm, ⟨21, _⟩ => ⟨S1x1024, .f32⟩
  | .hbm, ⟨22, _⟩ => ⟨S1024, .f32⟩
  | .hbm, ⟨23, _⟩ => ⟨S1x1024, .f32⟩
  | .hbm, ⟨24, _⟩ => ⟨S128x3x1024, .f32⟩
  | .hbm, ⟨25, _⟩ => ⟨S3x128x1024, .f32⟩
  | .hbm, ⟨26, _⟩ => ⟨S128x1024, .f32⟩
  | .hbm, ⟨27, _⟩ => ⟨S128x1024, .bf16⟩
  | .hbm, ⟨28, _⟩ => ⟨S128x1024, .f32⟩
  | .hbm, ⟨29, _⟩ => ⟨S3x128x1024, .f32⟩
  | .local _ .vmem, ⟨0, _⟩ => ⟨S128x1024, .f32⟩
  | .local _ .vmem, ⟨1, _⟩ => ⟨S128x1024, .f32⟩
  | .local _ .vmem, ⟨2, _⟩ => ⟨S3x128x1024, .f32⟩
  | .local _ .vmem, ⟨3, _⟩ => ⟨S128x1024, .f32⟩
  | .local _ .vmem, ⟨4, _⟩ => ⟨S4x1024, .f32⟩
  | .local _ .vmem, ⟨5, _⟩ => ⟨S1x1024, .f32⟩
  | .local _ .vmem, ⟨6, _⟩ => ⟨S4x256x256, .bf16⟩
  | .local _ .vmem, ⟨7, _⟩ => ⟨S4x256x256, .bf16⟩
  | .local _ .vmem, ⟨8, _⟩ => ⟨S1x1024, .f32⟩
  | .local _ .vmem, ⟨9, _⟩ => ⟨S1x1024, .f32⟩
  | .local _ .vmem, ⟨10, _⟩ => ⟨S1x1024, .f32⟩
  | .local _ .vmem, ⟨11, _⟩ => ⟨S128x1024, .bf16⟩
  | .local _ .vmem, ⟨12, _⟩ => ⟨S128x1024, .f32⟩
  | .local _ .vmem, ⟨13, _⟩ => ⟨S3x128x1024, .f32⟩
  | _, _ => ⟨S128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16_0 : Ref sig .tc := ⟨.hbm, 27, rfl⟩
abbrev main_v16_1 : Ref sig .tc := ⟨.hbm, 28, rfl⟩
abbrev main_v16_2 : Ref sig .tc := ⟨.hbm, 29, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S3x128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x256x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4x256x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S128x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S128x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S3x128x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== Reference6Ideal.lean ====
abbrev S128x1024 : Shape := ⟨2, ![128, 1024]⟩
abbrev S1x128x3x1024 : Shape := ⟨4, ![1, 128, 3, 1024]⟩
abbrev S1x128x1024 : Shape := ⟨3, ![1, 128, 1024]⟩
abbrev S1x4x1024 : Shape := ⟨3, ![1, 4, 1024]⟩
abbrev S1x1024 : Shape := ⟨2, ![1, 1024]⟩
abbrev S1x4x256x256 : Shape := ⟨4, ![1, 4, 256, 256]⟩
abbrev S4x1024 : Shape := ⟨2, ![4, 1024]⟩
abbrev S1024 : Shape := ⟨1, ![1024]⟩
abbrev S128x3x1024 : Shape := ⟨3, ![128, 3, 1024]⟩
abbrev S128x1x1024 : Shape := ⟨3, ![128, 1, 1024]⟩
abbrev S128x4x1024 : Shape := ⟨3, ![128, 4, 1024]⟩
abbrev S1x1x1024 : Shape := ⟨3, ![1, 1, 1024]⟩
abbrev S128x1x4x256 : Shape := ⟨4, ![128, 1, 4, 256]⟩
abbrev S4x256x256 : Shape := ⟨3, ![4, 256, 256]⟩
abbrev S4x256x128x1 : Shape := ⟨4, ![4, 256, 128, 1]⟩
abbrev S_ : Shape := ⟨0, ![]⟩
abbrev S3x128x1024 : Shape := ⟨3, ![3, 128, 1024]⟩

abbrev nBuf : Space → Nat
  | .hbm => 119
  | .vmem => 0
  | .smem => 0
  | _ => 0

abbrev bufTy : (tb : Table) → Fin (tcTables nBuf tb) → BufTy
  | .hbm, ⟨0, _⟩ => ⟨S128x1024, .f32⟩
  | .hbm, ⟨1, _⟩ => ⟨S128x1024, .f32⟩
  | .hbm, ⟨2, _⟩ => ⟨S1x128x3x1024, .f32⟩
  | .hbm, ⟨3, _⟩ => ⟨S1x128x1024, .f32⟩
  | .hbm, ⟨4, _⟩ => ⟨S1x4x1024, .f32⟩
  | .hbm, ⟨5, _⟩ => ⟨S1x1024, .f32⟩
  | .hbm, ⟨6, _⟩ => ⟨S1x4x256x256, .f32⟩
  | .hbm, ⟨7, _⟩ => ⟨S1x1024, .f32⟩
  | .hbm, ⟨8, _⟩ => ⟨S1x4x256x256, .f32⟩
  | .hbm, ⟨9, _⟩ => ⟨S1x1024, .f32⟩
  | .hbm, ⟨10, _⟩ => ⟨S1x1024, .f32⟩
  | .hbm, ⟨11, _⟩ => ⟨S4x1024, .f32⟩
  | .hbm, ⟨12, _⟩ => ⟨S1024, .f32⟩
  | .hbm, ⟨13, _⟩ => ⟨S128x3x1024, .f32⟩
  | .hbm, ⟨14, _⟩ => ⟨S128x1x1024, .f32⟩
  | .hbm, ⟨15, _⟩ => ⟨S128x4x1024, .f32⟩
  | .hbm, ⟨16, _⟩ => ⟨S1024, .f32⟩
  | .hbm, ⟨17, _⟩ => ⟨S128x1x1024, .f32⟩
  | .hbm, ⟨18, _⟩ => ⟨S1x1024, .f32⟩
  | .hbm, ⟨19, _⟩ => ⟨S1024, .f32⟩
  | .hbm, ⟨20, _⟩ => ⟨S1x1x1024, .f32⟩
  | .hbm, ⟨21, _⟩ => ⟨S128x1x1024, .f32⟩
  | .hbm, ⟨22, _⟩ => ⟨S128x1x1024, .f32⟩
  | .hbm, ⟨23, _⟩ => ⟨S1x1x1024, .f32⟩
  | .hbm, ⟨24, _⟩ => ⟨S128x1x1024, .f32⟩
  | .hbm, ⟨25, _⟩ => ⟨S128x1x1024, .f32⟩
  | .hbm, ⟨26, _⟩ => ⟨S128x1x1024, .f32⟩
  | .hbm, ⟨27, _⟩ => ⟨S1x1024, .f32⟩
  | .hbm, ⟨28, _⟩ => ⟨S1024, .f32⟩
  | .hbm, ⟨29, _⟩ => ⟨S1x1x1024, .f32⟩
  | .hbm, ⟨30, _⟩ => ⟨S128x1x1024, .f32⟩
  | .hbm, ⟨31, _⟩ => ⟨S128x1x1024, .f32⟩
  | .hbm, ⟨32, _⟩ => ⟨S128x1x1024, .f32⟩
  | .hbm, ⟨33, _⟩ => ⟨S128x1x1024, .f32⟩
  | .hbm, ⟨34, _⟩ => ⟨S1x1024, .f32⟩
  | .hbm, ⟨35, _⟩ => ⟨S1024, .f32⟩
  | .hbm, ⟨36, _⟩ => ⟨S1x1x1024, .f32⟩
  | .hbm, ⟨37, _⟩ => ⟨S128x1x1024, .f32⟩
  | .hbm, ⟨38, _⟩ => ⟨S128x1x1024, .f32⟩
  | .hbm, ⟨39, _⟩ => ⟨S128x1x1024, .f32⟩
  | .hbm, ⟨40, _⟩ => ⟨S128x1x1024, .f32⟩
  | .hbm, ⟨41, _⟩ => ⟨S1x1024, .f32⟩
  | .hbm, ⟨42, _⟩ => ⟨S1024, .f32⟩
  | .hbm, ⟨43, _⟩ => ⟨S1x1x1024, .f32⟩
  | .hbm, ⟨44, _⟩ => ⟨S128x1x1024, .f32⟩
  | .hbm, ⟨45, _⟩ => ⟨S128x1x1024, .f32⟩
  | .hbm, ⟨46, _⟩ => ⟨S128x1x1024, .f32⟩
  | .hbm, ⟨47, _⟩ => ⟨S128x1x4x256, .f32⟩
  | .hbm, ⟨48, _⟩ => ⟨S4x256x256, .f32⟩
  | .hbm, ⟨49, _⟩ => ⟨S4x256x128x1, .f32⟩
  | .hbm, ⟨50, _⟩ => ⟨S128x1x4x256, .f32⟩
  | .hbm, ⟨51, _⟩ => ⟨S128x1x1024, .f32⟩
  | .hbm, ⟨52, _⟩ => ⟨S1024, .f32⟩
  | .hbm, ⟨53, _⟩ => ⟨S1x1x1024, .f32⟩
  | .hbm, ⟨54, _⟩ => ⟨S128x1x1024, .f32⟩
  | .hbm, ⟨55, _⟩ => ⟨S128x1x1024, .f32⟩
  | .hbm, ⟨56, _⟩ => ⟨S128x1x1024, .f32⟩
  | .hbm, ⟨57, _⟩ => ⟨S128x1x1024, .f32⟩
  | .hbm, ⟨58, _⟩ => ⟨S_, .f32⟩
  | .hbm, ⟨59, _⟩ => ⟨S128x1x1024, .f32⟩
  | .hbm, ⟨60, _⟩ => ⟨S128x1x1024, .f32⟩
  | .hbm, ⟨61, _⟩ => ⟨S_, .f32⟩
  | .hbm, ⟨62, _⟩ => ⟨S128x1x1024, .f32⟩
  | .hbm, ⟨63, _⟩ => ⟨S128x1x1024, .f32⟩
  | .hbm, ⟨64, _⟩ => ⟨S4x256x256, .f32⟩
  | .hbm, ⟨65, _⟩ => ⟨S4x256x128x1, .f32⟩
  | .hbm, ⟨66, _⟩ => ⟨S128x1x4x256, .f32⟩
  | .hbm, ⟨67, _⟩ => ⟨S128x1x1024, .f32⟩
  | .hbm, ⟨68, _⟩ => ⟨S1024, .f32⟩
  | .hbm, ⟨69, _⟩ => ⟨S1x1x1024, .f32⟩
  | .hbm, ⟨70, _⟩ => ⟨S128x1x1024, .f32⟩
  | .hbm, ⟨71, _⟩ => ⟨S128x1x1024, .f32⟩
  | .hbm, ⟨72, _⟩ => ⟨S128x1x1024, .f32⟩
  | .hbm, ⟨73, _⟩ => ⟨S128x1x1024, .f32⟩
  | .hbm, ⟨74, _⟩ => ⟨S_, .f32⟩
  | .hbm, ⟨75, _⟩ => ⟨S128x1x1024, .f32⟩
  | .hbm, ⟨76, _⟩ => ⟨S128x1x1024, .f32⟩
  | .hbm, ⟨77, _⟩ => ⟨S_, .f32⟩
  | .hbm, ⟨78, _⟩ => ⟨S128x1x1024, .f32⟩
  | .hbm, ⟨79, _⟩ => ⟨S128x1x1024, .f32⟩
  | .hbm, ⟨80, _⟩ => ⟨S_, .f32⟩
  | .hbm, ⟨81, _⟩ => ⟨S128x1x1024, .f32⟩
  | .hbm, ⟨82, _⟩ => ⟨S128x1x1024, .f32⟩
  | .hbm, ⟨83, _⟩ => ⟨S1024, .f32⟩
  | .hbm, ⟨84, _⟩ => ⟨S_, .f32⟩
  | .hbm, ⟨85, _⟩ => ⟨S1024, .f32⟩
  | .hbm, ⟨86, _⟩ => ⟨S1024, .f32⟩
  | .hbm, ⟨87, _⟩ => ⟨S1024, .f32⟩
  | .hbm, ⟨88, _⟩ => ⟨S1024, .f32⟩
  | .hbm, ⟨89, _⟩ => ⟨S1024, .i1⟩
  | .hbm, ⟨90, _⟩ => ⟨S1024, .f32⟩
  | .hbm, ⟨91, _⟩ => ⟨S1024, .f32⟩
  | .hbm, ⟨92, _⟩ => ⟨S1024, .f32⟩
  | .hbm, ⟨93, _⟩ => ⟨S1024, .f32⟩
  | .hbm, ⟨94, _⟩ => ⟨S1024, .f32⟩
  | .hbm, ⟨95, _⟩ => ⟨S1024, .f32⟩
  | .hbm, ⟨96, _⟩ => ⟨S1024, .f32⟩
  | .hbm, ⟨97, _⟩ => ⟨S1024, .f32⟩
  | .hbm, ⟨98, _⟩ => ⟨S1x1x1024, .f32⟩
  | .hbm, ⟨99, _⟩ => ⟨S128x1x1024, .f32⟩
  | .hbm, ⟨100, _⟩ => ⟨S128x1x1024, .f32⟩
  | .hbm, ⟨101, _⟩ => ⟨S128x1x1024, .f32⟩
  | .hbm, ⟨102, _⟩ => ⟨S_, .f32⟩
  | .hbm, ⟨103, _⟩ => ⟨S128x1x1024, .f32⟩
  | .hbm, ⟨104, _⟩ => ⟨S128x1x1024, .f32⟩
  | .hbm, ⟨105, _⟩ => ⟨S128x1x1024, .f32⟩
  | .hbm, ⟨106, _⟩ => ⟨S128x1x1024, .f32⟩
  | .hbm, ⟨107, _⟩ => ⟨S128x1x1024, .f32⟩
  | .hbm, ⟨108, _⟩ => ⟨S128x1x1024, .f32⟩
  | .hbm, ⟨109, _⟩ => ⟨S128x1x1024, .f32⟩
  | .hbm, ⟨110, _⟩ => ⟨S128x1024, .f32⟩
  | .hbm, ⟨111, _⟩ => ⟨S128x1024, .f32⟩
  | .hbm, ⟨112, _⟩ => ⟨S128x1024, .f32⟩
  | .hbm, ⟨113, _⟩ => ⟨S128x1024, .f32⟩
  | .hbm, ⟨114, _⟩ => ⟨S128x1024, .f32⟩
  | .hbm, ⟨115, _⟩ => ⟨S128x1024, .f32⟩
  | .hbm, ⟨116, _⟩ => ⟨S128x1024, .bf16⟩
  | .hbm, ⟨117, _⟩ => ⟨S128x3x1024, .f32⟩
  | .hbm, ⟨118, _⟩ => ⟨S3x128x1024, .f32⟩
  | _, _ => ⟨S128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_cst : Ref sig .tc := ⟨.hbm, 58, rfl⟩
abbrev main_v47 : Ref sig .tc := ⟨.hbm, 59, rfl⟩
abbrev main_v48 : Ref sig .tc := ⟨.hbm, 60, rfl⟩
abbrev main_cst_0 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_cst_1 : Ref sig .tc := ⟨.hbm, 74, rfl⟩
abbrev main_v61 : Ref sig .tc := ⟨.hbm, 75, rfl⟩
abbrev main_v62 : Ref sig .tc := ⟨.hbm, 76, rfl⟩
abbrev main_cst_2 : Ref sig .tc := ⟨.hbm, 77, rfl⟩
abbrev main_v63 : Ref sig .tc := ⟨.hbm, 78, rfl⟩
abbrev main_v64 : Ref sig .tc := ⟨.hbm, 79, rfl⟩
abbrev main_cst_3 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_call0_cst : Ref sig .tc := ⟨.hbm, 84, rfl⟩
abbrev main_call0_v0 : Ref sig .tc := ⟨.hbm, 85, rfl⟩
abbrev main_call0_v1 : Ref sig .tc := ⟨.hbm, 86, rfl⟩
abbrev main_call0_v2 : Ref sig .tc := ⟨.hbm, 87, rfl⟩
abbrev main_call0_v3 : Ref sig .tc := ⟨.hbm, 88, rfl⟩
abbrev main_call0_v4 : Ref sig .tc := ⟨.hbm, 89, rfl⟩
abbrev main_call0_v5 : Ref sig .tc := ⟨.hbm, 90, rfl⟩
abbrev main_call0_v6 : Ref sig .tc := ⟨.hbm, 91, rfl⟩
abbrev main_call0_v7 : Ref sig .tc := ⟨.hbm, 92, rfl⟩
abbrev main_call0_v8 : Ref sig .tc := ⟨.hbm, 93, rfl⟩
abbrev main_call0_v9 : Ref sig .tc := ⟨.hbm, 94, rfl⟩
abbrev main_call0_v10 : Ref sig .tc := ⟨.hbm, 95, rfl⟩
abbrev main_call0_v11 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_cst_4 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩

abbrev nD : Nat := 1
abbrev τ : Topo := Topo.v7x

variable {F : FTy → Type} [FloatOps F]
-- ==== Kernel7.lean ====
abbrev S128x1x1024 : Shape := ⟨3, ![128, 1, 1024]⟩
abbrev S128x1024 : Shape := ⟨2, ![128, 1024]⟩
abbrev S128x512 : Shape := ⟨2, ![128, 512]⟩
abbrev S128x3072 : Shape := ⟨2, ![128, 3072]⟩
abbrev S1x1024x1024 : Shape := ⟨3, ![1, 1024, 1024]⟩
abbrev S1x512x1024 : Shape := ⟨3, ![1, 512, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S1024x1024 : Shape := ⟨2, ![1024, 1024]⟩
abbrev S512x1024 : Shape := ⟨2, ![512, 1024]⟩
abbrev S1024 : Shape := ⟨1, ![1024]⟩
abbrev S1024x2816 : Shape := ⟨2, ![1024, 2816]⟩
abbrev S2816x1024 : Shape := ⟨2, ![2816, 1024]⟩
abbrev S128 : Shape := ⟨1, ![128]⟩
abbrev S128x1 : Shape := ⟨2, ![128, 1]⟩
abbrev S128x2816 : Shape := ⟨2, ![128, 2816]⟩

abbrev nBuf : Space → Nat
  | .hbm => 31
  | .vmem => 14
  | .smem => 0
  | _ => 0

abbrev bufTy : (tb : Table) → Fin (tcTables nBuf tb) → BufTy
  | .hbm, ⟨0, _⟩ => ⟨S128x1x1024, .f32⟩
  | .hbm, ⟨1, _⟩ => ⟨S128x1024, .bf16⟩
  | .hbm, ⟨2, _⟩ => ⟨S128x512, .bf16⟩
  | .hbm, ⟨3, _⟩ => ⟨S128x512, .bf16⟩
  | .hbm, ⟨4, _⟩ => ⟨S128x3072, .f32⟩
  | .hbm, ⟨5, _⟩ => ⟨S1x1024x1024, .f32⟩
  | .hbm, ⟨6, _⟩ => ⟨S1x512x1024, .f32⟩
  | .hbm, ⟨7, _⟩ => ⟨S1x512x1024, .f32⟩
  | .hbm, ⟨8, _⟩ => ⟨S1x1024x1024, .f32⟩
  | .hbm, ⟨9, _⟩ => ⟨S1x1024, .f32⟩
  | .hbm, ⟨10, _⟩ => ⟨S1x1024x2816, .f32⟩
  | .hbm, ⟨11, _⟩ => ⟨S1x1024x2816, .f32⟩
  | .hbm, ⟨12, _⟩ => ⟨S1x2816x1024, .f32⟩
  | .hbm, ⟨13, _⟩ => ⟨S1024x1024, .f32⟩
  | .hbm, ⟨14, _⟩ => ⟨S1024x1024, .bf16⟩
  | .hbm, ⟨15, _⟩ => ⟨S512x1024, .f32⟩
  | .hbm, ⟨16, _⟩ => ⟨S512x1024, .bf16⟩
  | .hbm, ⟨17, _⟩ => ⟨S512x1024, .f32⟩
  | .hbm, ⟨18, _⟩ => ⟨S512x1024, .bf16⟩
  | .hbm, ⟨19, _⟩ => ⟨S1024x1024, .f32⟩
  | .hbm, ⟨20, _⟩ => ⟨S1024x1024, .bf16⟩
  | .hbm, ⟨21, _⟩ => ⟨S1024, .f32⟩
  | .hbm, ⟨22, _⟩ => ⟨S1x1024, .f32⟩
  | .hbm, ⟨23, _⟩ => ⟨S1024x2816, .f32⟩
  | .hbm, ⟨24, _⟩ => ⟨S1024x2816, .bf16⟩
  | .hbm, ⟨25, _⟩ => ⟨S1024x2816, .f32⟩
  | .hbm, ⟨26, _⟩ => ⟨S1024x2816, .bf16⟩
  | .hbm, ⟨27, _⟩ => ⟨S2816x1024, .f32⟩
  | .hbm, ⟨28, _⟩ => ⟨S2816x1024, .bf16⟩
  | .hbm, ⟨29, _⟩ => ⟨S128x1024, .f32⟩
  | .hbm, ⟨30, _⟩ => ⟨S128x1024, .f32⟩
  | .local _ .vmem, ⟨0, _⟩ => ⟨S128x1024, .f32⟩
  | .local _ .vmem, ⟨1, _⟩ => ⟨S128x1024, .bf16⟩
  | .local _ .vmem, ⟨2, _⟩ => ⟨S128x512, .bf16⟩
  | .local _ .vmem, ⟨3, _⟩ => ⟨S128x512, .bf16⟩
  | .local _ .vmem, ⟨4, _⟩ => ⟨S128x3072, .f32⟩
  | .local _ .vmem, ⟨5, _⟩ => ⟨S1024x1024, .bf16⟩
  | .local _ .vmem, ⟨6, _⟩ => ⟨S512x1024, .bf16⟩
  | .local _ .vmem, ⟨7, _⟩ => ⟨S512x1024, .bf16⟩
  | .local _ .vmem, ⟨8, _⟩ => ⟨S1024x1024, .bf16⟩
  | .local _ .vmem, ⟨9, _⟩ => ⟨S1x1024, .f32⟩
  | .local _ .vmem, ⟨10, _⟩ => ⟨S1024x2816, .bf16⟩
  | .local _ .vmem, ⟨11, _⟩ => ⟨S1024x2816, .bf16⟩
  | .local _ .vmem, ⟨12, _⟩ => ⟨S2816x1024, .bf16⟩
  | .local _ .vmem, ⟨13, _⟩ => ⟨S128x1024, .f32⟩
  | _, _ => ⟨S128x1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S128x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S128x3072 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x2816 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x2816 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S2816x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S128x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![true]
-- ==== Reference7Ideal.lean ====
abbrev S128x1x1024 : Shape := ⟨3, ![128, 1, 1024]⟩
abbrev S128x1024 : Shape := ⟨2, ![128, 1024]⟩
abbrev S128x512 : Shape := ⟨2, ![128, 512]⟩
abbrev S128x3072 : Shape := ⟨2, ![128, 3072]⟩
abbrev S1x1024x1024 : Shape := ⟨3, ![1, 1024, 1024]⟩
abbrev S1x512x1024 : Shape := ⟨3, ![1, 512, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S128x1x512 : Shape := ⟨3, ![128, 1, 512]⟩
abbrev S128x1x3x1024 : Shape := ⟨4, ![128, 1, 3, 1024]⟩
abbrev S128x1x1x1024 : Shape := ⟨4, ![128, 1, 1, 1024]⟩
abbrev S1024x1024 : Shape := ⟨2, ![1024, 1024]⟩
abbrev S512x1024 : Shape := ⟨2, ![512, 1024]⟩
abbrev S_ : Shape := ⟨0, ![]⟩
abbrev S128x1 : Shape := ⟨2, ![128, 1]⟩
abbrev S128x1x1 : Shape := ⟨3, ![128, 1, 1]⟩
abbrev S1024 : Shape := ⟨1, ![1024]⟩
abbrev S1x1x1024 : Shape := ⟨3, ![1, 1, 1024]⟩
abbrev S1024x2816 : Shape := ⟨2, ![1024, 2816]⟩
abbrev S128x1x2816 : Shape := ⟨3, ![128, 1, 2816]⟩
abbrev S2816x1024 : Shape := ⟨2, ![2816, 1024]⟩

abbrev nBuf : Space → Nat
  | .hbm => 75
  | .vmem => 0
  | .smem => 0
  | _ => 0

abbrev bufTy : (tb : Table) → Fin (tcTables nBuf tb) → BufTy
  | .hbm, ⟨0, _⟩ => ⟨S128x1x1024, .f32⟩
  | .hbm, ⟨1, _⟩ => ⟨S128x1024, .bf16⟩
  | .hbm, ⟨2, _⟩ => ⟨S128x512, .bf16⟩
  | .hbm, ⟨3, _⟩ => ⟨S128x512, .bf16⟩
  | .hbm, ⟨4, _⟩ => ⟨S128x3072, .f32⟩
  | .hbm, ⟨5, _⟩ => ⟨S1x1024x1024, .f32⟩
  | .hbm, ⟨6, _⟩ => ⟨S1x512x1024, .f32⟩
  | .hbm, ⟨7, _⟩ => ⟨S1x512x1024, .f32⟩
  | .hbm, ⟨8, _⟩ => ⟨S1x1024x1024, .f32⟩
  | .hbm, ⟨9, _⟩ => ⟨S1x1024, .f32⟩
  | .hbm, ⟨10, _⟩ => ⟨S1x1024x2816, .f32⟩
  | .hbm, ⟨11, _⟩ => ⟨S1x1024x2816, .f32⟩
  | .hbm, ⟨12, _⟩ => ⟨S1x2816x1024, .f32⟩
  | .hbm, ⟨13, _⟩ => ⟨S128x1x1024, .bf16⟩
  | .hbm, ⟨14, _⟩ => ⟨S128x1x512, .bf16⟩
  | .hbm, ⟨15, _⟩ => ⟨S128x1x512, .bf16⟩
  | .hbm, ⟨16, _⟩ => ⟨S128x1x3x1024, .f32⟩
  | .hbm, ⟨17, _⟩ => ⟨S128x1x1x1024, .f32⟩
  | .hbm, ⟨18, _⟩ => ⟨S128x1x1024, .f32⟩
  | .hbm, ⟨19, _⟩ => ⟨S128x1x1024, .f32⟩
  | .hbm, ⟨20, _⟩ => ⟨S1024x1024, .f32⟩
  | .hbm, ⟨21, _⟩ => ⟨S128x1x1024, .f32⟩
  | .hbm, ⟨22, _⟩ => ⟨S128x1x1024, .f32⟩
  | .hbm, ⟨23, _⟩ => ⟨S128x1x1x1024, .f32⟩
  | .hbm, ⟨24, _⟩ => ⟨S128x1x1024, .f32⟩
  | .hbm, ⟨25, _⟩ => ⟨S128x1x512, .f32⟩
  | .hbm, ⟨26, _⟩ => ⟨S512x1024, .f32⟩
  | .hbm, ⟨27, _⟩ => ⟨S128x1x1024, .f32⟩
  | .hbm, ⟨28, _⟩ => ⟨S128x1x1024, .f32⟩
  | .hbm, ⟨29, _⟩ => ⟨S128x1x1024, .f32⟩
  | .hbm, ⟨30, _⟩ => ⟨S128x1x1x1024, .f32⟩
  | .hbm, ⟨31, _⟩ => ⟨S128x1x1024, .f32⟩
  | .hbm, ⟨32, _⟩ => ⟨S128x1x512, .f32⟩
  | .hbm, ⟨33, _⟩ => ⟨S512x1024, .f32⟩
  | .hbm, ⟨34, _⟩ => ⟨S128x1x1024, .f32⟩
  | .hbm, ⟨35, _⟩ => ⟨S128x1x1024, .f32⟩
  | .hbm, ⟨36, _⟩ => ⟨S128x1x1024, .f32⟩
  | .hbm, ⟨37, _⟩ => ⟨S1024x1024, .f32⟩
  | .hbm, ⟨38, _⟩ => ⟨S128x1x1024, .f32⟩
  | .hbm, ⟨39, _⟩ => ⟨S128x1x1024, .f32⟩
  | .hbm, ⟨40, _⟩ => ⟨S128x1x1024, .f32⟩
  | .hbm, ⟨41, _⟩ => ⟨S_, .f32⟩
  | .hbm, ⟨42, _⟩ => ⟨S128x1, .f32⟩
  | .hbm, ⟨43, _⟩ => ⟨S128x1x1, .f32⟩
  | .hbm, ⟨44, _⟩ => ⟨S_, .f32⟩
  | .hbm, ⟨45, _⟩ => ⟨S128x1x1, .f32⟩
  | .hbm, ⟨46, _⟩ => ⟨S128x1x1, .f32⟩
  | .hbm, ⟨47, _⟩ => ⟨S_, .f32⟩
  | .hbm, ⟨48, _⟩ => ⟨S128x1x1, .f32⟩
  | .hbm, ⟨49, _⟩ => ⟨S128x1x1, .f32⟩
  | .hbm, ⟨50, _⟩ => ⟨S128x1x1, .f32⟩
  | .hbm, ⟨51, _⟩ => ⟨S128x1x1024, .f32⟩
  | .hbm, ⟨52, _⟩ => ⟨S128x1x1024, .f32⟩
  | .hbm, ⟨53, _⟩ => ⟨S1024, .f32⟩
  | .hbm, ⟨54, _⟩ => ⟨S1x1x1024, .f32⟩
  | .hbm, ⟨55, _⟩ => ⟨S128x1x1024, .f32⟩
  | .hbm, ⟨56, _⟩ => ⟨S128x1x1024, .f32⟩
  | .hbm, ⟨57, _⟩ => ⟨S1024x2816, .f32⟩
  | .hbm, ⟨58, _⟩ => ⟨S128x1x2816, .f32⟩
  | .hbm, ⟨59, _⟩ => ⟨S128x1x2816, .f32⟩
  | .hbm, ⟨60, _⟩ => ⟨S128x1x2816, .f32⟩
  | .hbm, ⟨61, _⟩ => ⟨S_, .f32⟩
  | .hbm, ⟨62, _⟩ => ⟨S128x1x2816, .f32⟩
  | .hbm, ⟨63, _⟩ => ⟨S128x1x2816, .f32⟩
  | .hbm, ⟨64, _⟩ => ⟨S_, .f32⟩
  | .hbm, ⟨65, _⟩ => ⟨S128x1x2816, .f32⟩
  | .hbm, ⟨66, _⟩ => ⟨S128x1x2816, .f32⟩
  | .hbm, ⟨67, _⟩ => ⟨S128x1x2816, .f32⟩
  | .hbm, ⟨68, _⟩ => ⟨S1024x2816, .f32⟩
  | .hbm, ⟨69, _⟩ => ⟨S128x1x2816, .f32⟩
  | .hbm, ⟨70, _⟩ => ⟨S128x1x2816, .f32⟩
  | .hbm, ⟨71, _⟩ => ⟨S2816x1024, .f32⟩
  | .hbm, ⟨72, _⟩ => ⟨S128x1x1024, .f32⟩
  | .hbm, ⟨73, _⟩ => ⟨S128x1x1024, .f32⟩
  | .hbm, ⟨74, _⟩ => ⟨S128x1024, .f32⟩
  | _, _ => ⟨S128x1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst : Ref sig .tc := ⟨.hbm, 41, rfl⟩
abbrev main_v28 : Ref sig .tc := ⟨.hbm, 42, rfl⟩
abbrev main_v29 : Ref sig .tc := ⟨.hbm, 43, rfl⟩
abbrev main_cst_0 : Ref sig .tc := ⟨.hbm, 44, rfl⟩
abbrev main_v30 : Ref sig .tc := ⟨.hbm, 45, rfl⟩
abbrev main_v31 : Ref sig .tc := ⟨.hbm, 46, rfl⟩
abbrev main_cst_1 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_call0_v0 : Ref sig .tc := ⟨.hbm, 59, rfl⟩
abbrev main_call0_v1 : Ref sig .tc := ⟨.hbm, 60, rfl⟩
abbrev main_call0_cst : Ref sig .tc := ⟨.hbm, 61, rfl⟩
abbrev main_call0_v2 : Ref sig .tc := ⟨.hbm, 62, rfl⟩
abbrev main_call0_v3 : Ref sig .tc := ⟨.hbm, 63, rfl⟩
abbrev main_call0_cst_0 : Ref sig .tc := ⟨.hbm, 64, rfl⟩
abbrev main_call0_v4 : Ref sig .tc := ⟨.hbm, 65, rfl⟩
abbrev main_call0_v5 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩

abbrev nD : Nat := 1
abbrev τ : Topo := Topo.v7x

variable {F : FTy → Type} [FloatOps F]
-- ==== Kernel8.lean ====
abbrev S128x1x1024 : Shape := ⟨3, ![128, 1, 1024]⟩
abbrev S1x1024 : Shape := ⟨2, ![1, 1024]⟩
abbrev S1x1024x6936 : Shape := ⟨3, ![1, 1024, 6936]⟩
abbrev S1x64 : Shape := ⟨2, ![1, 64]⟩
abbrev S1x3x64 : Shape := ⟨3, ![1, 3, 64]⟩
abbrev S1x128 : Shape := ⟨2, ![1, 128]⟩
abbrev S1024x6936 : Shape := ⟨2, ![1024, 6936]⟩
abbrev S64 : Shape := ⟨1, ![64]⟩
abbrev S3x64 : Shape := ⟨2, ![3, 64]⟩
abbrev S128 : Shape := ⟨1, ![128]⟩
abbrev S_ : Shape := ⟨0, ![]⟩
abbrev S1024x116 : Shape := ⟨2, ![1024, 116]⟩
abbrev S1024x3328 : Shape := ⟨2, ![1024, 3328]⟩
abbrev S1024x12 : Shape := ⟨2, ![1024, 12]⟩
abbrev S1024x3584 : Shape := ⟨2, ![1024, 3584]⟩
abbrev S1024x7168 : Shape := ⟨2, ![1024, 7168]⟩
abbrev S1024 : Shape := ⟨1, ![1024]⟩
abbrev S512 : Shape := ⟨1, ![512]⟩
abbrev S512x1 : Shape := ⟨2, ![512, 1]⟩
abbrev S1x512 : Shape := ⟨2, ![1, 512]⟩
abbrev S512x512 : Shape := ⟨2, ![512, 512]⟩
abbrev S128x1 : Shape := ⟨2, ![128, 1]⟩
abbrev S128x128 : Shape := ⟨2, ![128, 128]⟩
abbrev S8x64 : Shape := ⟨2, ![8, 64]⟩
abbrev S2x64 : Shape := ⟨2, ![2, 64]⟩
abbrev S4x128 : Shape := ⟨2, ![4, 128]⟩
abbrev S128x1024 : Shape := ⟨2, ![128, 1024]⟩
abbrev S128x512 : Shape := ⟨2, ![128, 512]⟩
abbrev S128x256 : Shape := ⟨2, ![128, 256]⟩
abbrev S128x3072 : Shape := ⟨2, ![128, 3072]⟩
abbrev S1x256x128 : Shape := ⟨3, ![1, 256, 128]⟩
abbrev S1x128x128 : Shape := ⟨3, ![1, 128, 128]⟩
abbrev S1024x1024 : Shape := ⟨2, ![1024, 1024]⟩
abbrev S1024x512 : Shape := ⟨2, ![1024, 512]⟩
abbrev S1024x256 : Shape := ⟨2, ![1024, 256]⟩
abbrev S256x128 : Shape := ⟨2, ![256, 128]⟩
abbrev S1024x3072 : Shape := ⟨2, ![1024, 3072]⟩

abbrev nBuf : Space → Nat
  | .hbm => 130
  | .vmem => 24
  | .smem => 0
  | _ => 0

abbrev hbmTy0_0 (i : Nat) : BufTy := match i % 128 with
  | 0 => ⟨S128x1x1024, .f32⟩
  | 1 => ⟨S1x1024, .f32⟩
  | 2 => ⟨S1x1024x6936, .f32⟩
  | 3 => ⟨S1x64, .f32⟩
  | 4 => ⟨S1x3x64, .f32⟩
  | 5 => ⟨S1x128, .f32⟩
  | 6 => ⟨S1024x6936, .f32⟩
  | 7 => ⟨S64, .f32⟩
  | 8 => ⟨S3x64, .f32⟩
  | 9 => ⟨S128, .f32⟩
  | 10 => ⟨S_, .f32⟩
  | 11 => ⟨S1024x116, .f32⟩
  | 12 => ⟨S1024x3328, .f32⟩
  | 13 => ⟨S1024x12, .f32⟩
  | 14 => ⟨S1024x12, .f32⟩
  | 15 => ⟨S1024x3584, .f32⟩
  | 16 => ⟨S1024x7168, .f32⟩
  | 17 => ⟨S1024x7168, .bf16⟩
  | 18 => ⟨S1024, .f32⟩
  | 19 => ⟨S1x1024, .f32⟩
  | 20 => ⟨S512, .i32⟩
  | 21 => ⟨S_, .i32⟩
  | 22 => ⟨S_, .i32⟩
  | 23 => ⟨S512, .i32⟩
  | 24 => ⟨S512, .i32⟩
  | 25 => ⟨S512, .i32⟩
  | 26 => ⟨S_, .i32⟩
  | 27 => ⟨S512, .i32⟩
  | 28 => ⟨S512, .i1⟩
  | 29 => ⟨S512, .i32⟩
  | 30 => ⟨S512, .i32⟩
  | 31 => ⟨S_, .i32⟩
  | 32 => ⟨S512, .i32⟩
  | 33 => ⟨S512, .i1⟩
  | 34 => ⟨S512, .i1⟩
  | 35 => ⟨S_, .i32⟩
  | 36 => ⟨S512, .i32⟩
  | 37 => ⟨S512, .i32⟩
  | 38 => ⟨S512, .i32⟩
  | 39 => ⟨S512x1, .i32⟩
  | 40 => ⟨S1x512, .i32⟩
  | 41 => ⟨S512x512, .i32⟩
  | 42 => ⟨S512x512, .i32⟩
  | 43 => ⟨S512x512, .i1⟩
  | 44 => ⟨S512x512, .bf16⟩
  | 45 => ⟨S128, .i32⟩
  | 46 => ⟨S_, .i32⟩
  | 47 => ⟨S_, .i32⟩
  | 48 => ⟨S128, .i32⟩
  | 49 => ⟨S128, .i32⟩
  | 50 => ⟨S128, .i32⟩
  | 51 => ⟨S_, .i32⟩
  | 52 => ⟨S128, .i32⟩
  | 53 => ⟨S128, .i1⟩
  | 54 => ⟨S128, .i32⟩
  | 55 => ⟨S128, .i32⟩
  | 56 => ⟨S_, .i32⟩
  | 57 => ⟨S128, .i32⟩
  | 58 => ⟨S128, .i1⟩
  | 59 => ⟨S128, .i1⟩
  | 60 => ⟨S_, .i32⟩
  | 61 => ⟨S128, .i32⟩
  | 62 => ⟨S128, .i32⟩
  | 63 => ⟨S128, .i32⟩
  | 64 => ⟨S128x1, .i32⟩
  | 65 => ⟨S1x128, .i32⟩
  | 66 => ⟨S128x128, .i32⟩
  | 67 => ⟨S128x128, .i32⟩
  | 68 => ⟨S128x128, .i1⟩
  | 69 => ⟨S128x128, .bf16⟩
  | 70 => ⟨S512, .i32⟩
  | 71 => ⟨S_, .i32⟩
  | 72 => ⟨S_, .i32⟩
  | 73 => ⟨S512, .i32⟩
  | 74 => ⟨S512, .i32⟩
  | 75 => ⟨S512, .i32⟩
  | 76 => ⟨S_, .i32⟩
  | 77 => ⟨S512, .i32⟩
  | 78 => ⟨S512, .i1⟩
  | 79 => ⟨S512, .i32⟩
  | 80 => ⟨S512, .i32⟩
  | 81 => ⟨S_, .i32⟩
  | 82 => ⟨S512, .i32⟩
  | 83 => ⟨S512, .i1⟩
  | 84 => ⟨S512, .i1⟩
  | 85 => ⟨S_, .i32⟩
  | 86 => ⟨S512, .i32⟩
  | 87 => ⟨S512, .i32⟩
  | 88 => ⟨S512, .i32⟩
  | 89 => ⟨S512x1, .i32⟩
  | 90 => ⟨S1x512, .i32⟩
  | 91 => ⟨S512x512, .i32⟩
  | 92 => ⟨S512x512, .i32⟩
  | 93 => ⟨S512x512, .i1⟩
  | 94 => ⟨S512x512, .bf16⟩
  | 95 => ⟨S1x64, .f32⟩
  | 96 => ⟨S8x64, .f32⟩
  | 97 => ⟨S512, .f32⟩
  | 98 => ⟨S1x512, .f32⟩
  | 99 => ⟨S1x64, .f32⟩
  | 100 => ⟨S64, .f32⟩
  | 101 => ⟨S1x64, .f32⟩
  | 102 => ⟨S2x64, .f32⟩
  | 103 => ⟨S128, .f32⟩
  | 104 => ⟨S1x128, .f32⟩
  | 105 => ⟨S1x64, .f32⟩
  | 106 => ⟨S64, .f32⟩
  | 107 => ⟨S1x64, .f32⟩
  | 108 => ⟨S2x64, .f32⟩
  | 109 => ⟨S128, .f32⟩
  | 110 => ⟨S1x128, .f32⟩
  | 111 => ⟨S1x128, .f32⟩
  | 112 => ⟨S4x128, .f32⟩
  | 113 => ⟨S512, .f32⟩
  | 114 => ⟨S1x512, .f32⟩
  | 115 => ⟨S128x1024, .f32⟩
  | 116 => ⟨S128x1024, .f32⟩
  | 117 => ⟨S128x1024, .f32⟩
  | 118 => ⟨S128x512, .f32⟩
  | 119 => ⟨S128x256, .f32⟩
  | 120 => ⟨S128x128, .bf16⟩
  | 121 => ⟨S128x128, .bf16⟩
  | 122 => ⟨S128x512, .bf16⟩
  | 123 => ⟨S128x3072, .f32⟩
  | 124 => ⟨S1x256x128, .f32⟩
  | 125 => ⟨S1x256x128, .f32⟩
  | 126 => ⟨S1x256x128, .f32⟩
  | 127 => ⟨S1x128x128, .bf16⟩
  | _ => ⟨S128x1x1024, .f32⟩

abbrev hbmTy0_1 (i : Nat) : BufTy := match i % 128 with
  | 0 => ⟨S1x128x128, .bf16⟩
  | 1 => ⟨S1x256x128, .f32⟩
  | _ => ⟨S128x1x1024, .f32⟩

abbrev hbmTy (i : Nat) : BufTy := match i / 128 with
  | 0 => hbmTy0_0 i
  | 1 => hbmTy0_1 i
  | _ => ⟨S128x1x1024, .f32⟩

abbrev bufTy : (tb : Table) → Fin (tcTables nBuf tb) → BufTy
  | .hbm, ⟨i, _⟩ => hbmTy i
  | .local _ .vmem, ⟨0, _⟩ => ⟨S128x1024, .f32⟩
  | .local _ .vmem, ⟨1, _⟩ => ⟨S1x1024, .f32⟩
  | .local _ .vmem, ⟨2, _⟩ => ⟨S1024x7168, .bf16⟩
  | .local _ .vmem, ⟨3, _⟩ => ⟨S512x512, .bf16⟩
  | .local _ .vmem, ⟨4, _⟩ => ⟨S128x128, .bf16⟩
  | .local _ .vmem, ⟨5, _⟩ => ⟨S512x512, .bf16⟩
  | .local _ .vmem, ⟨6, _⟩ => ⟨S1x512, .f32⟩
  | .local _ .vmem, ⟨7, _⟩ => ⟨S1x128, .f32⟩
  | .local _ .vmem, ⟨8, _⟩ => ⟨S1x128, .f32⟩
  | .local _ .vmem, ⟨9, _⟩ => ⟨S1x512, .f32⟩
  | .local _ .vmem, ⟨10, _⟩ => ⟨S128x1024, .f32⟩
  | .local _ .vmem, ⟨11, _⟩ => ⟨S128x1024, .f32⟩
  | .local _ .vmem, ⟨12, _⟩ => ⟨S128x512, .f32⟩
  | .local _ .vmem, ⟨13, _⟩ => ⟨S128x256, .f32⟩
  | .local _ .vmem, ⟨14, _⟩ => ⟨S128x128, .bf16⟩
  | .local _ .vmem, ⟨15, _⟩ => ⟨S128x128, .bf16⟩
  | .local _ .vmem, ⟨16, _⟩ => ⟨S128x512, .bf16⟩
  | .local _ .vmem, ⟨17, _⟩ => ⟨S128x3072, .f32⟩
  | .local _ .vmem, ⟨18, _⟩ => ⟨S1x256x128, .f32⟩
  | .local _ .vmem, ⟨19, _⟩ => ⟨S1x256x128, .f32⟩
  | .local _ .vmem, ⟨20, _⟩ => ⟨S1x256x128, .f32⟩
  | .local _ .vmem, ⟨21, _⟩ => ⟨S1x128x128, .bf16⟩
  | .local _ .vmem, ⟨22, _⟩ => ⟨S1x128x128, .bf16⟩
  | .local _ .vmem, ⟨23, _⟩ => ⟨S1x256x128, .f32⟩
  | _, _ => ⟨S128x1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_c : Ref sig .tc := ⟨.hbm, 21, rfl⟩
abbrev main_call0_v0 : Ref sig .tc := ⟨.hbm, 22, rfl⟩
abbrev main_call0_v1 : Ref sig .tc := ⟨.hbm, 23, rfl⟩
abbrev main_call0_v2 : Ref sig .tc := ⟨.hbm, 24, rfl⟩
abbrev main_call0_v3 : Ref sig .tc := ⟨.hbm, 25, rfl⟩
abbrev main_call0_v4 : Ref sig .tc := ⟨.hbm, 26, rfl⟩
abbrev main_call0_v5 : Ref sig .tc := ⟨.hbm, 27, rfl⟩
abbrev main_call0_v6 : Ref sig .tc := ⟨.hbm, 28, rfl⟩
abbrev main_call0_v7 : Ref sig .tc := ⟨.hbm, 29, rfl⟩
abbrev main_call0_v8 : Ref sig .tc := ⟨.hbm, 30, rfl⟩
abbrev main_call0_c : Ref sig .tc := ⟨.hbm, 31, rfl⟩
abbrev main_call0_v9 : Ref sig .tc := ⟨.hbm, 32, rfl⟩
abbrev main_call0_v10 : Ref sig .tc := ⟨.hbm, 33, rfl⟩
abbrev main_call0_v11 : Ref sig .tc := ⟨.hbm, 34, rfl⟩
abbrev main_call0_c_0 : Ref sig .tc := ⟨.hbm, 35, rfl⟩
abbrev main_call0_v12 : Ref sig .tc := ⟨.hbm, 36, rfl⟩
abbrev main_call0_v13 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_c_0 : Ref sig .tc := ⟨.hbm, 46, rfl⟩
abbrev main_call1_v0 : Ref sig .tc := ⟨.hbm, 47, rfl⟩
abbrev main_call1_v1 : Ref sig .tc := ⟨.hbm, 48, rfl⟩
abbrev main_call1_v2 : Ref sig .tc := ⟨.hbm, 49, rfl⟩
abbrev main_call1_v3 : Ref sig .tc := ⟨.hbm, 50, rfl⟩
abbrev main_call1_v4 : Ref sig .tc := ⟨.hbm, 51, rfl⟩
abbrev main_call1_v5 : Ref sig .tc := ⟨.hbm, 52, rfl⟩
abbrev main_call1_v6 : Ref sig .tc := ⟨.hbm, 53, rfl⟩
abbrev main_call1_v7 : Ref sig .tc := ⟨.hbm, 54, rfl⟩
abbrev main_call1_v8 : Ref sig .tc := ⟨.hbm, 55, rfl⟩
abbrev main_call1_c : Ref sig .tc := ⟨.hbm, 56, rfl⟩
abbrev main_call1_v9 : Ref sig .tc := ⟨.hbm, 57, rfl⟩
abbrev main_call1_v10 : Ref sig .tc := ⟨.hbm, 58, rfl⟩
abbrev main_call1_v11 : Ref sig .tc := ⟨.hbm, 59, rfl⟩
abbrev main_call1_c_0 : Ref sig .tc := ⟨.hbm, 60, rfl⟩
abbrev main_call1_v12 : Ref sig .tc := ⟨.hbm, 61, rfl⟩
abbrev main_call1_v13 : Ref sig .tc := ⟨.hbm, 62, rfl⟩
abbrev main_v22 : Ref sig .tc := ⟨.hbm, 63, rfl⟩
abbrev main_v23 : Ref sig .tc := ⟨.hbm, 64, rfl⟩
abbrev main_v24 : Ref sig .tc := ⟨.hbm, 65, rfl⟩
abbrev main_v25 : Ref sig .tc := ⟨.hbm, 66, rfl⟩
abbrev main_v26 : Ref sig .tc := ⟨.hbm, 67, rfl⟩
abbrev main_v27 : Ref sig .tc := ⟨.hbm, 68, rfl⟩
abbrev main_v28 : Ref sig .tc := ⟨.hbm, 69, rfl⟩
abbrev main_v29 : Ref sig .tc := ⟨.hbm, 70, rfl⟩
abbrev main_c_1 : Ref sig .tc := ⟨.hbm, 71, rfl⟩
abbrev main_call2_v0 : Ref sig .tc := ⟨.hbm, 72, rfl⟩
abbrev main_call2_v1 : Ref sig .tc := ⟨.hbm, 73, rfl⟩
abbrev main_call2_v2 : Ref sig .tc := ⟨.hbm, 74, rfl⟩
abbrev main_call2_v3 : Ref sig .tc := ⟨.hbm, 75, rfl⟩
abbrev main_call2_v4 : Ref sig .tc := ⟨.hbm, 76, rfl⟩
abbrev main_call2_v5 : Ref sig .tc := ⟨.hbm, 77, rfl⟩
abbrev main_call2_v6 : Ref sig .tc := ⟨.hbm, 78, rfl⟩
abbrev main_call2_v7 : Ref sig .tc := ⟨.hbm, 79, rfl⟩
abbrev main_call2_v8 : Ref sig .tc := ⟨.hbm, 80, rfl⟩
abbrev main_call2_c : Ref sig .tc := ⟨.hbm, 81, rfl⟩
abbrev main_call2_v9 : Ref sig .tc := ⟨.hbm, 82, rfl⟩
abbrev main_call2_v10 : Ref sig .tc := ⟨.hbm, 83, rfl⟩
abbrev main_call2_v11 : Ref sig .tc := ⟨.hbm, 84, rfl⟩
abbrev main_call2_c_0 : Ref sig .tc := ⟨.hbm, 85, rfl⟩
abbrev main_call2_v12 : Ref sig .tc := ⟨.hbm, 86, rfl⟩
abbrev main_call2_v13 : Ref sig .tc := ⟨.hbm, 87, rfl⟩
abbrev main_v30 : Ref sig .tc := ⟨.hbm, 88, rfl⟩
abbrev main_v31 : Ref sig .tc := ⟨.hbm, 89, rfl⟩
abbrev main_v32 : Ref sig .tc := ⟨.hbm, 90, rfl⟩
abbrev main_v33 : Ref sig .tc := ⟨.hbm, 91, rfl⟩
abbrev main_v34 : Ref sig .tc := ⟨.hbm, 92, rfl⟩
abbrev main_v35 : Ref sig .tc := ⟨.hbm, 93, rfl⟩
abbrev main_v36 : Ref sig .tc := ⟨.hbm, 94, rfl⟩
abbrev main_v37 : Ref sig .tc := ⟨.hbm, 95, rfl⟩
abbrev main_v38 : Ref sig .tc := ⟨.hbm, 96, rfl⟩
abbrev main_v39 : Ref sig .tc := ⟨.hbm, 97, rfl⟩
abbrev main_v40 : Ref sig .tc := ⟨.hbm, 98, rfl⟩
abbrev main_v41 : Ref sig .tc := ⟨.hbm, 99, rfl⟩
abbrev main_v42 : Ref sig .tc := ⟨.hbm, 100, rfl⟩
abbrev main_v43 : Ref sig .tc := ⟨.hbm, 101, rfl⟩
abbrev main_v44 : Ref sig .tc := ⟨.hbm, 102, rfl⟩
abbrev main_v45 : Ref sig .tc := ⟨.hbm, 103, rfl⟩
abbrev main_v46 : Ref sig .tc := ⟨.hbm, 104, rfl⟩
abbrev main_v47 : Ref sig .tc := ⟨.hbm, 105, rfl⟩
abbrev main_v48 : Ref sig .tc := ⟨.hbm, 106, rfl⟩
abbrev main_v49 : Ref sig .tc := ⟨.hbm, 107, rfl⟩
abbrev main_v50 : Ref sig .tc := ⟨.hbm, 108, rfl⟩
abbrev main_v51 : Ref sig .tc := ⟨.hbm, 109, rfl⟩
abbrev main_v52 : Ref sig .tc := ⟨.hbm, 110, rfl⟩
abbrev main_v53 : Ref sig .tc := ⟨.hbm, 111, rfl⟩
abbrev main_v54 : Ref sig .tc := ⟨.hbm, 112, rfl⟩
abbrev main_v55 : Ref sig .tc := ⟨.hbm, 113, rfl⟩
abbrev main_v56 : Ref sig .tc := ⟨.hbm, 114, rfl⟩
abbrev main_v57 : Ref sig .tc := ⟨.hbm, 115, rfl⟩
abbrev main_v58_0 : Ref sig .tc := ⟨.hbm, 116, rfl⟩
abbrev main_v58_1 : Ref sig .tc := ⟨.hbm, 117, rfl⟩
abbrev main_v58_2 : Ref sig .tc := ⟨.hbm, 118, rfl⟩
abbrev main_v58_3 : Ref sig .tc := ⟨.hbm, 119, rfl⟩
abbrev main_v58_4 : Ref sig .tc := ⟨.hbm, 120, rfl⟩
abbrev main_v58_5 : Ref sig .tc := ⟨.hbm, 121, rfl⟩
abbrev main_v58_6 : Ref sig .tc := ⟨.hbm, 122, rfl⟩
abbrev main_v58_7 : Ref sig .tc := ⟨.hbm, 123, rfl⟩
abbrev main_v58_8 : Ref sig .tc := ⟨.hbm, 124, rfl⟩
abbrev main_v58_9 : Ref sig .tc := ⟨.hbm, 125, rfl⟩
abbrev main_v58_10 : Ref sig .tc := ⟨.hbm, 126, rfl⟩
abbrev main_v58_11 : Ref sig .tc := ⟨.hbm, 127, rfl⟩
abbrev main_v58_12 : Ref sig .tc := ⟨.hbm, 128, rfl⟩
abbrev main_v58_13 : Ref sig .tc := ⟨.hbm, 129, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_stg21_0 : Ref sig .tc := ⟨.vmem, 21, rfl⟩
abbrev cc0_stg22_0 : Ref sig .tc := ⟨.vmem, 22, rfl⟩
abbrev cc0_stg23_0 : Ref sig .tc := ⟨.vmem, 23, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20
abbrev cc0_sem21_0 : DmaSem sig := 21
abbrev cc0_sem22_0 : DmaSem sig := 22
abbrev cc0_sem23_0 : DmaSem sig := 23

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 3 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, c0_i32_11.toNat, v26.toNat]

def cc0_transform_19 (i : grid0.Coords) : Fin 3 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, c0_i32_11.toNat, v26.toNat]

def cc0_transform_20 (i : grid0.Coords) : Fin 3 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, c0_i32_11.toNat, v26.toNat]

def cc0_transform_21 (i : grid0.Coords) : Fin 3 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, c0_i32_11.toNat, v26.toNat]

def cc0_transform_22 (i : grid0.Coords) : Fin 3 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, c0_i32_11.toNat, v26.toNat]

def cc0_transform_23 (i : grid0.Coords) : Fin 3 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, c0_i32_11.toNat, v26.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x7168 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true]

abbrev stage0_11 : Fin 1 → Memref sig .tc .vmem S128x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![true]

abbrev stage0_12 : Fin 1 → Memref sig .tc .vmem S128x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![true]

abbrev stage0_13 : Fin 1 → Memref sig .tc .vmem S128x256 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![true]

abbrev stage0_14 : Fin 1 → Memref sig .tc .vmem S128x128 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![true]

abbrev stage0_15 : Fin 1 → Memref sig .tc .vmem S128x128 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![true]

abbrev stage0_16 : Fin 1 → Memref sig .tc .vmem S128x512 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![true]

abbrev stage0_17 : Fin 1 → Memref sig .tc .vmem S128x3072 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![true]

abbrev stage0_18 : Fin 1 → Memref sig .tc .vmem S1x256x128 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![true]

abbrev stage0_19 : Fin 1 → Memref sig .tc .vmem S1x256x128 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![true]

abbrev stage0_20 : Fin 1 → Memref sig .tc .vmem S1x256x128 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![true]

abbrev stage0_21 : Fin 1 → Memref sig .tc .vmem S1x128x128 .bf16 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![true]

abbrev stage0_22 : Fin 1 → Memref sig .tc .vmem S1x128x128 .bf16 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![true]

abbrev stage0_23 : Fin 1 → Memref sig .tc .vmem S1x256x128 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
abbrev reads0_23 : Fin grid0.rank → Bool := ![true]
-- ==== Reference8Ideal.lean ====
abbrev S128x1x1024 : Shape := ⟨3, ![128, 1, 1024]⟩
abbrev S1x1024 : Shape := ⟨2, ![1, 1024]⟩
abbrev S1x1024x6936 : Shape := ⟨3, ![1, 1024, 6936]⟩
abbrev S1x64 : Shape := ⟨2, ![1, 64]⟩
abbrev S1x3x64 : Shape := ⟨3, ![1, 3, 64]⟩
abbrev S1x128 : Shape := ⟨2, ![1, 128]⟩
abbrev S1024 : Shape := ⟨1, ![1024]⟩
abbrev S_ : Shape := ⟨0, ![]⟩
abbrev S128x1 : Shape := ⟨2, ![128, 1]⟩
abbrev S128x1x1 : Shape := ⟨3, ![128, 1, 1]⟩
abbrev S1x1x1024 : Shape := ⟨3, ![1, 1, 1024]⟩
abbrev S1024x6936 : Shape := ⟨2, ![1024, 6936]⟩
abbrev S128x1x6936 : Shape := ⟨3, ![128, 1, 6936]⟩
abbrev S128x1x512 : Shape := ⟨3, ![128, 1, 512]⟩
abbrev S128x1x768 : Shape := ⟨3, ![128, 1, 768]⟩
abbrev S128x1x24 : Shape := ⟨3, ![128, 1, 24]⟩
abbrev S128x1x3072 : Shape := ⟨3, ![128, 1, 3072]⟩
abbrev S128x1x3x2x2x64 : Shape := ⟨6, ![128, 1, 3, 2, 2, 64]⟩
abbrev S128x1x1x1x2x64 : Shape := ⟨6, ![128, 1, 1, 1, 2, 64]⟩
abbrev S128x1x2x64 : Shape := ⟨4, ![128, 1, 2, 64]⟩
abbrev S1x1x64 : Shape := ⟨3, ![1, 1, 64]⟩
abbrev S64 : Shape := ⟨1, ![64]⟩
abbrev S128x1x2 : Shape := ⟨3, ![128, 1, 2]⟩
abbrev S128x1x2x1 : Shape := ⟨4, ![128, 1, 2, 1]⟩
abbrev S1x1x1x64 : Shape := ⟨4, ![1, 1, 1, 64]⟩
abbrev S128x1x1x2x64 : Shape := ⟨5, ![128, 1, 1, 2, 64]⟩
abbrev S128x1x2x2x64 : Shape := ⟨5, ![128, 1, 2, 2, 64]⟩
abbrev S128x1x1x2x2x64 : Shape := ⟨6, ![128, 1, 1, 2, 2, 64]⟩
abbrev S1x128x256 : Shape := ⟨3, ![1, 128, 256]⟩
abbrev S1x256x128 : Shape := ⟨3, ![1, 256, 128]⟩

abbrev nBuf : Space → Nat
  | .hbm => 91
  | .vmem => 0
  | .smem => 0
  | _ => 0

abbrev bufTy : (tb : Table) → Fin (tcTables nBuf tb) → BufTy
  | .hbm, ⟨0, _⟩ => ⟨S128x1x1024, .f32⟩
  | .hbm, ⟨1, _⟩ => ⟨S1x1024, .f32⟩
  | .hbm, ⟨2, _⟩ => ⟨S1x1024x6936, .f32⟩
  | .hbm, ⟨3, _⟩ => ⟨S1x64, .f32⟩
  | .hbm, ⟨4, _⟩ => ⟨S1x3x64, .f32⟩
  | .hbm, ⟨5, _⟩ => ⟨S1x128, .f32⟩
  | .hbm, ⟨6, _⟩ => ⟨S1024, .f32⟩
  | .hbm, ⟨7, _⟩ => ⟨S128x1x1024, .f32⟩
  | .hbm, ⟨8, _⟩ => ⟨S_, .f32⟩
  | .hbm, ⟨9, _⟩ => ⟨S128x1, .f32⟩
  | .hbm, ⟨10, _⟩ => ⟨S128x1x1, .f32⟩
  | .hbm, ⟨11, _⟩ => ⟨S_, .f32⟩
  | .hbm, ⟨12, _⟩ => ⟨S128x1x1, .f32⟩
  | .hbm, ⟨13, _⟩ => ⟨S128x1x1, .f32⟩
  | .hbm, ⟨14, _⟩ => ⟨S_, .f32⟩
  | .hbm, ⟨15, _⟩ => ⟨S128x1x1, .f32⟩
  | .hbm, ⟨16, _⟩ => ⟨S128x1x1, .f32⟩
  | .hbm, ⟨17, _⟩ => ⟨S128x1x1, .f32⟩
  | .hbm, ⟨18, _⟩ => ⟨S128x1x1024, .f32⟩
  | .hbm, ⟨19, _⟩ => ⟨S128x1x1024, .f32⟩
  | .hbm, ⟨20, _⟩ => ⟨S1x1x1024, .f32⟩
  | .hbm, ⟨21, _⟩ => ⟨S128x1x1024, .f32⟩
  | .hbm, ⟨22, _⟩ => ⟨S128x1x1024, .f32⟩
  | .hbm, ⟨23, _⟩ => ⟨S1024x6936, .f32⟩
  | .hbm, ⟨24, _⟩ => ⟨S128x1x6936, .f32⟩
  | .hbm, ⟨25, _⟩ => ⟨S128x1x1024, .f32⟩
  | .hbm, ⟨26, _⟩ => ⟨S128x1x1024, .f32⟩
  | .hbm, ⟨27, _⟩ => ⟨S128x1x512, .f32⟩
  | .hbm, ⟨28, _⟩ => ⟨S128x1x768, .f32⟩
  | .hbm, ⟨29, _⟩ => ⟨S128x1x24, .f32⟩
  | .hbm, ⟨30, _⟩ => ⟨S128x1x512, .f32⟩
  | .hbm, ⟨31, _⟩ => ⟨S128x1x3072, .f32⟩
  | .hbm, ⟨32, _⟩ => ⟨S128x1x3x2x2x64, .f32⟩
  | .hbm, ⟨33, _⟩ => ⟨S128x1x1x1x2x64, .f32⟩
  | .hbm, ⟨34, _⟩ => ⟨S128x1x2x64, .f32⟩
  | .hbm, ⟨35, _⟩ => ⟨S1x1x64, .f32⟩
  | .hbm, ⟨36, _⟩ => ⟨S64, .f32⟩
  | .hbm, ⟨37, _⟩ => ⟨S128x1x2x64, .f32⟩
  | .hbm, ⟨38, _⟩ => ⟨S_, .f32⟩
  | .hbm, ⟨39, _⟩ => ⟨S128x1x2, .f32⟩
  | .hbm, ⟨40, _⟩ => ⟨S128x1x2x1, .f32⟩
  | .hbm, ⟨41, _⟩ => ⟨S_, .f32⟩
  | .hbm, ⟨42, _⟩ => ⟨S128x1x2x1, .f32⟩
  | .hbm, ⟨43, _⟩ => ⟨S128x1x2x1, .f32⟩
  | .hbm, ⟨44, _⟩ => ⟨S_, .f32⟩
  | .hbm, ⟨45, _⟩ => ⟨S128x1x2x1, .f32⟩
  | .hbm, ⟨46, _⟩ => ⟨S128x1x2x1, .f32⟩
  | .hbm, ⟨47, _⟩ => ⟨S128x1x2x1, .f32⟩
  | .hbm, ⟨48, _⟩ => ⟨S128x1x2x64, .f32⟩
  | .hbm, ⟨49, _⟩ => ⟨S128x1x2x64, .f32⟩
  | .hbm, ⟨50, _⟩ => ⟨S1x1x1x64, .f32⟩
  | .hbm, ⟨51, _⟩ => ⟨S128x1x2x64, .f32⟩
  | .hbm, ⟨52, _⟩ => ⟨S128x1x2x64, .f32⟩
  | .hbm, ⟨53, _⟩ => ⟨S128x1x1x1x2x64, .f32⟩
  | .hbm, ⟨54, _⟩ => ⟨S128x1x2x64, .f32⟩
  | .hbm, ⟨55, _⟩ => ⟨S128x1x1x2x64, .f32⟩
  | .hbm, ⟨56, _⟩ => ⟨S128x1x1x2x64, .f32⟩
  | .hbm, ⟨57, _⟩ => ⟨S128x1x2x2x64, .f32⟩
  | .hbm, ⟨58, _⟩ => ⟨S128x1x1x1x2x64, .f32⟩
  | .hbm, ⟨59, _⟩ => ⟨S128x1x2x64, .f32⟩
  | .hbm, ⟨60, _⟩ => ⟨S1x1x64, .f32⟩
  | .hbm, ⟨61, _⟩ => ⟨S64, .f32⟩
  | .hbm, ⟨62, _⟩ => ⟨S128x1x2x64, .f32⟩
  | .hbm, ⟨63, _⟩ => ⟨S_, .f32⟩
  | .hbm, ⟨64, _⟩ => ⟨S128x1x2, .f32⟩
  | .hbm, ⟨65, _⟩ => ⟨S128x1x2x1, .f32⟩
  | .hbm, ⟨66, _⟩ => ⟨S_, .f32⟩
  | .hbm, ⟨67, _⟩ => ⟨S128x1x2x1, .f32⟩
  | .hbm, ⟨68, _⟩ => ⟨S128x1x2x1, .f32⟩
  | .hbm, ⟨69, _⟩ => ⟨S_, .f32⟩
  | .hbm, ⟨70, _⟩ => ⟨S128x1x2x1, .f32⟩
  | .hbm, ⟨71, _⟩ => ⟨S128x1x2x1, .f32⟩
  | .hbm, ⟨72, _⟩ => ⟨S128x1x2x1, .f32⟩
  | .hbm, ⟨73, _⟩ => ⟨S128x1x2x64, .f32⟩
  | .hbm, ⟨74, _⟩ => ⟨S128x1x2x64, .f32⟩
  | .hbm, ⟨75, _⟩ => ⟨S1x1x1x64, .f32⟩
  | .hbm, ⟨76, _⟩ => ⟨S128x1x2x64, .f32⟩
  | .hbm, ⟨77, _⟩ => ⟨S128x1x2x64, .f32⟩
  | .hbm, ⟨78, _⟩ => ⟨S128x1x1x1x2x64, .f32⟩
  | .hbm, ⟨79, _⟩ => ⟨S128x1x2x64, .f32⟩
  | .hbm, ⟨80, _⟩ => ⟨S128x1x1x2x64, .f32⟩
  | .hbm, ⟨81, _⟩ => ⟨S128x1x1x2x64, .f32⟩
  | .hbm, ⟨82, _⟩ => ⟨S128x1x2x2x64, .f32⟩
  | .hbm, ⟨83, _⟩ => ⟨S128x1x1x2x2x64, .f32⟩
  | .hbm, ⟨84, _⟩ => ⟨S128x1x2x2x64, .f32⟩
  | .hbm, ⟨85, _⟩ => ⟨S1x128x256, .f32⟩
  | .hbm, ⟨86, _⟩ => ⟨S1x256x128, .f32⟩
  | .hbm, ⟨87, _⟩ => ⟨S1x128x256, .f32⟩
  | .hbm, ⟨88, _⟩ => ⟨S1x256x128, .f32⟩
  | .hbm, ⟨89, _⟩ => ⟨S1x128x256, .f32⟩
  | .hbm, ⟨90, _⟩ => ⟨S1x256x128, .f32⟩
  | _, _ => ⟨S128x1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_cst_2 : Ref sig .tc := ⟨.hbm, 38, rfl⟩
abbrev main_v29 : Ref sig .tc := ⟨.hbm, 39, rfl⟩
abbrev main_v30 : Ref sig .tc := ⟨.hbm, 40, rfl⟩
abbrev main_cst_3 : Ref sig .tc := ⟨.hbm, 41, rfl⟩
abbrev main_v31 : Ref sig .tc := ⟨.hbm, 42, rfl⟩
abbrev main_v32 : Ref sig .tc := ⟨.hbm, 43, rfl⟩
abbrev main_cst_4 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_cst_5 : Ref sig .tc := ⟨.hbm, 63, rfl⟩
abbrev main_v51 : Ref sig .tc := ⟨.hbm, 64, rfl⟩
abbrev main_v52 : Ref sig .tc := ⟨.hbm, 65, rfl⟩
abbrev main_cst_6 : Ref sig .tc := ⟨.hbm, 66, rfl⟩
abbrev main_v53 : Ref sig .tc := ⟨.hbm, 67, rfl⟩
abbrev main_v54 : Ref sig .tc := ⟨.hbm, 68, rfl⟩
abbrev main_cst_7 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩
abbrev main_v74 : Ref sig .tc := ⟨.hbm, 89, rfl⟩
abbrev main_v75 : Ref sig .tc := ⟨.hbm, 90, rfl⟩

abbrev nD : Nat := 1
abbrev τ : Topo := Topo.v7x

variable {F : FTy → Type} [FloatOps F]
-- ==== Proof.Recur.lean ====
/-
  The linear recurrence h ← b + a * h over the extended reals, and the doubling form of it: windows of
  length k, 2k, 4k, … of the recurrence compose. Every statement is about one channel.
-/
module

public import Idealize.ShloMosaic.PureOps.Ideal

@[expose] public section

noncomputable section

namespace Cert.Lru

/-- `c` steps of the recurrence ending with step `r`, from the value `h`. -/
def G (a b : ℕ → EReal) (h : EReal) : ℕ → ℕ → EReal
  | 0, _ => h
  | c + 1, r => b r + a r * G a b h c (r - 1)

/-- The first `s` steps of the recurrence from the value `h`. -/
def R (a b : ℕ → EReal) (h : EReal) : ℕ → EReal
  | 0 => h
  | s + 1 => b s + a s * R a b h s

/-- A factor through which a product distributes over every sum: a nonnegative real number. -/
def Fac (x : EReal) : Prop := 0 ≤ x ∧ x ≠ ⊤

theorem Fac.one : Fac 1 := ⟨zero_le_one, EReal.coe_ne_top 1⟩

theorem Fac.mul {x y : EReal} (hx : Fac x) (hy : Fac y) : Fac (x * y) := by
  obtain ⟨x0, xt⟩ := hx
  obtain ⟨y0, yt⟩ := hy
  have xb : x ≠ ⊥ := ne_of_gt (lt_of_lt_of_le EReal.bot_lt_zero x0)
  have yb : y ≠ ⊥ := ne_of_gt (lt_of_lt_of_le EReal.bot_lt_zero y0)
  lift x to ℝ using ⟨xt, xb⟩
  lift y to ℝ using ⟨yt, yb⟩
  refine ⟨mul_nonneg x0 y0, ?_⟩
  rw [← EReal.coe_mul]
  exact EReal.coe_ne_top _

/-- Distributivity over any sum, for such a factor. -/
theorem Fac.distrib {x : EReal} (hx : Fac x) (y z : EReal) : x * (y + z) = x * y + x * z :=
  EReal.left_distrib_of_nonneg_of_ne_top hx.1 hx.2 y z

/-- Windows compose: `c + d` steps ending with step `r` are `c` steps after `d` steps ending with step `r - c`. -/
theorem G_add (a b : ℕ → EReal) (h : EReal) (d : ℕ) : ∀ c r : ℕ, G a b h (c + d) r = G a b (G a b h d (r - c)) c r
  | 0, r => by rw [Nat.zero_add]; rfl
  | c + 1, r => by
    rw [show c + 1 + d = (c + d) + 1 from by omega]
    show b r + a r * G a b h (c + d) (r - 1) = b r + a r * G a b _ c (r - 1)
    rw [G_add a b h d c (r - 1), show r - 1 - c = r - (c + 1) from by omega]

/-- The window that reaches back to step 0 is the recurrence from the start. -/
theorem G_full (a b : ℕ → EReal) (h : EReal) : ∀ r : ℕ, G a b h (r + 1) r = R a b h (r + 1)
  | 0 => rfl
  | r + 1 => by
    show b (r + 1) + a (r + 1) * G a b h (r + 1) r = b (r + 1) + a (r + 1) * R a b h (r + 1)
    rw [G_full a b h r]

/-- The recurrence taken up at step `o`. -/
theorem R_add (a b : ℕ → EReal) (h : EReal) (o : ℕ) :
    ∀ r : ℕ, R (fun s => a (o + s)) (fun s => b (o + s)) (R a b h o) r = R a b h (o + r)
  | 0 => rfl
  | r + 1 => by
    show b (o + r) + a (o + r) * R (fun s => a (o + s)) (fun s => b (o + s)) (R a b h o) r = b (o + r) + a (o + r) * R a b h (o + r)
    rw [R_add a b h o r]

/-- The recurrence reads its coefficients below the step only. -/
theorem R_congr {a a' b b' : ℕ → EReal} {h h' : EReal} (e : h = h') : ∀ {s : ℕ}, (∀ i < s, a i = a' i) → (∀ i < s, b i = b' i) →
    R a b h s = R a' b' h' s
  | 0, _, _ => e
  | s + 1, ha, hb => by
    show b s + a s * R a b h s = b' s + a' s * R a' b' h' s
    rw [ha s (Nat.lt_succ_self s), hb s (Nat.lt_succ_self s),
      R_congr e (s := s) (fun i hi => ha i (Nat.lt_succ_of_lt hi)) (fun i hi => hb i (Nat.lt_succ_of_lt hi))]

/-- One doubling: `A r, B r` describe the windows of length `min k (r + 1)`, so the combined pair describes those of
    length `min (2 k) (r + 1)`. -/
theorem double_step (a b : ℕ → EReal) (k : ℕ) (hk : 0 < k) (A B : ℕ → EReal) (N : ℕ) (hA : ∀ r < N, Fac (A r))
    (inv : ∀ r < N, ∀ h, B r + A r * h = G a b h (min k (r + 1)) r) (r : ℕ) (hr : r < N) (h : EReal) :
    (B r + A r * (if k ≤ r then B (r - k) else 0)) + (A r * (if k ≤ r then A (r - k) else 1)) * h
      = G a b h (min (2 * k) (r + 1)) r := by
  by_cases hkr : k ≤ r
  · rw [if_pos hkr, if_pos hkr, mul_assoc, add_assoc, ← (hA r hr).distrib, inv (r - k) (by omega), inv r hr,
      show min k (r + 1) = k from by omega, show min (2 * k) (r + 1) = k + min k (r - k + 1) from by omega, G_add]
  · rw [if_neg hkr, if_neg hkr, mul_zero, add_zero, mul_one, inv r hr,
      show min k (r + 1) = min (2 * k) (r + 1) from by omega]

end Cert.Lru
-- ==== Proof.Scan.lean ====
/-
  The kernel's scan over the 256 rows of a block: eight doubling steps, each a rotation of the rows with the rows before
  the step's distance replaced by the unit (0 for the summand, 1 for the factor). Read at a row it is the recurrence
  `h ← b + a * h` from the carried value.
-/
module

public import proofs.«01_k».proof.Proof.Recur
public import proofs.«01_k».proof.Proof.Gen.KernelIdeal.Value
public import Idealize.ShloMosaic.Lib.Tactic
public import Idealize.ShloMosaic.Lib.Claim
public import Idealize.ShloMosaic.Lib.Pipeline.ValueKit
public import Idealize.ShloMosaic.PureOps.Ideal
public import Idealize.ShloMosaic.Lib.IdealHost

@[expose] public section

set_option maxRecDepth 16384

noncomputable section

namespace Cert.KernelIdeal.Value

open Cert.KernelIdeal Cert.KernelIdeal.Gen Idealize.ShloMosaic Idealize.ShloMosaic.TcCoe Idealize.SL.Sem Cert.Lru

/-- A block of the kernel. -/
abbrev Blk := FVec Ideal S256x1024 .f32

/-- The row numbers. -/
abbrev rows : IVec S256x1024 32 := iota Kind.tc S256x1024 32 [0] iota_S256x1024_d0_w32

/-- The entry of row `r` and channel `n` of a block, 0 past its last row. -/
def col (x : Blk) (n : Fin 1024) (r : ℕ) : EReal := if h : r < 256 then x (ix2 ⟨r, h⟩ n) else 0

theorem col_at (x : Blk) (n : Fin 1024) (r : Fin 256) : col x n r.val = x (ix2 r n) := by
  unfold col; rw [dif_pos r.isLt]

/-- A rotation by `k` rows with the first `k` rows replaced by `c`. -/
theorem shift_at (x : Blk) (c : EReal) (k : BitVec 32) (hk : k.toNat < 256) (r : Fin 256) (n : Fin 1024) :
    (select (cmpi .sge rows (broadcast S256x1024 k)) (dynamicRotate 0 k none x rotates_S256x1024_d0) (broadcast S256x1024 c) : Blk) (ix2 r n)
      = if k.toNat ≤ r.val then col x n (r.val - k.toNat) else c := by
  pointwise
  have hr := r.isLt
  have e1 : (BitVec.ofNat 32 r.val).toInt = (r.val : ℤ) := by
    rw [BitVec.toInt_eq_toNat_of_lt (by rw [BitVec.toNat_ofNat]; omega), BitVec.toNat_ofNat, Nat.mod_eq_of_lt (by omega)]
  have e2 : k.toInt = (k.toNat : ℤ) := BitVec.toInt_eq_toNat_of_lt (by omega)
  by_cases h : k.toNat ≤ r.val
  · have hc : IntOp.cmpi CmpIPredicate.sge (BitVec.ofNat 32 r.val) k = 1#1 := by
      simp [IntOp.cmpi, BitVec.sle, e1, e2, h]
    rw [if_pos h, hc]
    unfold col
    rw [dif_pos (by omega)]
    show x _ = _
    congr 2
    apply Fin.ext
    show (r.val + 256 - k.toNat % 256) % 256 = r.val - k.toNat
    omega
  · have hc : IntOp.cmpi CmpIPredicate.sge (BitVec.ofNat 32 r.val) k = 0#1 := by
      simp [IntOp.cmpi, BitVec.sle, e1, e2, h]
    rw [if_neg h, hc]
    rfl

/-- One doubling step at distance `k`, on the summands. -/
abbrev stB (k : BitVec 32) (a b : Blk) : Blk :=
  addf b (mulf a (select (cmpi .sge rows (broadcast S256x1024 k)) (dynamicRotate 0 k none b rotates_S256x1024_d0)
    (broadcast S256x1024 (Scalar.ofBits .f32 0x00000000#32 : Ideal .f32))))

/-- One doubling step at distance `k`, on the factors. -/
abbrev stA (k : BitVec 32) (a : Blk) : Blk :=
  mulf a (select (cmpi .sge rows (broadcast S256x1024 k)) (dynamicRotate 0 k none a rotates_S256x1024_d0)
    (broadcast S256x1024 (Scalar.ofBits .f32 0x3F800000#32 : Ideal .f32)))

theorem stB_at (k : BitVec 32) (hk : k.toNat < 256) (a b : Blk) (n : Fin 1024) {r : ℕ} (hr : r < 256) :
    col (stB k a b) n r = col b n r + col a n r * (if k.toNat ≤ r then col b n (r - k.toNat) else 0) := by
  have e := shift_at b (Ideal.ofBits .f32 0x00000000#32) k hk ⟨r, hr⟩ n
  rw [← Ideal.ofBits_zero_f32, ← e, show col b n r = b (ix2 ⟨r, hr⟩ n) from col_at b n ⟨r, hr⟩, show col a n r = a (ix2 ⟨r, hr⟩ n) from col_at a n ⟨r, hr⟩,
    show col (stB k a b) n r = stB k a b (ix2 ⟨r, hr⟩ n) from col_at _ n ⟨r, hr⟩]
  rfl

theorem stA_at (k : BitVec 32) (hk : k.toNat < 256) (a : Blk) (n : Fin 1024) {r : ℕ} (hr : r < 256) :
    col (stA k a) n r = col a n r * (if k.toNat ≤ r then col a n (r - k.toNat) else 1) := by
  have e := shift_at a (Ideal.ofBits .f32 0x3F800000#32) k hk ⟨r, hr⟩ n
  rw [← Ideal.ofBits_one_f32, ← e, show col a n r = a (ix2 ⟨r, hr⟩ n) from col_at a n ⟨r, hr⟩,
    show col (stA k a) n r = stA k a (ix2 ⟨r, hr⟩ n) from col_at _ n ⟨r, hr⟩]
  rfl

/-- The pair `A, B` describes the windows of length `min k (r + 1)` of the recurrence of the channel with coefficients
    `a, b`, and its factors distribute. -/
def Inv (k : ℕ) (a b : ℕ → EReal) (A B : Blk) (n : Fin 1024) : Prop :=
  (∀ r < 256, Fac (col A n r)) ∧ ∀ r < 256, ∀ h, col B n r + col A n r * h = G a b h (min k (r + 1)) r

theorem inv_one (a b : Blk) (n : Fin 1024) (ha : ∀ r < 256, Fac (col a n r)) : Inv 1 (col a n) (col b n) a b n :=
  ⟨ha, fun r _ h => by rw [show min 1 (r + 1) = 1 from by omega]; rfl⟩

theorem inv_step {k : ℕ} (hk0 : 0 < k) {a b : ℕ → EReal} {A B : Blk} {n : Fin 1024} (w : BitVec 32) (hw : w.toNat = k) (hk : k < 256)
    (i : Inv k a b A B n) : Inv (2 * k) a b (stA w A) (stB w A B) n := by
  subst hw
  refine ⟨fun r hr => ?_, fun r hr h => ?_⟩
  · rw [stA_at w hk A n hr]
    refine (i.1 r hr).mul ?_
    split
    · exact i.1 _ (by omega)
    · exact Fac.one
  · rw [stA_at w hk A n hr, stB_at w hk A B n hr]
    exact double_step a b w.toNat hk0 (col A n) (col B n) 256 i.1 i.2 r hr h

/-- The block of the recurrence's values that the kernel computes from the block's coefficients and the carried row. -/
def scanOut (a b : Blk) (hc : Vec Ideal S1x1024 .f32) : Blk :=
  k0_pay1 (k0_pay42 rows (k0_pay32 a rows) (k0_pay33 rows) (k0_pay34 a b rows) (k0_pay35 a rows))
    (k0_pay43 rows (k0_pay32 a rows) (k0_pay33 rows) (k0_pay35 a rows)) (k0_pay44 rows)
    (k0_pay45 rows (k0_pay32 a rows) (k0_pay33 rows) (k0_pay34 a b rows) (k0_pay35 a rows)) hc

/-- The factors after `p` doublings, `p ≤ 7`. -/
def AA (a : Blk) : ℕ → Blk
  | 0 => a
  | p + 1 => stA (BitVec.ofNat 32 (2 ^ p)) (AA a p)

/-- The summands after `p` doublings. -/
def BB (a b : Blk) : ℕ → Blk
  | 0 => b
  | p + 1 => stB (BitVec.ofNat 32 (2 ^ p)) (AA a p) (BB a b p)

theorem inv_all (a b : Blk) (n : Fin 1024) (ha : ∀ r < 256, Fac (col a n r)) :
    ∀ p ≤ 8, Inv (2 ^ p) (col a n) (col b n) (AA a p) (BB a b p) n
  | 0, _ => inv_one a b n ha
  | p + 1, hp => by
    have h2 : 2 ^ p < 256 := by
      calc 2 ^ p < 2 ^ 8 := Nat.pow_lt_pow_right (by norm_num) (by omega)
        _ = 256 := by norm_num
    have := inv_step (pow_pos (by norm_num) p) (BitVec.ofNat 32 (2 ^ p)) (by rw [BitVec.toNat_ofNat, Nat.mod_eq_of_lt (by omega)]) h2 (inv_all a b n ha p (by omega))
    rw [pow_succ, mul_comm (2 ^ p) 2]
    exact this

theorem scanOut_eq (a b : Blk) (hc : Vec Ideal S1x1024 .f32) :
    scanOut a b hc = addf (BB a b 8) (mulf (AA a 8) (broadcastTo S256x1024 hc broadcasts_S1x1024_S256x1024)) := rfl

/-- THE SCAN AT A ROW: the recurrence from the carried value, `r + 1` steps. -/
theorem scanOut_at (a b : Blk) (hc : Vec Ideal S1x1024 .f32) (ha : ∀ n, ∀ r < 256, Fac (col a n r)) (r : Fin 256) (n : Fin 1024) :
    scanOut a b hc (ix2 r n) = R (col a n) (col b n) (hc (ix2 0 n)) (r.val + 1) := by
  have i := (inv_all a b n (ha n) 8 le_rfl).2 r.val r.isLt (hc (ix2 0 n))
  rw [show min (2 ^ 8) (r.val + 1) = r.val + 1 from by have := r.isLt; omega, G_full, col_at, col_at] at i
  rw [← i, scanOut_eq]
  pointwise

end Cert.KernelIdeal.Value
-- ==== Proof.Gate.lean ====
/-
  The scalar facts of the gates over the extended reals: the logarithm of the decay is not positive, so the decay
  `exp` of it is a factor in [0, 1]; and the kernel's `tanh(-L) * (exp L * exp L + 1)` is the reference's
  `-(expm1 (2 L))`.
-/
module

public import proofs.«01_k».proof.Proof.Recur
public import Idealize.ShloMosaic.PureOps.Ideal.Laws
public import Idealize.ShloMosaic.Lib.IdealHost

@[expose] public section

noncomputable section

namespace Cert.Lru

open Idealize.ShloMosaic

/-- The literal 2. -/
theorem two_val : Ideal.ofBits .f32 0x40000000#32 = ((2 : ℝ) : EReal) := by
  simp [Ideal.ofBits, Ideal.ieee]; norm_num; rw [← EReal.coe_mul]; norm_num

/-- The literal -8. -/
theorem neg8_val : Ideal.ofBits .f32 0xC1000000#32 = ((-8 : ℝ) : EReal) := by
  simp [Ideal.ofBits, Ideal.ieee]; norm_num; rw [← EReal.coe_mul]; norm_num

/-- `softplus x = max x 0 + log (1 + exp (-|x|))`. -/
def sp (x : EReal) : EReal := max x 0 + Ideal.log1p (Ideal.exp (-(max x (-x))))

/-- The logarithm of the decay of a channel with gate pre-activation `g` and parameter `l`. -/
def lg (g l : EReal) : EReal := Ideal.ofBits .f32 0xC1000000#32 * Ideal.logistic g * sp (-l)

theorem exp_nonneg (x : EReal) : 0 ≤ Ideal.exp x := by
  induction x with
  | bot => simp
  | top => simp
  | coe r => rw [Ideal.exp_coe]; exact_mod_cast (Real.exp_pos r).le

theorem log1p_nonneg {x : EReal} (hx : 0 ≤ x) : 0 ≤ Ideal.log1p x := by
  induction x with
  | bot => simp at hx
  | top => rw [Ideal.log1p, EReal.add_top_of_ne_bot (show (1 : EReal) ≠ ⊥ from EReal.coe_ne_bot 1)]; simp
  | coe r =>
    have hr : (0 : ℝ) ≤ r := by exact_mod_cast hx
    rw [Ideal.log1p, ← EReal.coe_one, ← EReal.coe_add, Ideal.log_coe, if_neg (by linarith)]
    exact_mod_cast Real.log_nonneg (by linarith)

theorem sp_nonneg (x : EReal) : 0 ≤ sp x := add_nonneg (le_max_right x 0) (log1p_nonneg (exp_nonneg _))

theorem logistic_nonneg (x : EReal) : 0 ≤ Ideal.logistic x := by
  induction x with
  | bot => simp
  | top => simp
  | coe r => rw [Ideal.logistic_coe]; exact_mod_cast (by positivity : (0 : ℝ) ≤ (1 + Real.exp (-r))⁻¹)

theorem lg_nonpos (g l : EReal) : lg g l ≤ 0 := by
  unfold lg
  rw [neg8_val, mul_assoc, show ((-8 : ℝ) : EReal) = -((8 : ℝ) : EReal) from by norm_num, EReal.neg_mul]
  have h8 : (0 : EReal) ≤ ((8 : ℝ) : EReal) := by exact_mod_cast (by norm_num : (0 : ℝ) ≤ 8)
  have : (0 : EReal) ≤ ((8 : ℝ) : EReal) * (Ideal.logistic g * sp (-l)) := mul_nonneg h8 (mul_nonneg (logistic_nonneg g) (sp_nonneg _))
  simpa using EReal.neg_le_neg_iff.mpr this

theorem exp_fac {x : EReal} (hx : x ≤ 0) : Fac (Ideal.exp x) := by
  refine ⟨exp_nonneg x, ?_⟩
  induction x with
  | bot => simp
  | top => simp at hx
  | coe r => rw [Ideal.exp_coe]; exact EReal.coe_ne_top _

/-- `tanh (-L) * (exp L * exp L + 1) = -(expm1 (2 L))` for every `L ≤ 0`. -/
theorem tanh_expm1 {x : EReal} (hx : x ≤ 0) :
    Ideal.tanh (-x) * (Ideal.exp x * Ideal.exp x + 1) = -(Ideal.expm1 (Ideal.ofBits .f32 0x40000000#32 * x)) := by
  rw [two_val]
  induction x with
  | bot =>
    rw [EReal.coe_mul_bot_of_pos (by norm_num : (0 : ℝ) < 2), Ideal.expm1, Ideal.exp_bot, EReal.neg_bot, Ideal.tanh_top, mul_zero,
      zero_add, one_mul, sub_eq_add_neg, zero_add, neg_neg]
  | top => simp at hx
  | coe r =>
    rw [← EReal.coe_mul, Ideal.expm1, Ideal.exp_coe, Ideal.exp_coe, ← EReal.coe_neg, Ideal.tanh_coe, ← EReal.coe_mul, ← EReal.coe_one,
      ← EReal.coe_add, ← EReal.coe_mul, ← EReal.coe_sub, ← EReal.coe_neg]
    congr 1
    rw [Real.tanh_eq_sinh_div_cosh, Real.sinh_eq, Real.cosh_eq, neg_neg]
    have e2 : Real.exp (2 * r) = Real.exp r * Real.exp r := by rw [two_mul, Real.exp_add]
    have em : Real.exp (-r) = (Real.exp r)⁻¹ := Real.exp_neg r
    have hp : 0 < Real.exp r := Real.exp_pos r
    rw [e2, em]
    field_simp
    ring

end Cert.Lru
-- ==== Proof.Block.lean ====
/-
  The kernel's block of decays and summands, read at a row and a channel: the convolution over the current and the three
  preceding rows, the two block-diagonal gate products, and the coefficients `a`, `b` of the recurrence.
-/
module

public import proofs.«01_k».proof.Proof.Scan
public import proofs.«01_k».proof.Proof.Gate

@[expose] public section

set_option maxRecDepth 16384

noncomputable section

namespace Cert.KernelIdeal.Value

open Cert.KernelIdeal Cert.KernelIdeal.Gen Idealize.ShloMosaic Idealize.ShloMosaic.TcCoe Idealize.SL.Sem Cert.Lru

theorem zero_sub' (x : EReal) : 0 - x = -x := by rw [sub_eq_add_neg, zero_add]

section
variable (x5 x6 x7 x8 : Vec Ideal S256x1024 .f32) (cw : Vec Ideal S4x1024 .f32) (cb : Vec Ideal S1x1024 .f32)
  (wa wi : Vec Ideal S4x256x256 .bf16) (ba bi lam : Vec Ideal S1x1024 .f32)

/-- The convolution without its last term. -/
abbrev xc3 : Blk := k0_pay11 cb x5 (View.ld cw (Rect.unit ![0, 0] ![1, 1024] inb_S4x1024_S1x1024_0_0)) x6
  (View.ld cw (Rect.unit ![1, 0] ![1, 1024] inb_S4x1024_S1x1024_1_0)) x7
  (View.ld cw (Rect.unit ![2, 0] ![1, 1024] inb_S4x1024_S1x1024_2_0))

/-- The last row of the convolution's weights. -/
abbrev cw3 : Vec Ideal S1x1024 .f32 := View.ld cw (Rect.unit ![3, 0] ![1, 1024] inb_S4x1024_S1x1024_3_0)

/-- The convolution. -/
def xcOf : Blk := k0_pay12 (xc3 x5 x6 x7 cw cb) x8 (cw3 cw)

/-- The decays. -/
def aOf : Blk := k0_pay25
  (k0_pay14 (xc3 x5 x6 x7 cw cb) x8 (cw3 cw) (View.ld wa (Rect.unit ![0, 0, 0] ![1, 256, 256] inb_S4x256x256_S1x256x256_0_0_0)))
  (k0_pay17 (xc3 x5 x6 x7 cw cb) x8 (cw3 cw) (View.ld wa (Rect.unit ![1, 0, 0] ![1, 256, 256] inb_S4x256x256_S1x256x256_1_0_0)))
  (k0_pay20 (xc3 x5 x6 x7 cw cb) x8 (cw3 cw) (View.ld wa (Rect.unit ![2, 0, 0] ![1, 256, 256] inb_S4x256x256_S1x256x256_2_0_0)))
  (k0_pay22 (xc3 x5 x6 x7 cw cb) x8 (cw3 cw)) (k0_pay23 (View.ld wa (Rect.unit ![3, 0, 0] ![1, 256, 256] inb_S4x256x256_S1x256x256_3_0_0)))
  (constant S256x256 FTy.f32 0#32) ba lam

/-- The summands. -/
def bOf : Blk := k0_pay26 (k0_pay12 (xc3 x5 x6 x7 cw cb) x8 (cw3 cw))
  (k0_pay14 (xc3 x5 x6 x7 cw cb) x8 (cw3 cw) (View.ld wa (Rect.unit ![0, 0, 0] ![1, 256, 256] inb_S4x256x256_S1x256x256_0_0_0)))
  (k0_pay15 (xc3 x5 x6 x7 cw cb) x8 (cw3 cw) (View.ld wi (Rect.unit ![0, 0, 0] ![1, 256, 256] inb_S4x256x256_S1x256x256_0_0_0)))
  (k0_pay17 (xc3 x5 x6 x7 cw cb) x8 (cw3 cw) (View.ld wa (Rect.unit ![1, 0, 0] ![1, 256, 256] inb_S4x256x256_S1x256x256_1_0_0)))
  (k0_pay18 (xc3 x5 x6 x7 cw cb) x8 (cw3 cw) (View.ld wi (Rect.unit ![1, 0, 0] ![1, 256, 256] inb_S4x256x256_S1x256x256_1_0_0)))
  (k0_pay20 (xc3 x5 x6 x7 cw cb) x8 (cw3 cw) (View.ld wa (Rect.unit ![2, 0, 0] ![1, 256, 256] inb_S4x256x256_S1x256x256_2_0_0)))
  (k0_pay21 (xc3 x5 x6 x7 cw cb) x8 (cw3 cw) (View.ld wi (Rect.unit ![2, 0, 0] ![1, 256, 256] inb_S4x256x256_S1x256x256_2_0_0)))
  (k0_pay22 (xc3 x5 x6 x7 cw cb) x8 (cw3 cw)) (k0_pay23 (View.ld wa (Rect.unit ![3, 0, 0] ![1, 256, 256] inb_S4x256x256_S1x256x256_3_0_0)))
  (constant S256x256 FTy.f32 0#32) (View.ld wi (Rect.unit ![3, 0, 0] ![1, 256, 256] inb_S4x256x256_S1x256x256_3_0_0)) ba bi lam

/-- The convolution at a row. -/
theorem xcOf_at (r : Fin 256) (n : Fin 1024) : xcOf x5 x6 x7 x8 cw cb (ix2 r n)
    = (((cb (ix2 0 n) + x5 (ix2 r n) * cw (ix2 0 n)) + x6 (ix2 r n) * cw (ix2 1 n)) + x7 (ix2 r n) * cw (ix2 2 n)) + x8 (ix2 r n) * cw (ix2 3 n) := by
  unfold xcOf
  pointwise [k0_pay11, k0_pay12, cw3]

/-- A gate's pre-activation: the block-diagonal product with the bias. -/
def pre (X : Blk) (W : Vec Ideal S4x256x256 .bf16) (bias : Vec Ideal S1x1024 .f32) (r : Fin 256) (n : Fin 1024) : EReal :=
  (∑ k : Fin 256, X (ix2 r ⟨n.val / 256 * 256 + k.val, by omega⟩) * W (ix3 ⟨n.val / 256, by omega⟩ k ⟨n.val % 256, by omega⟩)) + bias (ix2 0 n)

/-- The four products side by side, of one row, read at a channel: the product of the channel's quarter. -/
theorem quarters_row (X : Fin 1024 → EReal) (W : Vec Ideal S4x256x256 .bf16) (n : Fin 1024) :
    (if h : n.val < 256 then ∑ x : Fin 256, X ⟨x.val, by omega⟩ * W (ix3 0 x ⟨n.val, by omega⟩)
      else if h : n.val - 256 < 256 then ∑ x : Fin 256, X ⟨256 + x.val, by omega⟩ * W (ix3 1 x ⟨n.val - 256, by omega⟩)
      else if h : n.val - 256 - 256 < 256 then ∑ x : Fin 256, X ⟨512 + x.val, by omega⟩ * W (ix3 2 x ⟨n.val - 256 - 256, by omega⟩)
      else ∑ x : Fin 256, X ⟨768 + x.val, by omega⟩ * W (ix3 3 x ⟨n.val - 256 - 256 - 256, by omega⟩) : EReal)
    = ∑ k : Fin 256, X ⟨n.val / 256 * 256 + k.val, by omega⟩ * W (ix3 ⟨n.val / 256, by omega⟩ k ⟨n.val % 256, by omega⟩) := by
  have hn := n.isLt
  split_ifs with h1 h2 h3
  all_goals
    refine Finset.sum_congr rfl fun k _ => ?_
    congr 2
    · apply Fin.ext; show _ = n.val / 256 * 256 + k.val; dsimp only; omega
    · congr 1
      · apply Fin.ext; show _ = n.val / 256; first | (show 0 = _; omega) | (show 1 = _; omega) | (show 2 = _; omega) | (show 3 = _; omega)
      · apply Fin.ext; show _ = n.val % 256; dsimp only; omega

/-- The same for the rows of a block. -/
theorem quarters (X : Blk) (W : Vec Ideal S4x256x256 .bf16) (r : Fin 256) (n : Fin 1024) :
    (if h : n.val < 256 then ∑ x : Fin 256, X (ix2 r ⟨x.val, by omega⟩) * W (ix3 0 x ⟨n.val, by omega⟩)
      else if h : n.val - 256 < 256 then ∑ x : Fin 256, X (ix2 r ⟨256 + x.val, by omega⟩) * W (ix3 1 x ⟨n.val - 256, by omega⟩)
      else if h : n.val - 256 - 256 < 256 then ∑ x : Fin 256, X (ix2 r ⟨512 + x.val, by omega⟩) * W (ix3 2 x ⟨n.val - 256 - 256, by omega⟩)
      else ∑ x : Fin 256, X (ix2 r ⟨768 + x.val, by omega⟩) * W (ix3 3 x ⟨n.val - 256 - 256 - 256, by omega⟩) : EReal)
    = ∑ k : Fin 256, X (ix2 r ⟨n.val / 256 * 256 + k.val, by omega⟩) * W (ix3 ⟨n.val / 256, by omega⟩ k ⟨n.val % 256, by omega⟩) :=
  quarters_row (fun j => X (ix2 r j)) W n

/-- The decays at a row: `exp` of their logarithm. -/
theorem aOf_at (r : Fin 256) (n : Fin 1024) : aOf x5 x6 x7 x8 cw cb wa ba lam (ix2 r n)
    = Ideal.exp (lg (pre (xcOf x5 x6 x7 x8 cw cb) wa ba r n) (lam (ix2 0 n))) := by
  unfold aOf
  pointwise [k0_pay25, k0_pay24, k0_pay14, k0_pay17, k0_pay20, k0_pay13, k0_pay16, k0_pay19, k0_pay22, k0_pay23]
  rw [quarters (k0_pay12 (xc3 x5 x6 x7 cw cb) x8 (cw3 cw)) wa r n]
  unfold lg pre sp xcOf
  simp only [zero_sub', Ideal.absf_def]

/-- The summands at a row. -/
theorem bOf_at (r : Fin 256) (n : Fin 1024) : bOf x5 x6 x7 x8 cw cb wa wi ba bi lam (ix2 r n)
    = Ideal.sqrt (-(Ideal.expm1 (Ideal.ofBits .f32 0x40000000#32 * lg (pre (xcOf x5 x6 x7 x8 cw cb) wa ba r n) (lam (ix2 0 n)))))
      * (Ideal.logistic (pre (xcOf x5 x6 x7 x8 cw cb) wi bi r n) * xcOf x5 x6 x7 x8 cw cb (ix2 r n)) := by
  rw [← tanh_expm1 (lg_nonpos _ _)]
  unfold bOf
  pointwise [k0_pay26, k0_pay25, k0_pay24, k0_pay14, k0_pay17, k0_pay20, k0_pay13, k0_pay16, k0_pay19, k0_pay22, k0_pay23, k0_pay15, k0_pay18, k0_pay21]
  rw [quarters (k0_pay12 (xc3 x5 x6 x7 cw cb) x8 (cw3 cw)) wa r n, quarters (k0_pay12 (xc3 x5 x6 x7 cw cb) x8 (cw3 cw)) wi r n]
  unfold lg pre sp xcOf
  simp only [zero_sub', Ideal.absf_def]

theorem aOf_fac (n : Fin 1024) (r : ℕ) (hr : r < 256) : Fac (col (aOf x5 x6 x7 x8 cw cb wa ba lam) n r) := by
  rw [show col (aOf x5 x6 x7 x8 cw cb wa ba lam) n r = aOf x5 x6 x7 x8 cw cb wa ba lam (ix2 ⟨r, hr⟩ n) from col_at _ n ⟨r, hr⟩, aOf_at]
  exact exp_fac (lg_nonpos _ _)
end

end Cert.KernelIdeal.Value
-- ==== Proof.Blocks.lean ====
/-
  The blocks each point reads, as entries of the arguments.
-/
module

public import proofs.«01_k».proof.Proof.Block

@[expose] public section

set_option maxRecDepth 16384

noncomputable section

namespace Cert.KernelIdeal.Value

open Cert.KernelIdeal Cert.KernelIdeal.Gen Idealize.ShloMosaic Idealize.ShloMosaic.TcCoe Idealize.SL.Sem Cert.Lru

variable (m : (ℓ : Loc nD τ sig) → Buf (Elt Ideal) ℓ)

theorem idx : ∀ t : Fin cfg0.N, win0_0.index t = ![t.val / 32, t.val % 32, 0] ∧ win0_1.index t = ![t.val / 32, t.val % 32, 0]
    ∧ win0_2.index t = ![0, 0] ∧ win0_3.index t = ![0, 0] ∧ win0_4.index t = ![0, 0, 0] ∧ win0_5.index t = ![0, 0, 0]
    ∧ win0_6.index t = ![0, 0] ∧ win0_7.index t = ![0, 0] ∧ win0_8.index t = ![0, 0] ∧ t.val / 32 < 2 :=
  (by decide +kernel : ∀ t : Fin grid0.N, _)

/-- The block of the inputs. -/
theorem blk0 (c : Dev nD) (t : Fin cfg0.N) (r : Fin 256) (n : Fin 1024) : iblk m c 0 t (ix3 0 r n)
    = m ((c : Thread nD τ).loc main_arg0) (ix2 ⟨t.val / 32 * 8192 + (t.val % 32 * 256 + r.val), by have := (idx t).2.2.2.2.2.2.2.2.2; omega⟩ n) := by
  blk_point [iblk, V, idx t]

theorem blk1 (c : Dev nD) (t : Fin cfg0.N) (r : Fin 256) (n : Fin 1024) : iblk m c 1 t (ix3 0 r n)
    = m ((c : Thread nD τ).loc main_arg1) (ix2 ⟨t.val / 32 * 8192 + (t.val % 32 * 256 + r.val), by have := (idx t).2.2.2.2.2.2.2.2.2; omega⟩ n) := by
  blk_point [iblk, V, idx t]

theorem blk2 (c : Dev nD) (t : Fin cfg0.N) (k : Fin 4) (n : Fin 1024) : iblk m c 2 t (ix2 k n) = m ((c : Thread nD τ).loc main_arg2) (ix3 0 k n) := by
  blk_point [iblk, V, idx t]

theorem blk4 (c : Dev nD) (t : Fin cfg0.N) (q : Fin 4) (k l : Fin 256) : iblk m c 4 t (ix3 q k l) = m ((c : Thread nD τ).loc main_arg4) (ix4 0 q k l) := by
  blk_point [iblk, V, idx t]

theorem blk3 (c : Dev nD) (t : Fin cfg0.N) (n : Fin 1024) : iblk m c 3 t (ix2 0 n) = m ((c : Thread nD τ).loc main_arg3) (ix2 0 n) := by
  blk_point [iblk, V, idx t]

theorem blk5 (c : Dev nD) (t : Fin cfg0.N) (q : Fin 4) (k l : Fin 256) : iblk m c 5 t (ix3 q k l) = m ((c : Thread nD τ).loc main_arg6) (ix4 0 q k l) := by
  blk_point [iblk, V, idx t]

theorem blk8 (c : Dev nD) (t : Fin cfg0.N) (n : Fin 1024) : iblk m c 8 t (ix2 0 n) = m ((c : Thread nD τ).loc main_arg8) (ix2 0 n) := by
  blk_point [iblk, V, idx t]

theorem blk7 (c : Dev nD) (t : Fin cfg0.N) (n : Fin 1024) : iblk m c 7 t (ix2 0 n) = m ((c : Thread nD τ).loc main_arg7) (ix2 0 n) := by
  blk_point [iblk, V, idx t]

theorem blk6 (c : Dev nD) (t : Fin cfg0.N) (n : Fin 1024) : iblk m c 6 t (ix2 0 n) = m ((c : Thread nD τ).loc main_arg5) (ix2 0 n) := by
  blk_point [iblk, V, idx t]

end Cert.KernelIdeal.Value
-- ==== Proof.Point.lean ====
/-
  What one point of the kernel's grid leaves in its outputs and in the two buffers it carries to the next point.
-/
module

public import proofs.«01_k».proof.Proof.Block
public import Idealize.ShloMosaic.Lib.WritesUnit

@[expose] public section

set_option maxRecDepth 16384

noncomputable section

namespace Cert.KernelIdeal.Value

open Cert.KernelIdeal Cert.KernelIdeal.Gen Idealize.ShloMosaic Idealize.ShloMosaic.TcCoe Idealize.SL.Sem Cert.Lru

variable (m : (ℓ : Loc nD τ sig) → Buf (Elt Ideal) ℓ)

/-- What a point leaves: the three output blocks, the carried rows and the carried value. -/
abbrev St := Vec Ideal S1x256x1024 .bf16 × Vec Ideal S1x1x1024 .f32 × Vec Ideal S1x3x1024 .f32 × Vec Ideal S264x1024 .f32 × Vec Ideal S1x1024 .f32

/-- The rows `d, d + 1, …` of the eight carried rows followed by the block's rows. -/
def win (d : ℕ) (hd : d ≤ 8) (buf : Vec Ideal S264x1024 .f32) (x : Vec Ideal S1x256x1024 .f32) : Blk := fun j =>
  if h : (j 0).val + d < 8 then buf (ix2 ⟨(j 0).val + d, by omega⟩ (j 1))
  else x (ix3 0 ⟨(j 0).val + d - 8, by have : (j 0).val < 256 := (j 0).isLt; omega⟩ (j 1))

theorem pay3_at (v179 v183 : Blk) (v185 : IVec S256x1024 1) (v188 : Blk) (v195 : Vec Ideal S1x1024 .f32) (n : Fin 1024) :
    k0_pay3 v179 v183 v185 v188 v195 (ix2 0 n) = k0_pay1 v179 v183 v185 v188 v195 (ix2 255 n) := by
  pointwise [k0_pay3]

theorem pay2_at (v179 v183 : Blk) (v185 : IVec S256x1024 1) (v188 : Blk) (v195 : Vec Ideal S1x1024 .f32) (v199 : Vec Ideal S1x256x1024 .f32) (r : Fin 256) (n : Fin 1024) :
    k0_pay2 v179 v183 v185 v188 v195 v199 (ix3 0 r n) = k0_pay1 v179 v183 v185 v188 v195 (ix2 r n) * v199 (ix3 0 r n) := by
  pointwise [k0_pay2]

theorem pay5_at (v179 v183 : Blk) (v185 : IVec S256x1024 1) (v188 : Blk) (v195 : Vec Ideal S1x1024 .f32) (n : Fin 1024) :
    k0_pay5 v179 v183 v185 v188 v195 (ix3 0 0 n) = k0_pay1 v179 v183 v185 v188 v195 (ix2 255 n) := by
  pointwise [k0_pay5]

theorem pay10_at (x : Vec Ideal S1x256x1024 .f32) (r : Fin 256) (n : Fin 1024) : k0_pay10 x (ix2 r n) = x (ix3 0 r n) := by
  pointwise [k0_pay10, k0_pay9]

theorem pay4_at (x : Vec Ideal S1x256x1024 .f32) (r : Fin 8) (n : Fin 1024) :
    k0_pay4 (k0_pay9 x) (ix2 r n) = x (ix3 0 ⟨248 + r.val, by omega⟩ n) := by
  pointwise [k0_pay4, k0_pay9]

theorem pay6_at (x : Vec Ideal S1x256x1024 .f32) (r : Fin 3) (n : Fin 1024) :
    k0_pay6 (k0_pay9 x) (ix3 0 r n) = x (ix3 0 ⟨253 + r.val, by omega⟩ n) := by
  pointwise [k0_pay6, k0_pay9]

theorem pay7_at (r : Fin 8) (n : Fin 1024) : (k0_pay7 : FVec Ideal S8x1024 .f32) (ix2 r n) = 0 := by
  pointwise [k0_pay7]

theorem pay8_at (n : Fin 1024) : (k0_pay8 : FVec Ideal S1x1024 .f32) (ix2 0 n) = 0 := by
  pointwise [k0_pay8]

section Reads

variable (f : (View.whole cc0_scratch0).ty.Contents (Elt Ideal)) (x : Vec Ideal S1x256x1024 .f32) (L : List (View.Piece (Elt Ideal) S264x1024 .f32)) (n : Fin 1024)

/-- A row from the eighth on holds the block. -/
theorem hit (u : Fin 264) (hu : 8 ≤ u.val) :
    (View.whole cc0_scratch0).read (Elt Ideal) ((View.whole cc0_scratch0).writes (Elt Ideal) f
      (⟨Rect.unit ![8, 0] ![256, 1024] inb_S264x1024_S256x1024_8_0, k0_pay10 x⟩ :: L)) (ix2 u n) = x (ix3 0 ⟨u.val - 8, by omega⟩ n) := by
  rw [View.read_writes_cons_rows_of_mem (View.whole cc0_scratch0) f inb_S264x1024_S256x1024_8_0 (k0_pay10 x) L (ix2 u n)
    (ix2 ⟨u.val - 8, by omega⟩ n : S256x1024.Idx) rfl (by show u.val = 8 + (u.val - 8); omega) rfl]
  exact pay10_at x _ n

/-- A row below the eighth holds what was there. -/
theorem miss (u : Fin 264) (hu : u.val < 8) :
    (View.whole cc0_scratch0).read (Elt Ideal) ((View.whole cc0_scratch0).writes (Elt Ideal) f
      (⟨Rect.unit ![8, 0] ![256, 1024] inb_S264x1024_S256x1024_8_0, k0_pay10 x⟩ :: L)) (ix2 u n)
      = (View.whole cc0_scratch0).read (Elt Ideal) ((View.whole cc0_scratch0).writes (Elt Ideal) f L) (ix2 u n) :=
  View.read_writes_cons_rows_of_not_mem (View.whole cc0_scratch0) f inb_S264x1024_S256x1024_8_0 (k0_pay10 x) L (ix2 u n) rfl rfl (Or.inl hu)

/-- A row below the eighth under a store of eight rows. -/
theorem low (w : FVec Ideal S8x1024 .f32) (u : Fin 264) (hu : u.val < 8) :
    (View.whole cc0_scratch0).read (Elt Ideal) ((View.whole cc0_scratch0).writes (Elt Ideal) f
      (⟨Rect.unit ![0, 0] ![8, 1024] inb_S264x1024_S8x1024_0_0, w⟩ :: L)) (ix2 u n) = w (ix2 ⟨u.val, hu⟩ n) :=
  View.read_writes_cons_rows_of_mem (View.whole cc0_scratch0) f inb_S264x1024_S8x1024_0_0 w L (ix2 u n)
    (ix2 ⟨u.val, hu⟩ n : S8x1024.Idx) rfl (by show u.val = 0 + u.val; omega) rfl

end Reads

/-- Where a load of 256 rows from row `d` on reads. -/
theorem row_idx (d : ℕ) (hd : d ≤ 8) (inb : ∀ a, (![d, 0] : Fin 2 → ℕ) a + (![256, 1024] : Fin 2 → ℕ) a ≤ S264x1024.size a) (j : S256x1024.Idx) :
    (Rect.unit (s := S264x1024) ![d, 0] ![256, 1024] inb).idx j
      = (ix2 ⟨(j 0).val + d, by have : (j 0).val < 256 := (j 0).isLt; omega⟩ (j 1) : S264x1024.Idx) := by
  funext a
  refine Fin.cases ?_ (fun a => ?_) a
  · exact Fin.ext (show d + 1 * (j 0).val = (j 0).val + d by omega)
  · obtain rfl : a = 0 := Subsingleton.elim _ _
    exact Fin.ext (show 0 + 1 * (j 1).val = (j 1).val by omega)

/-- The block's rows and below them the carried rows, read from row `d` on. -/
theorem ldB (d : ℕ) (hd : d ≤ 8) (inb : ∀ a, (![d, 0] : Fin 2 → ℕ) a + (![256, 1024] : Fin 2 → ℕ) a ≤ S264x1024.size a)
    (buf : Vec Ideal S264x1024 .f32) (x : Vec Ideal S1x256x1024 .f32) :
    View.ld (View.read (Elt Ideal) (View.whole cc0_scratch0) ((View.whole cc0_scratch0).writes (Elt Ideal)
      ((Memref.isWhole_whole cc0_scratch0).unread buf) [⟨Rect.unit ![8, 0] ![256, 1024] inb_S264x1024_S256x1024_8_0, k0_pay10 x⟩]))
      (Rect.unit ![d, 0] ![256, 1024] inb) = win d hd buf x := by
  refine funext fun (j : S256x1024.Idx) => ?_
  have h0 : (j 0).val < 256 := (j 0).isLt
  refine (congrArg _ (row_idx d hd inb j)).trans ?_
  unfold win
  split
  next h =>
    rw [miss _ x [] (j 1) ⟨(j 0).val + d, by omega⟩ h]
    exact congrFun ((Memref.isWhole_whole cc0_scratch0).read_unread buf) _
  next h => exact hit _ x [] (j 1) ⟨(j 0).val + d, by omega⟩ (by show 8 ≤ (j 0).val + d; omega)

/-- The same at a first point of a row, where the carried rows are zero. -/
theorem ldA (d : ℕ) (hd : d ≤ 8) (inb : ∀ a, (![d, 0] : Fin 2 → ℕ) a + (![256, 1024] : Fin 2 → ℕ) a ≤ S264x1024.size a) (x : Vec Ideal S1x256x1024 .f32) :
    (View.whole cc0_scratch0).readCov (Val := Elt Ideal) [⟨Rect.unit ![8, 0] ![256, 1024] inb_S264x1024_S256x1024_8_0, k0_pay10 x⟩,
      ⟨Rect.unit ![0, 0] ![8, 1024] inb_S264x1024_S8x1024_0_0, k0_pay7 (F := Ideal)⟩]
      (Rect.unit ![d, 0] ![256, 1024] inb).toLoadRect = win d hd (fun _ => (0 : EReal)) x := by
  refine funext fun (j : S256x1024.Idx) => ?_
  have h0 : (j 0).val < 256 := (j 0).isLt
  refine (congrArg _ (row_idx d hd inb j)).trans ?_
  unfold win
  split
  next h =>
    rw [miss _ x _ (j 1) ⟨(j 0).val + d, by omega⟩ h, low _ [] (j 1) k0_pay7 ⟨(j 0).val + d, by omega⟩ h]
    exact pay7_at _ _
  next h => exact hit _ x _ (j 1) ⟨(j 0).val + d, by omega⟩ (by show 8 ≤ (j 0).val + d; omega)

/-- The block read back where it was stored. -/
theorem ld8 (buf : Vec Ideal S264x1024 .f32) (x : Vec Ideal S1x256x1024 .f32) :
    (View.whole cc0_scratch0).readCov (Val := Elt Ideal) [⟨Rect.unit ![8, 0] ![256, 1024] inb_S264x1024_S256x1024_8_0, k0_pay10 x⟩]
      (Rect.unit ![8, 0] ![256, 1024] inb_S264x1024_S256x1024_8_0).toLoadRect = win 8 le_rfl buf x := by
  refine funext fun (j : S256x1024.Idx) => ?_
  have h0 : (j 0).val < 256 := (j 0).isLt
  refine (congrArg _ (row_idx 8 le_rfl inb_S264x1024_S256x1024_8_0 j)).trans ?_
  unfold win
  rw [dif_neg (by omega)]
  exact hit _ x _ (j 1) ⟨(j 0).val + 8, by omega⟩ (by show 8 ≤ (j 0).val + 8; omega)

/-- The block's decay factors and increments from the carried rows `buf`. -/
def aPt (c : Dev nD) (t : Fin cfg0.N) (buf : Vec Ideal S264x1024 .f32) : Blk :=
  aOf (win 5 (by omega) buf (iblk m c 0 t)) (win 6 (by omega) buf (iblk m c 0 t)) (win 7 (by omega) buf (iblk m c 0 t))
    (win 8 le_rfl buf (iblk m c 0 t)) (iblk m c 2 t) (iblk m c 3 t) (iblk m c 4 t) (iblk m c 6 t) (iblk m c 8 t)
def bPt (c : Dev nD) (t : Fin cfg0.N) (buf : Vec Ideal S264x1024 .f32) : Blk :=
  bOf (win 5 (by omega) buf (iblk m c 0 t)) (win 6 (by omega) buf (iblk m c 0 t)) (win 7 (by omega) buf (iblk m c 0 t))
    (win 8 le_rfl buf (iblk m c 0 t)) (iblk m c 2 t) (iblk m c 3 t) (iblk m c 4 t) (iblk m c 5 t) (iblk m c 6 t) (iblk m c 7 t) (iblk m c 8 t)
/-- The block's states from the carried rows `buf` and the carried value `h`. -/
def sPt (c : Dev nD) (t : Fin cfg0.N) (buf : Vec Ideal S264x1024 .f32) (h : Vec Ideal S1x1024 .f32) : Blk :=
  scanOut (aPt m c t buf) (bPt m c t buf) h

/-- The block's states from four shifted copies of its rows. -/
def sOf (c : Dev nD) (t : Fin cfg0.N) (x5 x6 x7 x8 : Blk) (h : Vec Ideal S1x1024 .f32) : Blk :=
  scanOut (aOf x5 x6 x7 x8 (iblk m c 2 t) (iblk m c 3 t) (iblk m c 4 t) (iblk m c 6 t) (iblk m c 8 t))
    (bOf x5 x6 x7 x8 (iblk m c 2 t) (iblk m c 3 t) (iblk m c 4 t) (iblk m c 5 t) (iblk m c 6 t) (iblk m c 7 t) (iblk m c 8 t)) h

theorem sOf_eq (c : Dev nD) (t : Fin cfg0.N) {x5 x6 x7 x8 : Blk} {h' : Vec Ideal S1x1024 .f32} (buf : Vec Ideal S264x1024 .f32) (h : Vec Ideal S1x1024 .f32)
    (h5 : x5 = win 5 (by omega) buf (iblk m c 0 t)) (h6 : x6 = win 6 (by omega) buf (iblk m c 0 t))
    (h7 : x7 = win 7 (by omega) buf (iblk m c 0 t)) (h8 : x8 = win 8 le_rfl buf (iblk m c 0 t)) (hh : h' = h) (j : S256x1024.Idx) :
    sOf m c t x5 x6 x7 x8 h' j = sPt m c t buf h j := by
  subst h5 h6 h7 h8 hh
  rfl

theorem stB_h (c : Dev nD) (t : Fin cfg0.N) (acc : St) (h0 : ¬t.val % 32 = 0) (h1 : ¬t.val % 32 = 31) (n : Fin 1024) :
    (stAt0 m c t.val t.isLt acc).2.2.2.2 (ix2 0 n) = sPt m c t acc.2.2.2.1 acc.2.2.2.2 (ix2 255 n) := by
  rw [stAt0_B m c t acc h0 h1]
  dsimp only
  frame_out
  rw [pay3_at]
  exact (sOf_eq m c t acc.2.2.2.1 acc.2.2.2.2 (ldB 5 (by omega) inb_S264x1024_S256x1024_5_0 acc.2.2.2.1 (iblk m c 0 t))
    (ldB 6 (by omega) inb_S264x1024_S256x1024_6_0 acc.2.2.2.1 (iblk m c 0 t))
    (ldB 7 (by omega) inb_S264x1024_S256x1024_7_0 acc.2.2.2.1 (iblk m c 0 t)) (ld8 acc.2.2.2.1 (iblk m c 0 t)) ((Memref.isWhole_whole cc0_scratch1).read_unread acc.2.2.2.2) (ix2 255 n))

theorem stB_o (c : Dev nD) (t : Fin cfg0.N) (acc : St) (h0 : ¬t.val % 32 = 0) (h1 : ¬t.val % 32 = 31) (r : Fin 256) (n : Fin 1024) :
    (stAt0 m c t.val t.isLt acc).1 (ix3 0 r n) = sPt m c t acc.2.2.2.1 acc.2.2.2.2 (ix2 r n) * iblk m c 1 t (ix3 0 r n) := by
  rw [stAt0_B m c t acc h0 h1]
  dsimp only
  frame_out
  rw [pay2_at]
  exact (congrArg (· * _) (sOf_eq m c t acc.2.2.2.1 acc.2.2.2.2 (ldB 5 (by omega) inb_S264x1024_S256x1024_5_0 acc.2.2.2.1 (iblk m c 0 t))
    (ldB 6 (by omega) inb_S264x1024_S256x1024_6_0 acc.2.2.2.1 (iblk m c 0 t))
    (ldB 7 (by omega) inb_S264x1024_S256x1024_7_0 acc.2.2.2.1 (iblk m c 0 t)) (ld8 acc.2.2.2.1 (iblk m c 0 t)) ((Memref.isWhole_whole cc0_scratch1).read_unread acc.2.2.2.2) (ix2 r n)))

theorem stB_x (c : Dev nD) (t : Fin cfg0.N) (acc : St) (h0 : ¬t.val % 32 = 0) (h1 : ¬t.val % 32 = 31) (r : Fin 8) (n : Fin 1024) :
    (stAt0 m c t.val t.isLt acc).2.2.2.1 (ix2 ⟨r, by omega⟩ n) = iblk m c 0 t (ix3 0 ⟨248 + r.val, by omega⟩ n) := by
  rw [stAt0_B m c t acc h0 h1]
  dsimp only
  frame_out
  rw [← View.read_writes_junk_eq_canon (View.whole cc0_scratch0), low _ _ n _ ⟨r, by omega⟩ r.isLt]
  exact pay4_at _ r n

theorem stA_h (c : Dev nD) (t : Fin cfg0.N) (acc : St) (h0 : t.val % 32 = 0) (h1 : ¬t.val % 32 = 31) (n : Fin 1024) :
    (stAt0 m c t.val t.isLt acc).2.2.2.2 (ix2 0 n) = sPt m c t (fun _ => (0 : EReal)) (k0_pay8 (F := Ideal)) (ix2 255 n) := by
  rw [stAt0_A m c t acc h0 h1]
  dsimp only
  frame_out
  rw [pay3_at]
  exact (sOf_eq m c t (fun _ => (0 : EReal)) (k0_pay8 (F := Ideal)) (ldA 5 (by omega) inb_S264x1024_S256x1024_5_0 (iblk m c 0 t))
    (ldA 6 (by omega) inb_S264x1024_S256x1024_6_0 (iblk m c 0 t)) (ldA 7 (by omega) inb_S264x1024_S256x1024_7_0 (iblk m c 0 t))
    (ldA 8 le_rfl inb_S264x1024_S256x1024_8_0 (iblk m c 0 t)) rfl (ix2 255 n))

theorem stA_o (c : Dev nD) (t : Fin cfg0.N) (acc : St) (h0 : t.val % 32 = 0) (h1 : ¬t.val % 32 = 31) (r : Fin 256) (n : Fin 1024) :
    (stAt0 m c t.val t.isLt acc).1 (ix3 0 r n) = sPt m c t (fun _ => (0 : EReal)) (k0_pay8 (F := Ideal)) (ix2 r n) * iblk m c 1 t (ix3 0 r n) := by
  rw [stAt0_A m c t acc h0 h1]
  dsimp only
  frame_out
  rw [pay2_at]
  exact (congrArg (· * _) (sOf_eq m c t (fun _ => (0 : EReal)) (k0_pay8 (F := Ideal)) (ldA 5 (by omega) inb_S264x1024_S256x1024_5_0 (iblk m c 0 t))
    (ldA 6 (by omega) inb_S264x1024_S256x1024_6_0 (iblk m c 0 t)) (ldA 7 (by omega) inb_S264x1024_S256x1024_7_0 (iblk m c 0 t))
    (ldA 8 le_rfl inb_S264x1024_S256x1024_8_0 (iblk m c 0 t)) rfl (ix2 r n)))

theorem stA_x (c : Dev nD) (t : Fin cfg0.N) (acc : St) (h0 : t.val % 32 = 0) (h1 : ¬t.val % 32 = 31) (r : Fin 8) (n : Fin 1024) :
    (stAt0 m c t.val t.isLt acc).2.2.2.1 (ix2 ⟨r, by omega⟩ n) = iblk m c 0 t (ix3 0 ⟨248 + r.val, by omega⟩ n) := by
  rw [stAt0_A m c t acc h0 h1]
  dsimp only
  frame_out
  rw [← View.read_writes_junk_eq_canon (View.whole cc0_scratch0), low _ _ n _ ⟨r, by omega⟩ r.isLt]
  exact pay4_at _ r n

theorem stC_o (c : Dev nD) (t : Fin cfg0.N) (acc : St) (h0 : ¬t.val % 32 = 0) (h1 : t.val % 32 = 31) (r : Fin 256) (n : Fin 1024) :
    (stAt0 m c t.val t.isLt acc).1 (ix3 0 r n) = sPt m c t acc.2.2.2.1 acc.2.2.2.2 (ix2 r n) * iblk m c 1 t (ix3 0 r n) := by
  rw [stAt0_C m c t acc h0 h1]
  dsimp only
  frame_out
  rw [pay2_at]
  exact (congrArg (· * _) (sOf_eq m c t acc.2.2.2.1 acc.2.2.2.2 (ldB 5 (by omega) inb_S264x1024_S256x1024_5_0 acc.2.2.2.1 (iblk m c 0 t))
    (ldB 6 (by omega) inb_S264x1024_S256x1024_6_0 acc.2.2.2.1 (iblk m c 0 t))
    (ldB 7 (by omega) inb_S264x1024_S256x1024_7_0 acc.2.2.2.1 (iblk m c 0 t)) (ld8 acc.2.2.2.1 (iblk m c 0 t)) ((Memref.isWhole_whole cc0_scratch1).read_unread acc.2.2.2.2) (ix2 r n)))

theorem stC_last (c : Dev nD) (t : Fin cfg0.N) (acc : St) (h0 : ¬t.val % 32 = 0) (h1 : t.val % 32 = 31) (n : Fin 1024) :
    (stAt0 m c t.val t.isLt acc).2.1 (ix3 0 0 n) = sPt m c t acc.2.2.2.1 acc.2.2.2.2 (ix2 255 n) := by
  rw [stAt0_C m c t acc h0 h1]
  dsimp only
  frame_out
  rw [pay5_at]
  exact (sOf_eq m c t acc.2.2.2.1 acc.2.2.2.2 (ldB 5 (by omega) inb_S264x1024_S256x1024_5_0 acc.2.2.2.1 (iblk m c 0 t))
    (ldB 6 (by omega) inb_S264x1024_S256x1024_6_0 acc.2.2.2.1 (iblk m c 0 t))
    (ldB 7 (by omega) inb_S264x1024_S256x1024_7_0 acc.2.2.2.1 (iblk m c 0 t)) (ld8 acc.2.2.2.1 (iblk m c 0 t)) ((Memref.isWhole_whole cc0_scratch1).read_unread acc.2.2.2.2) (ix2 255 n))

theorem stC_tail (c : Dev nD) (t : Fin cfg0.N) (acc : St) (h0 : ¬t.val % 32 = 0) (h1 : t.val % 32 = 31) (r : Fin 3) (n : Fin 1024) :
    (stAt0 m c t.val t.isLt acc).2.2.1 (ix3 0 r n) = iblk m c 0 t (ix3 0 ⟨253 + r.val, by omega⟩ n) := by
  rw [stAt0_C m c t acc h0 h1]
  dsimp only
  frame_out
  exact pay6_at _ r n

end Cert.KernelIdeal.Value
-- ==== Proof.Spec.lean ====
/-
  The layer as plain functions of its arguments: the convolution over time, the two gates, the decay and the increment of each step, and the
  recurrence itself. Both programs are compared with these.
-/
module

public import proofs.«01_k».proof.Proof.Block

@[expose] public section

set_option maxRecDepth 16384

noncomputable section

namespace Cert.Lru

open Cert.KernelIdeal Idealize.ShloMosaic

/-- Batch `b`'s inputs with three zero rows put before them: row `u`, channel `n`. -/
def xS (lx : FVec Ideal S16384x1024 .f32) (b u : ℕ) (n : Fin 1024) : EReal :=
  if h : 3 ≤ u ∧ u < 8195 ∧ b < 2 then lx (ix2 ⟨b * 8192 + (u - 3), by omega⟩ n) else 0

section Step

variable (lx : FVec Ideal S16384x1024 .f32) (cw : FVec Ideal S1x4x1024 .f32) (cb : FVec Ideal S1x1024 .f32)
  (w wa : FVec Ideal S1x4x256x256 .f32) (bias ba : FVec Ideal S1x1024 .f32) (wi : FVec Ideal S1x4x256x256 .f32)
  (bi lam : FVec Ideal S1x1024 .f32) (b s : ℕ) (n : Fin 1024)

/-- The convolution at step `s`. -/
def xcS : EReal :=
  (((cb (ix2 0 n) + xS lx b s n * cw (ix3 0 0 n)) + xS lx b (s + 1) n * cw (ix3 0 1 n)) + xS lx b (s + 2) n * cw (ix3 0 2 n))
    + xS lx b (s + 3) n * cw (ix3 0 3 n)

/-- A gate before its nonlinearity: the channel's group of 256 against the group's matrix, and the bias. -/
def preS : EReal :=
  (∑ k : Fin 256, xcS lx cw cb b s ⟨n.val / 256 * 256 + k.val, by omega⟩ * w (ix4 0 ⟨n.val / 256, by omega⟩ k ⟨n.val % 256, by omega⟩))
    + bias (ix2 0 n)

/-- The decay of step `s`. -/
def aS : EReal := Ideal.exp (lg (preS lx cw cb wa ba b s n) (lam (ix2 0 n)))

/-- The increment of step `s`. -/
def bS : EReal :=
  Ideal.sqrt (-(Ideal.expm1 (Ideal.ofBits .f32 0x40000000#32 * lg (preS lx cw cb wa ba b s n) (lam (ix2 0 n)))))
    * (Ideal.logistic (preS lx cw cb wi bi b s n) * xcS lx cw cb b s n)

/-- The state after `s` steps. -/
def hS : EReal := R (fun s => aS lx cw cb wa ba lam b s n) (fun s => bS lx cw cb wa ba wi bi lam b s n) 0 s

end Step

end Cert.Lru
-- ==== Proof.Carry.lean ====
/-
  The state the kernel carries from point to point: after point `t` the carried value of a channel is the recurrence's state after the block's
  last step, and the carried rows are the block's last eight.
-/
module

public import proofs.«01_k».proof.Proof.Blocks
public import proofs.«01_k».proof.Proof.Point
public import proofs.«01_k».proof.Proof.Spec

@[expose] public section

set_option maxRecDepth 16384

noncomputable section

namespace Cert.KernelIdeal.Value

open Cert.KernelIdeal Cert.KernelIdeal.Gen Idealize.ShloMosaic Idealize.ShloMosaic.TcCoe Idealize.SL.Sem Cert.Lru

variable (m : (ℓ : Loc nD τ sig) → Buf (Elt Ideal) ℓ)

/-- The arguments. -/
abbrev A0 (c : Dev nD) : FVec Ideal S16384x1024 .f32 := m ((c : Thread nD τ).loc main_arg0)
abbrev A1 (c : Dev nD) : FVec Ideal S16384x1024 .f32 := m ((c : Thread nD τ).loc main_arg1)
abbrev A2 (c : Dev nD) : FVec Ideal S1x4x1024 .f32 := m ((c : Thread nD τ).loc main_arg2)
abbrev A3 (c : Dev nD) : FVec Ideal S1x1024 .f32 := m ((c : Thread nD τ).loc main_arg3)
abbrev A4 (c : Dev nD) : FVec Ideal S1x4x256x256 .f32 := m ((c : Thread nD τ).loc main_arg4)
abbrev A5 (c : Dev nD) : FVec Ideal S1x1024 .f32 := m ((c : Thread nD τ).loc main_arg5)
abbrev A6 (c : Dev nD) : FVec Ideal S1x4x256x256 .f32 := m ((c : Thread nD τ).loc main_arg6)
abbrev A7 (c : Dev nD) : FVec Ideal S1x1024 .f32 := m ((c : Thread nD τ).loc main_arg7)
abbrev A8 (c : Dev nD) : FVec Ideal S1x1024 .f32 := m ((c : Thread nD τ).loc main_arg8)

/-- The recurrence's state over the kernel's arguments. -/
def H (c : Dev nD) (b : ℕ) (n : Fin 1024) (s : ℕ) : EReal := hS (A0 m c) (A2 m c) (A3 m c) (A4 m c) (A5 m c) (A6 m c) (A7 m c) (A8 m c) b s n

section Step

variable (c : Dev nD) (t : Fin cfg0.N) (buf : Vec Ideal S264x1024 .f32)
  (hb : ∀ (u : Fin 8) (n : Fin 1024), 5 ≤ u.val → buf (ix2 ⟨u.val, by omega⟩ n) = xS (A0 m c) (t.val / 32) (t.val % 32 * 256 + (u.val - 5)) n)

include hb

/-- The shifted rows of a block are the padded inputs' rows. -/
theorem win_at (d : ℕ) (hd : d ≤ 8) (h5 : 5 ≤ d) (r : Fin 256) (n : Fin 1024) :
    win d hd buf (iblk m c 0 t) (ix2 r n) = xS (A0 m c) (t.val / 32) (t.val % 32 * 256 + r.val + (d - 5)) n := by
  have ht := (idx t).2.2.2.2.2.2.2.2.2
  unfold win
  split
  next h =>
    have h' : r.val + d < 8 := h
    refine (hb ⟨r.val + d, h'⟩ n (by show 5 ≤ r.val + d; omega)).trans ?_
    congr 1
    show _ + (r.val + d - 5) = _
    omega
  next h =>
    have h' : ¬ r.val + d < 8 := h
    refine (blk0 m c t ⟨r.val + d - 8, by omega⟩ n).trans ?_
    unfold xS
    rw [dif_pos (by omega)]
    refine congrArg (fun i => A0 m c (ix2 i n)) (Fin.ext ?_)
    show t.val / 32 * 8192 + (t.val % 32 * 256 + (r.val + d - 8)) = t.val / 32 * 8192 + (t.val % 32 * 256 + r.val + (d - 5) - 3)
    omega

theorem xc_at (r : Fin 256) (n : Fin 1024) :
    xcOf (win 5 (by omega) buf (iblk m c 0 t)) (win 6 (by omega) buf (iblk m c 0 t)) (win 7 (by omega) buf (iblk m c 0 t))
      (win 8 le_rfl buf (iblk m c 0 t)) (iblk m c 2 t) (iblk m c 3 t) (ix2 r n)
      = xcS (A0 m c) (A2 m c) (A3 m c) (t.val / 32) (t.val % 32 * 256 + r.val) n := by
  rw [xcOf_at, win_at m c t buf hb 5 (by omega) (by omega), win_at m c t buf hb 6 (by omega) (by omega),
    win_at m c t buf hb 7 (by omega) (by omega), win_at m c t buf hb 8 (by omega) (by omega), blk2, blk2, blk2, blk2, blk3]
  rfl

theorem preA_at (r : Fin 256) (n : Fin 1024) :
    pre (xcOf (win 5 (by omega) buf (iblk m c 0 t)) (win 6 (by omega) buf (iblk m c 0 t)) (win 7 (by omega) buf (iblk m c 0 t))
      (win 8 le_rfl buf (iblk m c 0 t)) (iblk m c 2 t) (iblk m c 3 t)) (iblk m c 4 t) (iblk m c 6 t) r n
      = preS (A0 m c) (A2 m c) (A3 m c) (A4 m c) (A5 m c) (t.val / 32) (t.val % 32 * 256 + r.val) n := by
  unfold pre preS
  rw [blk6]
  refine congrArg (· + _) (Finset.sum_congr rfl fun k _ => ?_)
  rw [xc_at m c t buf hb, blk4]

theorem preI_at (r : Fin 256) (n : Fin 1024) :
    pre (xcOf (win 5 (by omega) buf (iblk m c 0 t)) (win 6 (by omega) buf (iblk m c 0 t)) (win 7 (by omega) buf (iblk m c 0 t))
      (win 8 le_rfl buf (iblk m c 0 t)) (iblk m c 2 t) (iblk m c 3 t)) (iblk m c 5 t) (iblk m c 7 t) r n
      = preS (A0 m c) (A2 m c) (A3 m c) (A6 m c) (A7 m c) (t.val / 32) (t.val % 32 * 256 + r.val) n := by
  unfold pre preS
  rw [blk7]
  refine congrArg (· + _) (Finset.sum_congr rfl fun k _ => ?_)
  rw [xc_at m c t buf hb, blk5]

/-- The block's states continue the recurrence. -/
theorem sPt_at (h : Vec Ideal S1x1024 .f32) (hh : ∀ n : Fin 1024, h (ix2 0 n) = H m c (t.val / 32) n (t.val % 32 * 256)) (r : Fin 256) (n : Fin 1024) :
    sPt m c t buf h (ix2 r n) = H m c (t.val / 32) n (t.val % 32 * 256 + (r.val + 1)) := by
  unfold sPt
  rw [scanOut_at (aPt m c t buf) _ _ (fun n r hr => aOf_fac _ _ _ _ _ _ _ _ _ n r hr), hh]
  unfold H hS
  refine Eq.trans ?_ (R_add _ _ _ _ _)
  refine R_congr rfl (fun i hi => ?_) (fun i hi => ?_)
  · rw [col_at _ _ ⟨i, by omega⟩]
    unfold aPt aS
    rw [aOf_at, preA_at m c t buf hb, blk8]
  · rw [col_at _ _ ⟨i, by omega⟩]
    unfold bPt bS
    rw [bOf_at, preA_at m c t buf hb, preI_at m c t buf hb, xc_at m c t buf hb, blk8]

end Step

/-- What a point hands to the next one: its last eight rows and the state after its last step. -/
def Carried (c : Dev nD) (t : Fin cfg0.N) (st : St) : Prop :=
  (∀ (u : Fin 8) (n : Fin 1024), st.2.2.2.1 (ix2 ⟨u, by omega⟩ n) = iblk m c 0 t (ix3 0 ⟨248 + u.val, by omega⟩ n))
    ∧ ∀ n : Fin 1024, st.2.2.2.2 (ix2 0 n) = H m c (t.val / 32) n (t.val % 32 * 256 + 256)

/-- The rows carried into a point that is not the first of its batch. -/
theorem rows_in (c : Dev nD) (t t' : Fin cfg0.N) (ht : t.val = t'.val + 1) (h0 : ¬ t.val % 32 = 0) (st : St) (hI : Carried m c t' st)
    (u : Fin 8) (n : Fin 1024) (hu : 5 ≤ u.val) :
    st.2.2.2.1 (ix2 ⟨u.val, by omega⟩ n) = xS (A0 m c) (t.val / 32) (t.val % 32 * 256 + (u.val - 5)) n := by
  have h2 := (idx t).2.2.2.2.2.2.2.2.2
  have h2' := (idx t').2.2.2.2.2.2.2.2.2
  rw [hI.1, blk0]
  unfold xS
  rw [dif_pos (by omega)]
  refine congrArg (fun i => A0 m c (ix2 i n)) (Fin.ext ?_)
  show t'.val / 32 * 8192 + (t'.val % 32 * 256 + (248 + u.val)) = t.val / 32 * 8192 + (t.val % 32 * 256 + (u.val - 5) - 3)
  omega

/-- The state carried into such a point. -/
theorem state_in (c : Dev nD) (t t' : Fin cfg0.N) (ht : t.val = t'.val + 1) (h0 : ¬ t.val % 32 = 0) (st : St) (hI : Carried m c t' st) (n : Fin 1024) :
    st.2.2.2.2 (ix2 0 n) = H m c (t.val / 32) n (t.val % 32 * 256) := by
  rw [hI.2, show t'.val / 32 = t.val / 32 by omega, show t'.val % 32 * 256 + 256 = t.val % 32 * 256 by omega]

/-- At a batch's first point the rows before it are zero. -/
theorem rows_first (c : Dev nD) (t : Fin cfg0.N) (h0 : t.val % 32 = 0) (u : Fin 8) (n : Fin 1024) (hu : 5 ≤ u.val) :
    (fun _ => (0 : EReal) : Vec Ideal S264x1024 .f32) (ix2 ⟨u.val, by omega⟩ n) = xS (A0 m c) (t.val / 32) (t.val % 32 * 256 + (u.val - 5)) n := by
  unfold xS
  rw [dif_neg (by omega)]

theorem state_first (c : Dev nD) (t : Fin cfg0.N) (h0 : t.val % 32 = 0) (n : Fin 1024) :
    (k0_pay8 (F := Ideal)) (ix2 0 n) = H m c (t.val / 32) n (t.val % 32 * 256) := by
  rw [pay8_at, h0]
  rfl

/-- The states of a point's block, whatever the point. -/
theorem car_A (c : Dev nD) (t : Fin cfg0.N) (acc : St) (h0 : t.val % 32 = 0) : Carried m c t (stAt0 m c t.val t.isLt acc) :=
  ⟨fun u n => stA_x m c t acc h0 (by omega) u n, fun n => (stA_h m c t acc h0 (by omega) n).trans
    (sPt_at m c t _ (rows_first m c t h0) _ (state_first m c t h0) 255 n)⟩

theorem car_B (c : Dev nD) (t t' : Fin cfg0.N) (ht : t.val = t'.val + 1) (acc : St) (h0 : ¬ t.val % 32 = 0) (h1 : ¬ t.val % 32 = 31)
    (hI : Carried m c t' acc) : Carried m c t (stAt0 m c t.val t.isLt acc) :=
  ⟨fun u n => stB_x m c t acc h0 h1 u n, fun n => (stB_h m c t acc h0 h1 n).trans
    (sPt_at m c t _ (rows_in m c t t' ht h0 acc hI) _ (state_in m c t t' ht h0 acc hI) 255 n)⟩

/-- After every point that is not a batch's last, the carried state is the recurrence's. -/
theorem car_all (c : Dev nD) : ∀ (n : ℕ) (hn : n < cfg0.N), ¬ n % 32 = 31 → Carried m c ⟨n, hn⟩ (outsAt0 m c n hn)
  | 0, hn, _ => by
    rw [outsAt0_zero]
    exact car_A m c ⟨0, hn⟩ _ rfl
  | n + 1, hn, h1 => by
    rw [outsAt0_succ]
    by_cases h0 : (n + 1) % 32 = 0
    · exact car_A m c ⟨n + 1, hn⟩ _ h0
    · exact car_B m c ⟨n + 1, hn⟩ ⟨n, Nat.lt_of_succ_lt hn⟩ rfl _ h0 h1 (car_all c n _ (by omega))

/-- The output block after a point: the states times the gate. -/
theorem out_all (c : Dev nD) (t : Fin cfg0.N) (r : Fin 256) (n : Fin 1024) : (outsAt0 m c t.val t.isLt).1 (ix3 0 r n)
    = H m c (t.val / 32) n (t.val % 32 * 256 + (r.val + 1)) * iblk m c 1 t (ix3 0 r n) := by
  obtain ⟨k, hk⟩ := t
  by_cases h0 : k % 32 = 0
  · have hA : ∀ acc : St, (stAt0 m c k hk acc).1 (ix3 0 r n)
        = H m c (k / 32) n (k % 32 * 256 + (r.val + 1)) * iblk m c 1 ⟨k, hk⟩ (ix3 0 r n) := fun acc => by
      rw [stA_o m c ⟨k, hk⟩ acc h0 (by show ¬ k % 32 = 31; omega), sPt_at m c ⟨k, hk⟩ _ (rows_first m c ⟨k, hk⟩ h0) _ (state_first m c ⟨k, hk⟩ h0)]
    cases k with
    | zero => rw [outsAt0_zero]; exact hA _
    | succ k => rw [outsAt0_succ]; exact hA _
  · cases k with
    | zero => exact absurd rfl h0
    | succ k =>
      rw [outsAt0_succ]
      have hI := car_all m c k (Nat.lt_of_succ_lt hk) (by omega)
      have hr := rows_in m c ⟨k + 1, hk⟩ ⟨k, Nat.lt_of_succ_lt hk⟩ rfl h0 _ hI
      have hs := state_in m c ⟨k + 1, hk⟩ ⟨k, Nat.lt_of_succ_lt hk⟩ rfl h0 _ hI
      by_cases h1 : (k + 1) % 32 = 31
      · rw [stC_o m c ⟨k + 1, hk⟩ _ h0 h1, sPt_at m c ⟨k + 1, hk⟩ _ hr _ hs]
      · rw [stB_o m c ⟨k + 1, hk⟩ _ h0 h1, sPt_at m c ⟨k + 1, hk⟩ _ hr _ hs]

/-- The last state of a batch. -/
theorem last_all (c : Dev nD) (t : Fin cfg0.N) (h1 : t.val % 32 = 31) (n : Fin 1024) : (outsAt0 m c t.val t.isLt).2.1 (ix3 0 0 n)
    = H m c (t.val / 32) n 8192 := by
  obtain ⟨k, hk⟩ := t
  cases k with
  | zero => exact absurd h1 (by show ¬ 0 % 32 = 31; omega)
  | succ k =>
    have h1' : (k + 1) % 32 = 31 := h1
    have h0 : ¬ (k + 1) % 32 = 0 := by omega
    rw [outsAt0_succ]
    have hI := car_all m c k (Nat.lt_of_succ_lt hk) (by omega)
    have hr := rows_in m c ⟨k + 1, hk⟩ ⟨k, Nat.lt_of_succ_lt hk⟩ rfl h0 _ hI
    have hs := state_in m c ⟨k + 1, hk⟩ ⟨k, Nat.lt_of_succ_lt hk⟩ rfl h0 _ hI
    rw [stC_last m c ⟨k + 1, hk⟩ _ h0 h1, sPt_at m c ⟨k + 1, hk⟩ _ hr _ hs]
    show H m c ((k + 1) / 32) n ((k + 1) % 32 * 256 + (255 + 1)) = H m c ((k + 1) / 32) n 8192
    rw [h1']

/-- The last three rows of a batch. -/
theorem tail_all (c : Dev nD) (t : Fin cfg0.N) (h1 : t.val % 32 = 31) (r : Fin 3) (n : Fin 1024) : (outsAt0 m c t.val t.isLt).2.2.1 (ix3 0 r n)
    = iblk m c 0 t (ix3 0 ⟨253 + r.val, by omega⟩ n) := by
  obtain ⟨k, hk⟩ := t
  cases k with
  | zero => exact absurd h1 (by show ¬ 0 % 32 = 31; omega)
  | succ k =>
    have h1' : (k + 1) % 32 = 31 := h1
    have h0 : ¬ (k + 1) % 32 = 0 := by omega
    rw [outsAt0_succ]
    exact stC_tail m c ⟨k + 1, hk⟩ _ h0 h1 r n

end Cert.KernelIdeal.Value
-- ==== Proof.Final.lean ====
/-
  The kernel's three results, entry by entry.
-/
module

public import proofs.«01_k».proof.Proof.Carry

@[expose] public section

set_option maxRecDepth 16384

noncomputable section

namespace Cert.KernelIdeal.Value

open Cert.KernelIdeal Cert.KernelIdeal.Gen Idealize.ShloMosaic Idealize.ShloMosaic.TcCoe Idealize.SL.Sem Cert.Lru

variable (m : (ℓ : Loc nD τ sig) → Buf (Elt Ideal) ℓ)

/-- The fold of the points is what the outputs and carried buffers hold after each. -/
theorem sweep (c : Dev nD) (t : Fin cfg0.N) (n : ℕ) (hn : n = t.val) (h) :
    Pipeline.accAt (fun n h => stAt0 m c n h junk0) (stAt0 m c) 0 n h = outsAt0 m c t.val t.isLt := by
  subst hn
  exact (outsAt0_sweep m c _ t.isLt).symm

/-- The first result: the states times the gate. -/
theorem G9_at (c : Dev nD) (b : Fin 2) (s : Fin 8192) (n : Fin 1024) :
    G9 m c (ix3 b s n) = H m c b.val n (s.val + 1) * A1 m c (ix2 ⟨b.val * 8192 + s.val, by omega⟩ n) := by
  have hN : cfg0.N = 64 := N_0
  have hp : pt9Of (ix3 b s n : S2x8192x1024.Idx) = 32 * b.val + s.val / 256 := by
    show 32 * (b.val / 1 - 0) + 1 * (s.val / 256 - 0) + 1 * (n.val / 1024 - 0) = _
    omega
  have hl : loc9Of (ix3 b s n : S2x8192x1024.Idx) = ix3 0 ⟨s.val % 256, by omega⟩ n := by
    funext a
    match a with
    | ⟨0, _⟩ => exact Fin.ext (show b.val % 1 = 0 by omega)
    | ⟨1, _⟩ => rfl
    | ⟨2, _⟩ => exact Fin.ext (show n.val % 1024 = n.val by omega)
  unfold G9
  rw [dif_pos (by omega), sweep m c ⟨32 * b.val + s.val / 256, by omega⟩ _ hp, hl]
  refine (out_all m c _ _ n).trans ?_
  rw [blk1]
  have e1 : H m c ((32 * b.val + s.val / 256) / 32) n ((32 * b.val + s.val / 256) % 32 * 256 + (s.val % 256 + 1)) = H m c b.val n (s.val + 1) := by
    rw [show (32 * b.val + s.val / 256) / 32 = b.val by omega, show (32 * b.val + s.val / 256) % 32 * 256 + (s.val % 256 + 1) = s.val + 1 by omega]
  exact congrArg₂ (· * ·) e1 (congrArg (fun i => A1 m c (ix2 i n)) (Fin.ext (by
    show (32 * b.val + s.val / 256) / 32 * 8192 + ((32 * b.val + s.val / 256) % 32 * 256 + s.val % 256) = b.val * 8192 + s.val
    omega)))

/-- The second result: the last state. -/
theorem G10_at (c : Dev nD) (b : Fin 2) (n : Fin 1024) : G10 m c (ix3 b 0 n) = H m c b.val n 8192 := by
  have hN : cfg0.N = 64 := N_0
  have hp : pt10Of (ix3 b 0 n : S2x1x1024.Idx) = 32 * b.val + 31 := by
    show 32 * (1 * (b.val / 1 - 0) + 1 * (0 / 1 - 0) + 1 * (n.val / 1024 - 0)) + 31 = _
    omega
  have hl : loc10Of (ix3 b 0 n : S2x1x1024.Idx) = ix3 0 0 n := by
    funext a
    match a with
    | ⟨0, _⟩ => exact Fin.ext (show b.val % 1 = 0 by omega)
    | ⟨1, _⟩ => rfl
    | ⟨2, _⟩ => exact Fin.ext (show n.val % 1024 = n.val by omega)
  unfold G10
  rw [dif_pos (by omega), sweep m c ⟨32 * b.val + 31, by omega⟩ _ hp, hl]
  refine (last_all m c _ (by show (32 * b.val + 31) % 32 = 31; omega) n).trans ?_
  show H m c ((32 * b.val + 31) / 32) n 8192 = _
  rw [show (32 * b.val + 31) / 32 = b.val by omega]

/-- The third result: the last three inputs. -/
theorem G11_at (c : Dev nD) (b : Fin 2) (r : Fin 3) (n : Fin 1024) :
    G11 m c (ix3 b r n) = A0 m c (ix2 ⟨b.val * 8192 + (8189 + r.val), by omega⟩ n) := by
  have hN : cfg0.N = 64 := N_0
  have hp : pt11Of (ix3 b r n : S2x3x1024.Idx) = 32 * b.val + 31 := by
    show 32 * (1 * (b.val / 1 - 0) + 1 * (r.val / 3 - 0) + 1 * (n.val / 1024 - 0)) + 31 = _
    omega
  have hl : loc11Of (ix3 b r n : S2x3x1024.Idx) = ix3 0 r n := by
    funext a
    match a with
    | ⟨0, _⟩ => exact Fin.ext (show b.val % 1 = 0 by omega)
    | ⟨1, _⟩ => exact Fin.ext (show r.val % 3 = r.val by omega)
    | ⟨2, _⟩ => exact Fin.ext (show n.val % 1024 = n.val by omega)
  unfold G11
  rw [dif_pos (by omega), sweep m c ⟨32 * b.val + 31, by omega⟩ _ hp, hl]
  refine (tail_all m c _ (by show (32 * b.val + 31) % 32 = 31; omega) r n).trans ?_
  rw [blk0]
  refine congrArg (fun i => A0 m c (ix2 i n)) (Fin.ext ?_)
  show (32 * b.val + 31) / 32 * 8192 + ((32 * b.val + 31) % 32 * 256 + (253 + r.val)) = b.val * 8192 + (8189 + r.val)
  omega

end Cert.KernelIdeal.Value
-- ==== Proof.RefEntry.lean ====
/-
  What the reference computes before its scan: the decays and the increments of all steps.
-/
module

public import proofs.«01_k».proof.Proof.Gen.ReferenceIdeal.Run
public import proofs.«01_k».proof.Proof.Spec

@[expose] public section

set_option maxRecDepth 16384

noncomputable section

namespace Cert.ReferenceIdeal.Value

open Cert.ReferenceIdeal Cert.ReferenceIdeal.Gen Idealize.ShloMosaic Idealize.ShloMosaic.TcCoe Idealize.SL.Sem Idealize.ShloMosaic.StableHlo

variable (m : (ℓ : Loc nD τ sig) → Buf (Elt Ideal) ℓ) (c : Dev nD)

/-- The arguments. -/
abbrev B0 : FVec Ideal S16384x1024 .f32 := m ((c : Thread nD τ).loc main_arg0)
abbrev B1 : FVec Ideal S16384x1024 .f32 := m ((c : Thread nD τ).loc main_arg1)
abbrev B2 : FVec Ideal S1x4x1024 .f32 := m ((c : Thread nD τ).loc main_arg2)
abbrev B3 : FVec Ideal S1x1024 .f32 := m ((c : Thread nD τ).loc main_arg3)
abbrev B4 : FVec Ideal S1x4x256x256 .f32 := m ((c : Thread nD τ).loc main_arg4)
abbrev B5 : FVec Ideal S1x1024 .f32 := m ((c : Thread nD τ).loc main_arg5)
abbrev B6 : FVec Ideal S1x4x256x256 .f32 := m ((c : Thread nD τ).loc main_arg6)
abbrev B7 : FVec Ideal S1x1024 .f32 := m ((c : Thread nD τ).loc main_arg7)
abbrev B8 : FVec Ideal S1x1024 .f32 := m ((c : Thread nD τ).loc main_arg8)

theorem u4 : upto hostOps0 (launchContents m c) 6 (Proc.tc.devRef main_v4)
    = (broadcastInDim S2x3x1024 ![] bcast_S_S2x3x1024 (constant S_ .f32 0x00000000#32) : FVec Ideal S2x3x1024 .f32) := by
  after_reads_simp

theorem u0 : upto hostOps0 (launchContents m c) 6 (Proc.tc.devRef main_v0)
    = (shapeCast S2x8192x1024 (B0 m c) shapeCasts_S16384x1024_S2x8192x1024 : FVec Ideal S2x8192x1024 .f32) := by
  after_reads_simp
  rfl

/-- The inputs with three zero rows before each batch. -/
def XP (x : FVec Ideal S16384x1024 .f32) : FVec Ideal S2x8195x1024 .f32 :=
  concatenate S2x8195x1024 1 [⟨S2x3x1024, (broadcastInDim S2x3x1024 ![] bcast_S_S2x3x1024 (constant S_ .f32 0x00000000#32) : FVec Ideal S2x3x1024 .f32)⟩,
    ⟨S2x8192x1024, (shapeCast S2x8192x1024 x shapeCasts_S16384x1024_S2x8192x1024 : FVec Ideal S2x8192x1024 .f32)⟩] concatenates_S2x3x1024_S2x8192x1024_S2x8195x1024_d1

set_option maxHeartbeats 2000000 in
theorem e5 : entryContents preI m c main_v5 = XP (B0 m c) := by
  simp only [entryContents, afterL_cons, afterL_nil]
  after_reads_simp
  rw [u0, u4]
  rfl

/-- The convolution. -/
def XC (xp : FVec Ideal S2x8195x1024 .f32) (cw : FVec Ideal S1x4x1024 .f32) (cb : FVec Ideal S1x1024 .f32) : FVec Ideal S2x8192x1024 .f32 :=
  addf (addf (addf (addf (broadcastInDim S2x8192x1024 ![0, 1, 2] bcast_S1x1x1024_S2x8192x1024_0_1_2 (broadcastInDim S1x1x1024 ![2] bcast_S1024_S1x1x1024_2 (shapeCast S1024 cb shapeCasts_S1x1024_S1024)))
    (mulf (extractStridedSlice S2x8192x1024 ![0, 0, 0] xp slices_S2x8195x1024_S2x8192x1024_0_0_0)
      (broadcastInDim S2x8192x1024 ![0, 1, 2] bcast_S1x1x1024_S2x8192x1024_0_1_2 (broadcastInDim S1x1x1024 ![2] bcast_S1024_S1x1x1024_2
        (shapeCast S1024 (extractStridedSlice S1x1024 ![0, 0] (shapeCast S4x1024 cw shapeCasts_S1x4x1024_S4x1024) slices_S4x1024_S1x1024_0_0) shapeCasts_S1x1024_S1024)))))
    (mulf (extractStridedSlice S2x8192x1024 ![0, 1, 0] xp slices_S2x8195x1024_S2x8192x1024_0_1_0)
      (broadcastInDim S2x8192x1024 ![0, 1, 2] bcast_S1x1x1024_S2x8192x1024_0_1_2 (broadcastInDim S1x1x1024 ![2] bcast_S1024_S1x1x1024_2
        (shapeCast S1024 (extractStridedSlice S1x1024 ![1, 0] (shapeCast S4x1024 cw shapeCasts_S1x4x1024_S4x1024) slices_S4x1024_S1x1024_1_0) shapeCasts_S1x1024_S1024)))))
    (mulf (extractStridedSlice S2x8192x1024 ![0, 2, 0] xp slices_S2x8195x1024_S2x8192x1024_0_2_0)
      (broadcastInDim S2x8192x1024 ![0, 1, 2] bcast_S1x1x1024_S2x8192x1024_0_1_2 (broadcastInDim S1x1x1024 ![2] bcast_S1024_S1x1x1024_2
        (shapeCast S1024 (extractStridedSlice S1x1024 ![2, 0] (shapeCast S4x1024 cw shapeCasts_S1x4x1024_S4x1024) slices_S4x1024_S1x1024_2_0) shapeCasts_S1x1024_S1024)))))
    (mulf (extractStridedSlice S2x8192x1024 ![0, 3, 0] xp slices_S2x8195x1024_S2x8192x1024_0_3_0)
      (broadcastInDim S2x8192x1024 ![0, 1, 2] bcast_S1x1x1024_S2x8192x1024_0_1_2 (broadcastInDim S1x1x1024 ![2] bcast_S1024_S1x1x1024_2
        (shapeCast S1024 (extractStridedSlice S1x1024 ![3, 0] (shapeCast S4x1024 cw shapeCasts_S1x4x1024_S4x1024) slices_S4x1024_S1x1024_3_0) shapeCasts_S1x1024_S1024))))

/-- A gate before its nonlinearity. -/
def PRE (xc : FVec Ideal S2x8192x1024 .f32) (w : FVec Ideal S1x4x256x256 .f32) (bias : FVec Ideal S1x1024 .f32) : FVec Ideal S2x8192x1024 .f32 :=
  addf (shapeCast S2x8192x1024 (transpose S2x8192x4x256 [2, 3, 0, 1]
      (Host.dotGeneral dot_S4x256x256_S2x8192x4x256_S4x256x2x8192_1_3_2_01_0_2 none (shapeCast S4x256x256 w shapeCasts_S1x4x256x256_S4x256x256)
        (shapeCast S2x8192x4x256 xc shapeCasts_S2x8192x1024_S2x8192x4x256) : FVec Ideal S4x256x2x8192 .f32)
      transposes_S4x256x2x8192_S2x8192x4x256_2_3_0_1) shapeCasts_S2x8192x4x256_S2x8192x1024)
    (broadcastInDim S2x8192x1024 ![0, 1, 2] bcast_S1x1x1024_S2x8192x1024_0_1_2 (broadcastInDim S1x1x1024 ![2] bcast_S1024_S1x1x1024_2 (shapeCast S1024 bias shapeCasts_S1x1024_S1024)))

/-- The logistic function. -/
def SIG (g : FVec Ideal S2x8192x1024 .f32) : FVec Ideal S2x8192x1024 .f32 :=
  Host.divf (broadcastInDim S2x8192x1024 ![] bcast_S_S2x8192x1024 (constant S_ .f32 0x3F800000#32)) (addf (broadcastInDim S2x8192x1024 ![] bcast_S_S2x8192x1024 (constant S_ .f32 0x3F800000#32)) (Host.exp (Host.negf g)))

/-- The softplus function. -/
def SP (l : FVec Ideal S1024 .f32) : FVec Ideal S1024 .f32 :=
  select (cmpf .une (subf l (broadcastInDim S1024 ![] bcast_S_S1024 (constant S_ .f32 0x00000000#32))) (subf l (broadcastInDim S1024 ![] bcast_S_S1024 (constant S_ .f32 0x00000000#32))))
    (addf l (broadcastInDim S1024 ![] bcast_S_S1024 (constant S_ .f32 0x00000000#32)))
    (addf (maximumf l (broadcastInDim S1024 ![] bcast_S_S1024 (constant S_ .f32 0x00000000#32)))
      (Host.log1p (Host.exp (Host.negf (Host.absf (subf l (broadcastInDim S1024 ![] bcast_S_S1024 (constant S_ .f32 0x00000000#32))))))))

/-- The logarithm of the decay. -/
def LA (g : FVec Ideal S2x8192x1024 .f32) (lam : FVec Ideal S1x1024 .f32) : FVec Ideal S2x8192x1024 .f32 :=
  mulf (mulf (broadcastInDim S2x8192x1024 ![] bcast_S_S2x8192x1024 (constant S_ .f32 0xC1000000#32)) (SIG g))
    (broadcastInDim S2x8192x1024 ![0, 1, 2] bcast_S1x1x1024_S2x8192x1024_0_1_2 (broadcastInDim S1x1x1024 ![2] bcast_S1024_S1x1x1024_2 (SP (Host.negf (shapeCast S1024 lam shapeCasts_S1x1024_S1024)))))

/-- The decays and the increments, time first. -/
def AV (g : FVec Ideal S2x8192x1024 .f32) (lam : FVec Ideal S1x1024 .f32) : FVec Ideal S8192x2x1024 .f32 :=
  transpose S8192x2x1024 [1, 0, 2] (Host.exp (LA g lam)) transposes_S2x8192x1024_S8192x2x1024_1_0_2
def BV (xc g i : FVec Ideal S2x8192x1024 .f32) (lam : FVec Ideal S1x1024 .f32) : FVec Ideal S8192x2x1024 .f32 :=
  transpose S8192x2x1024 [1, 0, 2] (mulf (Host.sqrt (Host.negf (Host.expm1 (mulf (broadcastInDim S2x8192x1024 ![] bcast_S_S2x8192x1024 (constant S_ .f32 0x40000000#32)) (LA g lam)))))
    (mulf (SIG i) xc)) transposes_S2x8192x1024_S8192x2x1024_1_0_2

set_option maxHeartbeats 2000000 in
theorem e36 : entryContents preI m c main_v36 = XC (XP (B0 m c)) (B2 m c) (B3 m c) := by
  simp only [entryContents, afterL_cons, afterL_nil]
  after_reads_simp
  rw [u0, u4]
  rfl

set_option maxHeartbeats 2000000 in
theorem eA : entryContents preI m c main_v85_0 = AV (PRE (XC (XP (B0 m c)) (B2 m c) (B3 m c)) (B4 m c) (B5 m c)) (B8 m c) := by
  simp only [entryContents, afterL_cons, afterL_nil]
  after_reads_simp
  rw [u0, u4]
  rfl

set_option maxHeartbeats 2000000 in
theorem eB : entryContents preI m c main_v85_1 = BV (XC (XP (B0 m c)) (B2 m c) (B3 m c)) (PRE (XC (XP (B0 m c)) (B2 m c) (B3 m c)) (B4 m c) (B5 m c))
    (PRE (XC (XP (B0 m c)) (B2 m c) (B3 m c)) (B6 m c) (B7 m c)) (B8 m c) := by
  simp only [entryContents, afterL_cons, afterL_nil]
  after_reads_simp
  rw [u0, u4]
  rfl

end Cert.ReferenceIdeal.Value
-- ==== Proof.RefTerm.lean ====
/-
  The reference's decays and increments, entry by entry.
-/
module

public import proofs.«01_k».proof.Proof.RefEntry

@[expose] public section

set_option maxRecDepth 16384

noncomputable section

namespace Cert.ReferenceIdeal.Value

open Cert.ReferenceIdeal Cert.ReferenceIdeal.Gen Idealize.ShloMosaic Idealize.ShloMosaic.TcCoe Idealize.SL.Sem Cert.Lru

/-- The padded input, entry by entry. -/
theorem XP_at (x : FVec Ideal S16384x1024 .f32) (b : Fin 2) (u : Fin 8195) (n : Fin 1024) : XP x (ix3 b u n) = xS x b.val u.val n := by
  pointwise [XP]
  unfold xS
  split
  · rw [dif_neg (by omega)]
  · rw [dif_pos (by omega)]

/-- The convolution, entry by entry. -/
theorem XC_at (x : FVec Ideal S16384x1024 .f32) (cw : FVec Ideal S1x4x1024 .f32) (cb : FVec Ideal S1x1024 .f32) (b : Fin 2) (s : Fin 8192) (n : Fin 1024) :
    XC (XP x) cw cb (ix3 b s n) = xcS x cw cb b.val s.val n := by
  have h : ∀ xp : FVec Ideal S2x8195x1024 .f32, XC xp cw cb (ix3 b s n) =
      (((cb (ix2 0 n) + xp (ix3 b ⟨s.val, by omega⟩ n) * cw (ix3 0 0 n)) + xp (ix3 b ⟨1 + s.val, by omega⟩ n) * cw (ix3 0 1 n))
        + xp (ix3 b ⟨2 + s.val, by omega⟩ n) * cw (ix3 0 2 n)) + xp (ix3 b ⟨3 + s.val, by omega⟩ n) * cw (ix3 0 3 n) := fun xp => by
    pointwise [XC]
  rw [h, XP_at, XP_at, XP_at, XP_at]
  unfold xcS
  rw [Nat.add_comm s.val 1, Nat.add_comm s.val 2, Nat.add_comm s.val 3]

/-- A gate's affine part, entry by entry: a group of 256 channels against the group's matrix, and the bias. -/
theorem PRE_at (xc : FVec Ideal S2x8192x1024 .f32) (w : FVec Ideal S1x4x256x256 .f32) (bias : FVec Ideal S1x1024 .f32) (b : Fin 2) (s : Fin 8192) (n : Fin 1024) :
    PRE xc w bias (ix3 b s n) = (∑ k : Fin 256, xc (ix3 b s ⟨n.val / 256 * 256 + k.val, by omega⟩) * w (ix4 0 ⟨n.val / 256, by omega⟩ k ⟨n.val % 256, by omega⟩))
    + bias (ix2 0 n) := by
  pointwise [PRE]
  exact congrArg (· + _) (Finset.sum_congr rfl fun k _ => mul_comm _ _)

/-- The sigmoid, entry by entry. -/
theorem SIG_at (g : FVec Ideal S2x8192x1024 .f32) (b : Fin 2) (s : Fin 8192) (n : Fin 1024) : SIG g (ix3 b s n) = Ideal.logistic (g (ix3 b s n)) := by
  pointwise [SIG]
  rfl

/-- The softplus, entry by entry. -/
theorem SP_at (l : FVec Ideal S1024 .f32) (n : Fin 1024) : SP l (ix1 n) = sp (l (ix1 n)) := by
  pointwise [SP, sp]
  rw [if_neg (by simp)]
  rfl

/-- The logarithm of the decay, entry by entry. -/
theorem LA_at (g : FVec Ideal S2x8192x1024 .f32) (lam : FVec Ideal S1x1024 .f32) (b : Fin 2) (s : Fin 8192) (n : Fin 1024) :
    LA g lam (ix3 b s n) = lg (g (ix3 b s n)) (lam (ix2 0 n)) := by
  have h : LA g lam (ix3 b s n) = Ideal.ofBits .f32 0xC1000000#32 * SIG g (ix3 b s n) * SP (Host.negf (shapeCast S1024 lam shapeCasts_S1x1024_S1024)) (ix1 n) := by
    pointwise [LA]
  rw [h, SIG_at, SP_at]
  unfold lg
  congr 2
  pointwise []

/-- The decay, entry by entry, in the order time, batch, channel. -/
theorem AV_at (g : FVec Ideal S2x8192x1024 .f32) (lam : FVec Ideal S1x1024 .f32) (b : Fin 2) (s : Fin 8192) (n : Fin 1024) :
    AV g lam (ix3 s b n) = Ideal.exp (lg (g (ix3 b s n)) (lam (ix2 0 n))) := by
  rw [← LA_at]
  pointwise [AV]

/-- The increment, entry by entry, in the order time, batch, channel. -/
theorem BV_at (xc g i : FVec Ideal S2x8192x1024 .f32) (lam : FVec Ideal S1x1024 .f32) (b : Fin 2) (s : Fin 8192) (n : Fin 1024) :
    BV xc g i lam (ix3 s b n) = Ideal.sqrt (-(Ideal.expm1 (Ideal.ofBits .f32 0x40000000#32 * lg (g (ix3 b s n)) (lam (ix2 0 n)))))
      * (Ideal.logistic (i (ix3 b s n)) * xc (ix3 b s n)) := by
  rw [← LA_at, ← SIG_at]
  pointwise [BV]
  rfl

/-- The reference's decay at step `s` of batch `b`. -/
theorem AV_eq (x : FVec Ideal S16384x1024 .f32) (cw : FVec Ideal S1x4x1024 .f32) (cb : FVec Ideal S1x1024 .f32) (wa : FVec Ideal S1x4x256x256 .f32)
    (ba lam : FVec Ideal S1x1024 .f32) (b : Fin 2) (s : Fin 8192) (n : Fin 1024) :
    AV (PRE (XC (XP x) cw cb) wa ba) lam (ix3 s b n) = aS x cw cb wa ba lam b.val s.val n := by
  rw [AV_at, PRE_at]
  unfold aS preS
  simp only [XC_at]

/-- The reference's increment at step `s` of batch `b`. -/
theorem BV_eq (x : FVec Ideal S16384x1024 .f32) (cw : FVec Ideal S1x4x1024 .f32) (cb : FVec Ideal S1x1024 .f32) (wa : FVec Ideal S1x4x256x256 .f32)
    (ba : FVec Ideal S1x1024 .f32) (wi : FVec Ideal S1x4x256x256 .f32) (bi lam : FVec Ideal S1x1024 .f32) (b : Fin 2) (s : Fin 8192) (n : Fin 1024) :
    BV (XC (XP x) cw cb) (PRE (XC (XP x) cw cb) wa ba) (PRE (XC (XP x) cw cb) wi bi) lam (ix3 s b n) = bS x cw cb wa ba wi bi lam b.val s.val n := by
  rw [BV_at, PRE_at, PRE_at]
  unfold bS preS
  simp only [XC_at]

end Cert.ReferenceIdeal.Value
-- ==== Proof.RefLoop.lean ====
/-
  The reference's loop over time: what its carried buffers hold after each step.
-/
module

public import proofs.«01_k».proof.Proof.RefTerm
public import Idealize.ShloMosaic.Lib.WordCmp

@[expose] public section

set_option maxRecDepth 16384

noncomputable section

namespace Cert.ReferenceIdeal.Value

open Idealize.ShloMosaic.WordCmp Cert.ReferenceIdeal Cert.ReferenceIdeal.Gen Idealize.ShloMosaic Idealize.ShloMosaic.TcCoe Idealize.ShloMosaic.StableHlo Idealize.SL.Sem Cert.Lru

/-- The starts of step `k`'s slice, read off the loop's counter. -/
theorem start_at (w : (⟨S_, .i32⟩ : BufTy).Contents (Elt Ideal)) (k : ℕ) (hk : k < 8192) (hw : w = fun _ => Scf.iv 0#32 1#32 k) (a : Fin 3) :
    (((![w, constantI S_ 32 0#32, constantI S_ 32 0#32] : Fin 3 → (⟨S_, .i32⟩ : BufTy).Contents (Elt Ideal))) a (Shape.Idx.first h_S_)).toInt
      = ((![k, 0, 0] : Fin 3 → ℕ) a : ℤ) := by
  subst hw
  match a with
  | ⟨0, _⟩ =>
    show (Scf.iv 0#32 1#32 k).toInt = (k : ℤ)
    have e : Scf.iv 0#32 1#32 k = BitVec.ofNat 32 k := by simp [Scf.iv]
    rw [e, BitVec.toInt_eq_toNat_of_lt] <;> rw [BitVec.toNat_ofNat, Nat.mod_eq_of_lt] <;> omega
  | ⟨1, _⟩ => rfl
  | ⟨2, _⟩ => rfl

/-- Row `k` fits in an array of 8192 rows. -/
theorem row_fits (k : ℕ) (hk : k < 8192) : S8192x2x1024.Slices (![k, 0, 0] : Fin 3 → ℕ) S1x2x1024 :=
  ⟨rfl, fun a => by
    match a with
    | ⟨0, _⟩ => show k + 1 ≤ 8192; omega
    | ⟨1, _⟩ => show 0 + 2 ≤ 2; omega
    | ⟨2, _⟩ => show 0 + 1024 ≤ 1024; omega⟩

/-- One step of the recurrence, entry by entry. -/
theorem trip_at (a d : FVec Ideal S8192x2x1024 .f32) (h : FVec Ideal S2x1024 .f32) (k : Fin 8192) (w : (⟨S_, .i32⟩ : BufTy).Contents (Elt Ideal))
    (hw : w = fun _ => Scf.iv 0#32 1#32 k.val) (b : Fin 2) (n : Fin 1024) :
    addf (mulf (shapeCast S2x1024 (Host.dynamicSlice S1x2x1024 a
      (fun j => (((![w, constantI S_ 32 0#32, constantI S_ 32 0#32] : Fin 3 → (⟨S_, .i32⟩ : BufTy).Contents (Elt Ideal))) j (Shape.Idx.first h_S_)).toInt)
      sliceFits_S8192x2x1024_S1x2x1024) shapeCasts_S1x2x1024_S2x1024) h)
      (shapeCast S2x1024 (Host.dynamicSlice S1x2x1024 d
      (fun j => (((![w, constantI S_ 32 0#32, constantI S_ 32 0#32] : Fin 3 → (⟨S_, .i32⟩ : BufTy).Contents (Elt Ideal))) j (Shape.Idx.first h_S_)).toInt)
      sliceFits_S8192x2x1024_S1x2x1024) shapeCasts_S1x2x1024_S2x1024) (ix2 b n) = a (ix3 k b n) * h (ix2 b n) + d (ix3 k b n) := by
  rw [dynamicSlice_eq_extract S1x2x1024 a _ _ ![k.val, 0, 0] (row_fits k.val k.isLt) (start_at _ k.val k.isLt hw),
    dynamicSlice_eq_extract S1x2x1024 d _ _ ![k.val, 0, 0] (row_fits k.val k.isLt) (start_at _ k.val k.isLt hw)]
  pointwise []

/-- Writing row `k`. -/
theorem put_row (x : FVec Ideal S8192x2x1024 .f32) (u : FVec Ideal S2x1024 .f32) (k : Fin 8192) (w : (⟨S_, .i32⟩ : BufTy).Contents (Elt Ideal))
    (hw : w = fun _ => Scf.iv 0#32 1#32 k.val) (s : Fin 8192) (b : Fin 2) (n : Fin 1024) :
    Host.dynamicUpdateSlice x (broadcastInDim S1x2x1024 ![1, 2] bcast_S2x1024_S1x2x1024_1_2 u)
      (fun j => (((![w, constantI S_ 32 0#32, constantI S_ 32 0#32] : Fin 3 → (⟨S_, .i32⟩ : BufTy).Contents (Elt Ideal))) j (Shape.Idx.first h_S_)).toInt)
      updateFits_S8192x2x1024_S1x2x1024 (ix3 s b n) = if s = k then u (ix2 b n) else x (ix3 s b n) := by
  rw [dynamicUpdateSlice_eq_update _ _ _ _ ![k.val, 0, 0] (row_fits k.val k.isLt) (start_at w k.val k.isLt hw)]
  pointwise []
  by_cases e : s = k
  · subst e
    rw [if_pos rfl, dif_pos (by omega)]
  · rw [if_neg e, dif_neg (fun h => e (Fin.ext (by omega)))]

section Steps

variable (m : (ℓ : Loc nD τ sig) → Buf (Elt Ideal) ℓ) (c : Dev nD)

/-- The decays, the increments, the state and the states so far, before step `k`. -/
abbrev aK (k : ℕ) : FVec Ideal S8192x2x1024 .f32 := atK m k c (Proc.devRef .tc main_v85_0)
abbrev bK (k : ℕ) : FVec Ideal S8192x2x1024 .f32 := atK m k c (Proc.devRef .tc main_v85_1)
abbrev hK (k : ℕ) : FVec Ideal S2x1024 .f32 := atK m k c (Proc.devRef .tc main_v85_3)
abbrev hsK (k : ℕ) : FVec Ideal S8192x2x1024 .f32 := atK m k c (Proc.devRef .tc main_v85_4)

/-- The loop changes neither the decays nor the increments. -/
theorem aK_eq : ∀ k, aK m c k = aK m c 0
  | 0 => rfl
  | k + 1 => ((trip_agree (atK m k c) main_v85_0 (by decide)).trans (STEP_main_v85_0 _)).trans (aK_eq k)
theorem bK_eq : ∀ k, bK m c k = bK m c 0
  | 0 => rfl
  | k + 1 => ((trip_agree (atK m k c) main_v85_1 (by decide)).trans (STEP_main_v85_1 _)).trans (bK_eq k)

/-- The state after one more step. -/
theorem hK_succ (k : Fin 8192) (b : Fin 2) (n : Fin 1024) :
    hK m c (k.val + 1) (ix2 b n) = aK m c 0 (ix3 k b n) * hK m c k.val (ix2 b n) + bK m c 0 (ix3 k b n) := by
  have e := congrFun ((trip_agree (atK m k.val c) main_v85_3 (by decide)).trans (STEP_main_v85_3 _)) (ix2 b n)
  rw [← aK_eq m c k.val, ← bK_eq m c k.val]
  exact e.trans (trip_at _ _ _ k _ (atK_ctr m c k.val) b n)

/-- The states so far after one more step. -/
theorem hsK_succ (k s : Fin 8192) (b : Fin 2) (n : Fin 1024) :
    hsK m c (k.val + 1) (ix3 s b n) = if s = k then hK m c (k.val + 1) (ix2 b n) else hsK m c k.val (ix3 s b n) := by
  have e := congrFun ((trip_agree (atK m k.val c) main_v85_4 (by decide)).trans (STEP_main_v85_4 _)) (ix3 s b n)
  have e3 : hK m c (k.val + 1) = res_main_while0b_v94 (atK m k.val c) := (trip_agree (atK m k.val c) main_v85_3 (by decide)).trans (STEP_main_v85_3 _)
  rw [e3]
  exact e.trans (put_row _ _ k _ (atK_ctr m c k.val) s b n)

/-- The state starts at zero. -/
theorem hK_zero (b : Fin 2) (n : Fin 1024) : hK m c 0 (ix2 b n) = 0 := by
  have e : entryContents preI m c main_v85_3 = (broadcastInDim S2x1024 ![] bcast_S_S2x1024 (constant S_ .f32 0x00000000#32) : FVec Ideal S2x1024 .f32) := by
    simp only [entryContents, afterL_cons, afterL_nil]
    after_reads_simp
    rfl
  refine (congrFun e (ix2 b n)).trans ?_
  pointwise []

/-- Before step `k` the state is the recurrence's after `k` steps. -/
theorem hK_eq (b : Fin 2) (n : Fin 1024) : ∀ k, k ≤ 8192 → hK m c k (ix2 b n)
    = hS (B0 m c) (B2 m c) (B3 m c) (B4 m c) (B5 m c) (B6 m c) (B7 m c) (B8 m c) b.val k n
  | 0, _ => hK_zero m c b n
  | k + 1, hk => by
    have ea : aK m c 0 (ix3 ⟨k, hk⟩ b n) = _ := (congrFun (eA m c) (ix3 ⟨k, hk⟩ b n)).trans (AV_eq ..)
    have eb : bK m c 0 (ix3 ⟨k, hk⟩ b n) = _ := (congrFun (eB m c) (ix3 ⟨k, hk⟩ b n)).trans (BV_eq ..)
    refine (hK_succ m c ⟨k, hk⟩ b n).trans ?_
    rw [ea, eb, hK_eq b n k (by omega)]
    unfold hS
    rw [R, add_comm]

/-- Before step `k` the states so far are the recurrence's. -/
theorem hsK_eq (b : Fin 2) (n : Fin 1024) (s : Fin 8192) : ∀ k, k ≤ 8192 → s.val < k → hsK m c k (ix3 s b n)
    = hS (B0 m c) (B2 m c) (B3 m c) (B4 m c) (B5 m c) (B6 m c) (B7 m c) (B8 m c) b.val (s.val + 1) n
  | 0, _, h => absurd h (Nat.not_lt_zero _)
  | k + 1, hk, h => by
    refine (hsK_succ m c ⟨k, hk⟩ s b n).trans ?_
    by_cases e : s = ⟨k, hk⟩
    · rw [if_pos e]
      subst e
      exact hK_eq m c b n (k + 1) hk
    · rw [if_neg e]
      exact hsK_eq b n s k (by omega) (by have : s.val ≠ k := fun h => e (Fin.ext h); omega)

/-- What the loop leaves alone. -/
theorem keep_loop (r : Ref sig .tc) (h0 : r ∉ while0Ops0_W ++ while0Ops0_1_W ++ while0Ops0_2_W ++ while0Ops0_3_W ++ while0Ops0_4_W ++ condOps_W) :
    ∀ k, atK m k c (Proc.devRef .tc r) = entryContents preI m c (Proc.devRef .tc r)
  | 0 => rfl
  | k + 1 => by
    simp only [List.mem_append, not_or] at h0
    obtain ⟨⟨⟨⟨⟨h0, h1⟩, h2⟩, h3⟩, h4⟩, h5⟩ := h0
    rw [show atK m (k + 1) c = afterL bodyI (after condOps (atK m k c)) from rfl]
    simp only [afterL_cons, afterL_nil]
    rw [after_of_writes_sub _ _ while0Ops0_4_writes h4, after_of_writes_sub _ _ while0Ops0_3_writes h3, after_of_writes_sub _ _ while0Ops0_2_writes h2,
      after_of_writes_sub _ _ while0Ops0_1_writes h1, after_of_writes_sub _ _ while0Ops0_writes h0, after_of_writes_sub _ _ condOps_writes h5]
    exact keep_loop r (by simp only [List.mem_append, not_or]; exact ⟨⟨⟨⟨⟨h0, h1⟩, h2⟩, h3⟩, h4⟩, h5⟩) k

/-- What the reference ends with, after the loop's last condition. -/
abbrev fin (r : Ref sig .tc) : (Proc.devRef .tc r : DevRef τ sig).ty.Contents (Elt Ideal) := finalContents condOps preI bodyI postI 8192 m c (Proc.devRef .tc r)

/-- An argument ends as it began. -/
theorem fin_kept (r : Ref sig .tc) (h0 : r ∉ while0Ops0_W ++ while0Ops0_1_W ++ while0Ops0_2_W ++ while0Ops0_3_W ++ while0Ops0_4_W ++ condOps_W)
    (h1 : r ∉ hostOps0_W ++ hostOps0_1_W ++ hostOps0_2_W ++ [main_v86, main_v87, main_v88, main_v89, main_v90]) :
    fin m c r = launchContents m c (Proc.devRef .tc r) := by
  have k := keep_loop m c r h0 8192
  simp only [List.mem_append, not_or] at h0 h1
  simp only [fin, finalContents, afterL_cons, afterL_nil]
  rw [after_unwritten [main_v86, main_v87, main_v88, main_v89, main_v90] rfl h1.2, after_of_writes_sub _ _ condOps_writes h0.2]
  refine k.trans ?_
  simp only [entryContents, afterL_cons, afterL_nil]
  rw [after_of_writes_sub _ _ hostOps0_2_writes h1.1.2, after_of_writes_sub _ _ hostOps0_1_writes h1.1.1.2, after_of_writes_sub _ _ hostOps0_writes h1.1.1.1]

/-- The reference's first result: the states times the gate. -/
theorem fin88 (b : Fin 2) (s : Fin 8192) (n : Fin 1024) : (fin m c main_v88 : FVec Ideal S2x8192x1024 .bf16) (ix3 b s n)
    = hS (B0 m c) (B2 m c) (B3 m c) (B4 m c) (B5 m c) (B6 m c) (B7 m c) (B8 m c) b.val (s.val + 1) n * B1 m c (ix2 ⟨b.val * 8192 + s.val, by omega⟩ n) := by
  have e1 : entryContents preI m c main_v1 = (shapeCast S2x8192x1024 (B1 m c) shapeCasts_S16384x1024_S2x8192x1024 : FVec Ideal S2x8192x1024 .f32) := by
    simp only [entryContents, afterL_cons, afterL_nil]
    after_reads_simp
    rfl
  have e : fin m c main_v88 = (truncf .bf16 (mulf (transpose S2x8192x1024 [1, 0, 2] (hsK m c 8192) transposes_S8192x2x1024_S2x8192x1024_1_0_2)
      (shapeCast S2x8192x1024 (B1 m c) shapeCasts_S16384x1024_S2x8192x1024)) bitsLt_bf16_f32 : FVec Ideal S2x8192x1024 .bf16) := by
    simp only [fin, finalContents, afterL_cons, afterL_nil]
    after_results
    exact congrArg (fun x : FVec Ideal S2x8192x1024 .f32 => (truncf .bf16 (mulf (transpose S2x8192x1024 [1, 0, 2] (hsK m c 8192) transposes_S8192x2x1024_S2x8192x1024_1_0_2) x) bitsLt_bf16_f32 : FVec Ideal S2x8192x1024 .bf16))
      ((keep_loop m c main_v1 (by decide) 8192).trans e1)
  refine (congrFun e (ix3 b s n)).trans ?_
  rw [← hsK_eq m c b n s 8192 le_rfl s.isLt]
  pointwise []

/-- The reference's second result: the last state. -/
theorem fin89 (b : Fin 2) (n : Fin 1024) : (fin m c main_v89 : FVec Ideal S2x1x1024 .f32) (ix3 b 0 n)
    = hS (B0 m c) (B2 m c) (B3 m c) (B4 m c) (B5 m c) (B6 m c) (B7 m c) (B8 m c) b.val 8192 n := by
  have e : fin m c main_v89 = (shapeCast S2x1x1024 (hK m c 8192) shapeCasts_S2x1024_S2x1x1024 : FVec Ideal S2x1x1024 .f32) := by
    simp only [fin, finalContents, afterL_cons, afterL_nil]
    after_results
    rfl
  refine (congrFun e (ix3 b 0 n)).trans ?_
  rw [← hK_eq m c b n 8192 le_rfl]
  pointwise []

/-- The reference's third result: the last three inputs. -/
theorem fin90 (b : Fin 2) (r : Fin 3) (n : Fin 1024) : (fin m c main_v90 : FVec Ideal S2x3x1024 .f32) (ix3 b r n)
    = B0 m c (ix2 ⟨b.val * 8192 + (8189 + r.val), by omega⟩ n) := by
  have e1 : entryContents preI m c main_v5 = (XP (B0 m c) : FVec Ideal S2x8195x1024 .f32) := e5 m c
  have e2 := (keep_loop m c main_v5 (by decide) 8192).trans e1
  have cut : ∀ x y : FVec Ideal S2x8195x1024 .f32, x = y → extractStridedSlice S2x3x1024 ![0, 8192, 0] x slices_S2x8195x1024_S2x3x1024_0_8192_0
      = extractStridedSlice S2x3x1024 ![0, 8192, 0] y slices_S2x8195x1024_S2x3x1024_0_8192_0 := fun _ _ h => by rw [h]
  have e : fin m c main_v90 = (extractStridedSlice S2x3x1024 ![0, 8192, 0] (XP (B0 m c)) slices_S2x8195x1024_S2x3x1024_0_8192_0 : FVec Ideal S2x3x1024 .f32) := by
    simp only [fin, finalContents, afterL_cons, afterL_nil]
    after_results
    exact cut _ _ e2
  refine (congrFun e (ix3 b r n)).trans ?_
  have h : ∀ xp : FVec Ideal S2x8195x1024 .f32, extractStridedSlice S2x3x1024 ![0, 8192, 0] xp slices_S2x8195x1024_S2x3x1024_0_8192_0 (ix3 b r n)
      = xp (ix3 b ⟨8192 + r.val, by omega⟩ n) := fun xp => by pointwise []
  rw [h, XP_at]
  unfold xS
  rw [dif_pos (by show 3 ≤ 8192 + r.val ∧ 8192 + r.val < 8195 ∧ b.val < 2; omega)]
  exact congrArg (fun i => B0 m c (ix2 i n)) (Fin.ext (by show b.val * 8192 + (8192 + r.val - 3) = b.val * 8192 + (8189 + r.val); omega))

end Steps

/-- The reference's run: its three results, and its arguments unchanged. -/
theorem run_ref (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v88) = fin m c main_v88
      ∧ r.2.mem ((c.tc : Thread nD τ).loc main_v89) = fin m c main_v89
      ∧ r.2.mem ((c.tc : Thread nD τ).loc main_v90) = fin m c main_v90
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun r h c => ⟨h c main_v88 rfl, h c main_v89 rfl, h c main_v90 rfl,
    (h c main_arg0 rfl).trans (fin_kept m c main_arg0 (by decide) (by decide)),
    (h c main_arg1 rfl).trans (fin_kept m c main_arg1 (by decide) (by decide)),
    (h c main_arg2 rfl).trans (fin_kept m c main_arg2 (by decide) (by decide)),
    (h c main_arg3 rfl).trans (fin_kept m c main_arg3 (by decide) (by decide)),
    (h c main_arg4 rfl).trans (fin_kept m c main_arg4 (by decide) (by decide)),
    (h c main_arg5 rfl).trans (fin_kept m c main_arg5 (by decide) (by decide)),
    (h c main_arg6 rfl).trans (fin_kept m c main_arg6 (by decide) (by decide)),
    (h c main_arg7 rfl).trans (fin_kept m c main_arg7 (by decide) (by decide)),
    (h c main_arg8 rfl).trans (fin_kept m c main_arg8 (by decide) (by decide))⟩) (run_fold m ρ)

end Cert.ReferenceIdeal.Value
-- ==== Proof.Equal.lean ====
/-
  Kernel and reference hold the same three results.
-/
module

public import proofs.«01_k».proof.Proof.Final
public import proofs.«01_k».proof.Proof.RefLoop

@[expose] public section

set_option maxRecDepth 16384

noncomputable section

namespace Cert.Lru

open Idealize.ShloMosaic Idealize.ShloMosaic.TcCoe Idealize.SL.Sem

/-- Arrays with one row per batch are equal if their rows are. -/
theorem row_ext {f g : FVec Ideal Cert.KernelIdeal.S2x1x1024 .f32} (h : ∀ (b : Fin 2) (n : Fin 1024), f (ix3 b 0 n) = g (ix3 b 0 n)) : f = g := by
  funext i
  have e : i = ix3 (i 0) (0 : Fin 1) (i 2) := by
    funext a
    match a with
    | ⟨0, _⟩ => rfl
    | ⟨1, _⟩ => exact Fin.ext (Nat.lt_one_iff.mp (i 1).isLt)
    | ⟨2, _⟩ => rfl
  rw [e]
  exact h _ _

section Same

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ) (c : Dev Cert.KernelIdeal.nD)

open Cert.KernelIdeal.Value Cert.ReferenceIdeal.Value

/-- The two programs' arguments agree on one core. -/
def Same : Prop := B0 m' c = A0 m c ∧ B1 m' c = A1 m c ∧ B2 m' c = A2 m c ∧ B3 m' c = A3 m c ∧ B4 m' c = A4 m c ∧ B5 m' c = A5 m c
  ∧ B6 m' c = A6 m c ∧ B7 m' c = A7 m c ∧ B8 m' c = A8 m c

/-- The first results are equal. -/
theorem same0 (h : Same m m' c) : (fin m' c Cert.ReferenceIdeal.main_v88 : FVec Ideal Cert.KernelIdeal.S2x8192x1024 .bf16) = G9 m c := by
  obtain ⟨h0, h1, h2, h3, h4, h5, h6, h7, h8⟩ := h
  funext i
  rw [eq_ix3 i]
  refine (fin88 m' c _ _ _).trans (Eq.trans ?_ (G9_at m c _ _ _).symm)
  rw [h0, h1, h2, h3, h4, h5, h6, h7, h8]
  rfl

/-- The second results are equal. -/
theorem same1 (h : Same m m' c) : (fin m' c Cert.ReferenceIdeal.main_v89 : FVec Ideal Cert.KernelIdeal.S2x1x1024 .f32) = G10 m c := by
  obtain ⟨h0, h1, h2, h3, h4, h5, h6, h7, h8⟩ := h
  refine row_ext fun b n => ?_
  refine (fin89 m' c _ _).trans (Eq.trans ?_ (G10_at m c _ _).symm)
  rw [h0, h2, h3, h4, h5, h6, h7, h8]
  exact (show H m c b.val n 8192 = hS (A0 m c) (A2 m c) (A3 m c) (A4 m c) (A5 m c) (A6 m c) (A7 m c) (A8 m c) b.val 8192 n by unfold H; rfl).symm

/-- The third results are equal. -/
theorem same2 (h : Same m m' c) : (fin m' c Cert.ReferenceIdeal.main_v90 : FVec Ideal Cert.KernelIdeal.S2x3x1024 .f32) = G11 m c := by
  obtain ⟨h0, -⟩ := h
  funext i
  rw [eq_ix3 i]
  refine (fin90 m' c _ _ _).trans (Eq.trans ?_ (G11_at m c _ _ _).symm)
  rw [h0]

end Same

end Cert.Lru
-- ==== Proof.MergeSpec.lean ====
/-
  The merge of the three branches and the feed-forward part, for one row: the hidden row, its normalised row and the result.
-/
module

public import Idealize.ShloMosaic.Lib.Pipeline.ValueKit

@[expose] public section

noncomputable section

namespace Cert.Ffn

open Idealize.ShloMosaic

/-- The row after the merge: the input plus the projection of the gated sum of the three branches. -/
def hid (x ol : Fin 1024 → EReal) (on om : Fin 512 → EReal) (ga gb gm : Fin 1024 → EReal) (wa : Fin 1024 → Fin 1024 → EReal)
    (wb wm : Fin 512 → Fin 1024 → EReal) (wo : Fin 1024 → Fin 1024 → EReal) (n : Fin 1024) : EReal :=
  x n + ∑ k, (ga k * ∑ j, ol j * wa j k + gb k * ∑ j, on j * wb j k + gm k * ∑ j, om j * wm j k) * wo k n

/-- The row divided by its root mean square, times the gain. -/
def nrm (h g : Fin 1024 → EReal) (k : Fin 1024) : EReal :=
  h k * Ideal.rsqrt (Ideal.div (∑ j, h j * h j) (Ideal.ofBits .f32 0x44800000#32) + Ideal.ofBits .f32 0x358637BD#32) * g k

/-- The result row: the hidden row plus the gated feed-forward part of its normalised row. -/
def out (h g : Fin 1024 → EReal) (wg wu : Fin 1024 → Fin 2816 → EReal) (wd : Fin 2816 → Fin 1024 → EReal) (n : Fin 1024) : EReal :=
  h n + ∑ j, (∑ k, nrm h g k * wg k j) * Ideal.logistic (∑ k, nrm h g k * wg k j) * (∑ k, nrm h g k * wu k j) * wd j n

end Cert.Ffn

end
-- ==== Proof.MergeKernel.lean ====
/-
  What the merge kernel's result array holds: each of the 64 points computes 256 rows.
-/
module

public import proofs.«01_k».proof.Proof.Gen.Kernel2Ideal.Value
public import proofs.«01_k».proof.Proof.MergeSpec

@[expose] public section

set_option maxRecDepth 16384

noncomputable section

namespace Cert.Kernel2Ideal.Value

open Cert.Kernel2Ideal Cert.Kernel2Ideal.Gen Idealize.ShloMosaic Idealize.ShloMosaic.TcCoe Idealize.SL.Sem Cert.Ffn

section
variable (v0 : Vec Ideal S256x3072 .f32) (v2 : Vec Ideal S256x1024 .bf16) (v4 : Vec Ideal S1024x1024 .bf16) (v9 : Vec Ideal S256x512 .bf16)
  (v11 : Vec Ideal S512x1024 .bf16) (v17 : Vec Ideal S256x512 .bf16) (v19 : Vec Ideal S512x1024 .bf16) (v24 : Vec Ideal S256x1024 .f32)
  (v27 : Vec Ideal S1024x1024 .bf16)

/-- The hidden block, row by row. -/
theorem pay2_at (p : Fin 256) (n : Fin 1024) : k0_pay2 v0 v2 v4 v9 v11 v17 v19 v24 v27 (ix2 p n)
    = hid (fun k => v24 (ix2 p k)) (fun k => v2 (ix2 p k)) (fun k => v9 (ix2 p k)) (fun k => v17 (ix2 p k))
      (fun k => v0 (ix2 p ⟨k.val, by omega⟩)) (fun k => v0 (ix2 p ⟨1024 + k.val, by omega⟩)) (fun k => v0 (ix2 p ⟨2048 + k.val, by omega⟩))
      (fun j k => v4 (ix2 j k)) (fun j k => v11 (ix2 j k)) (fun j k => v19 (ix2 j k)) (fun j k => v27 (ix2 j k)) n := by
  unfold hid
  pointwise [k0_pay2]

/-- The sums of squares of the hidden block. -/
theorem pay3_at (p : Fin 256) : k0_pay3 v0 v2 v4 v9 v11 v17 v19 v24 v27 (ix2 p 0)
    = ∑ x, k0_pay2 v0 v2 v4 v9 v11 v17 v19 v24 v27 (ix2 p x) * k0_pay2 v0 v2 v4 v9 v11 v17 v19 v24 v27 (ix2 p x) := by
  pointwise [k0_pay3]
end

/-- The result block from the hidden block, row by row. -/
theorem pay1_at (h : FVec Ideal S256x1024 .f32) (v33 : FVec Ideal S256x1 .f32) (v41 : Vec Ideal S1x1024 .f32) (v46 v51 : Vec Ideal S1024x2816 .bf16)
    (v56 : Vec Ideal S2816x1024 .bf16) (p : Fin 256) (n : Fin 1024) (e : v33 (ix2 p 0) = ∑ x, h (ix2 p x) * h (ix2 p x)) :
    k0_pay1 h v33 (k0_pay4 (F := Ideal)) v41 v46 v51 v56 (ix2 p n)
      = out (fun k => h (ix2 p k)) (fun k => v41 (ix2 0 k)) (fun k j => v46 (ix2 k j)) (fun k j => v51 (ix2 k j)) (fun j k => v56 (ix2 j k)) n := by
  have e4 : k0_pay4 (F := Ideal) (ix2 p 0) = Ideal.ofBits .f32 0x44800000#32 := by pointwise [k0_pay4]
  unfold out nrm
  generalize k0_pay4 (F := Ideal) = v34 at e4 ⊢
  rw [← e, ← e4]
  pointwise [k0_pay1]

variable (m : (ℓ : Loc nD τ sig) → Buf (Elt Ideal) ℓ)

theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![0, 0] ∧ win0_6.index t = ![0, 0]
    ∧ win0_7.index t = ![0, 0] ∧ win0_8.index t = ![0, 0] ∧ win0_9.index t = ![0, 0] ∧ win0_10.index t = ![0, 0]
    ∧ win0_11.index t = ![0, 0] ∧ win0_12.index t = ![0, 0] ∧ win0_13.index t = ![t.val, 0] ∧ t.val < 64 :=
  (by decide +kernel : ∀ t : Fin grid0.N, _)

/-- Row `p` of point `t`'s block, as a row of the array. -/
abbrev rowOf (t : Fin cfg0.N) (p : Fin 256) : Fin 16384 := ⟨t.val * 256 + p.val, by have : t.val < 64 := t.isLt; omega⟩

/-- The sequence and the step of a row. -/
abbrev bOf (i : Fin 16384) : Fin 2 := ⟨i.val / 8192, by omega⟩
abbrev sOf (i : Fin 16384) : Fin 8192 := ⟨i.val % 8192, by omega⟩

section
variable (c : Dev nD) (t : Fin cfg0.N) (p : Fin 256)
theorem blk0 (n : Fin 1024) : iblk m c 0 t (ix2 p n) = m ((c : Thread nD τ).loc main_arg0) (ix3 (bOf (rowOf t p)) (sOf (rowOf t p)) n) := by
  blk_point [iblk, V, idx t]
theorem blk1 (n : Fin 1024) : iblk m c 1 t (ix2 p n) = m ((c : Thread nD τ).loc main_arg1) (ix3 (bOf (rowOf t p)) (sOf (rowOf t p)) n) := by
  blk_point [iblk, V, idx t]
theorem blk2 (n : Fin 512) : iblk m c 2 t (ix2 p n) = m ((c : Thread nD τ).loc main_arg2) (ix3 (bOf (rowOf t p)) (sOf (rowOf t p)) n) := by
  blk_point [iblk, V, idx t]
theorem blk3 (n : Fin 512) : iblk m c 3 t (ix2 p n) = m ((c : Thread nD τ).loc main_arg3) (ix3 (bOf (rowOf t p)) (sOf (rowOf t p)) n) := by
  blk_point [iblk, V, idx t]
theorem blk4 (n : Fin 3072) : iblk m c 4 t (ix2 p n) = m ((c : Thread nD τ).loc main_arg4) (ix2 (rowOf t p) n) := by
  blk_point [iblk, V, idx t]
theorem blk5 (k n : Fin 1024) : iblk m c 5 t (ix2 k n) = m ((c : Thread nD τ).loc main_arg5) (ix3 0 k n) := by
  blk_point [iblk, V, idx t]
theorem blk6 (k : Fin 512) (n : Fin 1024) : iblk m c 6 t (ix2 k n) = m ((c : Thread nD τ).loc main_arg6) (ix3 0 k n) := by
  blk_point [iblk, V, idx t]
theorem blk7 (k : Fin 512) (n : Fin 1024) : iblk m c 7 t (ix2 k n) = m ((c : Thread nD τ).loc main_arg7) (ix3 0 k n) := by
  blk_point [iblk, V, idx t]
theorem blk8 (k n : Fin 1024) : iblk m c 8 t (ix2 k n) = m ((c : Thread nD τ).loc main_arg8) (ix3 0 k n) := by
  blk_point [iblk, V, idx t]
theorem blk9 (n : Fin 1024) : iblk m c 9 t (ix2 0 n) = m ((c : Thread nD τ).loc main_arg9) (ix2 0 n) := by
  blk_point [iblk, V, idx t]
theorem blk10 (k : Fin 1024) (n : Fin 2816) : iblk m c 10 t (ix2 k n) = m ((c : Thread nD τ).loc main_arg10) (ix3 0 k n) := by
  blk_point [iblk, V, idx t]
theorem blk11 (k : Fin 1024) (n : Fin 2816) : iblk m c 11 t (ix2 k n) = m ((c : Thread nD τ).loc main_arg11) (ix3 0 k n) := by
  blk_point [iblk, V, idx t]
theorem blk12 (k : Fin 2816) (n : Fin 1024) : iblk m c 12 t (ix2 k n) = m ((c : Thread nD τ).loc main_arg12) (ix3 0 k n) := by
  blk_point [iblk, V, idx t]
end

end Cert.Kernel2Ideal.Value

namespace Cert.Ffn

open Idealize.ShloMosaic Cert.Kernel2Ideal Cert.Kernel2Ideal.Value

/-- The hidden rows of the whole array. -/
def HID (x : FVec Ideal S2x8192x1024 .f32) (ol : FVec Ideal S2x8192x1024 .bf16) (on om : FVec Ideal S2x8192x512 .bf16) (mg : FVec Ideal S16384x3072 .f32)
    (wa : FVec Ideal S1x1024x1024 .f32) (wb wm : FVec Ideal S1x512x1024 .f32) (wo : FVec Ideal S1x1024x1024 .f32) (i : Fin 16384) (n : Fin 1024) : EReal :=
  hid (fun k => x (ix3 (bOf i) (sOf i) k)) (fun k => ol (ix3 (bOf i) (sOf i) k)) (fun k => on (ix3 (bOf i) (sOf i) k)) (fun k => om (ix3 (bOf i) (sOf i) k))
    (fun k => mg (ix2 i ⟨k.val, by omega⟩)) (fun k => mg (ix2 i ⟨1024 + k.val, by omega⟩)) (fun k => mg (ix2 i ⟨2048 + k.val, by omega⟩))
    (fun j k => wa (ix3 0 j k)) (fun j k => wb (ix3 0 j k)) (fun j k => wm (ix3 0 j k)) (fun j k => wo (ix3 0 j k)) n

/-- The result, row by row. -/
def OUT (h : Fin 16384 → Fin 1024 → EReal) (g : FVec Ideal S1x1024 .f32) (wg wu : FVec Ideal S1x1024x2816 .f32) (wd : FVec Ideal S1x2816x1024 .f32)
    (i : Fin 16384) (n : Fin 1024) : EReal :=
  out (h i) (fun k => g (ix2 0 k)) (fun k j => wg (ix3 0 k j)) (fun k j => wu (ix3 0 k j)) (fun j k => wd (ix3 0 j k)) n

end Cert.Ffn

end
-- ==== Proof.MergeFinal.lean ====
/-
  The merge kernel's result array after the run.
-/
module

public import proofs.«01_k».proof.Proof.MergeKernel

@[expose] public section

set_option maxRecDepth 16384

noncomputable section

namespace Cert.Kernel2Ideal.Value

open Cert.Kernel2Ideal Cert.Kernel2Ideal.Gen Idealize.ShloMosaic Idealize.ShloMosaic.TcCoe Idealize.SL.Sem Cert.Ffn

variable (m : (ℓ : Loc nD τ sig) → Buf (Elt Ideal) ℓ)

/-- The result array as a function of the arguments. -/
def Y (c : Dev nD) : Fin 16384 → Fin 1024 → EReal :=
  OUT (HID (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5))
      (m ((c : Thread nD τ).loc main_arg6)) (m ((c : Thread nD τ).loc main_arg7)) (m ((c : Thread nD τ).loc main_arg8)))
    (m ((c : Thread nD τ).loc main_arg9)) (m ((c : Thread nD τ).loc main_arg10)) (m ((c : Thread nD τ).loc main_arg11)) (m ((c : Thread nD τ).loc main_arg12))

/-- What a point's block holds. -/
theorem point (c : Dev nD) (t : Fin cfg0.N) (p : Fin 256) (n : Fin 1024) :
    k0_pay1 (k0_pay2 (iblk m c 4 t) (iblk m c 1 t) (iblk m c 5 t) (iblk m c 2 t) (iblk m c 6 t) (iblk m c 3 t) (iblk m c 7 t) (iblk m c 0 t) (iblk m c 8 t))
      (k0_pay3 (iblk m c 4 t) (iblk m c 1 t) (iblk m c 5 t) (iblk m c 2 t) (iblk m c 6 t) (iblk m c 3 t) (iblk m c 7 t) (iblk m c 0 t) (iblk m c 8 t))
      (k0_pay4 (F := Ideal)) (iblk m c 9 t) (iblk m c 10 t) (iblk m c 11 t) (iblk m c 12 t) (ix2 p n) = Y m c (rowOf t p) n := by
  refine (pay1_at _ _ _ _ _ _ p n (pay3_at _ _ _ _ _ _ _ _ _ p)).trans ?_
  unfold Y OUT
  have e : (fun k => k0_pay2 (iblk m c 4 t) (iblk m c 1 t) (iblk m c 5 t) (iblk m c 2 t) (iblk m c 6 t) (iblk m c 3 t) (iblk m c 7 t) (iblk m c 0 t) (iblk m c 8 t) (ix2 p k))
      = HID (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5))
      (m ((c : Thread nD τ).loc main_arg6)) (m ((c : Thread nD τ).loc main_arg7)) (m ((c : Thread nD τ).loc main_arg8)) (rowOf t p) := by
    funext k
    refine (pay2_at _ _ _ _ _ _ _ _ _ p k).trans ?_
    unfold HID
    simp only [blk0, blk1, blk2, blk3, blk4, blk5, blk6, blk7, blk8]
  rw [e]
  simp only [blk9, blk10, blk11, blk12]

/-- The result array, as one vector. -/
def YV (c : Dev nD) : FVec Ideal S16384x1024 .f32 := fun i => Y m c (i 0) (i 1)

/-- Where row `p` of point `t`'s block lies in the array. -/
theorem place (c : Dev nD) (t : Fin cfg0.N) (p : Fin 256) (n : Fin 1024) :
    YV m c (ix2 (rowOf t p) n) = YV m c (((cfg0.win 13).blk t).view.emb (ix2 p n : S256x1024.Idx)) := by
  blk_ext [idx t]

/-- The result array after the run. -/
theorem final (c : Dev nD) : (dats m 0 c).arrAt 13 (cfgs 0).N = YV m c := by
  refine (dats m 0 c).arrAt_eq_of_covers 13 _ (by decide +kernel) fun t _ y => ?_
  blk_simp [idx t]
  rw [after0_13]
  frame_out
  obtain ⟨p, n, rfl⟩ : ∃ (p : Fin 256) (n : Fin 1024), y = ix2 p n := ⟨y 0, y 1, eq_ix2 y⟩
  exact (point m c t p n).trans (place m c t p n)

end Cert.Kernel2Ideal.Value
-- ==== Proof.MergeRef.lean ====
/-
  The plain merge and feed-forward part, entry by entry.
-/
module

public import proofs.«01_k».proof.Proof.Gen.Reference2Ideal.Run
public import proofs.«01_k».proof.Proof.MergeKernel

@[expose] public section

set_option maxRecDepth 16384

noncomputable section

namespace Cert.Reference2Ideal.Value

open Cert.Reference2Ideal Cert.Reference2Ideal.Gen Idealize.ShloMosaic Idealize.ShloMosaic.TcCoe Idealize.SL.Sem Cert.Ffn
open Cert.Kernel2Ideal.Value (bOf sOf)

/-- The hidden rows. -/
def HR (x : FVec Ideal S2x8192x1024 .f32) (ol : FVec Ideal S2x8192x1024 .bf16) (on om : FVec Ideal S2x8192x512 .bf16) (mg : FVec Ideal S16384x3072 .f32)
    (wa : FVec Ideal S1x1024x1024 .f32) (wb wm : FVec Ideal S1x512x1024 .f32) (wo : FVec Ideal S1x1024x1024 .f32) : FVec Ideal S2x8192x1024 .f32 :=
  (addf x (Host.dotGeneral dot_S2x8192x1024_S1024x1024_S2x8192x1024_2_0_01_1_n_n none (addf (addf (mulf (shapeCast _ (extractStridedSlice S2x8192x1x1024 ![0, 0, 0, 0] (shapeCast _ mg shapeCasts_S16384x3072_S2x8192x3x1024) slices_S2x8192x3x1024_S2x8192x1x1024_0_0_0_0) shapeCasts_S2x8192x1x1024_S2x8192x1024) (Host.dotGeneral dot_S2x8192x1024_S1024x1024_S2x8192x1024_2_0_01_1_n_n none (extf .f32 ol bitsLt_bf16_f32) (shapeCast _ wa shapeCasts_S1x1024x1024_S1024x1024))) (mulf (shapeCast _ (extractStridedSlice S2x8192x1x1024 ![0, 0, 1, 0] (shapeCast _ mg shapeCasts_S16384x3072_S2x8192x3x1024) slices_S2x8192x3x1024_S2x8192x1x1024_0_0_1_0) shapeCasts_S2x8192x1x1024_S2x8192x1024) (Host.dotGeneral dot_S2x8192x512_S512x1024_S2x8192x1024_2_0_01_1_n_n none (extf .f32 on bitsLt_bf16_f32) (shapeCast _ wb shapeCasts_S1x512x1024_S512x1024)))) (mulf (shapeCast _ (extractStridedSlice S2x8192x1x1024 ![0, 0, 2, 0] (shapeCast _ mg shapeCasts_S16384x3072_S2x8192x3x1024) slices_S2x8192x3x1024_S2x8192x1x1024_0_0_2_0) shapeCasts_S2x8192x1x1024_S2x8192x1024) (Host.dotGeneral dot_S2x8192x512_S512x1024_S2x8192x1024_2_0_01_1_n_n none (extf .f32 om bitsLt_bf16_f32) (shapeCast _ wm shapeCasts_S1x512x1024_S512x1024)))) (shapeCast _ wo shapeCasts_S1x1024x1024_S1024x1024)))

/-- The normalised rows. -/
def FR (h : FVec Ideal S2x8192x1024 .f32) (g : FVec Ideal S1x1024 .f32) : FVec Ideal S2x8192x1024 .f32 :=
  (mulf (mulf h (broadcastInDim S2x8192x1024 ![0, 1, 2] bcast_S2x8192x1_S2x8192x1024_0_1_2 (Host.rsqrt (addf (Host.divf (broadcastInDim S2x8192x1 ![0, 1] bcast_S2x8192_S2x8192x1_0_1 (Host.reduceAdd (mulf h h) (constant S_ .f32 0x00000000#32) reducesTo_S2x8192x1024_S2x8192_d2 h_S_)) (broadcastInDim S2x8192x1 ![] bcast_S_S2x8192x1 (constant S_ .f32 0x44800000#32))) (broadcastInDim S2x8192x1 ![] bcast_S_S2x8192x1 (constant S_ .f32 0x358637BD#32)))))) (broadcastInDim S2x8192x1024 ![0, 1, 2] bcast_S1x1x1024_S2x8192x1024_0_1_2 (broadcastInDim S1x1x1024 ![2] bcast_S1024_S1x1x1024_2 (shapeCast _ g shapeCasts_S1x1024_S1024))))

/-- The result from the hidden and the normalised rows. -/
def YR (h f : FVec Ideal S2x8192x1024 .f32) (wg wu : FVec Ideal S1x1024x2816 .f32) (wd : FVec Ideal S1x2816x1024 .f32) : FVec Ideal S16384x1024 .f32 :=
  shapeCast _ (addf h (Host.dotGeneral dot_S2x8192x2816_S2816x1024_S2x8192x1024_2_0_01_1_n_n none (mulf (mulf (Host.dotGeneral dot_S2x8192x1024_S1024x2816_S2x8192x2816_2_0_01_1_n_n none f (shapeCast _ wg shapeCasts_S1x1024x2816_S1024x2816)) (Host.divf (broadcastInDim S2x8192x2816 ![] bcast_S_S2x8192x2816 (constant S_ .f32 0x3F800000#32)) (addf (broadcastInDim S2x8192x2816 ![] bcast_S_S2x8192x2816 (constant S_ .f32 0x3F800000#32)) (Host.exp (Host.negf (Host.dotGeneral dot_S2x8192x1024_S1024x2816_S2x8192x2816_2_0_01_1_n_n none f (shapeCast _ wg shapeCasts_S1x1024x2816_S1024x2816))))))) (Host.dotGeneral dot_S2x8192x1024_S1024x2816_S2x8192x2816_2_0_01_1_n_n none f (shapeCast _ wu shapeCasts_S1x1024x2816_S1024x2816))) (shapeCast _ wd shapeCasts_S1x2816x1024_S2816x1024))) shapeCasts_S2x8192x1024_S16384x1024

theorem HR_at (x : FVec Ideal S2x8192x1024 .f32) (ol : FVec Ideal S2x8192x1024 .bf16) (on om : FVec Ideal S2x8192x512 .bf16) (mg : FVec Ideal S16384x3072 .f32)
    (wa : FVec Ideal S1x1024x1024 .f32) (wb wm : FVec Ideal S1x512x1024 .f32) (wo : FVec Ideal S1x1024x1024 .f32) (i : Fin 16384) (n : Fin 1024) :
    HR x ol on om mg wa wb wm wo (ix3 (bOf i) (sOf i) n) = HID x ol on om mg wa wb wm wo i n := by
  unfold HID hid
  pointwise [HR]

theorem FR_at (h : FVec Ideal S2x8192x1024 .f32) (g : FVec Ideal S1x1024 .f32) (b : Fin 2) (s : Fin 8192) (n : Fin 1024) :
    FR h g (ix3 b s n) = nrm (fun k => h (ix3 b s k)) (fun k => g (ix2 0 k)) n := by
  unfold nrm
  pointwise [FR]

theorem YR_at (h : FVec Ideal S2x8192x1024 .f32) (g : FVec Ideal S1x1024 .f32) (wg wu : FVec Ideal S1x1024x2816 .f32) (wd : FVec Ideal S1x2816x1024 .f32)
    (i : Fin 16384) (n : Fin 1024) : YR h (FR h g) wg wu wd (ix2 i n)
    = out (fun k => h (ix3 (bOf i) (sOf i) k)) (fun k => g (ix2 0 k)) (fun k j => wg (ix3 0 k j)) (fun k j => wu (ix3 0 k j)) (fun j k => wd (ix3 0 j k)) n := by
  unfold out
  simp only [← FR_at]
  generalize FR h g = f
  pointwise [YR]
  rfl

variable (m : (ℓ : Loc nD τ sig) → Buf (Elt Ideal) ℓ)

/-- The result of the run, in terms of the hidden and the normalised rows. -/
theorem res_eq (c : Dev nD) : res_main_v47 m c
    = YR (HR (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5))
      (m ((c : Thread nD τ).loc main_arg6)) (m ((c : Thread nD τ).loc main_arg7)) (m ((c : Thread nD τ).loc main_arg8)))
      (FR (HR (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5))
      (m ((c : Thread nD τ).loc main_arg6)) (m ((c : Thread nD τ).loc main_arg7)) (m ((c : Thread nD τ).loc main_arg8)))
        (m ((c : Thread nD τ).loc main_arg9)))
      (m ((c : Thread nD τ).loc main_arg10)) (m ((c : Thread nD τ).loc main_arg11)) (m ((c : Thread nD τ).loc main_arg12)) := rfl

/-- The result, row by row. -/
theorem res_at (c : Dev nD) (i : Fin 16384) (n : Fin 1024) : (res_main_v47 m c : FVec Ideal S16384x1024 .f32) (ix2 i n)
    = OUT (HID (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5))
      (m ((c : Thread nD τ).loc main_arg6)) (m ((c : Thread nD τ).loc main_arg7)) (m ((c : Thread nD τ).loc main_arg8)))
    (m ((c : Thread nD τ).loc main_arg9)) (m ((c : Thread nD τ).loc main_arg10)) (m ((c : Thread nD τ).loc main_arg11)) (m ((c : Thread nD τ).loc main_arg12)) i n := by
  rw [res_eq]
  refine (YR_at _ _ _ _ _ i n).trans ?_
  unfold OUT
  exact congrArg (fun h => out h _ _ _ _ n) (funext fun k => HR_at _ _ _ _ _ _ _ _ _ i k)

end Cert.Reference2Ideal.Value
-- ==== Proof.MergeEqual.lean ====
/-
  The merge kernel and the plain merge hold the same result.
-/
module

public import proofs.«01_k».proof.Proof.MergeFinal
public import proofs.«01_k».proof.Proof.MergeRef
public import proofs.«01_k».proof.Defs
public import Idealize.ShloMosaic.Adequacy
public import Idealize.ShloMosaic.Lib.Quiescent

@[expose] public section

set_option maxRecDepth 16384

noncomputable section

namespace Cert.Ffn

open Idealize.ShloMosaic Idealize.ShloMosaic.TcCoe Idealize.SL.Sem

/-- Kernel and reference of the merge end with the same result. -/
theorem same : Cert.algebraic_Kernel2Ideal_Reference2Ideal (hKernel2Ideal := Cert.Kernel2Ideal.Gen.facts) (hReference2Ideal := Cert.Reference2Ideal.Gen.facts) := by
  intro m g m' g' _ hagree
  refine ⟨_, Cert.Kernel2Ideal.Value.run_blocks m g, (θ_run Cert.Reference2Ideal.defs _ _).mono (fun r h c => ?_) (Cert.Reference2Ideal.Value.run m' g')⟩
  refine ⟨(h c).1.trans (Eq.trans ?_ (Cert.Kernel2Ideal.Value.final m c).symm), (h c).2⟩
  obtain ⟨h0, h1, h2, h3, h4, h5, h6, h7, h8, h9, h10, h11, h12⟩ := hagree c
  have e : ∀ (i : Fin 16384) (n : Fin 1024), (Cert.Reference2Ideal.Value.res_main_v47 m' c : FVec Ideal Cert.Kernel2Ideal.S16384x1024 .f32) (ix2 i n)
      = Cert.Kernel2Ideal.Value.YV m c (ix2 i n) := fun i n => by
    refine (Cert.Reference2Ideal.Value.res_at m' c i n).trans ?_
    rw [h0, h1, h2, h3, h4, h5, h6, h7, h8, h9, h10, h11, h12]
    rfl
  funext i
  rw [eq_ix2 i]
  exact e _ _

/-- The plain merge's frame. -/
theorem ref_frame : Cert.quiescent_Reference2Ideal (hReference2Ideal := Cert.Reference2Ideal.Gen.facts) := fun m ρ _ =>
  (θ_run Cert.Reference2Ideal.defs _ _).mono (fun r h => ⟨fun c => (h c).2, sem_eq_zero_of_no_sems rfl r.2⟩) (Cert.Reference2Ideal.Value.run m ρ)

end Cert.Ffn
-- ==== Proof.ProjSpec.lean ====
/-
  The projections of the mixer, entry by entry: the normalised row times the weights, and what each result keeps of it.
-/
module

public import proofs.«01_k».proof.Proof.MergeSpec
public import proofs.«01_k».proof.Proof.Gate

@[expose] public section

noncomputable section

namespace Cert.Mix

open Idealize.ShloMosaic Cert.Ffn

/-- The weights of the activation written with a hyperbolic tangent. -/
def gel (z : EReal) : EReal :=
  z * (Ideal.ofBits .f32 0x3F000000#32 * (1 + Ideal.tanh (Ideal.ofBits .f32 0x3F4C422A#32 * (z + Ideal.ofBits .f32 0x3D372713#32 * (z * (z * z))))))

/-- An entry of a group divided by the group's root mean square (`s` the sum of squares, `w` the width), times the gain. -/
def grp (w s z g : EReal) : EReal := z * Ideal.rsqrt (Ideal.div s w + Ideal.ofBits .f32 0x358637BD#32) * g

/-- The same with the sum of squares multiplied by a constant instead. -/
def grm (w s z g : EReal) : EReal := z * Ideal.rsqrt (s * w + Ideal.ofBits .f32 0x358637BD#32) * g

theorem grm64 (s z g : EReal) : grm (Ideal.ofBits .f32 0x3C800000#32) s z g = grp (Ideal.ofBits .f32 0x42800000#32) s z g := by
  unfold grm grp
  have e1 : Ideal.ofBits .f32 0x3C800000#32 = ((1 / 64 : ℝ) : EReal) := by simp [Ideal.ofBits, Ideal.ieee, -EReal.coe_mul]; norm_num
  have e2 : Ideal.ofBits .f32 0x42800000#32 = ((64 : ℝ) : EReal) := by simp [Ideal.ofBits, Ideal.ieee, -EReal.coe_mul]; norm_num
  rw [e1, e2, Ideal.div_coe (by norm_num : (64 : ℝ) ≠ 0)]

theorem grm128 (s z g : EReal) : grm (Ideal.ofBits .f32 0x3C000000#32) s z g = grp (Ideal.ofBits .f32 0x43000000#32) s z g := by
  unfold grm grp
  have e1 : Ideal.ofBits .f32 0x3C000000#32 = ((1 / 128 : ℝ) : EReal) := by simp [Ideal.ofBits, Ideal.ieee, -EReal.coe_mul]; norm_num
  have e2 : Ideal.ofBits .f32 0x43000000#32 = ((128 : ℝ) : EReal) := by simp [Ideal.ofBits, Ideal.ieee, -EReal.coe_mul]; norm_num
  rw [e1, e2, Ideal.div_coe (by norm_num : (128 : ℝ) ≠ 0)]

/-- A sum weighted by the indicator of one group is the sum over that group. -/
theorem sum_group {N W : ℕ} (hW : 0 < W) (f : Fin N → EReal) (b : ℕ) (h : ∀ l : Fin W, b * W + l.val < N) :
    ∑ j : Fin N, f j * (if j.val / W = b then 1 else 0) = ∑ l : Fin W, f ⟨b * W + l.val, h l⟩ := by
  simp only [mul_ite, mul_one, mul_zero]
  rw [← Finset.sum_filter]
  refine Finset.sum_bij' (i := fun j _ => (⟨j.val % W, Nat.mod_lt _ hW⟩ : Fin W)) (j := fun l _ => (⟨b * W + l.val, h l⟩ : Fin N)) ?_ ?_ ?_ ?_ ?_
  · intro j _; exact Finset.mem_univ _
  · intro l _
    rw [Finset.mem_filter]
    refine ⟨Finset.mem_univ _, ?_⟩
    show (b * W + l.val) / W = b
    rw [Nat.mul_comm, Nat.mul_add_div hW, Nat.div_eq_of_lt l.isLt, Nat.add_zero]
  · intro j hj
    have hb := (Finset.mem_filter.mp hj).2
    refine Fin.ext ?_
    show b * W + j.val % W = j.val
    rw [← hb]; exact Nat.div_add_mod' _ _
  · intro l _
    refine Fin.ext ?_
    show (b * W + l.val) % W = l.val
    rw [Nat.mul_comm, Nat.mul_add_mod, Nat.mod_eq_of_lt l.isLt]
  · intro j hj
    have hb := (Finset.mem_filter.mp hj).2
    refine congrArg f (Fin.ext ?_)
    show j.val = b * W + j.val % W
    rw [← hb]; exact (Nat.div_add_mod' _ _).symm

end Cert.Mix

end
-- ==== Proof.ProjPay.lean ====
/-
  What the projection kernel's stores hold, from the blocks it loads.
-/
module

public import proofs.«01_k».proof.Proof.Gen.Kernel3Ideal.Skeleton
public import Idealize.ShloMosaic.Lib.Pipeline.ValueKit
public import proofs.«01_k».proof.Proof.ProjSpec

@[expose] public section

set_option maxRecDepth 16384

noncomputable section

namespace Cert.Kernel3Ideal.Value

open Cert.Kernel3Ideal Cert.Kernel3Ideal.Gen Idealize.ShloMosaic Idealize.ShloMosaic.TcCoe Idealize.SL.Sem Cert.Ffn Cert.Mix

/-- The normalised rows. -/
theorem pay4_at (v0 : Vec Ideal S256x1024 .f32) (v12 : Vec Ideal S1x1024 .f32) (p : Fin 256) (k : Fin 1024) :
    k0_pay4 v0 v12 (ix2 p k) = nrm (fun j => v0 (ix2 p j)) (fun j => v12 (ix2 0 j)) k := by
  unfold nrm
  pointwise [k0_pay4]

theorem pay5_at (v0 : Vec Ideal S256x1024 .f32) (v12 : Vec Ideal S1x1024 .f32) (v17 : Vec Ideal S1024x1024 .bf16) (p : Fin 256) (n : Fin 1024) :
    k0_pay5 v0 v12 v17 (ix2 p n) = ∑ k, k0_pay4 v0 v12 (ix2 p k) * v17 (ix2 k n) := by
  pointwise [k0_pay5]

theorem pay6_at (v0 : Vec Ideal S256x1024 .f32) (v12 : Vec Ideal S1x1024 .f32) (v21 : Vec Ideal S1024x1024 .bf16) (p : Fin 256) (n : Fin 1024) :
    k0_pay6 v0 v12 v21 (ix2 p n) = gel (∑ k, k0_pay4 v0 v12 (ix2 p k) * v21 (ix2 k n)) := by
  unfold gel
  pointwise [k0_pay6]

section
variable (v16 : FVec Ideal S256x1024 .bf16) (p : Fin 256)

theorem pay7_at (w : Vec Ideal S1024x512 .bf16) (b : Vec Ideal S512x512 .bf16) (g : Vec Ideal S1x512 .f32) (n : Fin 512) :
    k0_pay7 v16 w b g (ix2 p n) = grm (Ideal.ofBits .f32 0x3C800000#32)
      (∑ j, (∑ k, v16 (ix2 p k) * w (ix2 k j)) * (∑ k, v16 (ix2 p k) * w (ix2 k j)) * b (ix2 j n))
      (∑ k, v16 (ix2 p k) * w (ix2 k n)) (g (ix2 0 n)) * Ideal.ofBits .f32 0x3E000000#32 := by
  unfold grm
  pointwise [k0_pay7]

theorem pay2_at (w : Vec Ideal S1024x512 .bf16) (b : Vec Ideal S512x512 .bf16) (g : Vec Ideal S1x512 .f32) (n : Fin 512) :
    k0_pay2 v16 w b g (ix2 p n) = grm (Ideal.ofBits .f32 0x3C000000#32)
      (∑ j, (∑ k, v16 (ix2 p k) * w (ix2 k j)) * (∑ k, v16 (ix2 p k) * w (ix2 k j)) * b (ix2 j n))
      (∑ k, v16 (ix2 p k) * w (ix2 k n)) (g (ix2 0 n)) := by
  unfold grm
  pointwise [k0_pay2]

theorem pay3_at (w : Vec Ideal S1024x3072 .bf16) (n : Fin 3072) :
    k0_pay3 v16 w (ix2 p n) = Ideal.logistic (∑ k, v16 (ix2 p k) * w (ix2 k n)) := by
  pointwise [k0_pay3]

theorem pay8_at (w : Vec Ideal S1024x256 .bf16) (n : Fin 256) :
    k0_pay8 v16 w (ix2 p n) = ∑ k, v16 (ix2 p k) * w (ix2 k n) := by
  pointwise [k0_pay8]

theorem pay9_at (w : Vec Ideal S1024x256 .bf16) (n : Fin 256) :
    k0_pay9 v16 w (ix3 0 n p) = ∑ k, v16 (ix2 p k) * w (ix2 k n) := by
  rw [← pay8_at]
  pointwise [k0_pay9]

theorem pay18_at (w : Vec Ideal S1024x256 .bf16) (n : Fin 256) :
    k0_pay18 v16 w (ix2 p n) = ∑ k, v16 (ix2 p k) * w (ix2 k n) := by
  pointwise [k0_pay18]

theorem pay11_at (w : Vec Ideal S1024x256 .bf16) (n : Fin 256) :
    k0_pay11 v16 (k0_pay10 w) (constant S256x256 .f32 0x00000000#32) (ix2 p n) = ∑ k, v16 (ix2 p k) * w (ix2 k n) := by
  pointwise [k0_pay11, k0_pay10]

theorem pay25_at (w : Vec Ideal S1024x256 .bf16) (n : Fin 256) :
    k0_pay1 (k0_pay25 v16 w) (ix3 0 n p) = Ideal.logistic (∑ k, v16 (ix2 p k) * w (ix2 k n)) := by
  pointwise [k0_pay1, k0_pay25]
end

section
variable (v16 : FVec Ideal S256x1024 .bf16) (w : FVec Ideal S1024x256 .bf16) (a : FVec Ideal S256x256 .f32) (b : Vec Ideal S128x128 .bf16)
  (g : Vec Ideal S1x128 .f32) (p : Fin 256) (n : Fin 128)

/-- The normalised keys. -/
theorem pay12_at : k0_pay12 v16 w a b g (ix2 p n) = grm (Ideal.ofBits .f32 0x3C800000#32)
    (∑ j : Fin 128, k0_pay11 v16 w a (ix2 p ⟨j.val, by omega⟩) * k0_pay11 v16 w a (ix2 p ⟨j.val, by omega⟩) * b (ix2 j n))
    (k0_pay11 v16 w a (ix2 p ⟨n.val, by omega⟩)) (g (ix2 0 n)) := by
  unfold grm
  pointwise [k0_pay12]

theorem pay14_at : k0_pay14 v16 w a b g (ix3 0 n p) = k0_pay12 v16 w a b g (ix2 p n) := by
  pointwise [k0_pay14]
theorem pay16_at : k0_pay16 v16 w a b g (ix2 p n) = k0_pay12 v16 w a b g (ix2 p n) := by
  pointwise [k0_pay16]
theorem pay15_at : k0_pay15 v16 w a (ix3 0 n p) = k0_pay11 v16 w a (ix2 p ⟨128 + n.val, by omega⟩) := by
  pointwise [k0_pay15, k0_pay13]
theorem pay17_at : k0_pay17 v16 w a (ix3 0 n p) = k0_pay11 v16 w a (ix2 p ⟨128 + n.val, by omega⟩) := by
  pointwise [k0_pay17, k0_pay13]
end

section
variable (z : FVec Ideal S256x256 .f32) (b : Vec Ideal S128x128 .bf16) (g : Vec Ideal S1x128 .f32) (p : Fin 256) (n : Fin 128)

theorem pay19_at : k0_pay19 z b g (ix2 p n) = grm (Ideal.ofBits .f32 0x3C800000#32)
    (∑ j : Fin 128, z (ix2 p ⟨j.val, by omega⟩) * z (ix2 p ⟨j.val, by omega⟩) * b (ix2 j n))
    (z (ix2 p ⟨n.val, by omega⟩)) (g (ix2 0 n)) := by
  unfold grm
  pointwise [k0_pay19]
theorem pay21_at : k0_pay21 z b g (ix3 0 n p) = k0_pay19 z b g (ix2 p n) := by
  pointwise [k0_pay21]
theorem pay23_at : k0_pay23 z b g (ix2 p n) = k0_pay19 z b g (ix2 p n) := by
  pointwise [k0_pay23]
theorem pay22_at : k0_pay22 z (ix3 0 n p) = z (ix2 p ⟨128 + n.val, by omega⟩) := by
  pointwise [k0_pay22, k0_pay20]
theorem pay24_at : k0_pay24 z (ix3 0 n p) = z (ix2 p ⟨128 + n.val, by omega⟩) := by
  pointwise [k0_pay24, k0_pay20]
end

end Cert.Kernel3Ideal.Value
-- ==== Proof.ProjHost.lean ====
/-
  The arrays the projection kernel reads, as the host prepares them from the arguments.
-/
module

public import proofs.«01_k».proof.Proof.Gen.Kernel3Ideal.Frame
public import proofs.«01_k».proof.Proof.ProjPay

@[expose] public section

set_option maxRecDepth 16384

noncomputable section

namespace Cert.Kernel3Ideal.Value

open Cert.Kernel3Ideal Cert.Kernel3Ideal.Gen Idealize.ShloMosaic Idealize.ShloMosaic.TcCoe Idealize.SL.Sem Cert.Ffn Cert.Mix

/-- The group of each of 512 columns, the quotient by `w` rounded down. -/
def gid (w : BitVec 32) : IVec S512 32 :=
  select (andi (cmpi .ne (signi (iotaInDim S512 32 0)) (broadcastInDim S512 ![] bcast_S_S512 (signi (constantI S_ 32 w))))
      (cmpi .ne (Host.remsi (iotaInDim S512 32 0) (broadcastInDim S512 ![] bcast_S_S512 (constantI S_ 32 w)))
        (broadcastInDim S512 ![] bcast_S_S512 (constantI S_ 32 0#32))))
    (subi (Host.divsi (iotaInDim S512 32 0) (broadcastInDim S512 ![] bcast_S_S512 (constantI S_ 32 w)))
      (broadcastInDim S512 ![] bcast_S_S512 (constantI S_ 32 1#32)))
    (Host.divsi (iotaInDim S512 32 0) (broadcastInDim S512 ![] bcast_S_S512 (constantI S_ 32 w)))

/-- The group of each of 128 columns. -/
def gidK (w : BitVec 32) : IVec S128 32 :=
  select (andi (cmpi .ne (signi (iotaInDim S128 32 0)) (broadcastInDim S128 ![] bcast_S_S128 (signi (constantI S_ 32 w))))
      (cmpi .ne (Host.remsi (iotaInDim S128 32 0) (broadcastInDim S128 ![] bcast_S_S128 (constantI S_ 32 w)))
        (broadcastInDim S128 ![] bcast_S_S128 (constantI S_ 32 0#32))))
    (subi (Host.divsi (iotaInDim S128 32 0) (broadcastInDim S128 ![] bcast_S_S128 (constantI S_ 32 w)))
      (broadcastInDim S128 ![] bcast_S_S128 (constantI S_ 32 1#32)))
    (Host.divsi (iotaInDim S128 32 0) (broadcastInDim S128 ![] bcast_S_S128 (constantI S_ 32 w)))

theorem gid64 : ∀ k : Fin 512, gid 64#32 (ix1 k) = BitVec.ofNat 32 (k.val / 64) := by decide +kernel
theorem gid128 : ∀ k : Fin 512, gid 128#32 (ix1 k) = BitVec.ofNat 32 (k.val / 128) := by decide +kernel
theorem gidK64 : ∀ k : Fin 128, gidK 64#32 (ix1 k) = BitVec.ofNat 32 (k.val / 64) := by decide +kernel

/-- Whether two columns are of one group, as a number. -/
def bd (g : IVec S512 32) : FVec Ideal S512x512 .bf16 :=
  uitofp .bf16 (cmpi .eq (broadcastInDim S512x512 ![0, 1] bcast_S512x1_S512x512_0_1 (broadcastInDim S512x1 ![0] bcast_S512_S512x1_0 g))
    (broadcastInDim S512x512 ![0, 1] bcast_S1x512_S512x512_0_1 (broadcastInDim S1x512 ![1] bcast_S512_S1x512_1 g)))

def bdK (g : IVec S128 32) : FVec Ideal S128x128 .bf16 :=
  uitofp .bf16 (cmpi .eq (broadcastInDim S128x128 ![0, 1] bcast_S128x1_S128x128_0_1 (broadcastInDim S128x1 ![0] bcast_S128_S128x1_0 g))
    (broadcastInDim S128x128 ![0, 1] bcast_S1x128_S128x128_0_1 (broadcastInDim S1x128 ![1] bcast_S128_S1x128_1 g)))

theorem flag_at (x y : BitVec 32) : (FloatOps.uitofp (F := Ideal) FTy.bf16 (IntOp.cmpi CmpIPredicate.eq x y)) = if x = y then 1 else 0 := by
  by_cases h : x = y
  · subst h
    simp [FloatOps.uitofp, IntOp.cmpi]
  · simp [FloatOps.uitofp, IntOp.cmpi, h]

theorem bd_at (g : IVec S512 32) (a b : Fin 512) : bd g (ix2 a b) = if g (ix1 a) = g (ix1 b) then 1 else 0 := by
  pointwise [bd]
  exact flag_at _ _
theorem bdK_at (g : IVec S128 32) (a b : Fin 128) : bdK g (ix2 a b) = if g (ix1 a) = g (ix1 b) then 1 else 0 := by
  pointwise [bdK]
  exact flag_at _ _

theorem ofNat_eq {a b : ℕ} (ha : a < 512) (hb : b < 512) : BitVec.ofNat 32 a = BitVec.ofNat 32 b ↔ a = b := by
  constructor
  · intro h
    have := congrArg BitVec.toNat h
    simp only [BitVec.toNat_ofNat] at this
    omega
  · intro h; rw [h]

theorem bd64_at (a b : Fin 512) : bd (gid 64#32) (ix2 a b) = if a.val / 64 = b.val / 64 then 1 else 0 := by
  rw [bd_at, gid64, gid64]
  exact if_congr (ofNat_eq (by omega) (by omega)) rfl rfl
theorem bd128_at (a b : Fin 512) : bd (gid 128#32) (ix2 a b) = if a.val / 128 = b.val / 128 then 1 else 0 := by
  rw [bd_at, gid128, gid128]
  exact if_congr (ofNat_eq (by omega) (by omega)) rfl rfl
theorem bdK64_at (a b : Fin 128) : bdK (gidK 64#32) (ix2 a b) = if a.val / 64 = b.val / 64 then 1 else 0 := by
  rw [bdK_at, gidK64, gidK64]
  exact if_congr (ofNat_eq (by omega) (by omega)) rfl rfl

/-- The weights with the gates' columns padded. -/
def wpk (w : FVec Ideal S1x1024x6936 .f32) : FVec Ideal S1024x7168 .bf16 :=
  truncf .bf16 (concatenate S1024x7168 1
    [⟨S1024x3328, extractStridedSlice S1024x3328 ![0, 0] (shapeCast S1024x6936 w shapeCasts_S1x1024x6936_S1024x6936) slices_S1024x6936_S1024x3328_0_0⟩,
     ⟨S1024x12, extractStridedSlice S1024x12 ![0, 3328] (shapeCast S1024x6936 w shapeCasts_S1x1024x6936_S1024x6936) slices_S1024x6936_S1024x12_0_3328⟩,
     ⟨S1024x116, broadcastInDim S1024x116 ![] bcast_S_S1024x116 (constant S_ .f32 0x00000000#32)⟩,
     ⟨S1024x12, extractStridedSlice S1024x12 ![0, 3340] (shapeCast S1024x6936 w shapeCasts_S1x1024x6936_S1024x6936) slices_S1024x6936_S1024x12_0_3340⟩,
     ⟨S1024x116, broadcastInDim S1024x116 ![] bcast_S_S1024x116 (constant S_ .f32 0x00000000#32)⟩,
     ⟨S1024x3584, extractStridedSlice S1024x3584 ![0, 3352] (shapeCast S1024x6936 w shapeCasts_S1x1024x6936_S1024x6936) slices_S1024x6936_S1024x3584_0_3352⟩]
    concatenates_S1024x3328_S1024x12_S1024x116_S1024x12_S1024x116_S1024x3584_S1024x7168_d1) bitsLt_bf16_f32

theorem wpk_at (w : FVec Ideal S1x1024x6936 .f32) (k : Fin 1024) (n : Fin 7168) : wpk w (ix2 k n)
    = (if h : n.val < 3328 then w (ix3 0 k ⟨n.val, by omega⟩)
    else
      if h : n.val - 3328 < 12 then w (ix3 0 k ⟨3328 + (n.val - 3328), by omega⟩)
      else
        if h : n.val - 3328 - 12 < 116 then 0
        else
          if h : n.val - 3328 - 12 - 116 < 12 then w (ix3 0 k ⟨3340 + (n.val - 3328 - 12 - 116), by omega⟩)
          else
            if h : n.val - 3328 - 12 - 116 - 12 < 116 then 0
            else w (ix3 0 k ⟨3352 + (n.val - 3328 - 12 - 116 - 12 - 116), by omega⟩)) := by
  pointwise [wpk]

/-- The columns ahead of the gates'. -/
theorem wpk_lo (w : FVec Ideal S1x1024x6936 .f32) (k : Fin 1024) (n : Fin 7168) (h : n.val < 3328) : wpk w (ix2 k n) = w (ix3 0 k ⟨n.val, by omega⟩) := by
  rw [wpk_at, dif_pos h]

/-- The columns past the gates'. -/
theorem wpk_hi (w : FVec Ideal S1x1024x6936 .f32) (k : Fin 1024) (n : Fin 7168) (h : 3584 ≤ n.val) : wpk w (ix2 k n) = w (ix3 0 k ⟨n.val - 232, by omega⟩) := by
  rw [wpk_at, dif_neg (by omega), dif_neg (by omega), dif_neg (by omega), dif_neg (by omega), dif_neg (by omega)]
  exact congrArg (fun i => w (ix3 0 k i)) (Fin.ext (by show 3352 + (n.val - 3328 - 12 - 116 - 12 - 116) = n.val - 232; omega))

/-- The gates' columns: 12 of each 128 hold weights. -/
theorem wpk_mid (w : FVec Ideal S1x1024x6936 .f32) (k : Fin 1024) (n : Fin 256) : wpk w (ix2 k ⟨3328 + n.val, by omega⟩)
    = if h : n.val % 128 < 12 then w (ix3 0 k ⟨3328 + (n.val / 128 * 12 + n.val % 128), by omega⟩) else 0 := by
  rw [wpk_at, dif_neg (by show ¬ 3328 + n.val < 3328; omega)]
  show (if h : 3328 + n.val - 3328 < 12 then _ else _) = _
  by_cases hn : n.val % 128 < 12
  · rw [dif_pos hn]
    by_cases h1 : n.val < 128
    · rw [dif_pos (by omega)]
      exact congrArg (fun i => w (ix3 0 k i)) (Fin.ext (by show 3328 + (3328 + n.val - 3328) = 3328 + (n.val / 128 * 12 + n.val % 128); omega))
    · rw [dif_neg (by omega), dif_neg (by show ¬ 3328 + n.val - 3328 - 12 < 116; omega), dif_pos (by show 3328 + n.val - 3328 - 12 - 116 < 12; omega)]
      exact congrArg (fun i => w (ix3 0 k i)) (Fin.ext (by show 3340 + (3328 + n.val - 3328 - 12 - 116) = 3328 + (n.val / 128 * 12 + n.val % 128); omega))
  · rw [dif_neg hn, dif_neg (by omega)]
    by_cases h1 : n.val < 128
    · rw [dif_pos (by show 3328 + n.val - 3328 - 12 < 116; omega)]
    · rw [dif_neg (by show ¬ 3328 + n.val - 3328 - 12 < 116; omega), dif_neg (by show ¬ 3328 + n.val - 3328 - 12 - 116 < 12; omega),
        dif_pos (by show 3328 + n.val - 3328 - 12 - 116 - 12 < 116; omega)]

/-- The gains, repeated over the groups. -/
def gq (g : FVec Ideal S1x64 .f32) : FVec Ideal S1x512 .f32 :=
  shapeCast S1x512 (shapeCast S512 (broadcastInDim S8x64 ![0, 1] bcast_S1x64_S8x64_0_1 (shapeCast S1x64 (shapeCast S64 g shapeCasts_S1x64_S64) shapeCasts_S64_S1x64)) shapeCasts_S8x64_S512) shapeCasts_S512_S1x512
def gks (g : FVec Ideal S1x3x64 .f32) : FVec Ideal S1x128 .f32 :=
  shapeCast S1x128 (shapeCast S128 (broadcastInDim S2x64 ![0, 1] bcast_S1x64_S2x64_0_1 (shapeCast S1x64 (shapeCast S64 (extractStridedSlice S1x64 ![1, 0] (shapeCast S3x64 g shapeCasts_S1x3x64_S3x64) slices_S3x64_S1x64_1_0) shapeCasts_S1x64_S64) shapeCasts_S64_S1x64)) shapeCasts_S2x64_S128) shapeCasts_S128_S1x128
def gkw (g : FVec Ideal S1x3x64 .f32) : FVec Ideal S1x128 .f32 :=
  shapeCast S1x128 (shapeCast S128 (broadcastInDim S2x64 ![0, 1] bcast_S1x64_S2x64_0_1 (shapeCast S1x64 (shapeCast S64 (extractStridedSlice S1x64 ![2, 0] (shapeCast S3x64 g shapeCasts_S1x3x64_S3x64) slices_S3x64_S1x64_2_0) shapeCasts_S1x64_S64) shapeCasts_S64_S1x64)) shapeCasts_S2x64_S128) shapeCasts_S128_S1x128
def gm (g : FVec Ideal S1x128 .f32) : FVec Ideal S1x512 .f32 :=
  shapeCast S1x512 (shapeCast S512 (broadcastInDim S4x128 ![0, 1] bcast_S1x128_S4x128_0_1 (shapeCast S1x128 (shapeCast S128 g shapeCasts_S1x128_S128) shapeCasts_S128_S1x128)) shapeCasts_S4x128_S512) shapeCasts_S512_S1x512

theorem gq_at (g : FVec Ideal S1x64 .f32) (n : Fin 512) : gq g (ix2 0 n) = g (ix2 0 ⟨n.val % 64, by omega⟩) := by
  pointwise [gq]
theorem gks_at (g : FVec Ideal S1x3x64 .f32) (n : Fin 128) : gks g (ix2 0 n) = g (ix3 0 1 ⟨n.val % 64, by omega⟩) := by
  pointwise [gks]
theorem gkw_at (g : FVec Ideal S1x3x64 .f32) (n : Fin 128) : gkw g (ix2 0 n) = g (ix3 0 2 ⟨n.val % 64, by omega⟩) := by
  pointwise [gkw]
theorem gm_at (g : FVec Ideal S1x128 .f32) (n : Fin 512) : gm g (ix2 0 n) = g (ix2 0 ⟨n.val % 128, by omega⟩) := by
  pointwise [gm]

variable (m : (ℓ : Loc nD τ sig) → Buf (Elt Ideal) ℓ)

section
set_option maxHeartbeats 2000000
variable (c : Dev nD)

theorem V57 : V m c main_v57 = shapeCast S16384x1024 (m ((c : Thread nD τ).loc main_arg0) : FVec Ideal S2x8192x1024 .f32) shapeCasts_S2x8192x1024_S16384x1024 := by
  simp only [V, hostOps0, hostOps0_1, hostOps0_2, hostOps0_3, hostOps0_4, hostOps0_5, hostOps0_6, List.flatten_cons, List.flatten_nil, List.append_nil, List.cons_append,
      List.nil_append]
  after_results_simp
  rfl
theorem V12 : V m c main_v12 = shapeCast S1x1024 (shapeCast S1024 (m ((c : Thread nD τ).loc main_arg1) : FVec Ideal S1x1024 .f32) shapeCasts_S1x1024_S1024) shapeCasts_S1024_S1x1024 := by
  simp only [V, hostOps0, hostOps0_1, hostOps0_2, hostOps0_3, hostOps0_4, hostOps0_5, hostOps0_6, List.flatten_cons, List.flatten_nil, List.append_nil, List.cons_append,
      List.nil_append]
  after_results_simp
  rfl
theorem V10 : V m c main_v10 = wpk (m ((c : Thread nD τ).loc main_arg2)) := by
  simp only [V, hostOps0, hostOps0_1, hostOps0_2, hostOps0_3, hostOps0_4, hostOps0_5, hostOps0_6, List.flatten_cons, List.flatten_nil, List.append_nil, List.cons_append,
      List.nil_append]
  after_results_simp
  rfl
theorem V20 : V m c main_v20 = bd (gid 64#32) := by
  simp only [V, hostOps0, hostOps0_1, hostOps0_2, hostOps0_3, hostOps0_4, hostOps0_5, hostOps0_6, List.flatten_cons, List.flatten_nil, List.append_nil, List.cons_append,
      List.nil_append]
  after_results_simp
  rfl
theorem V28 : V m c main_v28 = bdK (gidK 64#32) := by
  simp only [V, hostOps0, hostOps0_1, hostOps0_2, hostOps0_3, hostOps0_4, hostOps0_5, hostOps0_6, List.flatten_cons, List.flatten_nil, List.append_nil, List.cons_append,
      List.nil_append]
  after_results_simp
  rfl
theorem V36 : V m c main_v36 = bd (gid 128#32) := by
  simp only [V, hostOps0, hostOps0_1, hostOps0_2, hostOps0_3, hostOps0_4, hostOps0_5, hostOps0_6, List.flatten_cons, List.flatten_nil, List.append_nil, List.cons_append,
      List.nil_append]
  after_results_simp
  rfl
theorem V40 : V m c main_v40 = gq (m ((c : Thread nD τ).loc main_arg3)) := by
  simp only [V, hostOps0, hostOps0_1, hostOps0_2, hostOps0_3, hostOps0_4, hostOps0_5, hostOps0_6, List.flatten_cons, List.flatten_nil, List.append_nil, List.cons_append,
      List.nil_append]
  after_results_simp
  rfl
theorem V46 : V m c main_v46 = gks (m ((c : Thread nD τ).loc main_arg4)) := by
  simp only [V, hostOps0, hostOps0_1, hostOps0_2, hostOps0_3, hostOps0_4, hostOps0_5, hostOps0_6, List.flatten_cons, List.flatten_nil, List.append_nil, List.cons_append,
      List.nil_append]
  after_results_simp
  rfl
theorem V52 : V m c main_v52 = gkw (m ((c : Thread nD τ).loc main_arg4)) := by
  simp only [V, hostOps0, hostOps0_1, hostOps0_2, hostOps0_3, hostOps0_4, hostOps0_5, hostOps0_6, List.flatten_cons, List.flatten_nil, List.append_nil, List.cons_append,
      List.nil_append]
  after_results_simp
  rfl
theorem V56 : V m c main_v56 = gm (m ((c : Thread nD τ).loc main_arg5)) := by
  simp only [V, hostOps0, hostOps0_1, hostOps0_2, hostOps0_3, hostOps0_4, hostOps0_5, hostOps0_6, List.flatten_cons, List.flatten_nil, List.append_nil, List.cons_append,
      List.nil_append]
  after_results_simp
  rfl
end

end Cert.Kernel3Ideal.Value
-- ==== Proof.ProjBlocks.lean ====
/-
  The blocks the projection kernel reads, in terms of the arguments.
-/
module

public import proofs.«01_k».proof.Proof.ProjHost

@[expose] public section

set_option maxRecDepth 16384

noncomputable section

namespace Cert.Kernel3Ideal.Value

open Cert.Kernel3Ideal Cert.Kernel3Ideal.Gen Idealize.ShloMosaic Idealize.ShloMosaic.TcCoe Idealize.SL.Sem Cert.Ffn Cert.Mix

variable (m : (ℓ : Loc nD τ sig) → Buf (Elt Ideal) ℓ)

theorem idx : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![0, 0] ∧ win0_6.index t = ![0, 0]
    ∧ win0_7.index t = ![0, 0] ∧ win0_8.index t = ![0, 0] ∧ win0_9.index t = ![0, 0] ∧ t.val < 64 :=
  (by decide +kernel : ∀ t : Fin grid0.N, _)

theorem idxR : ∀ t : Fin cfg0.N, win0_10.index t = ![t.val, 0] ∧ win0_11.index t = ![t.val, 0] ∧ win0_12.index t = ![t.val, 0]
    ∧ win0_13.index t = ![t.val, 0] ∧ win0_14.index t = ![t.val, 0] ∧ win0_15.index t = ![t.val, 0] ∧ win0_16.index t = ![t.val, 0]
    ∧ win0_17.index t = ![t.val, 0] ∧ t.val < 64 :=
  (by decide +kernel : ∀ t : Fin grid0.N, _)

theorem idxC : ∀ t : Fin cfg0.N, win0_18.index t = ![t.val / 32, 0, t.val % 32] ∧ win0_19.index t = ![t.val / 32, 0, t.val % 32]
    ∧ win0_20.index t = ![t.val / 32, 0, t.val % 32] ∧ win0_21.index t = ![t.val / 32, 0, t.val % 32]
    ∧ win0_22.index t = ![t.val / 32, 0, t.val % 32] ∧ win0_23.index t = ![t.val / 32, 0, t.val % 32] ∧ t.val < 64 :=
  (by decide +kernel : ∀ t : Fin grid0.N, _)

theorem x_at (x : FVec Ideal S2x8192x1024 .f32) (i : Fin 16384) (n : Fin 1024) : shapeCast S16384x1024 x shapeCasts_S2x8192x1024_S16384x1024 (ix2 i n)
    = x (ix3 ⟨i.val / 8192, by omega⟩ ⟨i.val % 8192, by omega⟩ n) := by
  pointwise

theorem ix3_congr {a b d : ℕ} {i i' : Fin a} {j j' : Fin b} {n : Fin d} (h : i = i') (h' : j = j') : ix3 i j n = ix3 i' j' n := by rw [h, h']

/-- The sequence and the step of row `p` of point `t`'s block. -/
abbrev bT (t : Fin cfg0.N) : Fin 2 := ⟨t.val / 32, by have : t.val < 64 := t.isLt; omega⟩
abbrev sT (t : Fin cfg0.N) (p : Fin 256) : Fin 8192 := ⟨t.val % 32 * 256 + p.val, by omega⟩

section
variable (c : Dev nD) (t : Fin cfg0.N) (p : Fin 256)
theorem blk0 (n : Fin 1024) : iblk m c 0 t (ix2 p n) = m ((c : Thread nD τ).loc main_arg0) (ix3 (bT t) (sT t p) n) := by
  refine Eq.trans (b := V m c main_v57 (ix2 ⟨t.val * 256 + p.val, by have : t.val < 64 := t.isLt; omega⟩ n)) ?_ ?_
  · blk_ext [iblk, idx t]
  · rw [V57, x_at]
    have h : t.val < 64 := t.isLt
    refine congrArg _ (ix3_congr (Fin.ext ?_) (Fin.ext ?_))
    · show (t.val * 256 + p.val) / 8192 = t.val / 32
      omega
    · show (t.val * 256 + p.val) % 8192 = t.val % 32 * 256 + p.val
      omega
theorem blk1 (n : Fin 1024) : iblk m c 1 t (ix2 0 n) = m ((c : Thread nD τ).loc main_arg1) (ix2 0 n) := by
  refine Eq.trans (b := V m c main_v12 (ix2 0 n)) ?_ ?_
  · blk_ext [iblk, idx t]
  · rw [V12]; pointwise
theorem blk2 (k : Fin 1024) (n : Fin 7168) : iblk m c 2 t (ix2 k n) = wpk (m ((c : Thread nD τ).loc main_arg2)) (ix2 k n) := by
  refine Eq.trans (b := V m c main_v10 (ix2 k n)) ?_ ?_
  · blk_ext [iblk, idx t]
  · rw [V10]
theorem blk3 (a b : Fin 512) : iblk m c 3 t (ix2 a b) = if a.val / 64 = b.val / 64 then (1 : EReal) else 0 := by
  refine Eq.trans (b := V m c main_v20 (ix2 a b)) ?_ ?_
  · blk_ext [iblk, idx t]
  · rw [V20]; exact bd64_at a b
theorem blk4 (a b : Fin 128) : iblk m c 4 t (ix2 a b) = if a.val / 64 = b.val / 64 then (1 : EReal) else 0 := by
  refine Eq.trans (b := V m c main_v28 (ix2 a b)) ?_ ?_
  · blk_ext [iblk, idx t]
  · rw [V28]; exact bdK64_at a b
theorem blk5 (a b : Fin 512) : iblk m c 5 t (ix2 a b) = if a.val / 128 = b.val / 128 then (1 : EReal) else 0 := by
  refine Eq.trans (b := V m c main_v36 (ix2 a b)) ?_ ?_
  · blk_ext [iblk, idx t]
  · rw [V36]; exact bd128_at a b
theorem blk6 (n : Fin 512) : iblk m c 6 t (ix2 0 n) = m ((c : Thread nD τ).loc main_arg3) (ix2 0 ⟨n.val % 64, by omega⟩) := by
  refine Eq.trans (b := V m c main_v40 (ix2 0 n)) ?_ ?_
  · blk_ext [iblk, idx t]
  · rw [V40]; exact gq_at _ n
theorem blk7 (n : Fin 128) : iblk m c 7 t (ix2 0 n) = m ((c : Thread nD τ).loc main_arg4) (ix3 0 1 ⟨n.val % 64, by omega⟩) := by
  refine Eq.trans (b := V m c main_v46 (ix2 0 n)) ?_ ?_
  · blk_ext [iblk, idx t]
  · rw [V46]; exact gks_at _ n
theorem blk8 (n : Fin 128) : iblk m c 8 t (ix2 0 n) = m ((c : Thread nD τ).loc main_arg4) (ix3 0 2 ⟨n.val % 64, by omega⟩) := by
  refine Eq.trans (b := V m c main_v52 (ix2 0 n)) ?_ ?_
  · blk_ext [iblk, idx t]
  · rw [V52]; exact gkw_at _ n
theorem blk9 (n : Fin 512) : iblk m c 9 t (ix2 0 n) = m ((c : Thread nD τ).loc main_arg5) (ix2 0 ⟨n.val % 128, by omega⟩) := by
  refine Eq.trans (b := V m c main_v56 (ix2 0 n)) ?_ ?_
  · blk_ext [iblk, idx t]
  · rw [V56]; exact gm_at _ n
end

end Cert.Kernel3Ideal.Value
-- ==== Proof.ProjArr.lean ====
/-
  The arrays of the projections, entry by entry, from the arguments: `b` is the sequence, `s` the step, `n` the column.
-/
module

public import proofs.«01_k».proof.Proof.ProjBlocks

@[expose] public section

set_option maxRecDepth 16384

noncomputable section

namespace Cert.Mix

open Idealize.ShloMosaic Cert.Kernel3Ideal Cert.Ffn

section
variable (x : FVec Ideal S2x8192x1024 .f32) (g : FVec Ideal S1x1024 .f32) (w : FVec Ideal S1x1024x6936 .f32)
  (gq : FVec Ideal S1x64 .f32) (gk : FVec Ideal S1x3x64 .f32) (gm : FVec Ideal S1x128 .f32) (b : Fin 2) (s : Fin 8192)

/-- The normalised row times column `c` of the weights. -/
def ZA (c : Fin 6936) : EReal := ∑ k, nrm (fun j => x (ix3 b s j)) (fun j => g (ix2 0 j)) k * w (ix3 0 k c)

def LX (n : Fin 1024) : EReal := ZA x g w b s ⟨n.val, by omega⟩
def LG (n : Fin 1024) : EReal := gel (ZA x g w b s ⟨1024 + n.val, by omega⟩)
def QQ (n : Fin 512) : EReal := grp (Ideal.ofBits .f32 0x42800000#32)
    (∑ l : Fin 64, ZA x g w b s ⟨2048 + (n.val / 64 * 64 + l.val), by omega⟩ * ZA x g w b s ⟨2048 + (n.val / 64 * 64 + l.val), by omega⟩)
    (ZA x g w b s ⟨2048 + n.val, by omega⟩) (gq (ix2 0 ⟨n.val % 64, by omega⟩)) * Ideal.ofBits .f32 0x3E000000#32
def CM (n : Fin 256) : EReal := ZA x g w b s ⟨2560 + n.val, by omega⟩
def SK (n : Fin 128) : EReal := grp (Ideal.ofBits .f32 0x42800000#32)
    (∑ l : Fin 64, ZA x g w b s ⟨2816 + (n.val / 64 * 64 + l.val), by omega⟩ * ZA x g w b s ⟨2816 + (n.val / 64 * 64 + l.val), by omega⟩)
    (ZA x g w b s ⟨2816 + n.val, by omega⟩) (gk (ix3 0 1 ⟨n.val % 64, by omega⟩))
def WK (n : Fin 128) : EReal := grp (Ideal.ofBits .f32 0x42800000#32)
    (∑ l : Fin 64, ZA x g w b s ⟨3072 + (n.val / 64 * 64 + l.val), by omega⟩ * ZA x g w b s ⟨3072 + (n.val / 64 * 64 + l.val), by omega⟩)
    (ZA x g w b s ⟨3072 + n.val, by omega⟩) (gk (ix3 0 2 ⟨n.val % 64, by omega⟩))
def MQ (n : Fin 512) : EReal := grp (Ideal.ofBits .f32 0x43000000#32)
    (∑ l : Fin 128, ZA x g w b s ⟨3352 + (n.val / 128 * 128 + l.val), by omega⟩ * ZA x g w b s ⟨3352 + (n.val / 128 * 128 + l.val), by omega⟩)
    (ZA x g w b s ⟨3352 + n.val, by omega⟩) (gm (ix2 0 ⟨n.val % 128, by omega⟩))
def MG (n : Fin 3072) : EReal := Ideal.logistic (ZA x g w b s ⟨3864 + n.val, by omega⟩)
def SV (n : Fin 128) : EReal := ZA x g w b s ⟨2944 + n.val, by omega⟩
def WV (n : Fin 128) : EReal := ZA x g w b s ⟨3200 + n.val, by omega⟩
def ST (n : Fin 256) : EReal := if h : n.val < 128 then SK x g w gk b s ⟨n.val, h⟩ else SV x g w b s ⟨n.val - 128, by omega⟩
def WT (n : Fin 256) : EReal := if h : n.val < 128 then WK x g w gk b s ⟨n.val, h⟩ else WV x g w b s ⟨n.val - 128, by omega⟩
def NG (n : Fin 256) : EReal :=
  Ideal.logistic (if h : n.val % 128 < 12 then ZA x g w b s ⟨3328 + (n.val / 128 * 12 + n.val % 128), by omega⟩ else 0)
end

end Cert.Mix

namespace Cert.Kernel3Ideal.Value

open Cert.Kernel3Ideal Cert.Kernel3Ideal.Gen Idealize.ShloMosaic Idealize.ShloMosaic.TcCoe Idealize.SL.Sem Cert.Ffn Cert.Mix

/-! The columns of the packed weights that each product loads. -/
section
variable (v : Vec Ideal S1024x7168 .bf16) (k : Fin 1024)
theorem ld2 (n : Fin 1024) : View.ld v r0_2 (ix2 k n) = v (ix2 k ⟨n.val, by omega⟩) := by pointwise
theorem ld3 (n : Fin 1024) : View.ld v r0_3 (ix2 k n) = v (ix2 k ⟨1024 + n.val, by omega⟩) := by pointwise
theorem ld4 (n : Fin 512) : View.ld v r0_4 (ix2 k n) = v (ix2 k ⟨2048 + n.val, by omega⟩) := by pointwise
theorem ld8 (n : Fin 256) : View.ld v r0_8 (ix2 k n) = v (ix2 k ⟨2560 + n.val, by omega⟩) := by pointwise
theorem ld11 (n : Fin 256) : View.ld v r0_11 (ix2 k n) = v (ix2 k ⟨2816 + n.val, by omega⟩) := by pointwise
theorem ld18 (n : Fin 256) : View.ld v r0_18 (ix2 k n) = v (ix2 k ⟨3072 + n.val, by omega⟩) := by pointwise
theorem ld19 (n : Fin 256) : View.ld v r0_19 (ix2 k n) = v (ix2 k ⟨3328 + n.val, by omega⟩) := by pointwise
theorem ld20 (n : Fin 512) : View.ld v r0_20 (ix2 k n) = v (ix2 k ⟨3584 + n.val, by omega⟩) := by pointwise
theorem ld21 (n : Fin 3072) : View.ld v r0_21 (ix2 k n) = v (ix2 k ⟨4096 + n.val, by omega⟩) := by pointwise
end

end Cert.Kernel3Ideal.Value
-- ==== Proof.ProjRef.lean ====
/-
  The plain projections: the stages of each result as functions of arrays.
-/
module

public import proofs.«01_k».proof.Proof.Gen.Reference3Ideal.Run
public import proofs.«01_k».proof.Proof.ProjArr

@[expose] public section

set_option maxRecDepth 16384

noncomputable section

namespace Cert.Reference3Ideal.Value

open Cert.Reference3Ideal Cert.Reference3Ideal.Gen Idealize.ShloMosaic Idealize.ShloMosaic.TcCoe Idealize.SL.Sem Cert.Ffn Cert.Mix

/-! The arrays between the arguments and the results. -/

def R15 (a0 : FVec Ideal S2x8192x1024 .f32) (a1 : FVec Ideal S1x1024 .f32) (a2 : FVec Ideal S1x1024x6936 .f32) : FVec Ideal S2x8192x6936 .f32 :=
  Host.dotGeneral dot_S2x8192x1024_S1024x6936_S2x8192x6936_2_0_01_1_n_n none (mulf (mulf a0 (broadcastInDim S2x8192x1024 ![0, 1, 2] bcast_S2x8192x1_S2x8192x1024_0_1_2 (Host.rsqrt (addf (Host.divf (broadcastInDim S2x8192x1 ![0, 1] bcast_S2x8192_S2x8192x1_0_1 (Host.reduceAdd (mulf a0 a0) (constant S_ .f32 0x00000000#32) reducesTo_S2x8192x1024_S2x8192_d2 h_S_)) (broadcastInDim S2x8192x1 ![] bcast_S_S2x8192x1 (constant S_ .f32 0x44800000#32))) (broadcastInDim S2x8192x1 ![] bcast_S_S2x8192x1 (constant S_ .f32 0x358637BD#32)))))) (broadcastInDim S2x8192x1024 ![0, 1, 2] bcast_S1x1x1024_S2x8192x1024_0_1_2 (broadcastInDim S1x1x1024 ![2] bcast_S1024_S1x1x1024_2 (shapeCast _ a1 shapeCasts_S1x1024_S1024)))) (shapeCast _ a2 shapeCasts_S1x1024x6936_S1024x6936)
def R17 (v15 : FVec Ideal S2x8192x6936 .f32) : FVec Ideal S2x8192x1024 .f32 :=
  extractStridedSlice S2x8192x1024 ![0, 0, 1024] v15 slices_S2x8192x6936_S2x8192x1024_0_0_1024
def R23 (v15 : FVec Ideal S2x8192x6936 .f32) : FVec Ideal S2x8192x8x64 .f32 :=
  shapeCast _ (extractStridedSlice S2x8192x512 ![0, 0, 2048] v15 slices_S2x8192x6936_S2x8192x512_0_0_2048) shapeCasts_S2x8192x512_S2x8192x8x64
def R38 (v15 : FVec Ideal S2x8192x6936 .f32) : FVec Ideal S2x8192x3x2x2x64 .f32 :=
  shapeCast _ (extractStridedSlice S2x8192x768 ![0, 0, 2560] v15 slices_S2x8192x6936_S2x8192x768_0_0_2560) shapeCasts_S2x8192x768_S2x8192x3x2x2x64
def R40 (v38 : FVec Ideal S2x8192x3x2x2x64 .f32) : FVec Ideal S2x8192x2x2x64 .f32 :=
  shapeCast _ (extractStridedSlice S2x8192x1x2x2x64 ![0, 0, 0, 0, 0, 0] v38 slices_S2x8192x3x2x2x64_S2x8192x1x2x2x64_0_0_0_0_0_0) shapeCasts_S2x8192x1x2x2x64_S2x8192x2x2x64
def R42 (v38 : FVec Ideal S2x8192x3x2x2x64 .f32) : FVec Ideal S2x8192x2x64 .f32 :=
  shapeCast _ (extractStridedSlice S2x8192x1x1x2x64 ![0, 0, 1, 0, 0, 0] v38 slices_S2x8192x3x2x2x64_S2x8192x1x1x2x64_0_0_1_0_0_0) shapeCasts_S2x8192x1x1x2x64_S2x8192x2x64
def R62 (a4 : FVec Ideal S1x3x64 .f32) (v38 : FVec Ideal S2x8192x3x2x2x64 .f32) (v42 : FVec Ideal S2x8192x2x64 .f32) : FVec Ideal S2x8192x2x2x64 .f32 :=
  concatenate S2x8192x2x2x64 2 [⟨S2x8192x1x2x64, (broadcastInDim S2x8192x1x2x64 ![0, 1, 3, 4] bcast_S2x8192x2x64_S2x8192x1x2x64_0_1_3_4 (mulf (mulf v42 (broadcastInDim S2x8192x2x64 ![0, 1, 2, 3] bcast_S2x8192x2x1_S2x8192x2x64_0_1_2_3 (Host.rsqrt (addf (Host.divf (broadcastInDim S2x8192x2x1 ![0, 1, 2] bcast_S2x8192x2_S2x8192x2x1_0_1_2 (Host.reduceAdd (mulf v42 v42) (constant S_ .f32 0x00000000#32) reducesTo_S2x8192x2x64_S2x8192x2_d3 h_S_)) (broadcastInDim S2x8192x2x1 ![] bcast_S_S2x8192x2x1 (constant S_ .f32 0x42800000#32))) (broadcastInDim S2x8192x2x1 ![] bcast_S_S2x8192x2x1 (constant S_ .f32 0x358637BD#32)))))) (broadcastInDim S2x8192x2x64 ![0, 1, 2, 3] bcast_S1x1x1x64_S2x8192x2x64_0_1_2_3 (broadcastInDim S1x1x1x64 ![3] bcast_S64_S1x1x1x64_3 (shapeCast _ (extractStridedSlice S1x1x64 ![0, 1, 0] a4 slices_S1x3x64_S1x1x64_0_1_0) shapeCasts_S1x1x64_S64)))))⟩, ⟨S2x8192x1x2x64, (broadcastInDim S2x8192x1x2x64 ![0, 1, 3, 4] bcast_S2x8192x2x64_S2x8192x1x2x64_0_1_3_4 (shapeCast _ (extractStridedSlice S2x8192x1x1x2x64 ![0, 0, 1, 1, 0, 0] v38 slices_S2x8192x3x2x2x64_S2x8192x1x1x2x64_0_0_1_1_0_0) shapeCasts_S2x8192x1x1x2x64_S2x8192x2x64))⟩] concatenates_S2x8192x1x2x64_S2x8192x1x2x64_S2x8192x2x2x64_d2
def R64 (v38 : FVec Ideal S2x8192x3x2x2x64 .f32) : FVec Ideal S2x8192x2x64 .f32 :=
  shapeCast _ (extractStridedSlice S2x8192x1x1x2x64 ![0, 0, 2, 0, 0, 0] v38 slices_S2x8192x3x2x2x64_S2x8192x1x1x2x64_0_0_2_0_0_0) shapeCasts_S2x8192x1x1x2x64_S2x8192x2x64
def R84 (a4 : FVec Ideal S1x3x64 .f32) (v38 : FVec Ideal S2x8192x3x2x2x64 .f32) (v64 : FVec Ideal S2x8192x2x64 .f32) : FVec Ideal S2x8192x2x2x64 .f32 :=
  concatenate S2x8192x2x2x64 2 [⟨S2x8192x1x2x64, (broadcastInDim S2x8192x1x2x64 ![0, 1, 3, 4] bcast_S2x8192x2x64_S2x8192x1x2x64_0_1_3_4 (mulf (mulf v64 (broadcastInDim S2x8192x2x64 ![0, 1, 2, 3] bcast_S2x8192x2x1_S2x8192x2x64_0_1_2_3 (Host.rsqrt (addf (Host.divf (broadcastInDim S2x8192x2x1 ![0, 1, 2] bcast_S2x8192x2_S2x8192x2x1_0_1_2 (Host.reduceAdd (mulf v64 v64) (constant S_ .f32 0x00000000#32) reducesTo_S2x8192x2x64_S2x8192x2_d3 h_S_)) (broadcastInDim S2x8192x2x1 ![] bcast_S_S2x8192x2x1 (constant S_ .f32 0x42800000#32))) (broadcastInDim S2x8192x2x1 ![] bcast_S_S2x8192x2x1 (constant S_ .f32 0x358637BD#32)))))) (broadcastInDim S2x8192x2x64 ![0, 1, 2, 3] bcast_S1x1x1x64_S2x8192x2x64_0_1_2_3 (broadcastInDim S1x1x1x64 ![3] bcast_S64_S1x1x1x64_3 (shapeCast _ (extractStridedSlice S1x1x64 ![0, 2, 0] a4 slices_S1x3x64_S1x1x64_0_2_0) shapeCasts_S1x1x64_S64)))))⟩, ⟨S2x8192x1x2x64, (broadcastInDim S2x8192x1x2x64 ![0, 1, 3, 4] bcast_S2x8192x2x64_S2x8192x1x2x64_0_1_3_4 (shapeCast _ (extractStridedSlice S2x8192x1x1x2x64 ![0, 0, 2, 1, 0, 0] v38 slices_S2x8192x3x2x2x64_S2x8192x1x1x2x64_0_0_2_1_0_0) shapeCasts_S2x8192x1x1x2x64_S2x8192x2x64))⟩] concatenates_S2x8192x1x2x64_S2x8192x1x2x64_S2x8192x2x2x64_d2
def R93 (v15 : FVec Ideal S2x8192x6936 .f32) : FVec Ideal S2x8192x4x128 .f32 :=
  shapeCast _ (extractStridedSlice S2x8192x512 ![0, 0, 3352] v15 slices_S2x8192x6936_S2x8192x512_0_0_3352) shapeCasts_S2x8192x512_S2x8192x4x128

/-! The results. -/

def R114 (v15 : FVec Ideal S2x8192x6936 .f32) : FVec Ideal S16384x1024 .f32 :=
  shapeCast _ (extractStridedSlice S2x8192x1024 ![0, 0, 0] v15 slices_S2x8192x6936_S2x8192x1024_0_0_0) shapeCasts_S2x8192x1024_S16384x1024
def R128 (v17 : FVec Ideal S2x8192x1024 .f32) : FVec Ideal S16384x1024 .f32 :=
  shapeCast _ (mulf v17 (mulf (broadcastInDim S2x8192x1024 ![] bcast_S_S2x8192x1024 (constant S_ .f32 0x3F000000#32)) (addf (broadcastInDim S2x8192x1024 ![] bcast_S_S2x8192x1024 (constant S_ .f32 0x3F800000#32)) (Host.tanh (mulf (broadcastInDim S2x8192x1024 ![] bcast_S_S2x8192x1024 (constant S_ .f32 0x3F4C422A#32)) (addf v17 (mulf (broadcastInDim S2x8192x1024 ![] bcast_S_S2x8192x1024 (constant S_ .f32 0x3D372713#32)) (mulf (mulf v17 v17) v17)))))))) shapeCasts_S2x8192x1024_S16384x1024
def R131 (a3 : FVec Ideal S1x64 .f32) (v23 : FVec Ideal S2x8192x8x64 .f32) : FVec Ideal S16384x512 .f32 :=
  shapeCast _ (mulf (mulf (mulf v23 (broadcastInDim S2x8192x8x64 ![0, 1, 2, 3] bcast_S2x8192x8x1_S2x8192x8x64_0_1_2_3 (Host.rsqrt (addf (Host.divf (broadcastInDim S2x8192x8x1 ![0, 1, 2] bcast_S2x8192x8_S2x8192x8x1_0_1_2 (Host.reduceAdd (mulf v23 v23) (constant S_ .f32 0x00000000#32) reducesTo_S2x8192x8x64_S2x8192x8_d3 h_S_)) (broadcastInDim S2x8192x8x1 ![] bcast_S_S2x8192x8x1 (constant S_ .f32 0x42800000#32))) (broadcastInDim S2x8192x8x1 ![] bcast_S_S2x8192x8x1 (constant S_ .f32 0x358637BD#32)))))) (broadcastInDim S2x8192x8x64 ![0, 1, 2, 3] bcast_S1x1x1x64_S2x8192x8x64_0_1_2_3 (broadcastInDim S1x1x1x64 ![3] bcast_S64_S1x1x1x64_3 (shapeCast _ a3 shapeCasts_S1x64_S64)))) (broadcastInDim S2x8192x8x64 ![] bcast_S_S2x8192x8x64 (constant S_ .f32 0x3E000000#32))) shapeCasts_S2x8192x8x64_S16384x512
def R132 (v40 : FVec Ideal S2x8192x2x2x64 .f32) : FVec Ideal S16384x256 .f32 :=
  shapeCast _ v40 shapeCasts_S2x8192x2x2x64_S16384x256
def R136 (v62 : FVec Ideal S2x8192x2x2x64 .f32) : FVec Ideal S16384x128 .bf16 :=
  truncf .bf16 (shapeCast _ (shapeCast _ (extractStridedSlice S2x8192x1x2x64 ![0, 0, 0, 0, 0] v62 slices_S2x8192x2x2x64_S2x8192x1x2x64_0_0_0_0_0) shapeCasts_S2x8192x1x2x64_S2x8192x2x64) shapeCasts_S2x8192x2x64_S16384x128) bitsLt_bf16_f32
def R140 (v84 : FVec Ideal S2x8192x2x2x64 .f32) : FVec Ideal S16384x128 .bf16 :=
  truncf .bf16 (shapeCast _ (shapeCast _ (extractStridedSlice S2x8192x1x2x64 ![0, 0, 0, 0, 0] v84 slices_S2x8192x2x2x64_S2x8192x1x2x64_0_0_0_0_0) shapeCasts_S2x8192x1x2x64_S2x8192x2x64) shapeCasts_S2x8192x2x64_S16384x128) bitsLt_bf16_f32
def R142 (a5 : FVec Ideal S1x128 .f32) (v93 : FVec Ideal S2x8192x4x128 .f32) : FVec Ideal S16384x512 .bf16 :=
  truncf .bf16 (shapeCast _ (mulf (mulf v93 (broadcastInDim S2x8192x4x128 ![0, 1, 2, 3] bcast_S2x8192x4x1_S2x8192x4x128_0_1_2_3 (Host.rsqrt (addf (Host.divf (broadcastInDim S2x8192x4x1 ![0, 1, 2] bcast_S2x8192x4_S2x8192x4x1_0_1_2 (Host.reduceAdd (mulf v93 v93) (constant S_ .f32 0x00000000#32) reducesTo_S2x8192x4x128_S2x8192x4_d3 h_S_)) (broadcastInDim S2x8192x4x1 ![] bcast_S_S2x8192x4x1 (constant S_ .f32 0x43000000#32))) (broadcastInDim S2x8192x4x1 ![] bcast_S_S2x8192x4x1 (constant S_ .f32 0x358637BD#32)))))) (broadcastInDim S2x8192x4x128 ![0, 1, 2, 3] bcast_S1x1x1x128_S2x8192x4x128_0_1_2_3 (broadcastInDim S1x1x1x128 ![3] bcast_S128_S1x1x1x128_3 (shapeCast _ a5 shapeCasts_S1x128_S128)))) shapeCasts_S2x8192x4x128_S16384x512) bitsLt_bf16_f32
def R143 (v15 : FVec Ideal S2x8192x6936 .f32) : FVec Ideal S16384x3072 .f32 :=
  shapeCast _ (Host.divf (broadcastInDim S2x8192x3072 ![] bcast_S_S2x8192x3072 (constant S_ .f32 0x3F800000#32)) (addf (broadcastInDim S2x8192x3072 ![] bcast_S_S2x8192x3072 (constant S_ .f32 0x3F800000#32)) (Host.exp (Host.negf (extractStridedSlice S2x8192x3072 ![0, 0, 3864] v15 slices_S2x8192x6936_S2x8192x3072_0_0_3864))))) shapeCasts_S2x8192x3072_S16384x3072
def R145 (v40 : FVec Ideal S2x8192x2x2x64 .f32) : FVec Ideal S2x256x8192 .f32 :=
  transpose S2x256x8192 [0, 2, 1] (shapeCast _ v40 shapeCasts_S2x8192x2x2x64_S2x8192x256) transposes_S2x8192x256_S2x256x8192_0_2_1
def R147 (v62 : FVec Ideal S2x8192x2x2x64 .f32) : FVec Ideal S2x256x8192 .f32 :=
  transpose S2x256x8192 [0, 2, 1] (shapeCast _ v62 shapeCasts_S2x8192x2x2x64_S2x8192x256) transposes_S2x8192x256_S2x256x8192_0_2_1
def R149 (v84 : FVec Ideal S2x8192x2x2x64 .f32) : FVec Ideal S2x256x8192 .f32 :=
  transpose S2x256x8192 [0, 2, 1] (shapeCast _ v84 shapeCasts_S2x8192x2x2x64_S2x8192x256) transposes_S2x8192x256_S2x256x8192_0_2_1
def R154 (v62 : FVec Ideal S2x8192x2x2x64 .f32) : FVec Ideal S2x128x8192 .bf16 :=
  truncf .bf16 (transpose S2x128x8192 [0, 2, 1] (shapeCast _ (shapeCast _ (extractStridedSlice S2x8192x1x2x64 ![0, 0, 1, 0, 0] v62 slices_S2x8192x2x2x64_S2x8192x1x2x64_0_0_1_0_0) shapeCasts_S2x8192x1x2x64_S2x8192x2x64) shapeCasts_S2x8192x2x64_S2x8192x128) transposes_S2x8192x128_S2x128x8192_0_2_1) bitsLt_bf16_f32
def R159 (v84 : FVec Ideal S2x8192x2x2x64 .f32) : FVec Ideal S2x128x8192 .bf16 :=
  truncf .bf16 (transpose S2x128x8192 [0, 2, 1] (shapeCast _ (shapeCast _ (extractStridedSlice S2x8192x1x2x64 ![0, 0, 1, 0, 0] v84 slices_S2x8192x2x2x64_S2x8192x1x2x64_0_0_1_0_0) shapeCasts_S2x8192x1x2x64_S2x8192x2x64) shapeCasts_S2x8192x2x64_S2x8192x128) transposes_S2x8192x128_S2x128x8192_0_2_1) bitsLt_bf16_f32
def R161 (v15 : FVec Ideal S2x8192x6936 .f32) : FVec Ideal S2x256x8192 .f32 :=
  transpose S2x256x8192 [0, 2, 1] (shapeCast _ (Host.divf (broadcastInDim S2x8192x2x128 ![] bcast_S_S2x8192x2x128 (constant S_ .f32 0x3F800000#32)) (addf (broadcastInDim S2x8192x2x128 ![] bcast_S_S2x8192x2x128 (constant S_ .f32 0x3F800000#32)) (Host.exp (Host.negf (pad S2x8192x2x128 ![0, 0, 0, 0] ![0, 0, 0, 116] ![0, 0, 0, 0] (shapeCast _ (extractStridedSlice S2x8192x24 ![0, 0, 3328] v15 slices_S2x8192x6936_S2x8192x24_0_0_3328) shapeCasts_S2x8192x24_S2x8192x2x12) (sitofp .f32 (constantI S_ 32 0#32)) pads_S2x8192x2x12_S2x8192x2x128_000_000_000_01160 h_S_))))) shapeCasts_S2x8192x2x128_S2x8192x256) transposes_S2x8192x256_S2x256x8192_0_2_1

/-! The stages, entry by entry. -/
section
variable (b : Fin 2) (s : Fin 8192)

theorem R15_at (x : FVec Ideal S2x8192x1024 .f32) (g : FVec Ideal S1x1024 .f32) (w : FVec Ideal S1x1024x6936 .f32) (n : Fin 6936) :
    R15 x g w (ix3 b s n) = ZA x g w b s n := by
  unfold ZA nrm
  pointwise [R15]

variable (z : FVec Ideal S2x8192x6936 .f32)

theorem R17_at (n : Fin 1024) : R17 z (ix3 b s n) = z (ix3 b s ⟨1024 + n.val, by omega⟩) := by
  pointwise [R17]
theorem R23_at (h : Fin 8) (d : Fin 64) : R23 z (ix4 b s h d) = z (ix3 b s ⟨2048 + (h.val * 64 + d.val), by omega⟩) := by
  pointwise [R23]
theorem R40_at (e h : Fin 2) (d : Fin 64) : R40 (R38 z) (ix5 b s e h d) = z (ix3 b s ⟨2560 + (e.val * 128 + h.val * 64 + d.val), by omega⟩) := by
  pointwise [R40, R38]
theorem R42_at (h : Fin 2) (d : Fin 64) : R42 (R38 z) (ix4 b s h d) = z (ix3 b s ⟨2816 + (h.val * 64 + d.val), by omega⟩) := by
  pointwise [R42, R38]
  exact congrArg (fun i => z (ix3 b s i)) (Fin.ext (by show 2560 + (256 + h.val * 64 + d.val) = 2816 + (h.val * 64 + d.val); omega))
theorem R64_at (h : Fin 2) (d : Fin 64) : R64 (R38 z) (ix4 b s h d) = z (ix3 b s ⟨3072 + (h.val * 64 + d.val), by omega⟩) := by
  pointwise [R64, R38]
  exact congrArg (fun i => z (ix3 b s i)) (Fin.ext (by show 2560 + (512 + h.val * 64 + d.val) = 3072 + (h.val * 64 + d.val); omega))
theorem R93_at (h : Fin 4) (d : Fin 128) : R93 z (ix4 b s h d) = z (ix3 b s ⟨3352 + (h.val * 128 + d.val), by omega⟩) := by
  pointwise [R93]

theorem R62_k (v38 : FVec Ideal S2x8192x3x2x2x64 .f32) (u : FVec Ideal S2x8192x2x64 .f32) (g : FVec Ideal S1x3x64 .f32) (h : Fin 2) (d : Fin 64) :
    R62 g v38 u (ix5 b s 0 h d) = grp (Ideal.ofBits .f32 0x42800000#32) (∑ l : Fin 64, u (ix4 b s h l) * u (ix4 b s h l)) (u (ix4 b s h d)) (g (ix3 0 1 d)) := by
  unfold grp
  pointwise [R62]
theorem R62_v (u : FVec Ideal S2x8192x2x64 .f32) (g : FVec Ideal S1x3x64 .f32) (h : Fin 2) (d : Fin 64) :
    R62 g (R38 z) u (ix5 b s 1 h d) = z (ix3 b s ⟨2944 + (h.val * 64 + d.val), by omega⟩) := by
  pointwise [R62, R38]
  exact congrArg (fun i => z (ix3 b s i)) (Fin.ext (by show 2560 + (384 + h.val * 64 + d.val) = 2944 + (h.val * 64 + d.val); omega))
theorem R84_k (v38 : FVec Ideal S2x8192x3x2x2x64 .f32) (u : FVec Ideal S2x8192x2x64 .f32) (g : FVec Ideal S1x3x64 .f32) (h : Fin 2) (d : Fin 64) :
    R84 g v38 u (ix5 b s 0 h d) = grp (Ideal.ofBits .f32 0x42800000#32) (∑ l : Fin 64, u (ix4 b s h l) * u (ix4 b s h l)) (u (ix4 b s h d)) (g (ix3 0 2 d)) := by
  unfold grp
  pointwise [R84]
theorem R84_v (u : FVec Ideal S2x8192x2x64 .f32) (g : FVec Ideal S1x3x64 .f32) (h : Fin 2) (d : Fin 64) :
    R84 g (R38 z) u (ix5 b s 1 h d) = z (ix3 b s ⟨3200 + (h.val * 64 + d.val), by omega⟩) := by
  pointwise [R84, R38]
  exact congrArg (fun i => z (ix3 b s i)) (Fin.ext (by show 2560 + (640 + h.val * 64 + d.val) = 3200 + (h.val * 64 + d.val); omega))
end

/-! The results, entry by entry. -/
section
variable (i : Fin 16384)

/-- The sequence and the step of a row. -/
abbrev bR : Fin 2 := ⟨i.val / 8192, by omega⟩
abbrev sR : Fin 8192 := ⟨i.val % 8192, by omega⟩

theorem R114_at (z : FVec Ideal S2x8192x6936 .f32) (n : Fin 1024) : R114 z (ix2 i n) = z (ix3 (bR i) (sR i) ⟨n.val, by omega⟩) := by
  pointwise [R114]
theorem R128_at (v : FVec Ideal S2x8192x1024 .f32) (n : Fin 1024) : R128 v (ix2 i n) = gel (v (ix3 (bR i) (sR i) n)) := by
  unfold gel
  rw [← mul_assoc (v _) (v _) (v _)]
  pointwise [R128]
theorem R131_at (v : FVec Ideal S2x8192x8x64 .f32) (g : FVec Ideal S1x64 .f32) (n : Fin 512) : R131 g v (ix2 i n)
    = grp (Ideal.ofBits .f32 0x42800000#32) (∑ l : Fin 64, v (ix4 (bR i) (sR i) ⟨n.val / 64, by omega⟩ l) * v (ix4 (bR i) (sR i) ⟨n.val / 64, by omega⟩ l))
      (v (ix4 (bR i) (sR i) ⟨n.val / 64, by omega⟩ ⟨n.val % 64, by omega⟩)) (g (ix2 0 ⟨n.val % 64, by omega⟩)) * Ideal.ofBits .f32 0x3E000000#32 := by
  unfold grp
  pointwise [R131]
theorem R132_at (v : FVec Ideal S2x8192x2x2x64 .f32) (n : Fin 256) : R132 v (ix2 i n)
    = v (ix5 (bR i) (sR i) ⟨n.val / 128, by omega⟩ ⟨n.val / 64 % 2, by omega⟩ ⟨n.val % 64, by omega⟩) := by
  pointwise [R132]
theorem R136_at (v : FVec Ideal S2x8192x2x2x64 .f32) (n : Fin 128) : R136 v (ix2 i n)
    = v (ix5 (bR i) (sR i) 0 ⟨n.val / 64, by omega⟩ ⟨n.val % 64, by omega⟩) := by
  pointwise [R136]
theorem R140_at (v : FVec Ideal S2x8192x2x2x64 .f32) (n : Fin 128) : R140 v (ix2 i n)
    = v (ix5 (bR i) (sR i) 0 ⟨n.val / 64, by omega⟩ ⟨n.val % 64, by omega⟩) := by
  pointwise [R140]
theorem R142_at (v : FVec Ideal S2x8192x4x128 .f32) (g : FVec Ideal S1x128 .f32) (n : Fin 512) : R142 g v (ix2 i n)
    = grp (Ideal.ofBits .f32 0x43000000#32) (∑ l : Fin 128, v (ix4 (bR i) (sR i) ⟨n.val / 128, by omega⟩ l) * v (ix4 (bR i) (sR i) ⟨n.val / 128, by omega⟩ l))
      (v (ix4 (bR i) (sR i) ⟨n.val / 128, by omega⟩ ⟨n.val % 128, by omega⟩)) (g (ix2 0 ⟨n.val % 128, by omega⟩)) := by
  unfold grp
  pointwise [R142]
theorem R143_at (z : FVec Ideal S2x8192x6936 .f32) (n : Fin 3072) : R143 z (ix2 i n) = Ideal.logistic (z (ix3 (bR i) (sR i) ⟨3864 + n.val, by omega⟩)) := by
  pointwise [R143]
  rfl
end

section
variable (b : Fin 2) (s : Fin 8192)
theorem R145_at (v : FVec Ideal S2x8192x2x2x64 .f32) (n : Fin 256) : R145 v (ix3 b n s)
    = v (ix5 b s ⟨n.val / 128, by omega⟩ ⟨n.val / 64 % 2, by omega⟩ ⟨n.val % 64, by omega⟩) := by
  pointwise [R145]
theorem R147_at (v : FVec Ideal S2x8192x2x2x64 .f32) (n : Fin 256) : R147 v (ix3 b n s)
    = v (ix5 b s ⟨n.val / 128, by omega⟩ ⟨n.val / 64 % 2, by omega⟩ ⟨n.val % 64, by omega⟩) := by
  pointwise [R147]
theorem R149_at (v : FVec Ideal S2x8192x2x2x64 .f32) (n : Fin 256) : R149 v (ix3 b n s)
    = v (ix5 b s ⟨n.val / 128, by omega⟩ ⟨n.val / 64 % 2, by omega⟩ ⟨n.val % 64, by omega⟩) := by
  pointwise [R149]
theorem R154_at (v : FVec Ideal S2x8192x2x2x64 .f32) (n : Fin 128) : R154 v (ix3 b n s)
    = v (ix5 b s 1 ⟨n.val / 64, by omega⟩ ⟨n.val % 64, by omega⟩) := by
  pointwise [R154]
theorem R159_at (v : FVec Ideal S2x8192x2x2x64 .f32) (n : Fin 128) : R159 v (ix3 b n s)
    = v (ix5 b s 1 ⟨n.val / 64, by omega⟩ ⟨n.val % 64, by omega⟩) := by
  pointwise [R159]
theorem R161_at (z : FVec Ideal S2x8192x6936 .f32) (n : Fin 256) : R161 z (ix3 b n s)
    = Ideal.logistic (if h : n.val % 128 < 12 then z (ix3 b s ⟨3328 + (n.val / 128 * 12 + n.val % 128), by omega⟩) else 0) := by
  by_cases h : n.val % 128 < 12
  · rw [dif_pos h]
    pointwise [R161]
    rw [dif_pos ⟨by omega, h⟩]
    rfl
  · rw [dif_neg h]
    pointwise [R161]
    rw [dif_neg fun h' => h h'.2]
    have e : (FloatOps.sitofp (F := Ideal) .f32 (0#32 : BitVec 32) : EReal) = 0 := by
      show (((0#32 : BitVec 32).toInt : ℝ) : EReal) = 0
      simp
    rw [e]
    rfl
end

end Cert.Reference3Ideal.Value

end
-- ==== Proof.ProjOut.lean ====
/-
  The result arrays of the projections, and where each block of a point lies in them.
-/
module

public import proofs.«01_k».proof.Proof.ProjArr
public import proofs.«01_k».proof.Proof.Gen.Kernel3Ideal.Value

@[expose] public section

set_option maxRecDepth 16384

noncomputable section

namespace Cert.Kernel3Ideal.Value

open Cert.Kernel3Ideal Cert.Kernel3Ideal.Gen Idealize.ShloMosaic Idealize.ShloMosaic.TcCoe Idealize.SL.Sem Cert.Ffn Cert.Mix

/-- The sequence and the step of a row; the row of a point. -/
abbrev bOf (i : Fin 16384) : Fin 2 := ⟨i.val / 8192, by omega⟩
abbrev sOf (i : Fin 16384) : Fin 8192 := ⟨i.val % 8192, by omega⟩
abbrev rowOf (t : Fin cfg0.N) (p : Fin 256) : Fin 16384 := ⟨t.val * 256 + p.val, by have : t.val < 64 := t.isLt; omega⟩

theorem row_eq {n : ℕ} (F : Fin 2 → Fin 8192 → Fin n → EReal) (t : Fin cfg0.N) (p : Fin 256) (k : Fin n) :
    F (bT t) (sT t p) k = F (bOf (rowOf t p)) (sOf (rowOf t p)) k := by
  have h : t.val < 64 := t.isLt
  have e1 : bT t = bOf (rowOf t p) := Fin.ext (by show t.val / 32 = (t.val * 256 + p.val) / 8192; omega)
  have e2 : sT t p = sOf (rowOf t p) := Fin.ext (by show t.val % 32 * 256 + p.val = (t.val * 256 + p.val) % 8192; omega)
  rw [e1, e2]

variable (m : (ℓ : Loc nD τ sig) → Buf (Elt Ideal) ℓ) (c : Dev nD)

/-- Result 1. -/
def F10 : Fin 2 → Fin 8192 → Fin 1024 → EReal := LX (m ((c : Thread nD τ).loc main_arg0)) (m ((c : Thread nD τ).loc main_arg1)) (m ((c : Thread nD τ).loc main_arg2))
def Y10 : FVec Ideal S16384x1024 .f32 := fun i => F10 m c (bOf (i 0)) (sOf (i 0)) (i 1)
theorem place10 (t : Fin cfg0.N) (p : Fin 256) (n : Fin 1024) :
    F10 m c (bT t) (sT t p) n = Y10 m c (((cfg0.win 10).blk t).view.emb (ix2 p n : S256x1024.Idx)) := by
  refine (row_eq (F10 m c) t p n).trans (Eq.trans (b := Y10 m c (ix2 (rowOf t p) n)) rfl ?_)
  blk_ext [idxR t]

/-- Result 2. -/
def F11 : Fin 2 → Fin 8192 → Fin 1024 → EReal := LG (m ((c : Thread nD τ).loc main_arg0)) (m ((c : Thread nD τ).loc main_arg1)) (m ((c : Thread nD τ).loc main_arg2))
def Y11 : FVec Ideal S16384x1024 .f32 := fun i => F11 m c (bOf (i 0)) (sOf (i 0)) (i 1)
theorem place11 (t : Fin cfg0.N) (p : Fin 256) (n : Fin 1024) :
    F11 m c (bT t) (sT t p) n = Y11 m c (((cfg0.win 11).blk t).view.emb (ix2 p n : S256x1024.Idx)) := by
  refine (row_eq (F11 m c) t p n).trans (Eq.trans (b := Y11 m c (ix2 (rowOf t p) n)) rfl ?_)
  blk_ext [idxR t]

/-- Result 3. -/
def F12 : Fin 2 → Fin 8192 → Fin 512 → EReal := QQ (m ((c : Thread nD τ).loc main_arg0)) (m ((c : Thread nD τ).loc main_arg1)) (m ((c : Thread nD τ).loc main_arg2)) (m ((c : Thread nD τ).loc main_arg3))
def Y12 : FVec Ideal S16384x512 .f32 := fun i => F12 m c (bOf (i 0)) (sOf (i 0)) (i 1)
theorem place12 (t : Fin cfg0.N) (p : Fin 256) (n : Fin 512) :
    F12 m c (bT t) (sT t p) n = Y12 m c (((cfg0.win 12).blk t).view.emb (ix2 p n : S256x512.Idx)) := by
  refine (row_eq (F12 m c) t p n).trans (Eq.trans (b := Y12 m c (ix2 (rowOf t p) n)) rfl ?_)
  blk_ext [idxR t]

/-- Result 4. -/
def F13 : Fin 2 → Fin 8192 → Fin 256 → EReal := CM (m ((c : Thread nD τ).loc main_arg0)) (m ((c : Thread nD τ).loc main_arg1)) (m ((c : Thread nD τ).loc main_arg2))
def Y13 : FVec Ideal S16384x256 .f32 := fun i => F13 m c (bOf (i 0)) (sOf (i 0)) (i 1)
theorem place13 (t : Fin cfg0.N) (p : Fin 256) (n : Fin 256) :
    F13 m c (bT t) (sT t p) n = Y13 m c (((cfg0.win 13).blk t).view.emb (ix2 p n : S256x256.Idx)) := by
  refine (row_eq (F13 m c) t p n).trans (Eq.trans (b := Y13 m c (ix2 (rowOf t p) n)) rfl ?_)
  blk_ext [idxR t]

/-- Result 5. -/
def F14 : Fin 2 → Fin 8192 → Fin 128 → EReal := SK (m ((c : Thread nD τ).loc main_arg0)) (m ((c : Thread nD τ).loc main_arg1)) (m ((c : Thread nD τ).loc main_arg2)) (m ((c : Thread nD τ).loc main_arg4))
def Y14 : FVec Ideal S16384x128 .bf16 := fun i => F14 m c (bOf (i 0)) (sOf (i 0)) (i 1)
theorem place14 (t : Fin cfg0.N) (p : Fin 256) (n : Fin 128) :
    F14 m c (bT t) (sT t p) n = Y14 m c (((cfg0.win 14).blk t).view.emb (ix2 p n : S256x128.Idx)) := by
  refine (row_eq (F14 m c) t p n).trans (Eq.trans (b := Y14 m c (ix2 (rowOf t p) n)) rfl ?_)
  blk_ext [idxR t]

/-- Result 6. -/
def F15 : Fin 2 → Fin 8192 → Fin 128 → EReal := WK (m ((c : Thread nD τ).loc main_arg0)) (m ((c : Thread nD τ).loc main_arg1)) (m ((c : Thread nD τ).loc main_arg2)) (m ((c : Thread nD τ).loc main_arg4))
def Y15 : FVec Ideal S16384x128 .bf16 := fun i => F15 m c (bOf (i 0)) (sOf (i 0)) (i 1)
theorem place15 (t : Fin cfg0.N) (p : Fin 256) (n : Fin 128) :
    F15 m c (bT t) (sT t p) n = Y15 m c (((cfg0.win 15).blk t).view.emb (ix2 p n : S256x128.Idx)) := by
  refine (row_eq (F15 m c) t p n).trans (Eq.trans (b := Y15 m c (ix2 (rowOf t p) n)) rfl ?_)
  blk_ext [idxR t]

/-- Result 7. -/
def F16 : Fin 2 → Fin 8192 → Fin 512 → EReal := MQ (m ((c : Thread nD τ).loc main_arg0)) (m ((c : Thread nD τ).loc main_arg1)) (m ((c : Thread nD τ).loc main_arg2)) (m ((c : Thread nD τ).loc main_arg5))
def Y16 : FVec Ideal S16384x512 .bf16 := fun i => F16 m c (bOf (i 0)) (sOf (i 0)) (i 1)
theorem place16 (t : Fin cfg0.N) (p : Fin 256) (n : Fin 512) :
    F16 m c (bT t) (sT t p) n = Y16 m c (((cfg0.win 16).blk t).view.emb (ix2 p n : S256x512.Idx)) := by
  refine (row_eq (F16 m c) t p n).trans (Eq.trans (b := Y16 m c (ix2 (rowOf t p) n)) rfl ?_)
  blk_ext [idxR t]

/-- Result 8. -/
def F17 : Fin 2 → Fin 8192 → Fin 3072 → EReal := MG (m ((c : Thread nD τ).loc main_arg0)) (m ((c : Thread nD τ).loc main_arg1)) (m ((c : Thread nD τ).loc main_arg2))
def Y17 : FVec Ideal S16384x3072 .f32 := fun i => F17 m c (bOf (i 0)) (sOf (i 0)) (i 1)
theorem place17 (t : Fin cfg0.N) (p : Fin 256) (n : Fin 3072) :
    F17 m c (bT t) (sT t p) n = Y17 m c (((cfg0.win 17).blk t).view.emb (ix2 p n : S256x3072.Idx)) := by
  refine (row_eq (F17 m c) t p n).trans (Eq.trans (b := Y17 m c (ix2 (rowOf t p) n)) rfl ?_)
  blk_ext [idxR t]

/-- Result 9, feature by feature. -/
def F18 : Fin 2 → Fin 8192 → Fin 256 → EReal := CM (m ((c : Thread nD τ).loc main_arg0)) (m ((c : Thread nD τ).loc main_arg1)) (m ((c : Thread nD τ).loc main_arg2))
def Y18 : FVec Ideal S2x256x8192 .f32 := fun i => F18 m c (i 0) (i 2) (i 1)
theorem place18 (t : Fin cfg0.N) (p : Fin 256) (n : Fin 256) :
    F18 m c (bT t) (sT t p) n = Y18 m c (((cfg0.win 18).blk t).view.emb (ix3 0 n p : S1x256x256.Idx)) := by
  refine Eq.trans (b := Y18 m c (ix3 (bT t) n (sT t p))) rfl ?_
  blk_ext [idxC t]

/-- Result 10, feature by feature. -/
def F19 : Fin 2 → Fin 8192 → Fin 256 → EReal := ST (m ((c : Thread nD τ).loc main_arg0)) (m ((c : Thread nD τ).loc main_arg1)) (m ((c : Thread nD τ).loc main_arg2)) (m ((c : Thread nD τ).loc main_arg4))
def Y19 : FVec Ideal S2x256x8192 .f32 := fun i => F19 m c (i 0) (i 2) (i 1)
theorem place19 (t : Fin cfg0.N) (p : Fin 256) (n : Fin 256) :
    F19 m c (bT t) (sT t p) n = Y19 m c (((cfg0.win 19).blk t).view.emb (ix3 0 n p : S1x256x256.Idx)) := by
  refine Eq.trans (b := Y19 m c (ix3 (bT t) n (sT t p))) rfl ?_
  blk_ext [idxC t]

/-- Result 11, feature by feature. -/
def F20 : Fin 2 → Fin 8192 → Fin 256 → EReal := WT (m ((c : Thread nD τ).loc main_arg0)) (m ((c : Thread nD τ).loc main_arg1)) (m ((c : Thread nD τ).loc main_arg2)) (m ((c : Thread nD τ).loc main_arg4))
def Y20 : FVec Ideal S2x256x8192 .f32 := fun i => F20 m c (i 0) (i 2) (i 1)
theorem place20 (t : Fin cfg0.N) (p : Fin 256) (n : Fin 256) :
    F20 m c (bT t) (sT t p) n = Y20 m c (((cfg0.win 20).blk t).view.emb (ix3 0 n p : S1x256x256.Idx)) := by
  refine Eq.trans (b := Y20 m c (ix3 (bT t) n (sT t p))) rfl ?_
  blk_ext [idxC t]

/-- Result 12, feature by feature. -/
def F21 : Fin 2 → Fin 8192 → Fin 128 → EReal := SV (m ((c : Thread nD τ).loc main_arg0)) (m ((c : Thread nD τ).loc main_arg1)) (m ((c : Thread nD τ).loc main_arg2))
def Y21 : FVec Ideal S2x128x8192 .bf16 := fun i => F21 m c (i 0) (i 2) (i 1)
theorem place21 (t : Fin cfg0.N) (p : Fin 256) (n : Fin 128) :
    F21 m c (bT t) (sT t p) n = Y21 m c (((cfg0.win 21).blk t).view.emb (ix3 0 n p : S1x128x256.Idx)) := by
  refine Eq.trans (b := Y21 m c (ix3 (bT t) n (sT t p))) rfl ?_
  blk_ext [idxC t]

/-- Result 13, feature by feature. -/
def F22 : Fin 2 → Fin 8192 → Fin 128 → EReal := WV (m ((c : Thread nD τ).loc main_arg0)) (m ((c : Thread nD τ).loc main_arg1)) (m ((c : Thread nD τ).loc main_arg2))
def Y22 : FVec Ideal S2x128x8192 .bf16 := fun i => F22 m c (i 0) (i 2) (i 1)
theorem place22 (t : Fin cfg0.N) (p : Fin 256) (n : Fin 128) :
    F22 m c (bT t) (sT t p) n = Y22 m c (((cfg0.win 22).blk t).view.emb (ix3 0 n p : S1x128x256.Idx)) := by
  refine Eq.trans (b := Y22 m c (ix3 (bT t) n (sT t p))) rfl ?_
  blk_ext [idxC t]

/-- Result 14, feature by feature. -/
def F23 : Fin 2 → Fin 8192 → Fin 256 → EReal := NG (m ((c : Thread nD τ).loc main_arg0)) (m ((c : Thread nD τ).loc main_arg1)) (m ((c : Thread nD τ).loc main_arg2))
def Y23 : FVec Ideal S2x256x8192 .f32 := fun i => F23 m c (i 0) (i 2) (i 1)
theorem place23 (t : Fin cfg0.N) (p : Fin 256) (n : Fin 256) :
    F23 m c (bT t) (sT t p) n = Y23 m c (((cfg0.win 23).blk t).view.emb (ix3 0 n p : S1x256x256.Idx)) := by
  refine Eq.trans (b := Y23 m c (ix3 (bT t) n (sT t p))) rfl ?_
  blk_ext [idxC t]

end Cert.Kernel3Ideal.Value
-- ==== Proof.ProjPoint.lean ====
/-
  What each store of the projection kernel holds at a point, as the results' entries.
-/
module

public import proofs.«01_k».proof.Proof.ProjOut
public import proofs.«01_k».proof.Proof.ProjPay

@[expose] public section

set_option maxRecDepth 16384

noncomputable section

namespace Cert.Kernel3Ideal.Value

open Cert.Kernel3Ideal Cert.Kernel3Ideal.Gen Idealize.ShloMosaic Idealize.ShloMosaic.TcCoe Idealize.SL.Sem Cert.Ffn Cert.Mix

variable (m : (ℓ : Loc nD τ sig) → Buf (Elt Ideal) ℓ) (c : Dev nD) (t : Fin cfg0.N) (p : Fin 256)

/-- The entry `n` of the row's product with the weights. -/
abbrev Z (n : Fin 6936) : EReal := ZA (m ((c : Thread nD τ).loc main_arg0)) (m ((c : Thread nD τ).loc main_arg1)) (m ((c : Thread nD τ).loc main_arg2)) (bT t) (sT t p) n

/-- The point's normalised rows. -/
abbrev NN : FVec Ideal S256x1024 .bf16 := k0_pay4 (iblk m c 0 t) (iblk m c 1 t)

theorem nn_at (k : Fin 1024) : NN m c t (ix2 p k)
    = nrm (fun j => m ((c : Thread nD τ).loc main_arg0) (ix3 (bT t) (sT t p) j)) (fun j => m ((c : Thread nD τ).loc main_arg1) (ix2 0 j)) k := by
  have e0 : (fun j : Fin 1024 => iblk m c 0 t (ix2 p j)) = fun j => m ((c : Thread nD τ).loc main_arg0) (ix3 (bT t) (sT t p) j) := funext (blk0 m c t p)
  have e1 : (fun j : Fin 1024 => iblk m c 1 t (ix2 0 j)) = fun j => m ((c : Thread nD τ).loc main_arg1) (ix2 0 j) := funext (blk1 m c t)
  exact (pay4_at _ _ p k).trans (congr (congrArg nrm e0) e1 ▸ rfl)

theorem z_lo (n : Fin 7168) (h : n.val < 3328) : ∑ k : Fin 1024, NN m c t (ix2 p k) * iblk m c 2 t (ix2 k n) = Z m c t p ⟨n.val, by omega⟩ :=
  Finset.sum_congr rfl fun k _ => by rw [nn_at, blk2, wpk_lo _ _ _ h]
theorem z_hi (n : Fin 7168) (h : 3584 ≤ n.val) : ∑ k : Fin 1024, NN m c t (ix2 p k) * iblk m c 2 t (ix2 k n) = Z m c t p ⟨n.val - 232, by omega⟩ :=
  Finset.sum_congr rfl fun k _ => by rw [nn_at, blk2, wpk_hi _ _ _ h]
theorem z_mid (n : Fin 256) : ∑ k : Fin 1024, NN m c t (ix2 p k) * iblk m c 2 t (ix2 k (⟨3328 + n.val, by omega⟩ : Fin 7168))
    = if h : n.val % 128 < 12 then Z m c t p ⟨3328 + (n.val / 128 * 12 + n.val % 128), by omega⟩ else 0 := by
  by_cases h : n.val % 128 < 12
  · rw [dif_pos h]
    exact Finset.sum_congr rfl fun k _ => by rw [nn_at, blk2, wpk_mid, dif_pos h]
  · rw [dif_neg h]
    exact Finset.sum_eq_zero fun k _ => by rw [blk2, wpk_mid, dif_neg h, mul_zero]

theorem zl2 (n : Fin 1024) : ∑ k : Fin 1024, NN m c t (ix2 p k) * View.ld (iblk m c 2 t) r0_2 (ix2 k n) = Z m c t p ⟨n.val, by omega⟩ :=
  (Finset.sum_congr rfl fun k _ => congrArg (NN m c t (ix2 p k) * ·) (ld2 (iblk m c 2 t) k n)).trans
    ((z_lo m c t p (⟨n.val, by omega⟩ : Fin 7168) (by show _ < _; simp only []; omega)))
theorem zl3 (n : Fin 1024) : ∑ k : Fin 1024, NN m c t (ix2 p k) * View.ld (iblk m c 2 t) r0_3 (ix2 k n) = Z m c t p ⟨1024 + n.val, by omega⟩ :=
  (Finset.sum_congr rfl fun k _ => congrArg (NN m c t (ix2 p k) * ·) (ld3 (iblk m c 2 t) k n)).trans
    ((z_lo m c t p (⟨1024 + n.val, by omega⟩ : Fin 7168) (by show _ < _; simp only []; omega)))
theorem zl4 (n : Fin 512) : ∑ k : Fin 1024, NN m c t (ix2 p k) * View.ld (iblk m c 2 t) r0_4 (ix2 k n) = Z m c t p ⟨2048 + n.val, by omega⟩ :=
  (Finset.sum_congr rfl fun k _ => congrArg (NN m c t (ix2 p k) * ·) (ld4 (iblk m c 2 t) k n)).trans
    ((z_lo m c t p (⟨2048 + n.val, by omega⟩ : Fin 7168) (by show _ < _; simp only []; omega)))
theorem zl8 (n : Fin 256) : ∑ k : Fin 1024, NN m c t (ix2 p k) * View.ld (iblk m c 2 t) r0_8 (ix2 k n) = Z m c t p ⟨2560 + n.val, by omega⟩ :=
  (Finset.sum_congr rfl fun k _ => congrArg (NN m c t (ix2 p k) * ·) (ld8 (iblk m c 2 t) k n)).trans
    ((z_lo m c t p (⟨2560 + n.val, by omega⟩ : Fin 7168) (by show _ < _; simp only []; omega)))
theorem zl11 (n : Fin 256) : ∑ k : Fin 1024, NN m c t (ix2 p k) * View.ld (iblk m c 2 t) r0_11 (ix2 k n) = Z m c t p ⟨2816 + n.val, by omega⟩ :=
  (Finset.sum_congr rfl fun k _ => congrArg (NN m c t (ix2 p k) * ·) (ld11 (iblk m c 2 t) k n)).trans
    ((z_lo m c t p (⟨2816 + n.val, by omega⟩ : Fin 7168) (by show _ < _; simp only []; omega)))
theorem zl18 (n : Fin 256) : ∑ k : Fin 1024, NN m c t (ix2 p k) * View.ld (iblk m c 2 t) r0_18 (ix2 k n) = Z m c t p ⟨3072 + n.val, by omega⟩ :=
  (Finset.sum_congr rfl fun k _ => congrArg (NN m c t (ix2 p k) * ·) (ld18 (iblk m c 2 t) k n)).trans
    ((z_lo m c t p (⟨3072 + n.val, by omega⟩ : Fin 7168) (by show _ < _; simp only []; omega)))
theorem zl20 (n : Fin 512) : ∑ k : Fin 1024, NN m c t (ix2 p k) * View.ld (iblk m c 2 t) r0_20 (ix2 k n) = Z m c t p ⟨3352 + n.val, by omega⟩ :=
  (Finset.sum_congr rfl fun k _ => congrArg (NN m c t (ix2 p k) * ·) (ld20 (iblk m c 2 t) k n)).trans
    ((z_hi m c t p (⟨3584 + n.val, by omega⟩ : Fin 7168) (by show _ ≤ _; simp only []; omega)).trans (congrArg (Z m c t p) (Fin.ext (by show 3584 + n.val - 232 = 3352 + n.val; omega))))
theorem zl21 (n : Fin 3072) : ∑ k : Fin 1024, NN m c t (ix2 p k) * View.ld (iblk m c 2 t) r0_21 (ix2 k n) = Z m c t p ⟨3864 + n.val, by omega⟩ :=
  (Finset.sum_congr rfl fun k _ => congrArg (NN m c t (ix2 p k) * ·) (ld21 (iblk m c 2 t) k n)).trans
    ((z_hi m c t p (⟨4096 + n.val, by omega⟩ : Fin 7168) (by show _ ≤ _; simp only []; omega)).trans (congrArg (Z m c t p) (Fin.ext (by show 4096 + n.val - 232 = 3864 + n.val; omega))))
theorem zl19 (n : Fin 256) : ∑ k : Fin 1024, NN m c t (ix2 p k) * View.ld (iblk m c 2 t) r0_19 (ix2 k n)
    = if h : n.val % 128 < 12 then Z m c t p ⟨3328 + (n.val / 128 * 12 + n.val % 128), by omega⟩ else 0 :=
  (Finset.sum_congr rfl fun k _ => congrArg (NN m c t (ix2 p k) * ·) (ld19 (iblk m c 2 t) k n)).trans (z_mid m c t p n)

/-- The keys' and values' products of the second and third branch. -/
theorem a11_at (n : Fin 256) : k0_pay11 (NN m c t) (k0_pay10 (View.ld (iblk m c 2 t) r0_11)) (constant S256x256 .f32 0x00000000#32) (ix2 p n)
    = Z m c t p ⟨2816 + n.val, by omega⟩ := (pay11_at _ p _ n).trans (zl11 m c t p n)
theorem a18_at (n : Fin 256) : k0_pay18 (NN m c t) (View.ld (iblk m c 2 t) r0_18) (ix2 p n)
    = Z m c t p ⟨3072 + n.val, by omega⟩ := (pay18_at _ p _ n).trans (zl18 m c t p n)

theorem pt10 (n : Fin 1024) : k0_pay5 (iblk m c 0 t) (iblk m c 1 t) (View.ld (iblk m c 2 t) r0_2) (ix2 p n) = F10 m c (bT t) (sT t p) n :=
  (pay5_at _ _ _ p n).trans (zl2 m c t p n)
theorem pt11 (n : Fin 1024) : k0_pay6 (iblk m c 0 t) (iblk m c 1 t) (View.ld (iblk m c 2 t) r0_3) (ix2 p n) = F11 m c (bT t) (sT t p) n :=
  (pay6_at _ _ _ p n).trans (congrArg gel (zl3 m c t p n))
theorem pt12 (n : Fin 512) : k0_pay7 (NN m c t) (View.ld (iblk m c 2 t) r0_4) (iblk m c 3 t) (iblk m c 6 t) (ix2 p n) = F12 m c (bT t) (sT t p) n := by
  rw [pay7_at, grm64]
  have hs := sum_group (N := 512) (W := 64) (by decide) (fun j => Z m c t p ⟨2048 + j.val, by omega⟩ * Z m c t p ⟨2048 + j.val, by omega⟩) (n.val / 64) (by intro l; omega)
  beta_reduce at hs
  simp only [zl4, blk3, blk6]
  rw [hs]
  rfl
theorem pt13 (n : Fin 256) : k0_pay8 (NN m c t) (View.ld (iblk m c 2 t) r0_8) (ix2 p n) = F13 m c (bT t) (sT t p) n :=
  (pay8_at _ p _ n).trans (zl8 m c t p n)
theorem pt16 (n : Fin 512) : k0_pay2 (NN m c t) (View.ld (iblk m c 2 t) r0_20) (iblk m c 5 t) (iblk m c 9 t) (ix2 p n) = F16 m c (bT t) (sT t p) n := by
  rw [pay2_at, grm128]
  have hs := sum_group (N := 512) (W := 128) (by decide) (fun j => Z m c t p ⟨3352 + j.val, by omega⟩ * Z m c t p ⟨3352 + j.val, by omega⟩) (n.val / 128) (by intro l; omega)
  beta_reduce at hs
  simp only [zl20, blk5, blk9]
  rw [hs]
  rfl
theorem pt17 (n : Fin 3072) : k0_pay3 (NN m c t) (View.ld (iblk m c 2 t) r0_21) (ix2 p n) = F17 m c (bT t) (sT t p) n :=
  (pay3_at _ p _ n).trans (congrArg Ideal.logistic (zl21 m c t p n))
theorem pt18 (n : Fin 256) : k0_pay9 (NN m c t) (View.ld (iblk m c 2 t) r0_8) (ix3 0 n p) = F18 m c (bT t) (sT t p) n :=
  (pay9_at _ p _ n).trans (zl8 m c t p n)
theorem pt23 (n : Fin 256) : k0_pay1 (k0_pay25 (NN m c t) (View.ld (iblk m c 2 t) r0_19)) (ix3 0 n p) = F23 m c (bT t) (sT t p) n :=
  (pay25_at _ p _ n).trans (congrArg Ideal.logistic (zl19 m c t p n))

/-- The normalised keys of the second branch. -/
theorem k12_at (n : Fin 128) : k0_pay12 (NN m c t) (k0_pay10 (View.ld (iblk m c 2 t) r0_11)) (constant S256x256 .f32 0x00000000#32) (iblk m c 4 t) (iblk m c 7 t) (ix2 p n)
    = F14 m c (bT t) (sT t p) n := by
  rw [pay12_at, grm64]
  have hs := sum_group (N := 128) (W := 64) (by decide) (fun j => Z m c t p ⟨2816 + j.val, by omega⟩ * Z m c t p ⟨2816 + j.val, by omega⟩) (n.val / 64) (by intro l; omega)
  beta_reduce at hs
  simp only [a11_at, blk4, blk7]
  rw [hs]
  rfl
/-- The normalised keys of the third branch. -/
theorem k19_at (n : Fin 128) : k0_pay19 (k0_pay18 (NN m c t) (View.ld (iblk m c 2 t) r0_18)) (iblk m c 4 t) (iblk m c 8 t) (ix2 p n)
    = F15 m c (bT t) (sT t p) n := by
  rw [pay19_at, grm64]
  have hs := sum_group (N := 128) (W := 64) (by decide) (fun j => Z m c t p ⟨3072 + j.val, by omega⟩ * Z m c t p ⟨3072 + j.val, by omega⟩) (n.val / 64) (by intro l; omega)
  beta_reduce at hs
  simp only [a18_at, blk4, blk8]
  rw [hs]
  rfl
theorem pt14 (n : Fin 128) : k0_pay16 (NN m c t) (k0_pay10 (View.ld (iblk m c 2 t) r0_11)) (constant S256x256 .f32 0x00000000#32) (iblk m c 4 t) (iblk m c 7 t) (ix2 p n)
    = F14 m c (bT t) (sT t p) n := (pay16_at _ _ _ _ _ p n).trans (k12_at m c t p n)
theorem pt15 (n : Fin 128) : k0_pay23 (k0_pay18 (NN m c t) (View.ld (iblk m c 2 t) r0_18)) (iblk m c 4 t) (iblk m c 8 t) (ix2 p n)
    = F15 m c (bT t) (sT t p) n := (pay23_at _ _ _ p n).trans (k19_at m c t p n)
theorem pt21 (n : Fin 128) : k0_pay17 (NN m c t) (k0_pay10 (View.ld (iblk m c 2 t) r0_11)) (constant S256x256 .f32 0x00000000#32) (ix3 0 n p)
    = F21 m c (bT t) (sT t p) n := (pay17_at _ _ _ p n).trans ((a11_at m c t p ⟨128 + n.val, by omega⟩).trans (congrArg (Z m c t p) (Fin.ext (by show 2816 + (128 + n.val) = 2944 + n.val; omega))))
theorem pt22 (n : Fin 128) : k0_pay24 (k0_pay18 (NN m c t) (View.ld (iblk m c 2 t) r0_18)) (ix3 0 n p)
    = F22 m c (bT t) (sT t p) n := (pay24_at _ p n).trans ((a18_at m c t p ⟨128 + n.val, by omega⟩).trans (congrArg (Z m c t p) (Fin.ext (by show 3072 + (128 + n.val) = 3200 + n.val; omega))))

/-- Two stores of 128 rows each, read at row `n`. -/
theorem two_at (u v : FVec Ideal S1x128x256 .f32) (n p : Fin 256) :
    View.canon (Val := Elt Ideal) [(⟨r0_15, u⟩ : View.Piece (Elt Ideal) S1x256x256 EltTy.f32), ⟨r0_14, v⟩] (ix3 0 n p)
      = if h : n.val < 128 then v (ix3 0 ⟨n.val, h⟩ p) else u (ix3 0 ⟨n.val - 128, by omega⟩ p) := by
  by_cases h : n.val < 128
  · rw [dif_pos h]
    canon_tiles x hx
    all_goals first | (exfalso; replace hx1 : n.val = 128 + (x 1).val := hx1; omega) | (exfalso; replace hx1 : n.val = (x 1).val := hx1; omega) | (blk_ext <;> first | exact hx1.symm | exact hx2.symm | (replace hx1 : n.val = 128 + (x 1).val := hx1; show (x 1).val = n.val - 128; omega))
  · rw [dif_neg h]
    canon_tiles x hx
    all_goals first | (exfalso; replace hx1 : n.val = 128 + (x 1).val := hx1; omega) | (exfalso; replace hx1 : n.val = (x 1).val := hx1; omega) | (blk_ext <;> first | exact hx1.symm | exact hx2.symm | (replace hx1 : n.val = 128 + (x 1).val := hx1; show (x 1).val = n.val - 128; omega))

theorem pt19 (n : Fin 256) : View.canon (Val := Elt Ideal) [(⟨r0_15, k0_pay15 (NN m c t) (k0_pay10 (View.ld (iblk m c 2 t) r0_11)) (constant S256x256 .f32 0x00000000#32)⟩ : View.Piece (Elt Ideal) S1x256x256 EltTy.f32),
      ⟨r0_14, k0_pay14 (NN m c t) (k0_pay10 (View.ld (iblk m c 2 t) r0_11)) (constant S256x256 .f32 0x00000000#32) (iblk m c 4 t) (iblk m c 7 t)⟩] (ix3 0 n p)
    = F19 m c (bT t) (sT t p) n := by
  rw [two_at]
  by_cases h : n.val < 128
  · rw [dif_pos h, pay14_at, k12_at]
    unfold F19 Cert.Mix.ST
    rw [dif_pos h]
    rfl
  · rw [dif_neg h, pay15_at, a11_at]
    unfold F19 Cert.Mix.ST
    rw [dif_neg h]
    exact congrArg (Z m c t p) (Fin.ext (by show 2816 + (128 + (n.val - 128)) = 2944 + (n.val - 128); omega))
theorem pt20 (n : Fin 256) : View.canon (Val := Elt Ideal) [(⟨r0_15, k0_pay22 (k0_pay18 (NN m c t) (View.ld (iblk m c 2 t) r0_18))⟩ : View.Piece (Elt Ideal) S1x256x256 EltTy.f32),
      ⟨r0_14, k0_pay21 (k0_pay18 (NN m c t) (View.ld (iblk m c 2 t) r0_18)) (iblk m c 4 t) (iblk m c 8 t)⟩] (ix3 0 n p)
    = F20 m c (bT t) (sT t p) n := by
  rw [two_at]
  by_cases h : n.val < 128
  · rw [dif_pos h, pay21_at, k19_at]
    unfold F20 Cert.Mix.WT
    rw [dif_pos h]
    rfl
  · rw [dif_neg h, pay22_at, a18_at]
    unfold F20 Cert.Mix.WT
    rw [dif_neg h]
    exact congrArg (Z m c t p) (Fin.ext (by show 3072 + (128 + (n.val - 128)) = 3200 + (n.val - 128); omega))

end Cert.Kernel3Ideal.Value

end
-- ==== Proof.ProjFinal.lean ====
/-
  The projection kernel's result arrays after the run.
-/
module

public import proofs.«01_k».proof.Proof.ProjPoint

@[expose] public section

set_option maxRecDepth 16384

noncomputable section

namespace Cert.Kernel3Ideal.Value

open Cert.Kernel3Ideal Cert.Kernel3Ideal.Gen Idealize.ShloMosaic Idealize.ShloMosaic.TcCoe Idealize.SL.Sem Cert.Ffn Cert.Mix

section
variable (x0 : Vec Ideal S256x1024 .f32) (x1 : Vec Ideal S1x1024 .f32) (x2 : Vec Ideal S1024x7168 .bf16) (x3 : Vec Ideal S512x512 .bf16) (x4 : Vec Ideal S128x128 .bf16)
  (x5 : Vec Ideal S512x512 .bf16) (x6 : Vec Ideal S1x512 .f32) (x7 : Vec Ideal S1x128 .f32) (x8 : Vec Ideal S1x128 .f32) (x9 : Vec Ideal S1x512 .f32)
theorem pay26_eq : k0_pay26 x0 x1 x2 x3 x4 x5 x6 x7 x8 x9 = k0_pay4 x0 x1 := by
  unfold k0_pay26
  rw [View.ld_unit_zero (by decide +kernel), View.ld_unit_zero (by decide +kernel)]
theorem pay27_eq : k0_pay27 x0 x1 x2 x3 x4 x5 x6 x7 x8 x9 = constant S256x256 .f32 0x00000000#32 := rfl
theorem pay28_eq : k0_pay28 x0 x1 x2 x3 x4 x5 x6 x7 x8 x9 = k0_pay10 (View.ld x2 r0_11) := rfl
theorem pay29_eq : k0_pay29 x0 x1 x2 x3 x4 x5 x6 x7 x8 x9 = k0_pay18 (k0_pay4 x0 x1) (View.ld x2 r0_18) := by
  unfold k0_pay29
  rw [pay26_eq]
end

theorem ex3 {n : ℕ} (y : (⟨3, ![1, n, 256]⟩ : Shape).Idx) : ∃ (k : Fin n) (p : Fin 256), y = ix3 (0 : Fin 1) k p :=
  ⟨y 1, y 2, (eq_ix3 y).trans (congrArg (fun i : Fin 1 => ix3 i (y 1 : Fin n) (y 2 : Fin 256)) (Subsingleton.elim (α := Fin 1) (y 0) 0))⟩

variable (m : (ℓ : Loc nD τ sig) → Buf (Elt Ideal) ℓ)

theorem final10 (c : Dev nD) : (dats m 0 c).arrAt 10 (cfgs 0).N = Y10 m c := by
  refine (dats m 0 c).arrAt_eq_of_covers 10 _ (by decide +kernel) fun t _ y => ?_
  blk_simp [idxR t]
  rw [after0_10]
  frame_out
  obtain ⟨p, n, rfl⟩ : ∃ (p : Fin 256) (n : Fin 1024), y = ix2 p n := ⟨y 0, y 1, eq_ix2 y⟩
  exact (pt10 m c t p n).trans (place10 m c t p n)
theorem final11 (c : Dev nD) : (dats m 0 c).arrAt 11 (cfgs 0).N = Y11 m c := by
  refine (dats m 0 c).arrAt_eq_of_covers 11 _ (by decide +kernel) fun t _ y => ?_
  blk_simp [idxR t]
  rw [after0_11]
  frame_out
  obtain ⟨p, n, rfl⟩ : ∃ (p : Fin 256) (n : Fin 1024), y = ix2 p n := ⟨y 0, y 1, eq_ix2 y⟩
  exact (pt11 m c t p n).trans (place11 m c t p n)
theorem final12 (c : Dev nD) : (dats m 0 c).arrAt 12 (cfgs 0).N = Y12 m c := by
  refine (dats m 0 c).arrAt_eq_of_covers 12 _ (by decide +kernel) fun t _ y => ?_
  blk_simp [idxR t]
  rw [after0_12]
  frame_out
  rw [pay26_eq]
  obtain ⟨p, n, rfl⟩ : ∃ (p : Fin 256) (n : Fin 512), y = ix2 p n := ⟨y 0, y 1, eq_ix2 y⟩
  exact (pt12 m c t p n).trans (place12 m c t p n)
theorem final13 (c : Dev nD) : (dats m 0 c).arrAt 13 (cfgs 0).N = Y13 m c := by
  refine (dats m 0 c).arrAt_eq_of_covers 13 _ (by decide +kernel) fun t _ y => ?_
  blk_simp [idxR t]
  rw [after0_13]
  frame_out
  rw [pay26_eq]
  obtain ⟨p, n, rfl⟩ : ∃ (p : Fin 256) (n : Fin 256), y = ix2 p n := ⟨y 0, y 1, eq_ix2 y⟩
  exact (pt13 m c t p n).trans (place13 m c t p n)
theorem final14 (c : Dev nD) : (dats m 0 c).arrAt 14 (cfgs 0).N = Y14 m c := by
  refine (dats m 0 c).arrAt_eq_of_covers 14 _ (by decide +kernel) fun t _ y => ?_
  blk_simp [idxR t]
  rw [after0_14]
  frame_out
  rw [pay26_eq, pay28_eq, pay27_eq]
  obtain ⟨p, n, rfl⟩ : ∃ (p : Fin 256) (n : Fin 128), y = ix2 p n := ⟨y 0, y 1, eq_ix2 y⟩
  exact (pt14 m c t p n).trans (place14 m c t p n)
theorem final15 (c : Dev nD) : (dats m 0 c).arrAt 15 (cfgs 0).N = Y15 m c := by
  refine (dats m 0 c).arrAt_eq_of_covers 15 _ (by decide +kernel) fun t _ y => ?_
  blk_simp [idxR t]
  rw [after0_15]
  frame_out
  rw [pay29_eq]
  obtain ⟨p, n, rfl⟩ : ∃ (p : Fin 256) (n : Fin 128), y = ix2 p n := ⟨y 0, y 1, eq_ix2 y⟩
  exact (pt15 m c t p n).trans (place15 m c t p n)
theorem final16 (c : Dev nD) : (dats m 0 c).arrAt 16 (cfgs 0).N = Y16 m c := by
  refine (dats m 0 c).arrAt_eq_of_covers 16 _ (by decide +kernel) fun t _ y => ?_
  blk_simp [idxR t]
  rw [after0_16]
  frame_out
  rw [pay26_eq]
  obtain ⟨p, n, rfl⟩ : ∃ (p : Fin 256) (n : Fin 512), y = ix2 p n := ⟨y 0, y 1, eq_ix2 y⟩
  exact (pt16 m c t p n).trans (place16 m c t p n)
theorem final17 (c : Dev nD) : (dats m 0 c).arrAt 17 (cfgs 0).N = Y17 m c := by
  refine (dats m 0 c).arrAt_eq_of_covers 17 _ (by decide +kernel) fun t _ y => ?_
  blk_simp [idxR t]
  rw [after0_17]
  frame_out
  rw [pay26_eq]
  obtain ⟨p, n, rfl⟩ : ∃ (p : Fin 256) (n : Fin 3072), y = ix2 p n := ⟨y 0, y 1, eq_ix2 y⟩
  exact (pt17 m c t p n).trans (place17 m c t p n)
theorem final18 (c : Dev nD) : (dats m 0 c).arrAt 18 (cfgs 0).N = Y18 m c := by
  refine (dats m 0 c).arrAt_eq_of_covers 18 _ (by decide +kernel) fun t _ y => ?_
  blk_simp [idxC t]
  rw [after0_18]
  frame_out
  rw [pay26_eq]
  obtain ⟨n, p, rfl⟩ := ex3 (n := 256) y
  exact (pt18 m c t p n).trans (place18 m c t p n)
theorem final19 (c : Dev nD) : (dats m 0 c).arrAt 19 (cfgs 0).N = Y19 m c := by
  refine (dats m 0 c).arrAt_eq_of_covers 19 _ (by decide +kernel) fun t _ y => ?_
  blk_simp [idxC t]
  rw [after0_19]
  frame_out
  rw [pay26_eq, pay28_eq, pay27_eq]
  obtain ⟨n, p, rfl⟩ := ex3 (n := 256) y
  exact (pt19 m c t p n).trans (place19 m c t p n)
theorem final20 (c : Dev nD) : (dats m 0 c).arrAt 20 (cfgs 0).N = Y20 m c := by
  refine (dats m 0 c).arrAt_eq_of_covers 20 _ (by decide +kernel) fun t _ y => ?_
  blk_simp [idxC t]
  rw [after0_20]
  frame_out
  rw [pay29_eq]
  obtain ⟨n, p, rfl⟩ := ex3 (n := 256) y
  exact (pt20 m c t p n).trans (place20 m c t p n)
theorem final21 (c : Dev nD) : (dats m 0 c).arrAt 21 (cfgs 0).N = Y21 m c := by
  refine (dats m 0 c).arrAt_eq_of_covers 21 _ (by decide +kernel) fun t _ y => ?_
  blk_simp [idxC t]
  rw [after0_21]
  frame_out
  rw [pay26_eq, pay28_eq, pay27_eq]
  obtain ⟨n, p, rfl⟩ := ex3 (n := 128) y
  exact (pt21 m c t p n).trans (place21 m c t p n)
theorem final22 (c : Dev nD) : (dats m 0 c).arrAt 22 (cfgs 0).N = Y22 m c := by
  refine (dats m 0 c).arrAt_eq_of_covers 22 _ (by decide +kernel) fun t _ y => ?_
  blk_simp [idxC t]
  rw [after0_22]
  frame_out
  rw [pay29_eq]
  obtain ⟨n, p, rfl⟩ := ex3 (n := 128) y
  exact (pt22 m c t p n).trans (place22 m c t p n)
theorem final23 (c : Dev nD) : (dats m 0 c).arrAt 23 (cfgs 0).N = Y23 m c := by
  refine (dats m 0 c).arrAt_eq_of_covers 23 _ (by decide +kernel) fun t _ y => ?_
  blk_simp [idxC t]
  rw [after0_23]
  frame_out
  rw [pay26_eq]
  obtain ⟨n, p, rfl⟩ := ex3 (n := 256) y
  exact (pt23 m c t p n).trans (place23 m c t p n)

end Cert.Kernel3Ideal.Value

end
-- ==== Proof.ProjEqual.lean ====
/-
  The projection kernel and the plain projections hold the same results.
-/
module

public import proofs.«01_k».proof.Proof.ProjRef
public import proofs.«01_k».proof.Proof.ProjFinal
public import proofs.«01_k».proof.Defs
public import Idealize.ShloMosaic.Adequacy
public import Idealize.ShloMosaic.Lib.Quiescent

@[expose] public section

set_option maxRecDepth 16384

noncomputable section

namespace Cert.Reference3Ideal.Value

open Cert.Reference3Ideal Cert.Reference3Ideal.Gen Idealize.ShloMosaic Idealize.ShloMosaic.StableHlo Idealize.ShloMosaic.TcCoe Idealize.SL.Sem Cert.Ffn Cert.Mix

section
variable (x : FVec Ideal S2x8192x1024 .f32) (g : FVec Ideal S1x1024 .f32) (w : FVec Ideal S1x1024x6936 .f32)
  (gq : FVec Ideal S1x64 .f32) (gk : FVec Ideal S1x3x64 .f32) (gm : FVec Ideal S1x128 .f32)

/-- The products of the normalised rows with the weights, and the stacked keys and values of two branches. -/
abbrev z15 : FVec Ideal S2x8192x6936 .f32 := R15 x g w
abbrev kv1 : FVec Ideal S2x8192x2x2x64 .f32 := R62 gk (R38 (z15 x g w)) (R42 (R38 (z15 x g w)))
abbrev kv2 : FVec Ideal S2x8192x2x2x64 .f32 := R84 gk (R38 (z15 x g w)) (R64 (R38 (z15 x g w)))

section
variable (b : Fin 2) (s : Fin 8192) (n : Fin 128)

theorem kv1_k : kv1 x g w gk (ix5 b s 0 ⟨n.val / 64, by omega⟩ ⟨n.val % 64, by omega⟩) = SK x g w gk b s n := by
  refine (R62_k b s _ _ gk _ _).trans ?_
  simp only [R42_at, R15_at]
  have e : (⟨2816 + (n.val / 64 * 64 + n.val % 64), by omega⟩ : Fin 6936) = ⟨2816 + n.val, by omega⟩ := Fin.ext (by show 2816 + (n.val / 64 * 64 + n.val % 64) = 2816 + n.val; omega)
  rw [e]
  rfl
theorem kv2_k : kv2 x g w gk (ix5 b s 0 ⟨n.val / 64, by omega⟩ ⟨n.val % 64, by omega⟩) = WK x g w gk b s n := by
  refine (R84_k b s _ _ gk _ _).trans ?_
  simp only [R64_at, R15_at]
  have e : (⟨3072 + (n.val / 64 * 64 + n.val % 64), by omega⟩ : Fin 6936) = ⟨3072 + n.val, by omega⟩ := Fin.ext (by show 3072 + (n.val / 64 * 64 + n.val % 64) = 3072 + n.val; omega)
  rw [e]
  rfl
theorem kv1_v : kv1 x g w gk (ix5 b s 1 ⟨n.val / 64, by omega⟩ ⟨n.val % 64, by omega⟩) = SV x g w b s n := by
  refine (R62_v b s _ _ gk _ _).trans ((R15_at b s x g w _).trans ?_)
  exact congrArg (ZA x g w b s) (Fin.ext (by show 2944 + (n.val / 64 * 64 + n.val % 64) = 2944 + n.val; omega))
theorem kv2_v : kv2 x g w gk (ix5 b s 1 ⟨n.val / 64, by omega⟩ ⟨n.val % 64, by omega⟩) = WV x g w b s n := by
  refine (R84_v b s _ _ gk _ _).trans ((R15_at b s x g w _).trans ?_)
  exact congrArg (ZA x g w b s) (Fin.ext (by show 3200 + (n.val / 64 * 64 + n.val % 64) = 3200 + n.val; omega))
end

theorem ix5_eq {a : FVec Ideal S2x8192x2x2x64 .f32} (b : Fin 2) (s : Fin 8192) {e e' h h' : Fin 2} {d d' : Fin 64} (he : e = e') (hh : h = h') (hd : d = d') :
    a (ix5 b s e h d) = a (ix5 b s e' h' d') := by rw [he, hh, hd]

/-- The stacked entries in one row of 256. -/
theorem kv1_all (b : Fin 2) (s : Fin 8192) (n : Fin 256) :
    kv1 x g w gk (ix5 b s ⟨n.val / 128, by omega⟩ ⟨n.val / 64 % 2, by omega⟩ ⟨n.val % 64, by omega⟩) = Cert.Mix.ST x g w gk b s n := by
  unfold Cert.Mix.ST
  by_cases h : n.val < 128
  · rw [dif_pos h, ← kv1_k]
    exact ix5_eq b s (Fin.ext (by show n.val / 128 = 0; omega)) (Fin.ext (by show n.val / 64 % 2 = n.val / 64; omega)) rfl
  · rw [dif_neg h, ← kv1_v x g w gk]
    exact ix5_eq b s (Fin.ext (by show n.val / 128 = 1; omega)) (Fin.ext (by show n.val / 64 % 2 = (n.val - 128) / 64; omega)) (Fin.ext (by show n.val % 64 = (n.val - 128) % 64; omega))
theorem kv2_all (b : Fin 2) (s : Fin 8192) (n : Fin 256) :
    kv2 x g w gk (ix5 b s ⟨n.val / 128, by omega⟩ ⟨n.val / 64 % 2, by omega⟩ ⟨n.val % 64, by omega⟩) = Cert.Mix.WT x g w gk b s n := by
  unfold Cert.Mix.WT
  by_cases h : n.val < 128
  · rw [dif_pos h, ← kv2_k]
    exact ix5_eq b s (Fin.ext (by show n.val / 128 = 0; omega)) (Fin.ext (by show n.val / 64 % 2 = n.val / 64; omega)) rfl
  · rw [dif_neg h, ← kv2_v x g w gk]
    exact ix5_eq b s (Fin.ext (by show n.val / 128 = 1; omega)) (Fin.ext (by show n.val / 64 % 2 = (n.val - 128) / 64; omega)) (Fin.ext (by show n.val % 64 = (n.val - 128) % 64; omega))

theorem cm_all (b : Fin 2) (s : Fin 8192) (n : Fin 256) :
    R40 (R38 (z15 x g w)) (ix5 b s ⟨n.val / 128, by omega⟩ ⟨n.val / 64 % 2, by omega⟩ ⟨n.val % 64, by omega⟩) = CM x g w b s n := by
  refine (R40_at b s _ _ _ _).trans ((R15_at b s x g w _).trans ?_)
  exact congrArg (ZA x g w b s) (Fin.ext (by show 2560 + (n.val / 128 * 128 + n.val / 64 % 2 * 64 + n.val % 64) = 2560 + n.val; omega))

section
variable (i : Fin 16384)
theorem p10 (n : Fin 1024) : R114 (z15 x g w) (ix2 i n) = LX x g w (bR i) (sR i) n :=
  (R114_at i _ n).trans (R15_at _ _ x g w _)
theorem p11 (n : Fin 1024) : R128 (R17 (z15 x g w)) (ix2 i n) = LG x g w (bR i) (sR i) n :=
  (R128_at i _ n).trans (congrArg gel ((R17_at _ _ _ n).trans (R15_at _ _ x g w _)))
theorem p12 (n : Fin 512) : R131 gq (R23 (z15 x g w)) (ix2 i n) = QQ x g w gq (bR i) (sR i) n := by
  refine (R131_at i _ gq n).trans ?_
  simp only [R23_at, R15_at]
  have e : (⟨2048 + (n.val / 64 * 64 + n.val % 64), by omega⟩ : Fin 6936) = ⟨2048 + n.val, by omega⟩ := Fin.ext (by show 2048 + (n.val / 64 * 64 + n.val % 64) = 2048 + n.val; omega)
  rw [e]
  rfl
theorem p13 (n : Fin 256) : R132 (R40 (R38 (z15 x g w))) (ix2 i n) = CM x g w (bR i) (sR i) n :=
  (R132_at i _ n).trans (cm_all x g w _ _ n)
theorem p14 (n : Fin 128) : R136 (kv1 x g w gk) (ix2 i n) = SK x g w gk (bR i) (sR i) n :=
  (R136_at i _ n).trans (kv1_k x g w gk _ _ n)
theorem p15 (n : Fin 128) : R140 (kv2 x g w gk) (ix2 i n) = WK x g w gk (bR i) (sR i) n :=
  (R140_at i _ n).trans (kv2_k x g w gk _ _ n)
theorem p16 (n : Fin 512) : R142 gm (R93 (z15 x g w)) (ix2 i n) = MQ x g w gm (bR i) (sR i) n := by
  refine (R142_at i _ gm n).trans ?_
  simp only [R93_at, R15_at]
  have e : (⟨3352 + (n.val / 128 * 128 + n.val % 128), by omega⟩ : Fin 6936) = ⟨3352 + n.val, by omega⟩ := Fin.ext (by show 3352 + (n.val / 128 * 128 + n.val % 128) = 3352 + n.val; omega)
  rw [e]
  rfl
theorem p17 (n : Fin 3072) : R143 (z15 x g w) (ix2 i n) = MG x g w (bR i) (sR i) n :=
  (R143_at i _ n).trans (congrArg Ideal.logistic (R15_at _ _ x g w _))
end

section
variable (b : Fin 2) (s : Fin 8192)
theorem p18 (n : Fin 256) : R145 (R40 (R38 (z15 x g w))) (ix3 b n s) = CM x g w b s n :=
  (R145_at b s _ n).trans (cm_all x g w _ _ n)
theorem p19 (n : Fin 256) : R147 (kv1 x g w gk) (ix3 b n s) = Cert.Mix.ST x g w gk b s n :=
  (R147_at b s _ n).trans (kv1_all x g w gk _ _ n)
theorem p20 (n : Fin 256) : R149 (kv2 x g w gk) (ix3 b n s) = Cert.Mix.WT x g w gk b s n :=
  (R149_at b s _ n).trans (kv2_all x g w gk _ _ n)
theorem p21 (n : Fin 128) : R154 (kv1 x g w gk) (ix3 b n s) = SV x g w b s n :=
  (R154_at b s _ n).trans (kv1_v x g w gk _ _ n)
theorem p22 (n : Fin 128) : R159 (kv2 x g w gk) (ix3 b n s) = WV x g w b s n :=
  (R159_at b s _ n).trans (kv2_v x g w gk _ _ n)
theorem p23 (n : Fin 256) : R161 (z15 x g w) (ix3 b n s) = NG x g w b s n := by
  refine (R161_at b s _ n).trans ?_
  simp only [R15_at]
  rfl
end
end

section
variable (m : (ℓ : Loc nD τ sig) → Buf (Elt Ideal) ℓ) (c : Dev nD)

/-! The results of the run as those stages of the arguments. -/
theorem d10 : shapeCast _ (extractStridedSlice S2x8192x1024 ![0, 0, 0] (res_main_v15 (launchContents m c)) slices_S2x8192x6936_S2x8192x1024_0_0_0) shapeCasts_S2x8192x1024_S16384x1024 = R114 (z15 (m ((c : Thread nD τ).loc main_arg0)) (m ((c : Thread nD τ).loc main_arg1)) (m ((c : Thread nD τ).loc main_arg2))) := rfl
theorem d11 : shapeCast _ (mulf (res_main_v17 (launchContents m c)) (mulf (broadcastInDim S2x8192x1024 ![] bcast_S_S2x8192x1024 (constant S_ .f32 0x3F000000#32)) (addf (broadcastInDim S2x8192x1024 ![] bcast_S_S2x8192x1024 (constant S_ .f32 0x3F800000#32)) (Host.tanh (mulf (broadcastInDim S2x8192x1024 ![] bcast_S_S2x8192x1024 (constant S_ .f32 0x3F4C422A#32)) (addf (res_main_v17 (launchContents m c)) (mulf (broadcastInDim S2x8192x1024 ![] bcast_S_S2x8192x1024 (constant S_ .f32 0x3D372713#32)) (mulf (mulf (res_main_v17 (launchContents m c)) (res_main_v17 (launchContents m c))) (res_main_v17 (launchContents m c)))))))))) shapeCasts_S2x8192x1024_S16384x1024 = R128 (R17 (z15 (m ((c : Thread nD τ).loc main_arg0)) (m ((c : Thread nD τ).loc main_arg1)) (m ((c : Thread nD τ).loc main_arg2)))) := rfl
theorem d12 : shapeCast _ (mulf (mulf (mulf (res_main_v23 (launchContents m c)) (broadcastInDim S2x8192x8x64 ![0, 1, 2, 3] bcast_S2x8192x8x1_S2x8192x8x64_0_1_2_3 (Host.rsqrt (addf (Host.divf (broadcastInDim S2x8192x8x1 ![0, 1, 2] bcast_S2x8192x8_S2x8192x8x1_0_1_2 (Host.reduceAdd (mulf (res_main_v23 (launchContents m c)) (res_main_v23 (launchContents m c))) (constant S_ .f32 0x00000000#32) reducesTo_S2x8192x8x64_S2x8192x8_d3 h_S_)) (broadcastInDim S2x8192x8x1 ![] bcast_S_S2x8192x8x1 (constant S_ .f32 0x42800000#32))) (broadcastInDim S2x8192x8x1 ![] bcast_S_S2x8192x8x1 (constant S_ .f32 0x358637BD#32)))))) (broadcastInDim S2x8192x8x64 ![0, 1, 2, 3] bcast_S1x1x1x64_S2x8192x8x64_0_1_2_3 (broadcastInDim S1x1x1x64 ![3] bcast_S64_S1x1x1x64_3 (shapeCast _ ((launchContents m c) (Proc.devRef .tc main_arg3)) shapeCasts_S1x64_S64)))) (broadcastInDim S2x8192x8x64 ![] bcast_S_S2x8192x8x64 (constant S_ .f32 0x3E000000#32))) shapeCasts_S2x8192x8x64_S16384x512 = R131 (m ((c : Thread nD τ).loc main_arg3)) (R23 (z15 (m ((c : Thread nD τ).loc main_arg0)) (m ((c : Thread nD τ).loc main_arg1)) (m ((c : Thread nD τ).loc main_arg2)))) := rfl
theorem d13 : shapeCast _ (res_main_v40 (launchContents m c)) shapeCasts_S2x8192x2x2x64_S16384x256 = R132 (R40 (R38 (z15 (m ((c : Thread nD τ).loc main_arg0)) (m ((c : Thread nD τ).loc main_arg1)) (m ((c : Thread nD τ).loc main_arg2))))) := rfl
theorem d14 : truncf .bf16 (shapeCast _ (shapeCast _ (extractStridedSlice S2x8192x1x2x64 ![0, 0, 0, 0, 0] (res_main_v62 (launchContents m c)) slices_S2x8192x2x2x64_S2x8192x1x2x64_0_0_0_0_0) shapeCasts_S2x8192x1x2x64_S2x8192x2x64) shapeCasts_S2x8192x2x64_S16384x128) bitsLt_bf16_f32 = R136 (kv1 (m ((c : Thread nD τ).loc main_arg0)) (m ((c : Thread nD τ).loc main_arg1)) (m ((c : Thread nD τ).loc main_arg2)) (m ((c : Thread nD τ).loc main_arg4))) := rfl
theorem d15 : truncf .bf16 (shapeCast _ (shapeCast _ (extractStridedSlice S2x8192x1x2x64 ![0, 0, 0, 0, 0] (res_main_v84 (launchContents m c)) slices_S2x8192x2x2x64_S2x8192x1x2x64_0_0_0_0_0) shapeCasts_S2x8192x1x2x64_S2x8192x2x64) shapeCasts_S2x8192x2x64_S16384x128) bitsLt_bf16_f32 = R140 (kv2 (m ((c : Thread nD τ).loc main_arg0)) (m ((c : Thread nD τ).loc main_arg1)) (m ((c : Thread nD τ).loc main_arg2)) (m ((c : Thread nD τ).loc main_arg4))) := rfl
theorem d16 : truncf .bf16 (shapeCast _ (mulf (mulf (res_main_v93 (launchContents m c)) (broadcastInDim S2x8192x4x128 ![0, 1, 2, 3] bcast_S2x8192x4x1_S2x8192x4x128_0_1_2_3 (Host.rsqrt (addf (Host.divf (broadcastInDim S2x8192x4x1 ![0, 1, 2] bcast_S2x8192x4_S2x8192x4x1_0_1_2 (Host.reduceAdd (mulf (res_main_v93 (launchContents m c)) (res_main_v93 (launchContents m c))) (constant S_ .f32 0x00000000#32) reducesTo_S2x8192x4x128_S2x8192x4_d3 h_S_)) (broadcastInDim S2x8192x4x1 ![] bcast_S_S2x8192x4x1 (constant S_ .f32 0x43000000#32))) (broadcastInDim S2x8192x4x1 ![] bcast_S_S2x8192x4x1 (constant S_ .f32 0x358637BD#32)))))) (broadcastInDim S2x8192x4x128 ![0, 1, 2, 3] bcast_S1x1x1x128_S2x8192x4x128_0_1_2_3 (broadcastInDim S1x1x1x128 ![3] bcast_S128_S1x1x1x128_3 (shapeCast _ ((launchContents m c) (Proc.devRef .tc main_arg5)) shapeCasts_S1x128_S128)))) shapeCasts_S2x8192x4x128_S16384x512) bitsLt_bf16_f32 = R142 (m ((c : Thread nD τ).loc main_arg5)) (R93 (z15 (m ((c : Thread nD τ).loc main_arg0)) (m ((c : Thread nD τ).loc main_arg1)) (m ((c : Thread nD τ).loc main_arg2)))) := rfl
theorem d17 : shapeCast _ (Host.divf (broadcastInDim S2x8192x3072 ![] bcast_S_S2x8192x3072 (constant S_ .f32 0x3F800000#32)) (addf (broadcastInDim S2x8192x3072 ![] bcast_S_S2x8192x3072 (constant S_ .f32 0x3F800000#32)) (Host.exp (Host.negf (extractStridedSlice S2x8192x3072 ![0, 0, 3864] (res_main_v15 (launchContents m c)) slices_S2x8192x6936_S2x8192x3072_0_0_3864))))) shapeCasts_S2x8192x3072_S16384x3072 = R143 (z15 (m ((c : Thread nD τ).loc main_arg0)) (m ((c : Thread nD τ).loc main_arg1)) (m ((c : Thread nD τ).loc main_arg2))) := rfl
theorem d18 : transpose S2x256x8192 [0, 2, 1] (shapeCast _ (res_main_v40 (launchContents m c)) shapeCasts_S2x8192x2x2x64_S2x8192x256) transposes_S2x8192x256_S2x256x8192_0_2_1 = R145 (R40 (R38 (z15 (m ((c : Thread nD τ).loc main_arg0)) (m ((c : Thread nD τ).loc main_arg1)) (m ((c : Thread nD τ).loc main_arg2))))) := rfl
theorem d19 : transpose S2x256x8192 [0, 2, 1] (shapeCast _ (res_main_v62 (launchContents m c)) shapeCasts_S2x8192x2x2x64_S2x8192x256) transposes_S2x8192x256_S2x256x8192_0_2_1 = R147 (kv1 (m ((c : Thread nD τ).loc main_arg0)) (m ((c : Thread nD τ).loc main_arg1)) (m ((c : Thread nD τ).loc main_arg2)) (m ((c : Thread nD τ).loc main_arg4))) := rfl
theorem d20 : transpose S2x256x8192 [0, 2, 1] (shapeCast _ (res_main_v84 (launchContents m c)) shapeCasts_S2x8192x2x2x64_S2x8192x256) transposes_S2x8192x256_S2x256x8192_0_2_1 = R149 (kv2 (m ((c : Thread nD τ).loc main_arg0)) (m ((c : Thread nD τ).loc main_arg1)) (m ((c : Thread nD τ).loc main_arg2)) (m ((c : Thread nD τ).loc main_arg4))) := rfl
theorem d21 : truncf .bf16 (transpose S2x128x8192 [0, 2, 1] (shapeCast _ (shapeCast _ (extractStridedSlice S2x8192x1x2x64 ![0, 0, 1, 0, 0] (res_main_v62 (launchContents m c)) slices_S2x8192x2x2x64_S2x8192x1x2x64_0_0_1_0_0) shapeCasts_S2x8192x1x2x64_S2x8192x2x64) shapeCasts_S2x8192x2x64_S2x8192x128) transposes_S2x8192x128_S2x128x8192_0_2_1) bitsLt_bf16_f32 = R154 (kv1 (m ((c : Thread nD τ).loc main_arg0)) (m ((c : Thread nD τ).loc main_arg1)) (m ((c : Thread nD τ).loc main_arg2)) (m ((c : Thread nD τ).loc main_arg4))) := rfl
theorem d22 : truncf .bf16 (transpose S2x128x8192 [0, 2, 1] (shapeCast _ (shapeCast _ (extractStridedSlice S2x8192x1x2x64 ![0, 0, 1, 0, 0] (res_main_v84 (launchContents m c)) slices_S2x8192x2x2x64_S2x8192x1x2x64_0_0_1_0_0) shapeCasts_S2x8192x1x2x64_S2x8192x2x64) shapeCasts_S2x8192x2x64_S2x8192x128) transposes_S2x8192x128_S2x128x8192_0_2_1) bitsLt_bf16_f32 = R159 (kv2 (m ((c : Thread nD τ).loc main_arg0)) (m ((c : Thread nD τ).loc main_arg1)) (m ((c : Thread nD τ).loc main_arg2)) (m ((c : Thread nD τ).loc main_arg4))) := rfl
theorem d23 : transpose S2x256x8192 [0, 2, 1] (shapeCast _ (Host.divf (broadcastInDim S2x8192x2x128 ![] bcast_S_S2x8192x2x128 (constant S_ .f32 0x3F800000#32)) (addf (broadcastInDim S2x8192x2x128 ![] bcast_S_S2x8192x2x128 (constant S_ .f32 0x3F800000#32)) (Host.exp (Host.negf (pad S2x8192x2x128 ![0, 0, 0, 0] ![0, 0, 0, 116] ![0, 0, 0, 0] (shapeCast _ (extractStridedSlice S2x8192x24 ![0, 0, 3328] (res_main_v15 (launchContents m c)) slices_S2x8192x6936_S2x8192x24_0_0_3328) shapeCasts_S2x8192x24_S2x8192x2x12) (sitofp .f32 (constantI S_ 32 0#32)) pads_S2x8192x2x12_S2x8192x2x128_000_000_000_01160 h_S_))))) shapeCasts_S2x8192x2x128_S2x8192x256) transposes_S2x8192x256_S2x256x8192_0_2_1 = R161 (z15 (m ((c : Thread nD τ).loc main_arg0)) (m ((c : Thread nD τ).loc main_arg1)) (m ((c : Thread nD τ).loc main_arg2))) := rfl
end

end Cert.Reference3Ideal.Value

namespace Cert.Mix

open Idealize.ShloMosaic Idealize.ShloMosaic.TcCoe Idealize.SL.Sem Cert.Reference3Ideal.Value

section
variable (m : (ℓ : Loc Cert.Kernel3Ideal.nD Cert.Kernel3Ideal.τ Cert.Kernel3Ideal.sig) → Buf (Elt Ideal) ℓ) (c : Dev Cert.Kernel3Ideal.nD)

/-! Each result of the plain projections at the kernel's arguments is the kernel's array. -/
theorem e10 (x : FVec Ideal Cert.Kernel3Ideal.S2x8192x1024 .f32) (g : FVec Ideal Cert.Kernel3Ideal.S1x1024 .f32) (w : FVec Ideal Cert.Kernel3Ideal.S1x1024x6936 .f32) (hx : x = (m ((c : Thread Cert.Kernel3Ideal.nD Cert.Kernel3Ideal.τ).loc Cert.Kernel3Ideal.main_arg0))) (hg : g = (m ((c : Thread Cert.Kernel3Ideal.nD Cert.Kernel3Ideal.τ).loc Cert.Kernel3Ideal.main_arg1))) (hw : w = (m ((c : Thread Cert.Kernel3Ideal.nD Cert.Kernel3Ideal.τ).loc Cert.Kernel3Ideal.main_arg2))) : R114 (z15 x g w) = Cert.Kernel3Ideal.Value.Y10 m c := by
  subst hx hg hw
  exact funext fun i => (congrArg (R114 (z15 (m ((c : Thread Cert.Kernel3Ideal.nD Cert.Kernel3Ideal.τ).loc Cert.Kernel3Ideal.main_arg0)) (m ((c : Thread Cert.Kernel3Ideal.nD Cert.Kernel3Ideal.τ).loc Cert.Kernel3Ideal.main_arg1)) (m ((c : Thread Cert.Kernel3Ideal.nD Cert.Kernel3Ideal.τ).loc Cert.Kernel3Ideal.main_arg2)))) (eq_ix2 i)).trans ((p10 (m ((c : Thread Cert.Kernel3Ideal.nD Cert.Kernel3Ideal.τ).loc Cert.Kernel3Ideal.main_arg0)) (m ((c : Thread Cert.Kernel3Ideal.nD Cert.Kernel3Ideal.τ).loc Cert.Kernel3Ideal.main_arg1)) (m ((c : Thread Cert.Kernel3Ideal.nD Cert.Kernel3Ideal.τ).loc Cert.Kernel3Ideal.main_arg2)) (i 0) (i 1)).trans rfl)
theorem e11 (x : FVec Ideal Cert.Kernel3Ideal.S2x8192x1024 .f32) (g : FVec Ideal Cert.Kernel3Ideal.S1x1024 .f32) (w : FVec Ideal Cert.Kernel3Ideal.S1x1024x6936 .f32) (hx : x = (m ((c : Thread Cert.Kernel3Ideal.nD Cert.Kernel3Ideal.τ).loc Cert.Kernel3Ideal.main_arg0))) (hg : g = (m ((c : Thread Cert.Kernel3Ideal.nD Cert.Kernel3Ideal.τ).loc Cert.Kernel3Ideal.main_arg1))) (hw : w = (m ((c : Thread Cert.Kernel3Ideal.nD Cert.Kernel3Ideal.τ).loc Cert.Kernel3Ideal.main_arg2))) : R128 (R17 (z15 x g w)) = Cert.Kernel3Ideal.Value.Y11 m c := by
  subst hx hg hw
  exact funext fun i => (congrArg (R128 (R17 (z15 (m ((c : Thread Cert.Kernel3Ideal.nD Cert.Kernel3Ideal.τ).loc Cert.Kernel3Ideal.main_arg0)) (m ((c : Thread Cert.Kernel3Ideal.nD Cert.Kernel3Ideal.τ).loc Cert.Kernel3Ideal.main_arg1)) (m ((c : Thread Cert.Kernel3Ideal.nD Cert.Kernel3Ideal.τ).loc Cert.Kernel3Ideal.main_arg2))))) (eq_ix2 i)).trans ((p11 (m ((c : Thread Cert.Kernel3Ideal.nD Cert.Kernel3Ideal.τ).loc Cert.Kernel3Ideal.main_arg0)) (m ((c : Thread Cert.Kernel3Ideal.nD Cert.Kernel3Ideal.τ).loc Cert.Kernel3Ideal.main_arg1)) (m ((c : Thread Cert.Kernel3Ideal.nD Cert.Kernel3Ideal.τ).loc Cert.Kernel3Ideal.main_arg2)) (i 0) (i 1)).trans rfl)
theorem e12 (x : FVec Ideal Cert.Kernel3Ideal.S2x8192x1024 .f32) (g : FVec Ideal Cert.Kernel3Ideal.S1x1024 .f32) (w : FVec Ideal Cert.Kernel3Ideal.S1x1024x6936 .f32) (gq : FVec Ideal Cert.Kernel3Ideal.S1x64 .f32) (hx : x = (m ((c : Thread Cert.Kernel3Ideal.nD Cert.Kernel3Ideal.τ).loc Cert.Kernel3Ideal.main_arg0))) (hg : g = (m ((c : Thread Cert.Kernel3Ideal.nD Cert.Kernel3Ideal.τ).loc Cert.Kernel3Ideal.main_arg1))) (hw : w = (m ((c : Thread Cert.Kernel3Ideal.nD Cert.Kernel3Ideal.τ).loc Cert.Kernel3Ideal.main_arg2))) (hgq : gq = (m ((c : Thread Cert.Kernel3Ideal.nD Cert.Kernel3Ideal.τ).loc Cert.Kernel3Ideal.main_arg3))) : R131 gq (R23 (z15 x g w)) = Cert.Kernel3Ideal.Value.Y12 m c := by
  subst hx hg hw hgq
  exact funext fun i => (congrArg (R131 (m ((c : Thread Cert.Kernel3Ideal.nD Cert.Kernel3Ideal.τ).loc Cert.Kernel3Ideal.main_arg3)) (R23 (z15 (m ((c : Thread Cert.Kernel3Ideal.nD Cert.Kernel3Ideal.τ).loc Cert.Kernel3Ideal.main_arg0)) (m ((c : Thread Cert.Kernel3Ideal.nD Cert.Kernel3Ideal.τ).loc Cert.Kernel3Ideal.main_arg1)) (m ((c : Thread Cert.Kernel3Ideal.nD Cert.Kernel3Ideal.τ).loc Cert.Kernel3Ideal.main_arg2))))) (eq_ix2 i)).trans ((p12 (m ((c : Thread Cert.Kernel3Ideal.nD Cert.Kernel3Ideal.τ).loc Cert.Kernel3Ideal.main_arg0)) (m ((c : Thread Cert.Kernel3Ideal.nD Cert.Kernel3Ideal.τ).loc Cert.Kernel3Ideal.main_arg1)) (m ((c : Thread Cert.Kernel3Ideal.nD Cert.Kernel3Ideal.τ).loc Cert.Kernel3Ideal.main_arg2)) (m ((c : Thread Cert.Kernel3Ideal.nD Cert.Kernel3Ideal.τ).loc Cert.Kernel3Ideal.main_arg3)) (i 0) (i 1)).trans rfl)
theorem e13 (x : FVec Ideal Cert.Kernel3Ideal.S2x8192x1024 .f32) (g : FVec Ideal Cert.Kernel3Ideal.S1x1024 .f32) (w : FVec Ideal Cert.Kernel3Ideal.S1x1024x6936 .f32) (hx : x = (m ((c : Thread Cert.Kernel3Ideal.nD Cert.Kernel3Ideal.τ).loc Cert.Kernel3Ideal.main_arg0))) (hg : g = (m ((c : Thread Cert.Kernel3Ideal.nD Cert.Kernel3Ideal.τ).loc Cert.Kernel3Ideal.main_arg1))) (hw : w = (m ((c : Thread Cert.Kernel3Ideal.nD Cert.Kernel3Ideal.τ).loc Cert.Kernel3Ideal.main_arg2))) : R132 (R40 (R38 (z15 x g w))) = Cert.Kernel3Ideal.Value.Y13 m c := by
  subst hx hg hw
  exact funext fun i => (congrArg (R132 (R40 (R38 (z15 (m ((c : Thread Cert.Kernel3Ideal.nD Cert.Kernel3Ideal.τ).loc Cert.Kernel3Ideal.main_arg0)) (m ((c : Thread Cert.Kernel3Ideal.nD Cert.Kernel3Ideal.τ).loc Cert.Kernel3Ideal.main_arg1)) (m ((c : Thread Cert.Kernel3Ideal.nD Cert.Kernel3Ideal.τ).loc Cert.Kernel3Ideal.main_arg2)))))) (eq_ix2 i)).trans ((p13 (m ((c : Thread Cert.Kernel3Ideal.nD Cert.Kernel3Ideal.τ).loc Cert.Kernel3Ideal.main_arg0)) (m ((c : Thread Cert.Kernel3Ideal.nD Cert.Kernel3Ideal.τ).loc Cert.Kernel3Ideal.main_arg1)) (m ((c : Thread Cert.Kernel3Ideal.nD Cert.Kernel3Ideal.τ).loc Cert.Kernel3Ideal.main_arg2)) (i 0) (i 1)).trans rfl)
theorem e14 (x : FVec Ideal Cert.Kernel3Ideal.S2x8192x1024 .f32) (g : FVec Ideal Cert.Kernel3Ideal.S1x1024 .f32) (w : FVec Ideal Cert.Kernel3Ideal.S1x1024x6936 .f32) (gk : FVec Ideal Cert.Kernel3Ideal.S1x3x64 .f32) (hx : x = (m ((c : Thread Cert.Kernel3Ideal.nD Cert.Kernel3Ideal.τ).loc Cert.Kernel3Ideal.main_arg0))) (hg : g = (m ((c : Thread Cert.Kernel3Ideal.nD Cert.Kernel3Ideal.τ).loc Cert.Kernel3Ideal.main_arg1))) (hw : w = (m ((c : Thread Cert.Kernel3Ideal.nD Cert.Kernel3Ideal.τ).loc Cert.Kernel3Ideal.main_arg2))) (hgk : gk = (m ((c : Thread Cert.Kernel3Ideal.nD Cert.Kernel3Ideal.τ).loc Cert.Kernel3Ideal.main_arg4))) : R136 (kv1 x g w gk) = Cert.Kernel3Ideal.Value.Y14 m c := by
  subst hx hg hw hgk
  exact funext fun i => (congrArg (R136 (kv1 (m ((c : Thread Cert.Kernel3Ideal.nD Cert.Kernel3Ideal.τ).loc Cert.Kernel3Ideal.main_arg0)) (m ((c : Thread Cert.Kernel3Ideal.nD Cert.Kernel3Ideal.τ).loc Cert.Kernel3Ideal.main_arg1)) (m ((c : Thread Cert.Kernel3Ideal.nD Cert.Kernel3Ideal.τ).loc Cert.Kernel3Ideal.main_arg2)) (m ((c : Thread Cert.Kernel3Ideal.nD Cert.Kernel3Ideal.τ).loc Cert.Kernel3Ideal.main_arg4)))) (eq_ix2 i)).trans ((p14 (m ((c : Thread Cert.Kernel3Ideal.nD Cert.Kernel3Ideal.τ).loc Cert.Kernel3Ideal.main_arg0)) (m ((c : Thread Cert.Kernel3Ideal.nD Cert.Kernel3Ideal.τ).loc Cert.Kernel3Ideal.main_arg1)) (m ((c : Thread Cert.Kernel3Ideal.nD Cert.Kernel3Ideal.τ).loc Cert.Kernel3Ideal.main_arg2)) (m ((c : Thread Cert.Kernel3Ideal.nD Cert.Kernel3Ideal.τ).loc Cert.Kernel3Ideal.main_arg4)) (i 0) (i 1)).trans rfl)
theorem e15 (x : FVec Ideal Cert.Kernel3Ideal.S2x8192x1024 .f32) (g : FVec Ideal Cert.Kernel3Ideal.S1x1024 .f32) (w : FVec Ideal Cert.Kernel3Ideal.S1x1024x6936 .f32) (gk : FVec Ideal Cert.Kernel3Ideal.S1x3x64 .f32) (hx : x = (m ((c : Thread Cert.Kernel3Ideal.nD Cert.Kernel3Ideal.τ).loc Cert.Kernel3Ideal.main_arg0))) (hg : g = (m ((c : Thread Cert.Kernel3Ideal.nD Cert.Kernel3Ideal.τ).loc Cert.Kernel3Ideal.main_arg1))) (hw : w = (m ((c : Thread Cert.Kernel3Ideal.nD Cert.Kernel3Ideal.τ).loc Cert.Kernel3Ideal.main_arg2))) (hgk : gk = (m ((c : Thread Cert.Kernel3Ideal.nD Cert.Kernel3Ideal.τ).loc Cert.Kernel3Ideal.main_arg4))) : R140 (kv2 x g w gk) = Cert.Kernel3Ideal.Value.Y15 m c := by
  subst hx hg hw hgk
  exact funext fun i => (congrArg (R140 (kv2 (m ((c : Thread Cert.Kernel3Ideal.nD Cert.Kernel3Ideal.τ).loc Cert.Kernel3Ideal.main_arg0)) (m ((c : Thread Cert.Kernel3Ideal.nD Cert.Kernel3Ideal.τ).loc Cert.Kernel3Ideal.main_arg1)) (m ((c : Thread Cert.Kernel3Ideal.nD Cert.Kernel3Ideal.τ).loc Cert.Kernel3Ideal.main_arg2)) (m ((c : Thread Cert.Kernel3Ideal.nD Cert.Kernel3Ideal.τ).loc Cert.Kernel3Ideal.main_arg4)))) (eq_ix2 i)).trans ((p15 (m ((c : Thread Cert.Kernel3Ideal.nD Cert.Kernel3Ideal.τ).loc Cert.Kernel3Ideal.main_arg0)) (m ((c : Thread Cert.Kernel3Ideal.nD Cert.Kernel3Ideal.τ).loc Cert.Kernel3Ideal.main_arg1)) (m ((c : Thread Cert.Kernel3Ideal.nD Cert.Kernel3Ideal.τ).loc Cert.Kernel3Ideal.main_arg2)) (m ((c : Thread Cert.Kernel3Ideal.nD Cert.Kernel3Ideal.τ).loc Cert.Kernel3Ideal.main_arg4)) (i 0) (i 1)).trans rfl)
theorem e16 (x : FVec Ideal Cert.Kernel3Ideal.S2x8192x1024 .f32) (g : FVec Ideal Cert.Kernel3Ideal.S1x1024 .f32) (w : FVec Ideal Cert.Kernel3Ideal.S1x1024x6936 .f32) (gm : FVec Ideal Cert.Kernel3Ideal.S1x128 .f32) (hx : x = (m ((c : Thread Cert.Kernel3Ideal.nD Cert.Kernel3Ideal.τ).loc Cert.Kernel3Ideal.main_arg0))) (hg : g = (m ((c : Thread Cert.Kernel3Ideal.nD Cert.Kernel3Ideal.τ).loc Cert.Kernel3Ideal.main_arg1))) (hw : w = (m ((c : Thread Cert.Kernel3Ideal.nD Cert.Kernel3Ideal.τ).loc Cert.Kernel3Ideal.main_arg2))) (hgm : gm = (m ((c : Thread Cert.Kernel3Ideal.nD Cert.Kernel3Ideal.τ).loc Cert.Kernel3Ideal.main_arg5))) : R142 gm (R93 (z15 x g w)) = Cert.Kernel3Ideal.Value.Y16 m c := by
  subst hx hg hw hgm
  exact funext fun i => (congrArg (R142 (m ((c : Thread Cert.Kernel3Ideal.nD Cert.Kernel3Ideal.τ).loc Cert.Kernel3Ideal.main_arg5)) (R93 (z15 (m ((c : Thread Cert.Kernel3Ideal.nD Cert.Kernel3Ideal.τ).loc Cert.Kernel3Ideal.main_arg0)) (m ((c : Thread Cert.Kernel3Ideal.nD Cert.Kernel3Ideal.τ).loc Cert.Kernel3Ideal.main_arg1)) (m ((c : Thread Cert.Kernel3Ideal.nD Cert.Kernel3Ideal.τ).loc Cert.Kernel3Ideal.main_arg2))))) (eq_ix2 i)).trans ((p16 (m ((c : Thread Cert.Kernel3Ideal.nD Cert.Kernel3Ideal.τ).loc Cert.Kernel3Ideal.main_arg0)) (m ((c : Thread Cert.Kernel3Ideal.nD Cert.Kernel3Ideal.τ).loc Cert.Kernel3Ideal.main_arg1)) (m ((c : Thread Cert.Kernel3Ideal.nD Cert.Kernel3Ideal.τ).loc Cert.Kernel3Ideal.main_arg2)) (m ((c : Thread Cert.Kernel3Ideal.nD Cert.Kernel3Ideal.τ).loc Cert.Kernel3Ideal.main_arg5)) (i 0) (i 1)).trans rfl)
theorem e17 (x : FVec Ideal Cert.Kernel3Ideal.S2x8192x1024 .f32) (g : FVec Ideal Cert.Kernel3Ideal.S1x1024 .f32) (w : FVec Ideal Cert.Kernel3Ideal.S1x1024x6936 .f32) (hx : x = (m ((c : Thread Cert.Kernel3Ideal.nD Cert.Kernel3Ideal.τ).loc Cert.Kernel3Ideal.main_arg0))) (hg : g = (m ((c : Thread Cert.Kernel3Ideal.nD Cert.Kernel3Ideal.τ).loc Cert.Kernel3Ideal.main_arg1))) (hw : w = (m ((c : Thread Cert.Kernel3Ideal.nD Cert.Kernel3Ideal.τ).loc Cert.Kernel3Ideal.main_arg2))) : R143 (z15 x g w) = Cert.Kernel3Ideal.Value.Y17 m c := by
  subst hx hg hw
  exact funext fun i => (congrArg (R143 (z15 (m ((c : Thread Cert.Kernel3Ideal.nD Cert.Kernel3Ideal.τ).loc Cert.Kernel3Ideal.main_arg0)) (m ((c : Thread Cert.Kernel3Ideal.nD Cert.Kernel3Ideal.τ).loc Cert.Kernel3Ideal.main_arg1)) (m ((c : Thread Cert.Kernel3Ideal.nD Cert.Kernel3Ideal.τ).loc Cert.Kernel3Ideal.main_arg2)))) (eq_ix2 i)).trans ((p17 (m ((c : Thread Cert.Kernel3Ideal.nD Cert.Kernel3Ideal.τ).loc Cert.Kernel3Ideal.main_arg0)) (m ((c : Thread Cert.Kernel3Ideal.nD Cert.Kernel3Ideal.τ).loc Cert.Kernel3Ideal.main_arg1)) (m ((c : Thread Cert.Kernel3Ideal.nD Cert.Kernel3Ideal.τ).loc Cert.Kernel3Ideal.main_arg2)) (i 0) (i 1)).trans rfl)
theorem e18 (x : FVec Ideal Cert.Kernel3Ideal.S2x8192x1024 .f32) (g : FVec Ideal Cert.Kernel3Ideal.S1x1024 .f32) (w : FVec Ideal Cert.Kernel3Ideal.S1x1024x6936 .f32) (hx : x = (m ((c : Thread Cert.Kernel3Ideal.nD Cert.Kernel3Ideal.τ).loc Cert.Kernel3Ideal.main_arg0))) (hg : g = (m ((c : Thread Cert.Kernel3Ideal.nD Cert.Kernel3Ideal.τ).loc Cert.Kernel3Ideal.main_arg1))) (hw : w = (m ((c : Thread Cert.Kernel3Ideal.nD Cert.Kernel3Ideal.τ).loc Cert.Kernel3Ideal.main_arg2))) : R145 (R40 (R38 (z15 x g w))) = Cert.Kernel3Ideal.Value.Y18 m c := by
  subst hx hg hw
  exact funext fun i => (congrArg (R145 (R40 (R38 (z15 (m ((c : Thread Cert.Kernel3Ideal.nD Cert.Kernel3Ideal.τ).loc Cert.Kernel3Ideal.main_arg0)) (m ((c : Thread Cert.Kernel3Ideal.nD Cert.Kernel3Ideal.τ).loc Cert.Kernel3Ideal.main_arg1)) (m ((c : Thread Cert.Kernel3Ideal.nD Cert.Kernel3Ideal.τ).loc Cert.Kernel3Ideal.main_arg2)))))) (eq_ix3 i)).trans ((p18 (m ((c : Thread Cert.Kernel3Ideal.nD Cert.Kernel3Ideal.τ).loc Cert.Kernel3Ideal.main_arg0)) (m ((c : Thread Cert.Kernel3Ideal.nD Cert.Kernel3Ideal.τ).loc Cert.Kernel3Ideal.main_arg1)) (m ((c : Thread Cert.Kernel3Ideal.nD Cert.Kernel3Ideal.τ).loc Cert.Kernel3Ideal.main_arg2)) (i 0) (i 2) (i 1)).trans rfl)
theorem e19 (x : FVec Ideal Cert.Kernel3Ideal.S2x8192x1024 .f32) (g : FVec Ideal Cert.Kernel3Ideal.S1x1024 .f32) (w : FVec Ideal Cert.Kernel3Ideal.S1x1024x6936 .f32) (gk : FVec Ideal Cert.Kernel3Ideal.S1x3x64 .f32) (hx : x = (m ((c : Thread Cert.Kernel3Ideal.nD Cert.Kernel3Ideal.τ).loc Cert.Kernel3Ideal.main_arg0))) (hg : g = (m ((c : Thread Cert.Kernel3Ideal.nD Cert.Kernel3Ideal.τ).loc Cert.Kernel3Ideal.main_arg1))) (hw : w = (m ((c : Thread Cert.Kernel3Ideal.nD Cert.Kernel3Ideal.τ).loc Cert.Kernel3Ideal.main_arg2))) (hgk : gk = (m ((c : Thread Cert.Kernel3Ideal.nD Cert.Kernel3Ideal.τ).loc Cert.Kernel3Ideal.main_arg4))) : R147 (kv1 x g w gk) = Cert.Kernel3Ideal.Value.Y19 m c := by
  subst hx hg hw hgk
  exact funext fun i => (congrArg (R147 (kv1 (m ((c : Thread Cert.Kernel3Ideal.nD Cert.Kernel3Ideal.τ).loc Cert.Kernel3Ideal.main_arg0)) (m ((c : Thread Cert.Kernel3Ideal.nD Cert.Kernel3Ideal.τ).loc Cert.Kernel3Ideal.main_arg1)) (m ((c : Thread Cert.Kernel3Ideal.nD Cert.Kernel3Ideal.τ).loc Cert.Kernel3Ideal.main_arg2)) (m ((c : Thread Cert.Kernel3Ideal.nD Cert.Kernel3Ideal.τ).loc Cert.Kernel3Ideal.main_arg4)))) (eq_ix3 i)).trans ((p19 (m ((c : Thread Cert.Kernel3Ideal.nD Cert.Kernel3Ideal.τ).loc Cert.Kernel3Ideal.main_arg0)) (m ((c : Thread Cert.Kernel3Ideal.nD Cert.Kernel3Ideal.τ).loc Cert.Kernel3Ideal.main_arg1)) (m ((c : Thread Cert.Kernel3Ideal.nD Cert.Kernel3Ideal.τ).loc Cert.Kernel3Ideal.main_arg2)) (m ((c : Thread Cert.Kernel3Ideal.nD Cert.Kernel3Ideal.τ).loc Cert.Kernel3Ideal.main_arg4)) (i 0) (i 2) (i 1)).trans rfl)
theorem e20 (x : FVec Ideal Cert.Kernel3Ideal.S2x8192x1024 .f32) (g : FVec Ideal Cert.Kernel3Ideal.S1x1024 .f32) (w : FVec Ideal Cert.Kernel3Ideal.S1x1024x6936 .f32) (gk : FVec Ideal Cert.Kernel3Ideal.S1x3x64 .f32) (hx : x = (m ((c : Thread Cert.Kernel3Ideal.nD Cert.Kernel3Ideal.τ).loc Cert.Kernel3Ideal.main_arg0))) (hg : g = (m ((c : Thread Cert.Kernel3Ideal.nD Cert.Kernel3Ideal.τ).loc Cert.Kernel3Ideal.main_arg1))) (hw : w = (m ((c : Thread Cert.Kernel3Ideal.nD Cert.Kernel3Ideal.τ).loc Cert.Kernel3Ideal.main_arg2))) (hgk : gk = (m ((c : Thread Cert.Kernel3Ideal.nD Cert.Kernel3Ideal.τ).loc Cert.Kernel3Ideal.main_arg4))) : R149 (kv2 x g w gk) = Cert.Kernel3Ideal.Value.Y20 m c := by
  subst hx hg hw hgk
  exact funext fun i => (congrArg (R149 (kv2 (m ((c : Thread Cert.Kernel3Ideal.nD Cert.Kernel3Ideal.τ).loc Cert.Kernel3Ideal.main_arg0)) (m ((c : Thread Cert.Kernel3Ideal.nD Cert.Kernel3Ideal.τ).loc Cert.Kernel3Ideal.main_arg1)) (m ((c : Thread Cert.Kernel3Ideal.nD Cert.Kernel3Ideal.τ).loc Cert.Kernel3Ideal.main_arg2)) (m ((c : Thread Cert.Kernel3Ideal.nD Cert.Kernel3Ideal.τ).loc Cert.Kernel3Ideal.main_arg4)))) (eq_ix3 i)).trans ((p20 (m ((c : Thread Cert.Kernel3Ideal.nD Cert.Kernel3Ideal.τ).loc Cert.Kernel3Ideal.main_arg0)) (m ((c : Thread Cert.Kernel3Ideal.nD Cert.Kernel3Ideal.τ).loc Cert.Kernel3Ideal.main_arg1)) (m ((c : Thread Cert.Kernel3Ideal.nD Cert.Kernel3Ideal.τ).loc Cert.Kernel3Ideal.main_arg2)) (m ((c : Thread Cert.Kernel3Ideal.nD Cert.Kernel3Ideal.τ).loc Cert.Kernel3Ideal.main_arg4)) (i 0) (i 2) (i 1)).trans rfl)
theorem e21 (x : FVec Ideal Cert.Kernel3Ideal.S2x8192x1024 .f32) (g : FVec Ideal Cert.Kernel3Ideal.S1x1024 .f32) (w : FVec Ideal Cert.Kernel3Ideal.S1x1024x6936 .f32) (gk : FVec Ideal Cert.Kernel3Ideal.S1x3x64 .f32) (hx : x = (m ((c : Thread Cert.Kernel3Ideal.nD Cert.Kernel3Ideal.τ).loc Cert.Kernel3Ideal.main_arg0))) (hg : g = (m ((c : Thread Cert.Kernel3Ideal.nD Cert.Kernel3Ideal.τ).loc Cert.Kernel3Ideal.main_arg1))) (hw : w = (m ((c : Thread Cert.Kernel3Ideal.nD Cert.Kernel3Ideal.τ).loc Cert.Kernel3Ideal.main_arg2))) (hgk : gk = (m ((c : Thread Cert.Kernel3Ideal.nD Cert.Kernel3Ideal.τ).loc Cert.Kernel3Ideal.main_arg4))) : R154 (kv1 x g w gk) = Cert.Kernel3Ideal.Value.Y21 m c := by
  subst hx hg hw hgk
  exact funext fun i => (congrArg (R154 (kv1 (m ((c : Thread Cert.Kernel3Ideal.nD Cert.Kernel3Ideal.τ).loc Cert.Kernel3Ideal.main_arg0)) (m ((c : Thread Cert.Kernel3Ideal.nD Cert.Kernel3Ideal.τ).loc Cert.Kernel3Ideal.main_arg1)) (m ((c : Thread Cert.Kernel3Ideal.nD Cert.Kernel3Ideal.τ).loc Cert.Kernel3Ideal.main_arg2)) (m ((c : Thread Cert.Kernel3Ideal.nD Cert.Kernel3Ideal.τ).loc Cert.Kernel3Ideal.main_arg4)))) (eq_ix3 i)).trans ((p21 (m ((c : Thread Cert.Kernel3Ideal.nD Cert.Kernel3Ideal.τ).loc Cert.Kernel3Ideal.main_arg0)) (m ((c : Thread Cert.Kernel3Ideal.nD Cert.Kernel3Ideal.τ).loc Cert.Kernel3Ideal.main_arg1)) (m ((c : Thread Cert.Kernel3Ideal.nD Cert.Kernel3Ideal.τ).loc Cert.Kernel3Ideal.main_arg2)) (m ((c : Thread Cert.Kernel3Ideal.nD Cert.Kernel3Ideal.τ).loc Cert.Kernel3Ideal.main_arg4)) (i 0) (i 2) (i 1)).trans rfl)
theorem e22 (x : FVec Ideal Cert.Kernel3Ideal.S2x8192x1024 .f32) (g : FVec Ideal Cert.Kernel3Ideal.S1x1024 .f32) (w : FVec Ideal Cert.Kernel3Ideal.S1x1024x6936 .f32) (gk : FVec Ideal Cert.Kernel3Ideal.S1x3x64 .f32) (hx : x = (m ((c : Thread Cert.Kernel3Ideal.nD Cert.Kernel3Ideal.τ).loc Cert.Kernel3Ideal.main_arg0))) (hg : g = (m ((c : Thread Cert.Kernel3Ideal.nD Cert.Kernel3Ideal.τ).loc Cert.Kernel3Ideal.main_arg1))) (hw : w = (m ((c : Thread Cert.Kernel3Ideal.nD Cert.Kernel3Ideal.τ).loc Cert.Kernel3Ideal.main_arg2))) (hgk : gk = (m ((c : Thread Cert.Kernel3Ideal.nD Cert.Kernel3Ideal.τ).loc Cert.Kernel3Ideal.main_arg4))) : R159 (kv2 x g w gk) = Cert.Kernel3Ideal.Value.Y22 m c := by
  subst hx hg hw hgk
  exact funext fun i => (congrArg (R159 (kv2 (m ((c : Thread Cert.Kernel3Ideal.nD Cert.Kernel3Ideal.τ).loc Cert.Kernel3Ideal.main_arg0)) (m ((c : Thread Cert.Kernel3Ideal.nD Cert.Kernel3Ideal.τ).loc Cert.Kernel3Ideal.main_arg1)) (m ((c : Thread Cert.Kernel3Ideal.nD Cert.Kernel3Ideal.τ).loc Cert.Kernel3Ideal.main_arg2)) (m ((c : Thread Cert.Kernel3Ideal.nD Cert.Kernel3Ideal.τ).loc Cert.Kernel3Ideal.main_arg4)))) (eq_ix3 i)).trans ((p22 (m ((c : Thread Cert.Kernel3Ideal.nD Cert.Kernel3Ideal.τ).loc Cert.Kernel3Ideal.main_arg0)) (m ((c : Thread Cert.Kernel3Ideal.nD Cert.Kernel3Ideal.τ).loc Cert.Kernel3Ideal.main_arg1)) (m ((c : Thread Cert.Kernel3Ideal.nD Cert.Kernel3Ideal.τ).loc Cert.Kernel3Ideal.main_arg2)) (m ((c : Thread Cert.Kernel3Ideal.nD Cert.Kernel3Ideal.τ).loc Cert.Kernel3Ideal.main_arg4)) (i 0) (i 2) (i 1)).trans rfl)
theorem e23 (x : FVec Ideal Cert.Kernel3Ideal.S2x8192x1024 .f32) (g : FVec Ideal Cert.Kernel3Ideal.S1x1024 .f32) (w : FVec Ideal Cert.Kernel3Ideal.S1x1024x6936 .f32) (hx : x = (m ((c : Thread Cert.Kernel3Ideal.nD Cert.Kernel3Ideal.τ).loc Cert.Kernel3Ideal.main_arg0))) (hg : g = (m ((c : Thread Cert.Kernel3Ideal.nD Cert.Kernel3Ideal.τ).loc Cert.Kernel3Ideal.main_arg1))) (hw : w = (m ((c : Thread Cert.Kernel3Ideal.nD Cert.Kernel3Ideal.τ).loc Cert.Kernel3Ideal.main_arg2))) : R161 (z15 x g w) = Cert.Kernel3Ideal.Value.Y23 m c := by
  subst hx hg hw
  exact funext fun i => (congrArg (R161 (z15 (m ((c : Thread Cert.Kernel3Ideal.nD Cert.Kernel3Ideal.τ).loc Cert.Kernel3Ideal.main_arg0)) (m ((c : Thread Cert.Kernel3Ideal.nD Cert.Kernel3Ideal.τ).loc Cert.Kernel3Ideal.main_arg1)) (m ((c : Thread Cert.Kernel3Ideal.nD Cert.Kernel3Ideal.τ).loc Cert.Kernel3Ideal.main_arg2)))) (eq_ix3 i)).trans ((p23 (m ((c : Thread Cert.Kernel3Ideal.nD Cert.Kernel3Ideal.τ).loc Cert.Kernel3Ideal.main_arg0)) (m ((c : Thread Cert.Kernel3Ideal.nD Cert.Kernel3Ideal.τ).loc Cert.Kernel3Ideal.main_arg1)) (m ((c : Thread Cert.Kernel3Ideal.nD Cert.Kernel3Ideal.τ).loc Cert.Kernel3Ideal.main_arg2)) (i 0) (i 2) (i 1)).trans rfl)
end

set_option maxHeartbeats 4000000 in
/-- Kernel and reference of the projections end with the same results. -/
theorem same : Cert.algebraic_Kernel3Ideal_Reference3Ideal (hKernel3Ideal := Cert.Kernel3Ideal.Gen.facts) (hReference3Ideal := Cert.Reference3Ideal.Gen.facts) := by
  intro m g m' g' _ hagree
  refine ⟨_, _, _, _, _, _, _, _, _, _, _, _, _, _, Cert.Kernel3Ideal.Value.run_blocks m g, (θ_run Cert.Reference3Ideal.defs _ _).mono (fun r h c => ?_) (Cert.Reference3Ideal.Value.run m' g')⟩
  obtain ⟨h0, h1, h2, h3, h4, h5⟩ := hagree c
  obtain ⟨r10, r11, r12, r13, r14, r15, r16, r17, r18, r19, r20, r21, r22, r23, hrest⟩ := h c
  refine ⟨r10.trans ((d10 m' c).trans ((e10 m c _ _ _ h0 h1 h2).trans (Cert.Kernel3Ideal.Value.final10 m c).symm)), r11.trans ((d11 m' c).trans ((e11 m c _ _ _ h0 h1 h2).trans (Cert.Kernel3Ideal.Value.final11 m c).symm)), r12.trans ((d12 m' c).trans ((e12 m c _ _ _ _ h0 h1 h2 h3).trans (Cert.Kernel3Ideal.Value.final12 m c).symm)), r13.trans ((d13 m' c).trans ((e13 m c _ _ _ h0 h1 h2).trans (Cert.Kernel3Ideal.Value.final13 m c).symm)), r14.trans ((d14 m' c).trans ((e14 m c _ _ _ _ h0 h1 h2 h4).trans (Cert.Kernel3Ideal.Value.final14 m c).symm)), r15.trans ((d15 m' c).trans ((e15 m c _ _ _ _ h0 h1 h2 h4).trans (Cert.Kernel3Ideal.Value.final15 m c).symm)), r16.trans ((d16 m' c).trans ((e16 m c _ _ _ _ h0 h1 h2 h5).trans (Cert.Kernel3Ideal.Value.final16 m c).symm)), r17.trans ((d17 m' c).trans ((e17 m c _ _ _ h0 h1 h2).trans (Cert.Kernel3Ideal.Value.final17 m c).symm)), r18.trans ((d18 m' c).trans ((e18 m c _ _ _ h0 h1 h2).trans (Cert.Kernel3Ideal.Value.final18 m c).symm)), r19.trans ((d19 m' c).trans ((e19 m c _ _ _ _ h0 h1 h2 h4).trans (Cert.Kernel3Ideal.Value.final19 m c).symm)), r20.trans ((d20 m' c).trans ((e20 m c _ _ _ _ h0 h1 h2 h4).trans (Cert.Kernel3Ideal.Value.final20 m c).symm)), r21.trans ((d21 m' c).trans ((e21 m c _ _ _ _ h0 h1 h2 h4).trans (Cert.Kernel3Ideal.Value.final21 m c).symm)), r22.trans ((d22 m' c).trans ((e22 m c _ _ _ _ h0 h1 h2 h4).trans (Cert.Kernel3Ideal.Value.final22 m c).symm)), r23.trans ((d23 m' c).trans ((e23 m c _ _ _ h0 h1 h2).trans (Cert.Kernel3Ideal.Value.final23 m c).symm)), hrest⟩

/-- The plain projections' frame. -/
theorem ref_frame : Cert.quiescent_Reference3Ideal (hReference3Ideal := Cert.Reference3Ideal.Gen.facts) := fun m ρ _ =>
  (θ_run Cert.Reference3Ideal.defs _ _).mono (fun r h => ⟨fun c => (h c).2.2.2.2.2.2.2.2.2.2.2.2.2.2, sem_eq_zero_of_no_sems rfl r.2⟩) (Cert.Reference3Ideal.Value.run m ρ)

end Cert.Mix

end
-- ==== Proof.MemKv.lean ====
/-
  The keys and values of the memory: the array the kernel leaves.
-/
module

public import proofs.«01_k».proof.Proof.Gen.Kernel4Ideal.Value
public import proofs.«01_k».proof.Proof.ProjHost

@[expose] public section

set_option maxRecDepth 16384

noncomputable section

namespace Cert.Mem

open Idealize.ShloMosaic Cert.Kernel4Ideal Cert.Ffn Cert.Mix

/-- The normalised memory row times a column of the weights. -/
def ZM (x : FVec Ideal S2x256x1024 .f32) (g : FVec Ideal S1x1024 .f32) (w : FVec Ideal S1x1024x1024 .f32) (i : Fin 512) (n : Fin 1024) : EReal :=
  ∑ k, nrm (fun j => x (ix3 ⟨i.val / 256, by omega⟩ ⟨i.val % 256, by omega⟩ j)) (fun j => g (ix2 0 j)) k * w (ix3 0 k n)

/-- Keys, normalised head by head, then values. -/
def KV (x : FVec Ideal S2x256x1024 .f32) (g : FVec Ideal S1x1024 .f32) (w : FVec Ideal S1x1024x1024 .f32) (gk : FVec Ideal S1x128 .f32)
    (i : Fin 512) (n : Fin 1024) : EReal :=
  if h : n.val < 512 then grp (Ideal.ofBits .f32 0x43000000#32)
    (∑ l : Fin 128, ZM x g w i ⟨n.val / 128 * 128 + l.val, by omega⟩ * ZM x g w i ⟨n.val / 128 * 128 + l.val, by omega⟩)
    (ZM x g w i n) (gk (ix2 0 ⟨n.val % 128, by omega⟩))
  else ZM x g w i n

end Cert.Mem

namespace Cert.Kernel4Ideal.Value

open Cert.Kernel4Ideal Cert.Kernel4Ideal.Gen Idealize.ShloMosaic Idealize.ShloMosaic.TcCoe Idealize.SL.Sem Cert.Ffn Cert.Mix Cert.Mem

/-- What the store holds, from the blocks. -/
theorem pay1_at (v0 : Vec Ideal S512x1024 .f32) (v12 : Vec Ideal S1x1024 .f32) (v17 : Vec Ideal S1024x1024 .bf16) (v21 : Vec Ideal S512x512 .bf16)
    (v23 : Vec Ideal S1x512 .f32) (p : Fin 512) (n : Fin 1024) : k0_pay1 v0 v12 v17 v21 v23 (ix2 p n)
    = if h : n.val < 512 then grm (Ideal.ofBits .f32 0x3C000000#32)
        (∑ j : Fin 512, (∑ k, nrm (fun j => v0 (ix2 p j)) (fun j => v12 (ix2 0 j)) k * v17 (ix2 k ⟨j.val, by omega⟩))
          * (∑ k, nrm (fun j => v0 (ix2 p j)) (fun j => v12 (ix2 0 j)) k * v17 (ix2 k ⟨j.val, by omega⟩)) * v21 (ix2 j ⟨n.val, h⟩))
        (∑ k, nrm (fun j => v0 (ix2 p j)) (fun j => v12 (ix2 0 j)) k * v17 (ix2 k n)) (v23 (ix2 0 ⟨n.val, h⟩))
      else ∑ k, nrm (fun j => v0 (ix2 p j)) (fun j => v12 (ix2 0 j)) k * v17 (ix2 k n) := by
  by_cases h : n.val < 512
  · rw [dif_pos h]
    unfold grm nrm
    pointwise [k0_pay1]
    rw [dif_pos h]
  · rw [dif_neg h]
    unfold nrm
    pointwise [k0_pay1]
    rw [dif_neg h]
    have e : (⟨512 + (n.val - 512), by omega⟩ : Fin 1024) = n := Fin.ext (by show 512 + (n.val - 512) = n.val; omega)
    simp only [e]

theorem x_at (x : FVec Ideal S2x256x1024 .f32) (i : Fin 512) (n : Fin 1024) : shapeCast S512x1024 x shapeCasts_S2x256x1024_S512x1024 (ix2 i n)
    = x (ix3 ⟨i.val / 256, by omega⟩ ⟨i.val % 256, by omega⟩ n) := by
  pointwise
theorem w_at (w : FVec Ideal S1x1024x1024 .f32) (k n : Fin 1024) :
    (truncf .bf16 (shapeCast S1024x1024 w shapeCasts_S1x1024x1024_S1024x1024) bitsLt_bf16_f32 : FVec Ideal S1024x1024 .bf16) (ix2 k n) = w (ix3 0 k n) := by
  pointwise

variable (m : (ℓ : Loc nD τ sig) → Buf (Elt Ideal) ℓ)

theorem idx : ∀ t : Fin cfg0.N, win0_0.index t = ![0, 0] ∧ win0_1.index t = ![0, 0] ∧ win0_2.index t = ![0, 0]
    ∧ win0_3.index t = ![0, 0] ∧ win0_4.index t = ![0, 0] ∧ win0_5.index t = ![0, 0] :=
  (by decide +kernel : ∀ t : Fin grid0.N, _)

section
variable (c : Dev nD)
theorem V17 : V m c main_v17 = shapeCast S512x1024 (m ((c : Thread nD τ).loc main_arg0) : FVec Ideal S2x256x1024 .f32) shapeCasts_S2x256x1024_S512x1024 := by
  simp only [V, hostOps0, hostOps0_1, hostOps0_2, List.flatten_cons, List.flatten_nil, List.append_nil, List.cons_append, List.nil_append]
  after_results_simp
  rfl
theorem V1 : V m c main_v1 = shapeCast S1x1024 (shapeCast S1024 (m ((c : Thread nD τ).loc main_arg1) : FVec Ideal S1x1024 .f32) shapeCasts_S1x1024_S1024) shapeCasts_S1024_S1x1024 := by
  simp only [V, hostOps0, hostOps0_1, hostOps0_2, List.flatten_cons, List.flatten_nil, List.append_nil, List.cons_append, List.nil_append]
  after_results_simp
  rfl
theorem V3 : V m c main_v3 = (truncf .bf16 (shapeCast S1024x1024 (m ((c : Thread nD τ).loc main_arg2) : FVec Ideal S1x1024x1024 .f32) shapeCasts_S1x1024x1024_S1024x1024) bitsLt_bf16_f32 : FVec Ideal S1024x1024 .bf16) := by
  simp only [V, hostOps0, hostOps0_1, hostOps0_2, List.flatten_cons, List.flatten_nil, List.append_nil, List.cons_append, List.nil_append]
  after_results_simp
  rfl
theorem V11 : V m c main_v11 = Cert.Kernel3Ideal.Value.bd (Cert.Kernel3Ideal.Value.gid 128#32) := by
  simp only [V, hostOps0, hostOps0_1, hostOps0_2, List.flatten_cons, List.flatten_nil, List.append_nil, List.cons_append, List.nil_append]
  after_results_simp
  rfl
theorem V16 : V m c main_v16 = Cert.Kernel3Ideal.Value.gm (m ((c : Thread nD τ).loc main_arg3)) := by
  simp only [V, hostOps0, hostOps0_1, hostOps0_2, List.flatten_cons, List.flatten_nil, List.append_nil, List.cons_append, List.nil_append]
  after_results_simp
  rfl

variable (t : Fin cfg0.N)
theorem blk0 (p : Fin 512) (n : Fin 1024) : iblk m c 0 t (ix2 p n)
    = m ((c : Thread nD τ).loc main_arg0) (ix3 ⟨p.val / 256, by omega⟩ ⟨p.val % 256, by omega⟩ n) := by
  refine Eq.trans (b := V m c main_v17 (ix2 p n)) ?_ ?_
  · blk_ext [iblk, idx t]
  · rw [V17]; exact x_at _ p n
theorem blk1 (n : Fin 1024) : iblk m c 1 t (ix2 0 n) = m ((c : Thread nD τ).loc main_arg1) (ix2 0 n) := by
  refine Eq.trans (b := V m c main_v1 (ix2 0 n)) ?_ ?_
  · blk_ext [iblk, idx t]
  · rw [V1]; pointwise
theorem blk2 (k n : Fin 1024) : iblk m c 2 t (ix2 k n) = m ((c : Thread nD τ).loc main_arg2) (ix3 0 k n) := by
  refine Eq.trans (b := V m c main_v3 (ix2 k n)) ?_ ?_
  · blk_ext [iblk, idx t]
  · rw [V3]; exact w_at _ k n
theorem blk3 (a b : Fin 512) : iblk m c 3 t (ix2 a b) = if a.val / 128 = b.val / 128 then (1 : EReal) else 0 := by
  refine Eq.trans (b := V m c main_v11 (ix2 a b)) ?_ ?_
  · blk_ext [iblk, idx t]
  · rw [V11]; exact Cert.Kernel3Ideal.Value.bd128_at a b
theorem blk4 (n : Fin 512) : iblk m c 4 t (ix2 0 n) = m ((c : Thread nD τ).loc main_arg3) (ix2 0 ⟨n.val % 128, by omega⟩) := by
  refine Eq.trans (b := V m c main_v16 (ix2 0 n)) ?_ ?_
  · blk_ext [iblk, idx t]
  · rw [V16]; exact Cert.Kernel3Ideal.Value.gm_at _ n
end

/-- The result array as a function of the arguments. -/
def Y (c : Dev nD) : FVec Ideal S512x1024 .f32 := fun i => KV (m ((c : Thread nD τ).loc main_arg0)) (m ((c : Thread nD τ).loc main_arg1))
  (m ((c : Thread nD τ).loc main_arg2)) (m ((c : Thread nD τ).loc main_arg3)) (i 0) (i 1)

theorem point (c : Dev nD) (t : Fin cfg0.N) (p : Fin 512) (n : Fin 1024) :
    k0_pay1 (iblk m c 0 t) (iblk m c 1 t) (iblk m c 2 t) (iblk m c 3 t) (iblk m c 4 t) (ix2 p n) = Y m c (ix2 p n) := by
  refine (pay1_at _ _ _ _ _ p n).trans ?_
  show _ = KV _ _ _ _ p n
  unfold KV
  by_cases h : n.val < 512
  · rw [dif_pos h, dif_pos h, grm128]
    have hs := sum_group (N := 512) (W := 128) (by decide) (fun j => ZM (m ((c : Thread nD τ).loc main_arg0)) (m ((c : Thread nD τ).loc main_arg1))
      (m ((c : Thread nD τ).loc main_arg2)) p ⟨j.val, by omega⟩ * ZM (m ((c : Thread nD τ).loc main_arg0)) (m ((c : Thread nD τ).loc main_arg1))
      (m ((c : Thread nD τ).loc main_arg2)) p ⟨j.val, by omega⟩) (n.val / 128) (by intro l; omega)
    beta_reduce at hs
    rw [← hs]
    simp only [blk0, blk1, blk2, blk3, blk4]
    rfl
  · rw [dif_neg h, dif_neg h]
    simp only [blk0, blk1, blk2]
    rfl

theorem place (c : Dev nD) (t : Fin cfg0.N) (p : Fin 512) (n : Fin 1024) :
    Y m c (ix2 p n) = Y m c (((cfg0.win 5).blk t).view.emb (ix2 p n : S512x1024.Idx)) := by
  blk_ext [idx t]

/-- The result array after the run. -/
theorem final (c : Dev nD) : (dats m 0 c).arrAt 5 (cfgs 0).N = Y m c := by
  refine (dats m 0 c).arrAt_eq_of_covers 5 _ (by decide +kernel) fun t _ y => ?_
  blk_simp [idx t]
  rw [after0_5]
  frame_out
  obtain ⟨p, n, rfl⟩ : ∃ (p : Fin 512) (n : Fin 1024), y = ix2 p n := ⟨y 0, y 1, eq_ix2 y⟩
  exact (point m c t p n).trans (place m c t p n)

end Cert.Kernel4Ideal.Value
-- ==== Proof.MemKvEqual.lean ====
/-
  The plain keys and values of the memory, entry by entry, and that the kernel leaves the same.
-/
module

public import proofs.«01_k».proof.Proof.MemKv
public import proofs.«01_k».proof.Proof.Gen.Reference4Ideal.Run
public import proofs.«01_k».proof.Defs
public import Idealize.ShloMosaic.Adequacy
public import Idealize.ShloMosaic.Lib.Quiescent

@[expose] public section

set_option maxRecDepth 16384

noncomputable section

namespace Cert.Reference4Ideal.Value

open Cert.Reference4Ideal Cert.Reference4Ideal.Gen Idealize.ShloMosaic Idealize.ShloMosaic.TcCoe Idealize.SL.Sem Cert.Ffn Cert.Mix Cert.Mem

/-- The normalised rows times the weights. -/
def ZR (x : FVec Ideal S2x256x1024 .f32) (g : FVec Ideal S1x1024 .f32) (w : FVec Ideal S1x1024x1024 .f32) : FVec Ideal S2x256x1024 .f32 :=
  (Host.dotGeneral dot_S2x256x1024_S1024x1024_S2x256x1024_2_0_01_1_n_n none (mulf (mulf x (broadcastInDim S2x256x1024 ![0, 1, 2] bcast_S2x256x1_S2x256x1024_0_1_2 (Host.rsqrt (addf (Host.divf (broadcastInDim S2x256x1 ![0, 1] bcast_S2x256_S2x256x1_0_1 (Host.reduceAdd (mulf x x) (constant S_ .f32 0x00000000#32) reducesTo_S2x256x1024_S2x256_d2 h_S_)) (broadcastInDim S2x256x1 ![] bcast_S_S2x256x1 (constant S_ .f32 0x44800000#32))) (broadcastInDim S2x256x1 ![] bcast_S_S2x256x1 (constant S_ .f32 0x358637BD#32)))))) (broadcastInDim S2x256x1024 ![0, 1, 2] bcast_S1x1x1024_S2x256x1024_0_1_2 (broadcastInDim S1x1x1024 ![2] bcast_S1024_S1x1x1024_2 (shapeCast _ g shapeCasts_S1x1024_S1024)))) (shapeCast _ w shapeCasts_S1x1024x1024_S1024x1024))

/-- Keys divided by the root mean square of their head, and values. -/
def YR (z : FVec Ideal S2x256x1024 .f32) (gk : FVec Ideal S1x128 .f32) : FVec Ideal S512x1024 .f32 :=
  shapeCast _ (concatenate S2x256x2x4x128 2 [⟨S2x256x1x4x128, (broadcastInDim S2x256x1x4x128 ![0, 1, 3, 4] bcast_S2x256x4x128_S2x256x1x4x128_0_1_3_4 (mulf (mulf (shapeCast _ (extractStridedSlice S2x256x1x4x128 ![0, 0, 0, 0, 0] (shapeCast _ z shapeCasts_S2x256x1024_S2x256x2x4x128) slices_S2x256x2x4x128_S2x256x1x4x128_0_0_0_0_0) shapeCasts_S2x256x1x4x128_S2x256x4x128) (broadcastInDim S2x256x4x128 ![0, 1, 2, 3] bcast_S2x256x4x1_S2x256x4x128_0_1_2_3 (Host.rsqrt (addf (Host.divf (broadcastInDim S2x256x4x1 ![0, 1, 2] bcast_S2x256x4_S2x256x4x1_0_1_2 (Host.reduceAdd (mulf (shapeCast _ (extractStridedSlice S2x256x1x4x128 ![0, 0, 0, 0, 0] (shapeCast _ z shapeCasts_S2x256x1024_S2x256x2x4x128) slices_S2x256x2x4x128_S2x256x1x4x128_0_0_0_0_0) shapeCasts_S2x256x1x4x128_S2x256x4x128) (shapeCast _ (extractStridedSlice S2x256x1x4x128 ![0, 0, 0, 0, 0] (shapeCast _ z shapeCasts_S2x256x1024_S2x256x2x4x128) slices_S2x256x2x4x128_S2x256x1x4x128_0_0_0_0_0) shapeCasts_S2x256x1x4x128_S2x256x4x128)) (constant S_ .f32 0x00000000#32) reducesTo_S2x256x4x128_S2x256x4_d3 h_S_)) (broadcastInDim S2x256x4x1 ![] bcast_S_S2x256x4x1 (constant S_ .f32 0x43000000#32))) (broadcastInDim S2x256x4x1 ![] bcast_S_S2x256x4x1 (constant S_ .f32 0x358637BD#32)))))) (broadcastInDim S2x256x4x128 ![0, 1, 2, 3] bcast_S1x1x1x128_S2x256x4x128_0_1_2_3 (broadcastInDim S1x1x1x128 ![3] bcast_S128_S1x1x1x128_3 (shapeCast _ gk shapeCasts_S1x128_S128)))))⟩, ⟨S2x256x1x4x128, (broadcastInDim S2x256x1x4x128 ![0, 1, 3, 4] bcast_S2x256x4x128_S2x256x1x4x128_0_1_3_4 (shapeCast _ (extractStridedSlice S2x256x1x4x128 ![0, 0, 1, 0, 0] (shapeCast _ z shapeCasts_S2x256x1024_S2x256x2x4x128) slices_S2x256x2x4x128_S2x256x1x4x128_0_0_1_0_0) shapeCasts_S2x256x1x4x128_S2x256x4x128))⟩] concatenates_S2x256x1x4x128_S2x256x1x4x128_S2x256x2x4x128_d2) shapeCasts_S2x256x2x4x128_S512x1024

theorem ZR_at (x : FVec Ideal S2x256x1024 .f32) (g : FVec Ideal S1x1024 .f32) (w : FVec Ideal S1x1024x1024 .f32) (i : Fin 512) (n : Fin 1024) :
    ZR x g w (ix3 ⟨i.val / 256, by omega⟩ ⟨i.val % 256, by omega⟩ n) = ZM x g w i n := by
  unfold ZM nrm
  pointwise [ZR]

theorem YR_at (z : FVec Ideal S2x256x1024 .f32) (gk : FVec Ideal S1x128 .f32) (i : Fin 512) (n : Fin 1024) : YR z gk (ix2 i n)
    = if h : n.val < 512 then grp (Ideal.ofBits .f32 0x43000000#32)
      (∑ l : Fin 128, z (ix3 ⟨i.val / 256, by omega⟩ ⟨i.val % 256, by omega⟩ ⟨n.val / 128 * 128 + l.val, by omega⟩)
        * z (ix3 ⟨i.val / 256, by omega⟩ ⟨i.val % 256, by omega⟩ ⟨n.val / 128 * 128 + l.val, by omega⟩))
      (z (ix3 ⟨i.val / 256, by omega⟩ ⟨i.val % 256, by omega⟩ n)) (gk (ix2 0 ⟨n.val % 128, by omega⟩))
    else z (ix3 ⟨i.val / 256, by omega⟩ ⟨i.val % 256, by omega⟩ n) := by
  by_cases h : n.val < 512
  · rw [dif_pos h]
    unfold grp
    pointwise [YR]
    rw [dif_pos (by omega)]
    have e : ∀ l : Fin 128, (⟨n.val / 128 % 4 * 128 + l.val, by omega⟩ : Fin 1024) = ⟨n.val / 128 * 128 + l.val, by omega⟩ := fun l =>
      Fin.ext (by show n.val / 128 % 4 * 128 + l.val = n.val / 128 * 128 + l.val; omega)
    have e' : (⟨n.val / 128 % 4 * 128 + n.val % 128, by omega⟩ : Fin 1024) = n := Fin.ext (by show n.val / 128 % 4 * 128 + n.val % 128 = n.val; omega)
    simp only [e, e']
  · rw [dif_neg h]
    pointwise [YR]
    rw [dif_neg (by omega)]
    exact congrArg (fun j => z (ix3 _ _ j)) (Fin.ext (by show 512 + n.val / 128 % 4 * 128 + n.val % 128 = n.val; omega))

variable (m : (ℓ : Loc nD τ sig) → Buf (Elt Ideal) ℓ)

/-- The result of the run. -/
theorem res_eq (c : Dev nD) : res_main_v38 m c
    = YR (ZR (m ((c : Thread nD τ).loc main_arg0)) (m ((c : Thread nD τ).loc main_arg1)) (m ((c : Thread nD τ).loc main_arg2))) (m ((c : Thread nD τ).loc main_arg3)) := rfl

theorem res_at (c : Dev nD) (i : Fin 512) (n : Fin 1024) : (res_main_v38 m c : FVec Ideal S512x1024 .f32) (ix2 i n)
    = KV (m ((c : Thread nD τ).loc main_arg0)) (m ((c : Thread nD τ).loc main_arg1)) (m ((c : Thread nD τ).loc main_arg2)) (m ((c : Thread nD τ).loc main_arg3)) i n := by
  rw [res_eq]
  refine (YR_at _ _ i n).trans ?_
  simp only [ZR_at]
  rfl

end Cert.Reference4Ideal.Value

namespace Cert.Mem

open Idealize.ShloMosaic Idealize.ShloMosaic.TcCoe Idealize.SL.Sem

/-- Kernel and reference of the memory's keys and values end with the same result. -/
theorem same : Cert.algebraic_Kernel4Ideal_Reference4Ideal (hKernel4Ideal := Cert.Kernel4Ideal.Gen.facts) (hReference4Ideal := Cert.Reference4Ideal.Gen.facts) := by
  intro m g m' g' _ hagree
  refine ⟨_, Cert.Kernel4Ideal.Value.run_blocks m g, (θ_run Cert.Reference4Ideal.defs _ _).mono (fun r h c => ?_) (Cert.Reference4Ideal.Value.run m' g')⟩
  refine ⟨(h c).1.trans (Eq.trans ?_ (Cert.Kernel4Ideal.Value.final m c).symm), (h c).2⟩
  obtain ⟨h0, h1, h2, h3⟩ := hagree c
  have e : ∀ (i : Fin 512) (n : Fin 1024), (Cert.Reference4Ideal.Value.res_main_v38 m' c : FVec Ideal Cert.Kernel4Ideal.S512x1024 .f32) (ix2 i n)
      = Cert.Kernel4Ideal.Value.Y m c (ix2 i n) := fun i n => by
    refine (Cert.Reference4Ideal.Value.res_at m' c i n).trans ?_
    rw [h0, h1, h2, h3]
    rfl
  funext i
  rw [eq_ix2 i]
  exact e _ _

/-- The plain calculation's frame. -/
theorem ref_frame : Cert.quiescent_Reference4Ideal (hReference4Ideal := Cert.Reference4Ideal.Gen.facts) := fun m ρ _ =>
  (θ_run Cert.Reference4Ideal.defs _ _).mono (fun r h => ⟨fun c => (h c).2, sem_eq_zero_of_no_sems rfl r.2⟩) (Cert.Reference4Ideal.Value.run m ρ)

end Cert.Mem
-- ==== Proof.MemAttn.lean ====
/-
  Attention of the queries to the memory: the array the kernel leaves.
-/
module

public import proofs.«01_k».proof.Proof.Gen.Kernel5Ideal.Value
public import proofs.«01_k».proof.Proof.ProjSpec

@[expose] public section

set_option maxRecDepth 16384

noncomputable section

namespace Cert.Att

open Idealize.ShloMosaic Cert.Kernel5Ideal

/-- The average of `v` with the weights that the softmax of the scores `s` gives. -/
def attn (s v : Fin 256 → EReal) : EReal :=
  ∑ x : Fin 256, Ideal.div (Ideal.exp (s x - Finset.fold max (Ideal.ofBits .f32 0xFF800000#32) s Finset.univ))
    (∑ y : Fin 256, Ideal.exp (s y - Finset.fold max (Ideal.ofBits .f32 0xFF800000#32) s Finset.univ)) * v x

/-- A query's score at a key. -/
def sco (q k : Fin 128 → EReal) : EReal := (∑ j : Fin 128, q j * k j) * Ideal.ofBits .f32 0x3DB504F3#32

/-- The attention of query `i` in column `n`: the head of `n`, over the 256 keys of the query's batch. -/
def AT (q : FVec Ideal S16384x512 .bf16) (kv : FVec Ideal S512x1024 .f32) (i : Fin 16384) (n : Fin 512) : EReal :=
  attn (fun x => sco (fun j => q (ix2 i ⟨n.val / 128 * 128 + j.val, by omega⟩)) (fun j => kv (ix2 ⟨i.val / 8192 * 256 + x.val, by omega⟩ ⟨n.val / 128 * 128 + j.val, by omega⟩)))
    (fun x => kv (ix2 ⟨i.val / 8192 * 256 + x.val, by omega⟩ ⟨512 + n.val, by omega⟩))

end Cert.Att

namespace Cert.Kernel5Ideal.Value

open Cert.Kernel5Ideal Cert.Kernel5Ideal.Gen Idealize.ShloMosaic Idealize.ShloMosaic.TcCoe Idealize.SL.Sem Cert.Att

section
variable (k v : Vec Ideal S1x256x128 .f32) (q : Vec Ideal S1x512x128 .bf16) (r : Fin 512) (d : Fin 128) (x : Fin 256) (n : Fin 512)

theorem pay4_at : k0_pay4 k q (ix2 r x) = sco (fun j => q (ix3 0 r j)) (fun j => k (ix3 0 x j)) := by
  unfold sco
  pointwise [k0_pay4]

theorem pay5_at (w : FVec Ideal S256x128 .bf16) (s : FVec Ideal S512x256 .f32) : k0_pay5 w s (ix2 r d) = attn (fun x => s (ix2 r x)) (fun x => w (ix2 x d)) := by
  unfold attn
  pointwise [k0_pay5]

theorem pay3_at : k0_pay3 v (ix2 x d) = v (ix3 0 x d) := by
  pointwise [k0_pay3]
theorem pay7_at : k0_pay7 v (ix2 x d) = v (ix3 0 x d) := by
  pointwise [k0_pay7]

theorem pay2_at : k0_pay2 k v q (ix2 r d) = attn (fun x => sco (fun j => q (ix3 0 r j)) (fun j => k (ix3 0 x j))) (fun x => v (ix3 0 x d)) := by
  unfold attn sco
  pointwise [k0_pay2]
theorem pay6_at : k0_pay6 k v q (ix2 r d) = attn (fun x => sco (fun j => q (ix3 0 r j)) (fun j => k (ix3 0 x j))) (fun x => v (ix3 0 x d)) := by
  unfold attn sco
  pointwise [k0_pay6]

theorem pay1_at (a b c : FVec Ideal S512x128 .f32) (w : FVec Ideal S256x128 .bf16) : k0_pay1 a b c w v q (ix3 0 r n)
    = if n.val < 128 then a (ix2 r ⟨n.val % 128, by omega⟩) else if n.val < 256 then b (ix2 r ⟨n.val % 128, by omega⟩)
      else if n.val < 384 then c (ix2 r ⟨n.val % 128, by omega⟩)
      else attn (fun x => sco (fun j => q (ix3 0 r j)) (fun j => w (ix2 x j))) (fun x => v (ix3 0 x ⟨n.val % 128, by omega⟩)) := by
  unfold attn sco
  pointwise [k0_pay1]
  have e : ∀ (i : Nat) (hi : i < 128), i = n.val % 128 → (⟨i, hi⟩ : Fin 128) = ⟨n.val % 128, by omega⟩ := fun i hi h => Fin.ext h
  by_cases h0 : n.val < 128
  · rw [dif_pos h0, if_pos h0, e _ _ (by omega)]
  · rw [dif_neg h0, if_neg h0]
    by_cases h1 : n.val < 256
    · rw [dif_pos (by omega), if_pos h1, e _ _ (by omega)]
    · rw [dif_neg (by omega), if_neg h1]
      by_cases h2 : n.val < 384
      · rw [dif_pos (by omega), if_pos h2, e _ _ (by omega)]
      · rw [dif_neg (by omega), if_neg h2, e _ _ (by omega)]

theorem ldK (x1 : Vec Ideal S1x256x1024 .f32) (o : Nat) (ho : o + 128 ≤ 1024) (inb : ∀ a, (![0, 0, o] : Fin 3 → Nat) a + S1x256x128.size a ≤ S1x256x1024.size a) :
    View.ld x1 (Rect.unit (s := S1x256x1024) ![0, 0, o] S1x256x128.size inb) (ix3 0 x d) = x1 (ix3 0 x ⟨o + d.val, by omega⟩) := by
  pointwise []
theorem ldQ (x0 : Vec Ideal S1x512x512 .bf16) (o : Nat) (ho : o + 128 ≤ 512) (inb : ∀ a, (![0, 0, o] : Fin 3 → Nat) a + S1x512x128.size a ≤ S1x512x512.size a) :
    View.ld x0 (Rect.unit (s := S1x512x512) ![0, 0, o] S1x512x128.size inb) (ix3 0 r d) = x0 (ix3 0 r ⟨o + d.val, by omega⟩) := by
  pointwise []

/-- One head of a block. -/
theorem head_at (x0 : Vec Ideal S1x512x512 .bf16) (x1 : Vec Ideal S1x256x1024 .f32) (o : Nat) (ho : o + 128 ≤ 512) (inb inb' inb'') (h : n.val / 128 * 128 = o) :
    attn (fun x => sco (fun j => View.ld x0 (Rect.unit (s := S1x512x512) ![0, 0, o] S1x512x128.size inb) (ix3 0 r j))
        (fun j => View.ld x1 (Rect.unit (s := S1x256x1024) ![0, 0, o] S1x256x128.size inb') (ix3 0 x j)))
      (fun x => View.ld x1 (Rect.unit (s := S1x256x1024) ![0, 0, 512 + o] S1x256x128.size inb'') (ix3 0 x ⟨n.val % 128, by omega⟩))
    = attn (fun x => sco (fun j => x0 (ix3 0 r ⟨n.val / 128 * 128 + j.val, by omega⟩)) (fun j => x1 (ix3 0 x ⟨n.val / 128 * 128 + j.val, by omega⟩)))
      (fun x => x1 (ix3 0 x ⟨512 + n.val, by omega⟩)) := by
  subst h
  have e : ∀ x : Fin 256, View.ld x1 (Rect.unit (s := S1x256x1024) ![0, 0, 512 + n.val / 128 * 128] S1x256x128.size inb'') (ix3 0 x ⟨n.val % 128, by omega⟩)
      = x1 (ix3 0 x ⟨512 + n.val, by omega⟩) := fun x => by
    rw [ldK _ x x1 (512 + n.val / 128 * 128) (by omega)]
    exact congrArg (fun j => x1 (ix3 0 x j)) (Fin.ext (by show 512 + n.val / 128 * 128 + n.val % 128 = 512 + n.val; omega))
  simp only [e]
  exact congrArg (fun s => attn s _) (funext fun x => congr (congrArg sco (funext fun j => ldQ r j x0 _ ho _)) (funext fun j => ldK j x x1 _ (by omega) _))

/-- A block's result: each column by its head. -/
theorem block_at (x0 : Vec Ideal S1x512x512 .bf16) (x1 : Vec Ideal S1x256x1024 .f32) :
    k0_pay1 (k0_pay2 (View.ld x1 r0_0) (View.ld x1 r0_1) (View.ld x0 r0_2)) (k0_pay5 (k0_pay3 (View.ld x1 r0_4)) (k0_pay4 (View.ld x1 r0_3) (View.ld x0 r0_5)))
      (k0_pay6 (View.ld x1 r0_6) (View.ld x1 r0_7) (View.ld x0 r0_8)) (k0_pay7 (View.ld x1 r0_9)) (View.ld x1 r0_10) (View.ld x0 r0_11) (ix3 0 r n)
    = attn (fun x => sco (fun j => x0 (ix3 0 r ⟨n.val / 128 * 128 + j.val, by omega⟩)) (fun j => x1 (ix3 0 x ⟨n.val / 128 * 128 + j.val, by omega⟩)))
      (fun x => x1 (ix3 0 x ⟨512 + n.val, by omega⟩)) := by
  rw [pay1_at]
  by_cases h0 : n.val < 128
  · rw [if_pos h0, pay2_at]
    exact head_at r n x0 x1 0 (by omega) _ _ _ (by omega)
  · rw [if_neg h0]
    by_cases h1 : n.val < 256
    · rw [if_pos h1, pay5_at]
      simp only [pay4_at, pay3_at]
      exact head_at r n x0 x1 128 (by omega) _ _ _ (by omega)
    · rw [if_neg h1]
      by_cases h2 : n.val < 384
      · rw [if_pos h2, pay6_at]
        exact head_at r n x0 x1 256 (by omega) _ _ _ (by omega)
      · rw [if_neg h2]
        simp only [pay7_at]
        exact head_at r n x0 x1 384 (by omega) _ _ _ (by omega)
end

variable (m : (ℓ : Loc nD τ sig) → Buf (Elt Ideal) ℓ)

theorem idx : ∀ t : Fin cfg0.N, win0_0.index t = ![t.val / 16, t.val % 16, 0] ∧ win0_1.index t = ![t.val / 16, 0, 0] ∧ win0_2.index t = ![t.val / 16, t.val % 16, 0] :=
  (by decide +kernel : ∀ t : Fin grid0.N, _)

section
variable (c : Dev nD) (t : Fin cfg0.N)
theorem lt_N : t.val < 32 := t.isLt
theorem blk0 (r n : Fin 512) : iblk m c 0 t (ix3 0 r n) = m ((c : Thread nD τ).loc main_arg0) (ix2 ⟨t.val * 512 + r.val, by have := lt_N t; omega⟩ n) := by
  blk_point [iblk, V, idx t]
theorem blk1 (x : Fin 256) (n : Fin 1024) : iblk m c 1 t (ix3 0 x n) = m ((c : Thread nD τ).loc main_arg1) (ix2 ⟨t.val / 16 * 256 + x.val, by have := lt_N t; omega⟩ n) := by
  blk_point [iblk, V, idx t]
end

/-- The result array as a function of the arguments. -/
def Y (c : Dev nD) : FVec Ideal S2x8192x512 .bf16 := fun i => AT (m ((c : Thread nD τ).loc main_arg0)) (m ((c : Thread nD τ).loc main_arg1))
  ⟨(i 0).val * 8192 + (i 1).val, by have h0 : (i 0).val < 2 := (i 0).isLt; have h1 : (i 1).val < 8192 := (i 1).isLt; omega⟩ (i 2)

theorem point (c : Dev nD) (t : Fin cfg0.N) (r n : Fin 512) :
    attn (fun x => sco (fun j => iblk m c 0 t (ix3 0 r ⟨n.val / 128 * 128 + j.val, by omega⟩)) (fun j => iblk m c 1 t (ix3 0 x ⟨n.val / 128 * 128 + j.val, by omega⟩)))
      (fun x => iblk m c 1 t (ix3 0 x ⟨512 + n.val, by omega⟩))
    = AT (m ((c : Thread nD τ).loc main_arg0)) (m ((c : Thread nD τ).loc main_arg1)) ⟨t.val * 512 + r.val, by have := lt_N t; omega⟩ n := by
  have hb : (t.val * 512 + r.val) / 8192 = t.val / 16 := by omega
  unfold AT
  simp only [blk0, blk1, hb]

theorem place (c : Dev nD) (t : Fin cfg0.N) (r n : Fin 512) :
    AT (m ((c : Thread nD τ).loc main_arg0)) (m ((c : Thread nD τ).loc main_arg1)) ⟨t.val * 512 + r.val, by have := lt_N t; omega⟩ n
    = Y m c (((cfg0.win 2).blk t).view.emb (ix3 0 r n : S1x512x512.Idx)) := by
  have e : Y m c (((cfg0.win 2).blk t).view.emb (ix3 0 r n : S1x512x512.Idx))
      = Y m c (ix3 ⟨t.val / 16, by have := lt_N t; omega⟩ ⟨t.val % 16 * 512 + r.val, by omega⟩ n) := by
    blk_ext [idx t]
  rw [e]
  exact congrArg (fun i => AT _ _ i n) (Fin.ext (by show t.val * 512 + r.val = t.val / 16 * 8192 + (t.val % 16 * 512 + r.val); omega))

/-- The result array after the run. -/
theorem final (c : Dev nD) : (dats m 0 c).arrAt 2 (cfgs 0).N = Y m c := by
  refine (dats m 0 c).arrAt_eq_of_covers 2 _ (by decide +kernel) fun t _ y => ?_
  blk_simp [idx t]
  rw [after0_2]
  frame_out
  obtain ⟨a, r, n, rfl⟩ : ∃ (a : Fin 1) (r n : Fin 512), y = ix3 a r n := ⟨y 0, y 1, y 2, eq_ix3 y⟩
  obtain rfl : a = 0 := Subsingleton.elim _ _
  exact ((block_at r n _ _).trans (point m c t r n)).trans (place m c t r n)

end Cert.Kernel5Ideal.Value
-- ==== Proof.MemAttnEqual.lean ====
/-
  The plain attention to the memory, entry by entry, and that the kernel leaves the same.
-/
module

public import proofs.«01_k».proof.Proof.MemAttn
public import proofs.«01_k».proof.Proof.Gen.Reference5Ideal.Run
public import proofs.«01_k».proof.Defs
public import Idealize.ShloMosaic.Adequacy
public import Idealize.ShloMosaic.Lib.Quiescent

@[expose] public section

set_option maxRecDepth 16384

noncomputable section

namespace Cert.Reference5Ideal.Value

open Cert.Reference5Ideal Cert.Reference5Ideal.Gen Idealize.ShloMosaic Idealize.ShloMosaic.TcCoe Idealize.SL.Sem Cert.Att

/-- The scores. -/
def SC (q : FVec Ideal S16384x512 .bf16) (kv : FVec Ideal S512x1024 .f32) : FVec Ideal S2x4x8192x256 .f32 :=
  mulf (Host.dotGeneral dot_S2x8192x4x128_S2x256x4x128_S2x4x8192x256_3_3_1_1_02_02 none (shapeCast _ (extf .f32 q bitsLt_bf16_f32) shapeCasts_S16384x512_S2x8192x4x128) (shapeCast _ (extractStridedSlice S2x256x1x4x128 ![0, 0, 0, 0, 0] (shapeCast _ kv shapeCasts_S512x1024_S2x256x2x4x128) slices_S2x256x2x4x128_S2x256x1x4x128_0_0_0_0_0) shapeCasts_S2x256x1x4x128_S2x256x4x128)) (broadcastInDim S2x4x8192x256 ![] bcast_S_S2x4x8192x256 (constant S_ .f32 0x3DB504F3#32))

/-- The greatest score of a query. -/
def RD (s : FVec Ideal S2x4x8192x256 .f32) : FVec Ideal S2x4x8192 .f32 :=
  Host.reduce FloatOps.maximumf s (constant S_ .f32 0xFF800000#32) reducesTo_S2x4x8192x256_S2x4x8192_d3 h_S_
def MX (f : FVec Ideal S2x4x8192 .f32) : FVec Ideal S2x4x8192 .f32 :=
  maximumf (broadcastInDim S2x4x8192 ![] bcast_S_S2x4x8192 (constant S_ .f32 0xFF800000#32)) f

/-- The exponentials of the scores less a number for each query. -/
def EM (s : FVec Ideal S2x4x8192x256 .f32) (f : FVec Ideal S2x4x8192 .f32) : FVec Ideal S2x4x8192x256 .f32 :=
  Host.exp (subf s (broadcastInDim S2x4x8192x256 ![0, 1, 2, 3] bcast_S2x4x8192x1_S2x4x8192x256_0_1_2_3 (broadcastInDim S2x4x8192x1 ![0, 1, 2] bcast_S2x4x8192_S2x4x8192x1_0_1_2 f)))
def EX (s : FVec Ideal S2x4x8192x256 .f32) : FVec Ideal S2x4x8192x256 .f32 := EM s (MX (RD s))

/-- The values. -/
def VV (kv : FVec Ideal S512x1024 .f32) : FVec Ideal S2x256x4x128 .f32 :=
  shapeCast _ (extractStridedSlice S2x256x1x4x128 ![0, 0, 1, 0, 0] (shapeCast _ kv shapeCasts_S512x1024_S2x256x2x4x128) slices_S2x256x2x4x128_S2x256x1x4x128_0_0_1_0_0) shapeCasts_S2x256x1x4x128_S2x256x4x128

/-- The average of the values. -/
def OUT (e : FVec Ideal S2x4x8192x256 .f32) (v : FVec Ideal S2x256x4x128 .f32) : FVec Ideal S2x8192x512 .bf16 :=
  truncf .bf16 (shapeCast _ (transpose S2x8192x4x128 [0, 3, 1, 2] (Host.dotGeneral dot_S2x256x4x128_S2x4x8192x256_S2x4x128x8192_1_3_3_2_02_01 none v (Host.divf e (broadcastInDim S2x4x8192x256 ![0, 1, 2, 3] bcast_S2x4x8192x1_S2x4x8192x256_0_1_2_3 (broadcastInDim S2x4x8192x1 ![0, 1, 2] bcast_S2x4x8192_S2x4x8192x1_0_1_2 (Host.reduceAdd e (constant S_ .f32 0x00000000#32) reducesTo_S2x4x8192x256_S2x4x8192_d3 h_S_))))) transposes_S2x4x128x8192_S2x8192x4x128_0_3_1_2) shapeCasts_S2x8192x4x128_S2x8192x512) bitsLt_bf16_f32

section
variable (q : FVec Ideal S16384x512 .bf16) (kv : FVec Ideal S512x1024 .f32) (s e : FVec Ideal S2x4x8192x256 .f32) (v : FVec Ideal S2x256x4x128 .f32)
  (b : Fin 2) (h : Fin 4) (i : Fin 8192) (x : Fin 256) (n : Fin 512) (d : Fin 128)

theorem SC_at : SC q kv (ix4 b h i x) = sco (fun j => q (ix2 ⟨b.val * 8192 + i.val, by omega⟩ ⟨h.val * 128 + j.val, by omega⟩))
    (fun j => kv (ix2 ⟨b.val * 256 + x.val, by omega⟩ ⟨h.val * 128 + j.val, by omega⟩)) := by
  unfold sco
  pointwise [SC]

theorem RD_at : RD s (ix3 b h i) = Finset.fold max (Ideal.ofBits .f32 0xFF800000#32) (fun y => s (ix4 b h i y)) Finset.univ := by
  have hr : S2x4x8192x256.Reduces [3] S2x4x8192 := by decide
  unfold RD
  refine (Host.reduce_eq_fold_single FloatOps.maximumf s _ reducesTo_S2x4x8192x256_S2x4x8192_d3 hr h_S_ (ix3 b h i)).trans ?_
  have e : (s ∘ hr.lift (ix3 b h i)) = fun y : Fin 256 => s (ix4 b h i y) := by
    funext y
    refine congrArg s (funext fun a => ?_)
    fin_cases a <;> exact Fin.ext rfl
  rw [e]
  rfl

theorem MX_at (f : FVec Ideal S2x4x8192 .f32) : MX f (ix3 b h i) = max (Ideal.ofBits .f32 0xFF800000#32) (f (ix3 b h i)) := by
  pointwise [MX]

theorem EM_at (f : FVec Ideal S2x4x8192 .f32) : EM s f (ix4 b h i x) = Ideal.exp (s (ix4 b h i x) - f (ix3 b h i)) := by
  pointwise [EM]

theorem EX_at : EX s (ix4 b h i x) = Ideal.exp (s (ix4 b h i x) - Finset.fold max (Ideal.ofBits .f32 0xFF800000#32) (fun y => s (ix4 b h i y)) Finset.univ) := by
  unfold EX
  rw [EM_at, MX_at, RD_at, max_eq_right ((Finset.le_fold_max _).2 (Or.inl le_rfl))]

theorem VV_at : VV kv (ix4 b x h d) = kv (ix2 ⟨b.val * 256 + x.val, by omega⟩ ⟨512 + h.val * 128 + d.val, by omega⟩) := by
  pointwise [VV]

theorem OUT_at : OUT e v (ix3 b i n) = ∑ x : Fin 256, Ideal.div (e (ix4 b ⟨n.val / 128, by omega⟩ i x)) (∑ y : Fin 256, e (ix4 b ⟨n.val / 128, by omega⟩ i y))
    * v (ix4 b x ⟨n.val / 128, by omega⟩ ⟨n.val % 128, by omega⟩) := by
  pointwise [OUT]
  exact Finset.sum_congr rfl fun x _ => mul_comm _ _

theorem out_eq : OUT (EX (SC q kv)) (VV kv) (ix3 b i n) = AT q kv ⟨b.val * 8192 + i.val, by omega⟩ n := by
  rw [OUT_at]
  have hb : (b.val * 8192 + i.val) / 8192 = b.val := by omega
  have hn : 512 + n.val / 128 * 128 + n.val % 128 = 512 + n.val := by omega
  unfold AT attn
  simp only [EX_at, SC_at, VV_at, hb, hn]
end

end Cert.Reference5Ideal.Value

namespace Cert.Att

open Idealize.ShloMosaic Idealize.ShloMosaic.TcCoe Idealize.SL.Sem

/-- Kernel and reference of the attention to the memory end with the same result. -/
theorem same : Cert.algebraic_Kernel5Ideal_Reference5Ideal (hKernel5Ideal := Cert.Kernel5Ideal.Gen.facts) (hReference5Ideal := Cert.Reference5Ideal.Gen.facts) := by
  intro m g m' g' _ hagree
  refine ⟨_, Cert.Kernel5Ideal.Value.run_blocks m g, (θ_run Cert.Reference5Ideal.defs _ _).mono (fun r h c => ?_) (Cert.Reference5Ideal.Value.run m' g')⟩
  refine ⟨(h c).1.trans (Eq.trans ?_ (Cert.Kernel5Ideal.Value.final m c).symm), (h c).2⟩
  obtain ⟨h0, h1⟩ := hagree c
  have e : ∀ (b : Fin 2) (i : Fin 8192) (n : Fin 512), (Cert.Reference5Ideal.Value.OUT (Cert.Reference5Ideal.Value.EX (Cert.Reference5Ideal.Value.SC
        (m' (c.tc.loc Cert.Reference5Ideal.main_arg0)) (m' (c.tc.loc Cert.Reference5Ideal.main_arg1)))) (Cert.Reference5Ideal.Value.VV (m' (c.tc.loc Cert.Reference5Ideal.main_arg1)))
        : FVec Ideal Cert.Kernel5Ideal.S2x8192x512 .bf16) (ix3 b i n) = Cert.Kernel5Ideal.Value.Y m c (ix3 b i n) := fun b i n => by
    rw [h0, h1]
    exact Cert.Reference5Ideal.Value.out_eq _ _ b i n
  funext i
  rw [eq_ix3 i]
  exact e _ _ _

/-- The plain calculation's frame. -/
theorem ref_frame : Cert.quiescent_Reference5Ideal (hReference5Ideal := Cert.Reference5Ideal.Gen.facts) := fun m ρ _ =>
  (θ_run Cert.Reference5Ideal.defs _ _).mono (fun r h => ⟨fun c => (h c).2, sem_eq_zero_of_no_sems rfl r.2⟩) (Cert.Reference5Ideal.Value.run m ρ)

end Cert.Att
-- ==== Proof.Step.lean ====
/-
  One step of the recurrence for each of 128 sequences: the arrays the kernel leaves.
-/
module

public import proofs.«01_k».proof.Proof.Gen.Kernel6Ideal.Value
public import proofs.«01_k».proof.Proof.Block
public import proofs.«01_k».proof.Proof.ProjSpec

@[expose] public section

set_option maxRecDepth 16384

noncomputable section

namespace Cert.Step

open Idealize.ShloMosaic Cert.Kernel6Ideal Cert.Lru

section
variable (x gg : FVec Ideal S128x1024 .f32) (sc : FVec Ideal S1x128x3x1024 .f32) (h0 : FVec Ideal S1x128x1024 .f32) (cw : FVec Ideal S1x4x1024 .f32)
  (cb : FVec Ideal S1x1024 .f32) (w wa : FVec Ideal S1x4x256x256 .f32) (bias ba : FVec Ideal S1x1024 .f32) (wi : FVec Ideal S1x4x256x256 .f32)
  (bi lam : FVec Ideal S1x1024 .f32) (b : Fin 128) (n : Fin 1024)

/-- The convolution: the three kept inputs and the new one. -/
def XS : EReal :=
  (((cb (ix2 0 n) + sc (ix4 0 b 0 n) * cw (ix3 0 0 n)) + sc (ix4 0 b 1 n) * cw (ix3 0 1 n)) + sc (ix4 0 b 2 n) * cw (ix3 0 2 n))
    + x (ix2 b n) * cw (ix3 0 3 n)

/-- A gate before its nonlinearity. -/
def PS : EReal :=
  (∑ k : Fin 256, XS x sc cw cb b ⟨n.val / 256 * 256 + k.val, by omega⟩ * w (ix4 0 ⟨n.val / 256, by omega⟩ k ⟨n.val % 256, by omega⟩)) + bias (ix2 0 n)

/-- The new state. -/
def HS : EReal :=
  Ideal.exp (lg (PS x sc cw cb wa ba b n) (lam (ix2 0 n))) * h0 (ix3 0 b n)
    + Ideal.sqrt (-(Ideal.expm1 (Ideal.ofBits .f32 0x40000000#32 * lg (PS x sc cw cb wa ba b n) (lam (ix2 0 n)))))
      * (Ideal.logistic (PS x sc cw cb wi bi b n) * XS x sc cw cb b n)

/-- The inputs kept for the next step. -/
def CS (k : Fin 3) : EReal := if h : k.val < 2 then sc (ix4 0 b ⟨k.val + 1, by omega⟩ n) else x (ix2 b n)
end

end Cert.Step

namespace Cert.Kernel6Ideal.Value

open Cert.Kernel6Ideal Cert.Kernel6Ideal.Gen Idealize.ShloMosaic Idealize.ShloMosaic.TcCoe Idealize.SL.Sem Cert.Lru Cert.Step
open Cert.KernelIdeal.Value (quarters_row zero_sub')

section
variable (x0 x1 : Vec Ideal S128x1024 .f32) (x2 : Vec Ideal S3x128x1024 .f32) (x3 : Vec Ideal S128x1024 .f32) (x4 : Vec Ideal S4x1024 .f32) (x5 : Vec Ideal S1x1024 .f32)
  (x6 x7 : Vec Ideal S4x256x256 .bf16) (x8 x9 x10 : Vec Ideal S1x1024 .f32) (r : Fin 128) (n : Fin 1024)

/-- The convolution of a row. -/
theorem pay17_at : k0_pay17 x0 x1 x2 x3 x4 x5 x6 x7 x8 x9 x10 (ix2 r n)
    = (((x5 (ix2 0 n) + x2 (ix3 0 r n) * x4 (ix2 0 n)) + x2 (ix3 1 r n) * x4 (ix2 1 n)) + x2 (ix3 2 r n) * x4 (ix2 2 n)) + x0 (ix2 r n) * x4 (ix2 3 n) := by
  have e : k0_pay17 x0 x1 x2 x3 x4 x5 x6 x7 x8 x9 x10 (ix2 r n)
      = (((x5 (ix2 0 n) + x0 (ix2 r n) * x4 (ix2 3 n)) + x2 (ix3 0 r n) * x4 (ix2 0 n)) + x2 (ix3 1 r n) * x4 (ix2 1 n)) + x2 (ix3 2 r n) * x4 (ix2 2 n) := by
    pointwise [k0_pay17, k0_pay4]
  rw [e]
  ac_rfl

/-- A gate of a row before its nonlinearity. -/
def pre (W : Vec Ideal S4x256x256 .bf16) (bias : Vec Ideal S1x1024 .f32) (X : FVec Ideal S128x1024 .f32) : EReal :=
  (∑ k : Fin 256, X (ix2 r ⟨n.val / 256 * 256 + k.val, by omega⟩) * W (ix3 ⟨n.val / 256, by omega⟩ k ⟨n.val % 256, by omega⟩)) + bias (ix2 0 n)

theorem pay23_at : k0_pay23 x0 x1 x2 x3 x4 x5 x6 x7 x8 x9 x10 (ix2 r n) + x8 (ix2 0 n)
    = pre r n x6 x8 (k0_pay17 x0 x1 x2 x3 x4 x5 x6 x7 x8 x9 x10) := by
  unfold pre
  rw [← quarters_row (fun j => k0_pay17 x0 x1 x2 x3 x4 x5 x6 x7 x8 x9 x10 (ix2 r j)) x6 n]
  pointwise [k0_pay23, k0_pay14, k0_pay18, k0_pay5, k0_pay8, k0_pay10, k0_pay12, k0_pay6]
  rfl

/-- The new state of a row. -/
def hsOf (X : FVec Ideal S128x1024 .f32) : EReal :=
  Ideal.exp (lg (pre r n x6 x8 X) (x10 (ix2 0 n))) * x3 (ix2 r n)
    + Ideal.sqrt (-(Ideal.expm1 (Ideal.ofBits .f32 0x40000000#32 * lg (pre r n x6 x8 X) (x10 (ix2 0 n)))))
      * (Ideal.logistic (pre r n x7 x9 X) * X (ix2 r n))

theorem pay15_at : k0_pay15 (k0_pay17 x0 x1 x2 x3 x4 x5 x6 x7 x8 x9 x10) (k0_pay19 x0 x1 x2 x3 x4 x5 x6 x7 x8 x9 x10)
      (k0_pay20 x0 x1 x2 x3 x4 x5 x6 x7 x8 x9 x10) (k0_pay21 x0 x1 x2 x3 x4 x5 x6 x7 x8 x9 x10) (k0_pay22 x0 x1 x2 x3 x4 x5 x6 x7 x8 x9 x10)
      (k0_pay23 x0 x1 x2 x3 x4 x5 x6 x7 x8 x9 x10) x8 x9 x10 x3 (ix2 r n)
    = hsOf x3 x6 x7 x8 x9 x10 r n (k0_pay17 x0 x1 x2 x3 x4 x5 x6 x7 x8 x9 x10) := by
  unfold hsOf
  rw [← tanh_expm1 (lg_nonpos _ _), ← pay23_at]
  unfold pre lg sp
  rw [← quarters_row (fun j => k0_pay17 x0 x1 x2 x3 x4 x5 x6 x7 x8 x9 x10 (ix2 r j)) x7 n]
  pointwise [k0_pay15, k0_pay19, k0_pay20, k0_pay21, k0_pay22, k0_pay7, k0_pay9, k0_pay11, k0_pay13, k0_pay18, k0_pay5, k0_pay8, k0_pay10, k0_pay12]
  simp only [zero_sub', Ideal.absf_def]
  rfl

theorem pay16_at (v29 : FVec Ideal S128x1024 .f32) (v37 v45 v53 v61 : FVec Ideal S128x256 .f32) (v62 : FVec Ideal S128x1024 .f32) (v63 v69 v74 : Vec Ideal S1x1024 .f32)
    (v101 v105 : Vec Ideal S128x1024 .f32) : k0_pay16 v29 v37 v45 v53 v61 v62 v63 v69 v74 v101 v105 (ix2 r n)
    = k0_pay15 v29 v37 v45 v53 v61 v62 v63 v69 v74 v101 (ix2 r n) * v105 (ix2 r n) := by
  pointwise [k0_pay16]
theorem pay1_at : k0_pay1 (View.ld x2 r0_5) (ix3 0 r n) = x2 (ix3 1 r n) := by
  pointwise [k0_pay1]
theorem pay2_at : k0_pay2 (View.ld x2 r0_7) (ix3 0 r n) = x2 (ix3 2 r n) := by
  pointwise [k0_pay2]
theorem pay3_at (v : Vec Ideal S128x1024 .f32) : k0_pay3 v (ix3 0 r n) = v (ix2 r n) := by
  pointwise [k0_pay3]
end

variable (m : (ℓ : Loc nD τ sig) → Buf (Elt Ideal) ℓ)

theorem idx : ∀ t : Fin cfg0.N, win0_0.index t = ![0, 0] ∧ win0_1.index t = ![0, 0] ∧ win0_2.index t = ![0, 0, 0] ∧ win0_3.index t = ![0, 0]
    ∧ win0_4.index t = ![0, 0] ∧ win0_5.index t = ![0, 0] ∧ win0_6.index t = ![0, 0, 0] ∧ win0_7.index t = ![0, 0, 0] ∧ win0_8.index t = ![0, 0]
    ∧ win0_9.index t = ![0, 0] ∧ win0_10.index t = ![0, 0] ∧ win0_11.index t = ![0, 0] ∧ win0_12.index t = ![0, 0] ∧ win0_13.index t = ![0, 0, 0] :=
  (by decide +kernel : ∀ t : Fin grid0.N, _)

section
variable (c : Dev nD) (t : Fin cfg0.N) (r : Fin 128) (n : Fin 1024)
theorem blk0 : iblk m c 0 t (ix2 r n) = m ((c : Thread nD τ).loc main_arg0) (ix2 r n) := by
  blk_point [iblk, V, idx t]
theorem blk1 : iblk m c 1 t (ix2 r n) = m ((c : Thread nD τ).loc main_arg1) (ix2 r n) := by
  blk_point [iblk, V, idx t]
theorem blk2 (k : Fin 3) : iblk m c 2 t (ix3 k r n) = m ((c : Thread nD τ).loc main_arg2) (ix4 0 r k n) := by
  blk_point [iblk, V, idx t]
theorem blk3 : iblk m c 3 t (ix2 r n) = m ((c : Thread nD τ).loc main_arg3) (ix3 0 r n) := by
  blk_point [iblk, V, idx t]
theorem blk4 (k : Fin 4) : iblk m c 4 t (ix2 k n) = m ((c : Thread nD τ).loc main_arg4) (ix3 0 k n) := by
  blk_point [iblk, V, idx t]
theorem blk5 : iblk m c 5 t (ix2 0 n) = m ((c : Thread nD τ).loc main_arg5) (ix2 0 n) := by
  blk_point [iblk, V, idx t]
theorem blk6 (a : Fin 4) (i j : Fin 256) : iblk m c 6 t (ix3 a i j) = m ((c : Thread nD τ).loc main_arg6) (ix4 0 a i j) := by
  blk_point [iblk, V, idx t]
theorem blk7 (a : Fin 4) (i j : Fin 256) : iblk m c 7 t (ix3 a i j) = m ((c : Thread nD τ).loc main_arg8) (ix4 0 a i j) := by
  blk_point [iblk, V, idx t]
theorem blk8 : iblk m c 8 t (ix2 0 n) = m ((c : Thread nD τ).loc main_arg7) (ix2 0 n) := by
  blk_point [iblk, V, idx t]
theorem blk9 : iblk m c 9 t (ix2 0 n) = m ((c : Thread nD τ).loc main_arg9) (ix2 0 n) := by
  blk_point [iblk, V, idx t]
theorem blk10 : iblk m c 10 t (ix2 0 n) = m ((c : Thread nD τ).loc main_arg10) (ix2 0 n) := by
  blk_point [iblk, V, idx t]

/-- The convolution the body computes. -/
def XB : FVec Ideal S128x1024 .f32 := k0_pay17 (iblk m c 0 t) (iblk m c 1 t) (iblk m c 2 t) (iblk m c 3 t) (iblk m c 4 t) (iblk m c 5 t) (iblk m c 6 t)
  (iblk m c 7 t) (iblk m c 8 t) (iblk m c 9 t) (iblk m c 10 t)

theorem XB_at : XB m c t (ix2 r n) = XS (m ((c : Thread nD τ).loc main_arg0)) (m ((c : Thread nD τ).loc main_arg2)) (m ((c : Thread nD τ).loc main_arg4))
    (m ((c : Thread nD τ).loc main_arg5)) r n := by
  unfold XB XS
  rw [pay17_at]
  simp only [blk0, blk2, blk4, blk5]

/-- The new state and what is passed on, as functions of the arguments. -/
def H (c : Dev nD) (r : Fin 128) (n : Fin 1024) : EReal := HS (m ((c : Thread nD τ).loc main_arg0)) (m ((c : Thread nD τ).loc main_arg2)) (m ((c : Thread nD τ).loc main_arg3))
    (m ((c : Thread nD τ).loc main_arg4)) (m ((c : Thread nD τ).loc main_arg5)) (m ((c : Thread nD τ).loc main_arg6)) (m ((c : Thread nD τ).loc main_arg7))
    (m ((c : Thread nD τ).loc main_arg8)) (m ((c : Thread nD τ).loc main_arg9)) (m ((c : Thread nD τ).loc main_arg10)) r n
def Y12 (c : Dev nD) : FVec Ideal S128x1024 .f32 := fun i => H m c (i 0) (i 1)
def Y11 (c : Dev nD) : FVec Ideal S128x1024 .bf16 := fun i => H m c (i 0) (i 1) * m ((c : Thread nD τ).loc main_arg1) i
def Y13 (c : Dev nD) : FVec Ideal S3x128x1024 .f32 := fun i => CS (m ((c : Thread nD τ).loc main_arg0)) (m ((c : Thread nD τ).loc main_arg2)) (i 1) (i 2) (i 0)

theorem hs_at : hsOf (iblk m c 3 t) (iblk m c 6 t) (iblk m c 7 t) (iblk m c 8 t) (iblk m c 9 t) (iblk m c 10 t) r n (XB m c t) = H m c r n := by
  unfold hsOf H HS pre PS
  simp only [XB_at, blk3, blk6, blk7, blk8, blk9, blk10]
end

theorem place11 (c : Dev nD) (t : Fin cfg0.N) (r : Fin 128) (n : Fin 1024) :
    Y11 m c (ix2 r n) = Y11 m c (((cfg0.win 11).blk t).view.emb (ix2 r n : S128x1024.Idx)) := by
  blk_ext [idx t]
theorem place12 (c : Dev nD) (t : Fin cfg0.N) (r : Fin 128) (n : Fin 1024) :
    Y12 m c (ix2 r n) = Y12 m c (((cfg0.win 12).blk t).view.emb (ix2 r n : S128x1024.Idx)) := by
  blk_ext [idx t]
theorem place13 (c : Dev nD) (t : Fin cfg0.N) (k : Fin 3) (r : Fin 128) (n : Fin 1024) :
    Y13 m c (ix3 k r n) = Y13 m c (((cfg0.win 13).blk t).view.emb (ix3 k r n : S3x128x1024.Idx)) := by
  blk_ext [idx t]

theorem pt12 (c : Dev nD) (t : Fin cfg0.N) (r : Fin 128) (n : Fin 1024) : hsOf (iblk m c 3 t) (iblk m c 6 t) (iblk m c 7 t) (iblk m c 8 t) (iblk m c 9 t) (iblk m c 10 t) r n
    (k0_pay17 (iblk m c 0 t) (iblk m c 1 t) (iblk m c 2 t) (iblk m c 3 t) (iblk m c 4 t) (iblk m c 5 t) (iblk m c 6 t) (iblk m c 7 t) (iblk m c 8 t) (iblk m c 9 t) (iblk m c 10 t))
    = H m c r n := hs_at m c t r n

theorem idx_one (x : S1x128x1024.Idx) (r : Fin 128) (n : Fin 1024) (h1 : r.val = (x 1).val) (h2 : n.val = (x 2).val) :
    x = ix3 0 r n := by
  have e0 : x 0 = (0 : Fin 1) := Subsingleton.elim (α := Fin 1) _ _
  have e1 : x 1 = r := Fin.ext h1.symm
  have e2 : x 2 = n := Fin.ext h2.symm
  rw [eq_ix3 x, e0, e1, e2]

/-- Three stores of one row block each, read back. -/
theorem three_at (u v w : FVec Ideal S1x128x1024 .f32) (k : Fin 3) (r : Fin 128) (n : Fin 1024) :
    View.canon (Val := Elt Ideal) [(⟨r0_7, u⟩ : View.Piece (Elt Ideal) S3x128x1024 EltTy.f32), ⟨r0_5, v⟩, ⟨r0_3, w⟩] (ix3 k r n)
      = if k.val = 0 then w (ix3 0 r n) else if k.val = 1 then v (ix3 0 r n) else u (ix3 0 r n) := by
  canon_tiles x hx
  all_goals
    rw [idx_one x r n hx1 hx2]
    first
      | (replace hx0 : k.val = 2 + (x 0).val := hx0; rw [if_neg (by omega), if_neg (by omega)])
      | (replace hx0 : k.val = 1 + (x 0).val := hx0; rw [if_neg (by omega), if_pos (by omega)])
      | (replace hx0 : k.val = (x 0).val := hx0; rw [if_pos (by omega)])

/-- The result arrays after the run. -/
theorem final12 (c : Dev nD) : (dats m 0 c).arrAt 12 (cfgs 0).N = Y12 m c := by
  refine (dats m 0 c).arrAt_eq_of_covers 12 _ (by decide +kernel) fun t _ y => ?_
  blk_simp [idx t]
  rw [after0_12]
  frame_out
  obtain ⟨r, n, rfl⟩ : ∃ (r : Fin 128) (n : Fin 1024), y = ix2 r n := ⟨y 0, y 1, eq_ix2 y⟩
  exact ((pay15_at _ _ _ _ _ _ _ _ _ _ _ r n).trans (pt12 m c t r n)).trans (place12 m c t r n)
theorem final11 (c : Dev nD) : (dats m 0 c).arrAt 11 (cfgs 0).N = Y11 m c := by
  refine (dats m 0 c).arrAt_eq_of_covers 11 _ (by decide +kernel) fun t _ y => ?_
  blk_simp [idx t]
  rw [after0_11]
  frame_out
  obtain ⟨r, n, rfl⟩ : ∃ (r : Fin 128) (n : Fin 1024), y = ix2 r n := ⟨y 0, y 1, eq_ix2 y⟩
  refine Eq.trans ?_ (place11 m c t r n)
  refine (pay16_at r n _ _ _ _ _ _ _ _ _ _ _).trans ?_
  exact congr (congrArg HMul.hMul ((pay15_at _ _ _ _ _ _ _ _ _ _ _ r n).trans (pt12 m c t r n))) (blk1 m c t r n)
theorem final13 (c : Dev nD) : (dats m 0 c).arrAt 13 (cfgs 0).N = Y13 m c := by
  refine (dats m 0 c).arrAt_eq_of_covers 13 _ (by decide +kernel) fun t _ y => ?_
  blk_simp [idx t]
  rw [after0_13]
  frame_out
  obtain ⟨k, r, n, rfl⟩ : ∃ (k : Fin 3) (r : Fin 128) (n : Fin 1024), y = ix3 k r n := ⟨y 0, y 1, y 2, eq_ix3 y⟩
  refine Eq.trans ?_ (place13 m c t k r n)
  refine (three_at _ _ _ k r n).trans ?_
  rw [pay1_at, pay2_at, pay3_at, blk2, blk2, blk0]
  show _ = CS _ _ r n k
  unfold CS
  fin_cases k <;> rfl

end Cert.Kernel6Ideal.Value
-- ==== Proof.StepEqual.lean ====
/-
  The plain step of the recurrence, entry by entry, and that the kernel leaves the same.
-/
module

public import proofs.«01_k».proof.Proof.Step
public import proofs.«01_k».proof.Proof.RefTerm
public import proofs.«01_k».proof.Proof.Gen.Reference6Ideal.Run
public import proofs.«01_k».proof.Defs
public import Idealize.ShloMosaic.Adequacy
public import Idealize.ShloMosaic.Lib.Quiescent

@[expose] public section

set_option maxRecDepth 16384

noncomputable section

namespace Cert.Reference6Ideal.Value

open Cert.Reference6Ideal Cert.Reference6Ideal.Gen Idealize.ShloMosaic Idealize.ShloMosaic.TcCoe Idealize.SL.Sem Cert.Lru Cert.Step
open Cert.ReferenceIdeal.Value (SP SP_at)

/-- The convolution. -/
def XC (x : FVec Ideal S128x1024 .f32) (sc : FVec Ideal S1x128x3x1024 .f32) (cw : FVec Ideal S1x4x1024 .f32) (cb : FVec Ideal S1x1024 .f32) : FVec Ideal S128x1x1024 .f32 :=
  addf (addf (addf (addf (broadcastInDim S128x1x1024 ![0, 1, 2] bcast_S1x1x1024_S128x1x1024_0_1_2 (broadcastInDim S1x1x1024 ![2] bcast_S1024_S1x1x1024_2 (shapeCast _ cb shapeCasts_S1x1024_S1024))) (mulf (extractStridedSlice S128x1x1024 ![0, 0, 0] (concatenate S128x4x1024 1 [⟨S128x3x1024, (shapeCast _ sc shapeCasts_S1x128x3x1024_S128x3x1024)⟩, ⟨S128x1x1024, (shapeCast _ x shapeCasts_S128x1024_S128x1x1024)⟩] concatenates_S128x3x1024_S128x1x1024_S128x4x1024_d1) slices_S128x4x1024_S128x1x1024_0_0_0) (broadcastInDim S128x1x1024 ![0, 1, 2] bcast_S1x1x1024_S128x1x1024_0_1_2 (broadcastInDim S1x1x1024 ![2] bcast_S1024_S1x1x1024_2 (shapeCast _ (extractStridedSlice S1x1024 ![0, 0] (shapeCast _ cw shapeCasts_S1x4x1024_S4x1024) slices_S4x1024_S1x1024_0_0) shapeCasts_S1x1024_S1024))))) (mulf (extractStridedSlice S128x1x1024 ![0, 1, 0] (concatenate S128x4x1024 1 [⟨S128x3x1024, (shapeCast _ sc shapeCasts_S1x128x3x1024_S128x3x1024)⟩, ⟨S128x1x1024, (shapeCast _ x shapeCasts_S128x1024_S128x1x1024)⟩] concatenates_S128x3x1024_S128x1x1024_S128x4x1024_d1) slices_S128x4x1024_S128x1x1024_0_1_0) (broadcastInDim S128x1x1024 ![0, 1, 2] bcast_S1x1x1024_S128x1x1024_0_1_2 (broadcastInDim S1x1x1024 ![2] bcast_S1024_S1x1x1024_2 (shapeCast _ (extractStridedSlice S1x1024 ![1, 0] (shapeCast _ cw shapeCasts_S1x4x1024_S4x1024) slices_S4x1024_S1x1024_1_0) shapeCasts_S1x1024_S1024))))) (mulf (extractStridedSlice S128x1x1024 ![0, 2, 0] (concatenate S128x4x1024 1 [⟨S128x3x1024, (shapeCast _ sc shapeCasts_S1x128x3x1024_S128x3x1024)⟩, ⟨S128x1x1024, (shapeCast _ x shapeCasts_S128x1024_S128x1x1024)⟩] concatenates_S128x3x1024_S128x1x1024_S128x4x1024_d1) slices_S128x4x1024_S128x1x1024_0_2_0) (broadcastInDim S128x1x1024 ![0, 1, 2] bcast_S1x1x1024_S128x1x1024_0_1_2 (broadcastInDim S1x1x1024 ![2] bcast_S1024_S1x1x1024_2 (shapeCast _ (extractStridedSlice S1x1024 ![2, 0] (shapeCast _ cw shapeCasts_S1x4x1024_S4x1024) slices_S4x1024_S1x1024_2_0) shapeCasts_S1x1024_S1024))))) (mulf (extractStridedSlice S128x1x1024 ![0, 3, 0] (concatenate S128x4x1024 1 [⟨S128x3x1024, (shapeCast _ sc shapeCasts_S1x128x3x1024_S128x3x1024)⟩, ⟨S128x1x1024, (shapeCast _ x shapeCasts_S128x1024_S128x1x1024)⟩] concatenates_S128x3x1024_S128x1x1024_S128x4x1024_d1) slices_S128x4x1024_S128x1x1024_0_3_0) (broadcastInDim S128x1x1024 ![0, 1, 2] bcast_S1x1x1024_S128x1x1024_0_1_2 (broadcastInDim S1x1x1024 ![2] bcast_S1024_S1x1x1024_2 (shapeCast _ (extractStridedSlice S1x1024 ![3, 0] (shapeCast _ cw shapeCasts_S1x4x1024_S4x1024) slices_S4x1024_S1x1024_3_0) shapeCasts_S1x1024_S1024))))

/-- A gate before its nonlinearity. -/
def PRE (xc : FVec Ideal S128x1x1024 .f32) (w : FVec Ideal S1x4x256x256 .f32) (bias : FVec Ideal S1x1024 .f32) : FVec Ideal S128x1x1024 .f32 :=
  addf (shapeCast _ (transpose S128x1x4x256 [2, 3, 0, 1] (Host.dotGeneral dot_S4x256x256_S128x1x4x256_S4x256x128x1_1_3_2_01_0_2 none (shapeCast _ w shapeCasts_S1x4x256x256_S4x256x256) (shapeCast _ xc shapeCasts_S128x1x1024_S128x1x4x256)) transposes_S4x256x128x1_S128x1x4x256_2_3_0_1) shapeCasts_S128x1x4x256_S128x1x1024) (broadcastInDim S128x1x1024 ![0, 1, 2] bcast_S1x1x1024_S128x1x1024_0_1_2 (broadcastInDim S1x1x1024 ![2] bcast_S1024_S1x1x1024_2 (shapeCast _ bias shapeCasts_S1x1024_S1024)))

/-- The logistic function. -/
def SIG (g : FVec Ideal S128x1x1024 .f32) : FVec Ideal S128x1x1024 .f32 :=
  Host.divf (broadcastInDim S128x1x1024 ![] bcast_S_S128x1x1024 (constant S_ .f32 0x3F800000#32)) (addf (broadcastInDim S128x1x1024 ![] bcast_S_S128x1x1024 (constant S_ .f32 0x3F800000#32)) (Host.exp (Host.negf g)))

/-- The logarithm of the decay. -/
def LA (g : FVec Ideal S128x1x1024 .f32) (lam : FVec Ideal S1x1024 .f32) : FVec Ideal S128x1x1024 .f32 :=
  mulf (mulf (broadcastInDim S128x1x1024 ![] bcast_S_S128x1x1024 (constant S_ .f32 0xC1000000#32)) (SIG g))
    (broadcastInDim S128x1x1024 ![0, 1, 2] bcast_S1x1x1024_S128x1x1024_0_1_2 (broadcastInDim S1x1x1024 ![2] bcast_S1024_S1x1x1024_2 (SP (Host.negf (shapeCast S1024 lam shapeCasts_S1x1024_S1024)))))

/-- The new state, of the convolution and the two gates. -/
def HN (xc ga gi : FVec Ideal S128x1x1024 .f32) (h0 : FVec Ideal S1x128x1024 .f32) (lam : FVec Ideal S1x1024 .f32) : FVec Ideal S128x1024 .f32 :=
  addf (mulf (shapeCast _ (Host.exp (LA ga lam)) shapeCasts_S128x1x1024_S128x1024) (shapeCast _ h0 shapeCasts_S1x128x1024_S128x1024))
    (shapeCast _ (mulf (Host.sqrt (Host.negf (Host.expm1 (mulf (broadcastInDim S128x1x1024 ![] bcast_S_S128x1x1024 (constant S_ .f32 0x40000000#32)) (LA ga lam)))))
      (mulf (SIG gi) xc)) shapeCasts_S128x1x1024_S128x1024)

/-- The inputs kept. -/
def KR (x : FVec Ideal S128x1024 .f32) (sc : FVec Ideal S1x128x3x1024 .f32) : FVec Ideal S3x128x1024 .f32 :=
  transpose S3x128x1024 [1, 0, 2] (extractStridedSlice S128x3x1024 ![0, 1, 0] (concatenate S128x4x1024 1 [⟨S128x3x1024, (shapeCast _ sc shapeCasts_S1x128x3x1024_S128x3x1024)⟩, ⟨S128x1x1024, (shapeCast _ x shapeCasts_S128x1024_S128x1x1024)⟩] concatenates_S128x3x1024_S128x1x1024_S128x4x1024_d1) slices_S128x4x1024_S128x3x1024_0_1_0) transposes_S128x3x1024_S3x128x1024_1_0_2

section
variable (x gg : FVec Ideal S128x1024 .f32) (sc : FVec Ideal S1x128x3x1024 .f32) (h0 : FVec Ideal S1x128x1024 .f32) (cw : FVec Ideal S1x4x1024 .f32)
  (cb : FVec Ideal S1x1024 .f32) (w wa : FVec Ideal S1x4x256x256 .f32) (bias ba : FVec Ideal S1x1024 .f32) (wi : FVec Ideal S1x4x256x256 .f32)
  (bi lam : FVec Ideal S1x1024 .f32) (b : Fin 128) (n : Fin 1024) (xc g ga gi : FVec Ideal S128x1x1024 .f32)

theorem XC_at : XC x sc cw cb (ix3 b 0 n) = XS x sc cw cb b n := by
  unfold XS
  pointwise [XC]

theorem PRE_at : PRE xc w bias (ix3 b 0 n)
    = (∑ k : Fin 256, xc (ix3 b 0 ⟨n.val / 256 * 256 + k.val, by omega⟩) * w (ix4 0 ⟨n.val / 256, by omega⟩ k ⟨n.val % 256, by omega⟩)) + bias (ix2 0 n) := by
  pointwise [PRE]
  exact congrArg (· + _) (Finset.sum_congr rfl fun k _ => mul_comm _ _)

theorem SIG_at : SIG g (ix3 b 0 n) = Ideal.logistic (g (ix3 b 0 n)) := by
  pointwise [SIG]
  rfl

theorem LA_at : LA g lam (ix3 b 0 n) = lg (g (ix3 b 0 n)) (lam (ix2 0 n)) := by
  have h : LA g lam (ix3 b 0 n) = Ideal.ofBits .f32 0xC1000000#32 * SIG g (ix3 b 0 n) * SP (Host.negf (shapeCast S1024 lam shapeCasts_S1x1024_S1024)) (ix1 n) := by
    pointwise [LA]
  rw [h, SIG_at, SP_at]
  unfold lg
  congr 2
  pointwise []

theorem HN_at : HN xc ga gi h0 lam (ix2 b n) = Ideal.exp (lg (ga (ix3 b 0 n)) (lam (ix2 0 n))) * h0 (ix3 0 b n)
    + Ideal.sqrt (-(Ideal.expm1 (Ideal.ofBits .f32 0x40000000#32 * lg (ga (ix3 b 0 n)) (lam (ix2 0 n))))) * (Ideal.logistic (gi (ix3 b 0 n)) * xc (ix3 b 0 n)) := by
  rw [← LA_at, ← SIG_at]
  pointwise [HN]
  rfl

theorem KR_at (k : Fin 3) : KR x sc (ix3 k b n) = CS x sc b n k := by
  unfold CS
  pointwise [KR]
  simp only [Nat.add_comm 1]
  split
  · rw [dif_pos (by omega)]
  · rw [dif_neg (by omega)]

theorem HN_eq : HN (XC x sc cw cb) (PRE (XC x sc cw cb) wa ba) (PRE (XC x sc cw cb) wi bi) h0 lam (ix2 b n) = HS x sc h0 cw cb wa ba wi bi lam b n := by
  rw [HN_at, PRE_at, PRE_at]
  unfold HS PS
  simp only [XC_at]
end

variable (m : (ℓ : Loc nD τ sig) → Buf (Elt Ideal) ℓ) (c : Dev nD)

/-- The new state of the run. -/
def HR : FVec Ideal S128x1024 .f32 :=
  HN (XC (m ((c : Thread nD τ).loc main_arg0)) (m ((c : Thread nD τ).loc main_arg2)) (m ((c : Thread nD τ).loc main_arg4)) (m ((c : Thread nD τ).loc main_arg5))) (PRE (XC (m ((c : Thread nD τ).loc main_arg0)) (m ((c : Thread nD τ).loc main_arg2)) (m ((c : Thread nD τ).loc main_arg4)) (m ((c : Thread nD τ).loc main_arg5))) (m ((c : Thread nD τ).loc main_arg6)) (m ((c : Thread nD τ).loc main_arg7)))
    (PRE (XC (m ((c : Thread nD τ).loc main_arg0)) (m ((c : Thread nD τ).loc main_arg2)) (m ((c : Thread nD τ).loc main_arg4)) (m ((c : Thread nD τ).loc main_arg5))) (m ((c : Thread nD τ).loc main_arg8)) (m ((c : Thread nD τ).loc main_arg9))) (m ((c : Thread nD τ).loc main_arg3)) (m ((c : Thread nD τ).loc main_arg10))

theorem state_eq : res_main_v84 m c = HR m c := rfl
theorem out_eq : res_main_v86 m c = truncf .bf16 (mulf (HR m c) (m ((c : Thread nD τ).loc main_arg1))) bitsLt_bf16_f32 := rfl

theorem out_at (h gg : FVec Ideal S128x1024 .f32) (b : Fin 128) (n : Fin 1024) : (truncf .bf16 (mulf h gg) bitsLt_bf16_f32 : FVec Ideal S128x1024 .bf16) (ix2 b n) = h (ix2 b n) * gg (ix2 b n) := by
  pointwise []

end Cert.Reference6Ideal.Value

namespace Cert.Step

open Idealize.ShloMosaic Idealize.ShloMosaic.TcCoe Idealize.SL.Sem

/-- Kernel and reference of the step end with the same results. -/
theorem same : Cert.algebraic_Kernel6Ideal_Reference6Ideal (hKernel6Ideal := Cert.Kernel6Ideal.Gen.facts) (hReference6Ideal := Cert.Reference6Ideal.Gen.facts) := by
  intro m g m' g' _ hagree
  refine ⟨_, _, _, Cert.Kernel6Ideal.Value.run_blocks m g, (θ_run Cert.Reference6Ideal.defs _ _).mono (fun r h c => ?_) (Cert.Reference6Ideal.Value.run m' g')⟩
  obtain ⟨e0, e1, e2, e3, e4, e5, e6, e7, e8, e9, e10⟩ := hagree c
  have hs : ∀ (b : Fin 128) (n : Fin 1024), Cert.Reference6Ideal.Value.HR m' c (ix2 b n) = Cert.Kernel6Ideal.Value.H m c b n := fun b n => by
    unfold Cert.Reference6Ideal.Value.HR Cert.Kernel6Ideal.Value.H
    rw [e0, e2, e3, e4, e5, e6, e7, e8, e9, e10]
    exact Cert.Reference6Ideal.Value.HN_eq _ _ _ _ _ _ _ _ _ _ b n
  refine ⟨(h c).1.trans (Eq.trans ?_ (Cert.Kernel6Ideal.Value.final11 m c).symm), (h c).2.1.trans (Eq.trans ?_ (Cert.Kernel6Ideal.Value.final12 m c).symm),
    (h c).2.2.1.trans (Eq.trans ?_ (Cert.Kernel6Ideal.Value.final13 m c).symm), (h c).2.2.2⟩
  · have e : ∀ (b : Fin 128) (n : Fin 1024), (Cert.Reference6Ideal.Value.res_main_v86 m' c : FVec Ideal Cert.Kernel6Ideal.S128x1024 .bf16) (ix2 b n)
        = Cert.Kernel6Ideal.Value.Y11 m c (ix2 b n) := fun b n => by
      rw [Cert.Reference6Ideal.Value.out_eq, e1]
      refine (Cert.Reference6Ideal.Value.out_at _ _ b n).trans ?_
      rw [hs]
      rfl
    funext i
    rw [eq_ix2 i]
    exact e _ _
  · have e : ∀ (b : Fin 128) (n : Fin 1024), (Cert.Reference6Ideal.Value.res_main_v84 m' c : FVec Ideal Cert.Kernel6Ideal.S128x1024 .f32) (ix2 b n)
        = Cert.Kernel6Ideal.Value.Y12 m c (ix2 b n) := fun b n => by
      rw [Cert.Reference6Ideal.Value.state_eq]
      exact hs b n
    funext i
    rw [eq_ix2 i]
    exact e _ _
  · have e : ∀ (k : Fin 3) (b : Fin 128) (n : Fin 1024), (Cert.Reference6Ideal.Value.KR (m' (c.tc.loc Cert.Reference6Ideal.main_arg0)) (m' (c.tc.loc Cert.Reference6Ideal.main_arg2))
        : FVec Ideal Cert.Kernel6Ideal.S3x128x1024 .f32) (ix3 k b n) = Cert.Kernel6Ideal.Value.Y13 m c (ix3 k b n) := fun k b n => by
      rw [e0, e2]
      exact Cert.Reference6Ideal.Value.KR_at _ _ b n k
    funext i
    rw [eq_ix3 i]
    exact e _ _ _

/-- The plain calculation's frame. -/
theorem ref_frame : Cert.quiescent_Reference6Ideal (hReference6Ideal := Cert.Reference6Ideal.Gen.facts) := fun m ρ _ =>
  (θ_run Cert.Reference6Ideal.defs _ _).mono (fun r h => ⟨fun c => (h c).2.2.2, sem_eq_zero_of_no_sems rfl r.2⟩) (Cert.Reference6Ideal.Value.run m ρ)

end Cert.Step
-- ==== Proof.MergeStep.lean ====
/-
  What the merge kernel's result array holds on the 128 rows of the decoding step: one point computes them all.
-/
module

public import proofs.«01_k».proof.Proof.Gen.Kernel7Ideal.Value
public import proofs.«01_k».proof.Proof.MergeSpec

@[expose] public section

set_option maxRecDepth 16384

noncomputable section

namespace Cert.FfnStep

open Idealize.ShloMosaic Cert.Kernel7Ideal Cert.Ffn

/-- The hidden rows. -/
def HID (x : FVec Ideal S128x1x1024 .f32) (ol : FVec Ideal S128x1024 .bf16) (on om : FVec Ideal S128x512 .bf16) (mg : FVec Ideal S128x3072 .f32)
    (wa : FVec Ideal S1x1024x1024 .f32) (wb wm : FVec Ideal S1x512x1024 .f32) (wo : FVec Ideal S1x1024x1024 .f32) (i : Fin 128) (n : Fin 1024) : EReal :=
  hid (fun k => x (ix3 i 0 k)) (fun k => ol (ix2 i k)) (fun k => on (ix2 i k)) (fun k => om (ix2 i k))
    (fun k => mg (ix2 i ⟨k.val, by omega⟩)) (fun k => mg (ix2 i ⟨1024 + k.val, by omega⟩)) (fun k => mg (ix2 i ⟨2048 + k.val, by omega⟩))
    (fun j k => wa (ix3 0 j k)) (fun j k => wb (ix3 0 j k)) (fun j k => wm (ix3 0 j k)) (fun j k => wo (ix3 0 j k)) n

/-- The result, row by row. -/
def OUT (h : Fin 128 → Fin 1024 → EReal) (g : FVec Ideal S1x1024 .f32) (wg wu : FVec Ideal S1x1024x2816 .f32) (wd : FVec Ideal S1x2816x1024 .f32)
    (i : Fin 128) (n : Fin 1024) : EReal :=
  out (h i) (fun k => g (ix2 0 k)) (fun k j => wg (ix3 0 k j)) (fun k j => wu (ix3 0 k j)) (fun j k => wd (ix3 0 j k)) n

end Cert.FfnStep

namespace Cert.Kernel7Ideal.Value

open Cert.Kernel7Ideal Cert.Kernel7Ideal.Gen Idealize.ShloMosaic Idealize.ShloMosaic.TcCoe Idealize.SL.Sem Cert.Ffn Cert.FfnStep

section
variable (v0 : Vec Ideal S128x3072 .f32) (v2 : Vec Ideal S128x1024 .bf16) (v3 : Vec Ideal S1024x1024 .bf16) (v8 : Vec Ideal S128x512 .bf16)
  (v9 : Vec Ideal S512x1024 .bf16) (v15 : Vec Ideal S128x512 .bf16) (v16 : Vec Ideal S512x1024 .bf16) (v21 : Vec Ideal S128x1024 .f32)
  (v24 : Vec Ideal S1024x1024 .bf16)

/-- The hidden block, row by row. -/
theorem pay2_at (p : Fin 128) (n : Fin 1024) : k0_pay2 v0 v2 v3 v8 v9 v15 v16 v21 v24 (ix2 p n)
    = hid (fun k => v21 (ix2 p k)) (fun k => v2 (ix2 p k)) (fun k => v8 (ix2 p k)) (fun k => v15 (ix2 p k))
      (fun k => v0 (ix2 p ⟨k.val, by omega⟩)) (fun k => v0 (ix2 p ⟨1024 + k.val, by omega⟩)) (fun k => v0 (ix2 p ⟨2048 + k.val, by omega⟩))
      (fun j k => v3 (ix2 j k)) (fun j k => v9 (ix2 j k)) (fun j k => v16 (ix2 j k)) (fun j k => v24 (ix2 j k)) n := by
  unfold hid
  pointwise [k0_pay2]

/-- The mean squares of the hidden block. -/
theorem pay3_at (p : Fin 128) : k0_pay3 v0 v2 v3 v8 v9 v15 v16 v21 v24 (ix2 p 0)
    = Ideal.div (∑ x, k0_pay2 v0 v2 v3 v8 v9 v15 v16 v21 v24 (ix2 p x) * k0_pay2 v0 v2 v3 v8 v9 v15 v16 v21 v24 (ix2 p x)) (Ideal.ofBits .f32 0x44800000#32) := by
  pointwise [k0_pay3]
end

/-- The result block from the hidden block, row by row. -/
theorem pay1_at (h : FVec Ideal S128x1024 .f32) (v32 : FVec Ideal S128x1 .f32) (v38 : Vec Ideal S1x1024 .f32) (v43 v48 : Vec Ideal S1024x2816 .bf16)
    (v53 : Vec Ideal S2816x1024 .bf16) (p : Fin 128) (n : Fin 1024)
    (e : v32 (ix2 p 0) = Ideal.div (∑ x, h (ix2 p x) * h (ix2 p x)) (Ideal.ofBits .f32 0x44800000#32)) :
    k0_pay1 h v32 (k0_pay4 (F := Ideal)) v38 v43 v48 v53 (ix2 p n)
      = out (fun k => h (ix2 p k)) (fun k => v38 (ix2 0 k)) (fun k j => v43 (ix2 k j)) (fun k j => v48 (ix2 k j)) (fun j k => v53 (ix2 j k)) n := by
  have e4 : k0_pay4 (F := Ideal) (ix2 p 0) = Ideal.ofBits .f32 0x358637BD#32 := by pointwise [k0_pay4]
  unfold out nrm
  generalize k0_pay4 (F := Ideal) = v33 at e4 ⊢
  rw [← e, ← e4]
  pointwise [k0_pay1]

variable (m : (ℓ : Loc nD τ sig) → Buf (Elt Ideal) ℓ)

theorem idx : ∀ t : Fin cfg0.N, win0_0.index t = ![0, 0] ∧ win0_1.index t = ![0, 0] ∧ win0_2.index t = ![0, 0]
    ∧ win0_3.index t = ![0, 0] ∧ win0_4.index t = ![0, 0] ∧ win0_5.index t = ![0, 0] ∧ win0_6.index t = ![0, 0]
    ∧ win0_7.index t = ![0, 0] ∧ win0_8.index t = ![0, 0] ∧ win0_9.index t = ![0, 0] ∧ win0_10.index t = ![0, 0]
    ∧ win0_11.index t = ![0, 0] ∧ win0_12.index t = ![0, 0] ∧ win0_13.index t = ![0, 0] :=
  (by decide +kernel : ∀ t : Fin grid0.N, _)

section
variable (c : Dev nD) (t : Fin cfg0.N) (p : Fin 128)
theorem blk0 (n : Fin 1024) : iblk m c 0 t (ix2 p n) = m ((c : Thread nD τ).loc main_arg0) (ix3 p 0 n) := by
  blk_point [iblk, V, idx t]
theorem blk1 (n : Fin 1024) : iblk m c 1 t (ix2 p n) = m ((c : Thread nD τ).loc main_arg1) (ix2 p n) := by
  blk_point [iblk, V, idx t]
theorem blk2 (n : Fin 512) : iblk m c 2 t (ix2 p n) = m ((c : Thread nD τ).loc main_arg2) (ix2 p n) := by
  blk_point [iblk, V, idx t]
theorem blk3 (n : Fin 512) : iblk m c 3 t (ix2 p n) = m ((c : Thread nD τ).loc main_arg3) (ix2 p n) := by
  blk_point [iblk, V, idx t]
theorem blk4 (n : Fin 3072) : iblk m c 4 t (ix2 p n) = m ((c : Thread nD τ).loc main_arg4) (ix2 p n) := by
  blk_point [iblk, V, idx t]
theorem blk5 (k n : Fin 1024) : iblk m c 5 t (ix2 k n) = m ((c : Thread nD τ).loc main_arg5) (ix3 0 k n) := by
  blk_point [iblk, V, idx t]
theorem blk6 (k : Fin 512) (n : Fin 1024) : iblk m c 6 t (ix2 k n) = m ((c : Thread nD τ).loc main_arg6) (ix3 0 k n) := by
  blk_point [iblk, V, idx t]
theorem blk7 (k : Fin 512) (n : Fin 1024) : iblk m c 7 t (ix2 k n) = m ((c : Thread nD τ).loc main_arg7) (ix3 0 k n) := by
  blk_point [iblk, V, idx t]
theorem blk8 (k n : Fin 1024) : iblk m c 8 t (ix2 k n) = m ((c : Thread nD τ).loc main_arg8) (ix3 0 k n) := by
  blk_point [iblk, V, idx t]
theorem blk9 (n : Fin 1024) : iblk m c 9 t (ix2 0 n) = m ((c : Thread nD τ).loc main_arg9) (ix2 0 n) := by
  blk_point [iblk, V, idx t]
theorem blk10 (k : Fin 1024) (n : Fin 2816) : iblk m c 10 t (ix2 k n) = m ((c : Thread nD τ).loc main_arg10) (ix3 0 k n) := by
  blk_point [iblk, V, idx t]
theorem blk11 (k : Fin 1024) (n : Fin 2816) : iblk m c 11 t (ix2 k n) = m ((c : Thread nD τ).loc main_arg11) (ix3 0 k n) := by
  blk_point [iblk, V, idx t]
theorem blk12 (k : Fin 2816) (n : Fin 1024) : iblk m c 12 t (ix2 k n) = m ((c : Thread nD τ).loc main_arg12) (ix3 0 k n) := by
  blk_point [iblk, V, idx t]
end

/-- The hidden rows and the result as functions of the arguments. -/
def H (c : Dev nD) : Fin 128 → Fin 1024 → EReal :=
  HID (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))
def Y (c : Dev nD) : Fin 128 → Fin 1024 → EReal := OUT (H m c) (m ((c : Thread nD τ).loc main_arg9)) (m ((c : Thread nD τ).loc main_arg10)) (m ((c : Thread nD τ).loc main_arg11)) (m ((c : Thread nD τ).loc main_arg12))

/-- What the point's block holds. -/
theorem point (c : Dev nD) (t : Fin cfg0.N) (p : Fin 128) (n : Fin 1024) :
    k0_pay1 (k0_pay2 (iblk m c 4 t) (iblk m c 1 t) (iblk m c 5 t) (iblk m c 2 t) (iblk m c 6 t) (iblk m c 3 t) (iblk m c 7 t) (iblk m c 0 t) (iblk m c 8 t))
      (k0_pay3 (iblk m c 4 t) (iblk m c 1 t) (iblk m c 5 t) (iblk m c 2 t) (iblk m c 6 t) (iblk m c 3 t) (iblk m c 7 t) (iblk m c 0 t) (iblk m c 8 t))
      (k0_pay4 (F := Ideal)) (iblk m c 9 t) (iblk m c 10 t) (iblk m c 11 t) (iblk m c 12 t) (ix2 p n) = Y m c p n := by
  refine (pay1_at _ _ _ _ _ _ p n (pay3_at _ _ _ _ _ _ _ _ _ p)).trans ?_
  unfold Y OUT
  have e : (fun k => k0_pay2 (iblk m c 4 t) (iblk m c 1 t) (iblk m c 5 t) (iblk m c 2 t) (iblk m c 6 t) (iblk m c 3 t) (iblk m c 7 t) (iblk m c 0 t) (iblk m c 8 t) (ix2 p k)) = H m c p := by
    funext k
    refine (pay2_at _ _ _ _ _ _ _ _ _ p k).trans ?_
    unfold H HID
    simp only [blk0, blk1, blk2, blk3, blk4, blk5, blk6, blk7, blk8]
  rw [e]
  simp only [blk9, blk10, blk11, blk12]

/-- The result array, as one vector. -/
def YV (c : Dev nD) : FVec Ideal S128x1024 .f32 := fun i => Y m c (i 0) (i 1)

/-- Row `p` of the point's block is row `p` of the array. -/
theorem place (c : Dev nD) (t : Fin cfg0.N) (p : Fin 128) (n : Fin 1024) :
    YV m c (ix2 p n) = YV m c (((cfg0.win 13).blk t).view.emb (ix2 p n : S128x1024.Idx)) := by
  blk_ext [idx t]

/-- The result array after the run. -/
theorem final (c : Dev nD) : (dats m 0 c).arrAt 13 (cfgs 0).N = YV m c := by
  refine (dats m 0 c).arrAt_eq_of_covers 13 _ (by decide +kernel) fun t _ y => ?_
  blk_simp [idx t]
  rw [after0_13]
  frame_out
  obtain ⟨p, n, rfl⟩ : ∃ (p : Fin 128) (n : Fin 1024), y = ix2 p n := ⟨y 0, y 1, eq_ix2 y⟩
  exact (point m c t p n).trans (place m c t p n)

end Cert.Kernel7Ideal.Value

end
-- ==== Proof.MergeStepEqual.lean ====
/-
  The plain merge and feed-forward part on the rows of the decoding step, and that the kernel holds the same.
-/
module

public import proofs.«01_k».proof.Proof.Gen.Reference7Ideal.Run
public import proofs.«01_k».proof.Proof.MergeStep
public import proofs.«01_k».proof.Defs
public import Idealize.ShloMosaic.Adequacy
public import Idealize.ShloMosaic.Lib.Quiescent

@[expose] public section

set_option maxRecDepth 16384

noncomputable section

namespace Cert.Reference7Ideal.Value

open Cert.Reference7Ideal Cert.Reference7Ideal.Gen Idealize.ShloMosaic Idealize.ShloMosaic.TcCoe Idealize.SL.Sem Cert.Ffn Cert.FfnStep

/-- The hidden rows. -/
def HR (x : FVec Ideal S128x1x1024 .f32) (ol : FVec Ideal S128x1024 .bf16) (on om : FVec Ideal S128x512 .bf16) (mg : FVec Ideal S128x3072 .f32)
    (wa : FVec Ideal S1x1024x1024 .f32) (wb wm : FVec Ideal S1x512x1024 .f32) (wo : FVec Ideal S1x1024x1024 .f32) : FVec Ideal S128x1x1024 .f32 :=
  (addf x (Host.dotGeneral dot_S128x1x1024_S1024x1024_S128x1x1024_2_0_01_1_n_n none (addf (addf (mulf (shapeCast _ (extractStridedSlice S128x1x1x1024 ![0, 0, 0, 0] (shapeCast _ mg shapeCasts_S128x3072_S128x1x3x1024) slices_S128x1x3x1024_S128x1x1x1024_0_0_0_0) shapeCasts_S128x1x1x1024_S128x1x1024) (Host.dotGeneral dot_S128x1x1024_S1024x1024_S128x1x1024_2_0_01_1_n_n none (extf .f32 (broadcastInDim S128x1x1024 ![0, 2] bcast_S128x1024_S128x1x1024_0_2 ol) bitsLt_bf16_f32) (shapeCast _ wa shapeCasts_S1x1024x1024_S1024x1024))) (mulf (shapeCast _ (extractStridedSlice S128x1x1x1024 ![0, 0, 1, 0] (shapeCast _ mg shapeCasts_S128x3072_S128x1x3x1024) slices_S128x1x3x1024_S128x1x1x1024_0_0_1_0) shapeCasts_S128x1x1x1024_S128x1x1024) (Host.dotGeneral dot_S128x1x512_S512x1024_S128x1x1024_2_0_01_1_n_n none (extf .f32 (broadcastInDim S128x1x512 ![0, 2] bcast_S128x512_S128x1x512_0_2 on) bitsLt_bf16_f32) (shapeCast _ wb shapeCasts_S1x512x1024_S512x1024)))) (mulf (shapeCast _ (extractStridedSlice S128x1x1x1024 ![0, 0, 2, 0] (shapeCast _ mg shapeCasts_S128x3072_S128x1x3x1024) slices_S128x1x3x1024_S128x1x1x1024_0_0_2_0) shapeCasts_S128x1x1x1024_S128x1x1024) (Host.dotGeneral dot_S128x1x512_S512x1024_S128x1x1024_2_0_01_1_n_n none (extf .f32 (broadcastInDim S128x1x512 ![0, 2] bcast_S128x512_S128x1x512_0_2 om) bitsLt_bf16_f32) (shapeCast _ wm shapeCasts_S1x512x1024_S512x1024)))) (shapeCast _ wo shapeCasts_S1x1024x1024_S1024x1024)))

/-- The normalised rows. -/
def FR (h : FVec Ideal S128x1x1024 .f32) (g : FVec Ideal S1x1024 .f32) : FVec Ideal S128x1x1024 .f32 :=
  (mulf (mulf h (broadcastInDim S128x1x1024 ![0, 1, 2] bcast_S128x1x1_S128x1x1024_0_1_2 (Host.rsqrt (addf (Host.divf (broadcastInDim S128x1x1 ![0, 1] bcast_S128x1_S128x1x1_0_1 (Host.reduceAdd (mulf h h) (constant S_ .f32 0x00000000#32) reducesTo_S128x1x1024_S128x1_d2 h_S_)) (broadcastInDim S128x1x1 ![] bcast_S_S128x1x1 (constant S_ .f32 0x44800000#32))) (broadcastInDim S128x1x1 ![] bcast_S_S128x1x1 (constant S_ .f32 0x358637BD#32)))))) (broadcastInDim S128x1x1024 ![0, 1, 2] bcast_S1x1x1024_S128x1x1024_0_1_2 (broadcastInDim S1x1x1024 ![2] bcast_S1024_S1x1x1024_2 (shapeCast _ g shapeCasts_S1x1024_S1024))))

/-- The result from the hidden and the normalised rows. -/
def YR (h f : FVec Ideal S128x1x1024 .f32) (wg wu : FVec Ideal S1x1024x2816 .f32) (wd : FVec Ideal S1x2816x1024 .f32) : FVec Ideal S128x1024 .f32 :=
  shapeCast _ (addf h (Host.dotGeneral dot_S128x1x2816_S2816x1024_S128x1x1024_2_0_01_1_n_n none (mulf (mulf (Host.dotGeneral dot_S128x1x1024_S1024x2816_S128x1x2816_2_0_01_1_n_n none f (shapeCast _ wg shapeCasts_S1x1024x2816_S1024x2816)) (Host.divf (broadcastInDim S128x1x2816 ![] bcast_S_S128x1x2816 (constant S_ .f32 0x3F800000#32)) (addf (broadcastInDim S128x1x2816 ![] bcast_S_S128x1x2816 (constant S_ .f32 0x3F800000#32)) (Host.exp (Host.negf (Host.dotGeneral dot_S128x1x1024_S1024x2816_S128x1x2816_2_0_01_1_n_n none f (shapeCast _ wg shapeCasts_S1x1024x2816_S1024x2816))))))) (Host.dotGeneral dot_S128x1x1024_S1024x2816_S128x1x2816_2_0_01_1_n_n none f (shapeCast _ wu shapeCasts_S1x1024x2816_S1024x2816))) (shapeCast _ wd shapeCasts_S1x2816x1024_S2816x1024))) shapeCasts_S128x1x1024_S128x1024

theorem HR_at (x : FVec Ideal S128x1x1024 .f32) (ol : FVec Ideal S128x1024 .bf16) (on om : FVec Ideal S128x512 .bf16) (mg : FVec Ideal S128x3072 .f32)
    (wa : FVec Ideal S1x1024x1024 .f32) (wb wm : FVec Ideal S1x512x1024 .f32) (wo : FVec Ideal S1x1024x1024 .f32) (i : Fin 128) (n : Fin 1024) :
    HR x ol on om mg wa wb wm wo (ix3 i 0 n) = HID x ol on om mg wa wb wm wo i n := by
  unfold HID hid
  pointwise [HR]

theorem FR_at (h : FVec Ideal S128x1x1024 .f32) (g : FVec Ideal S1x1024 .f32) (i : Fin 128) (n : Fin 1024) :
    FR h g (ix3 i 0 n) = nrm (fun k => h (ix3 i 0 k)) (fun k => g (ix2 0 k)) n := by
  unfold nrm
  pointwise [FR]

theorem YR_at (h : FVec Ideal S128x1x1024 .f32) (g : FVec Ideal S1x1024 .f32) (wg wu : FVec Ideal S1x1024x2816 .f32) (wd : FVec Ideal S1x2816x1024 .f32)
    (i : Fin 128) (n : Fin 1024) : YR h (FR h g) wg wu wd (ix2 i n)
    = out (fun k => h (ix3 i 0 k)) (fun k => g (ix2 0 k)) (fun k j => wg (ix3 0 k j)) (fun k j => wu (ix3 0 k j)) (fun j k => wd (ix3 0 j k)) n := by
  unfold out
  simp only [← FR_at]
  generalize FR h g = f
  pointwise [YR]
  rfl

variable (m : (ℓ : Loc nD τ sig) → Buf (Elt Ideal) ℓ)

/-- The run's hidden rows. -/
abbrev HM (c : Dev nD) : FVec Ideal S128x1x1024 .f32 :=
  HR (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))

/-- The result of the run, in terms of the hidden and the normalised rows. -/
theorem res_eq (c : Dev nD) : res_main_v50 m c = YR (HM m c) (FR (HM m c) (m ((c : Thread nD τ).loc main_arg9))) (m ((c : Thread nD τ).loc main_arg10)) (m ((c : Thread nD τ).loc main_arg11)) (m ((c : Thread nD τ).loc main_arg12)) := rfl

/-- The result, row by row. -/
theorem res_at (c : Dev nD) (i : Fin 128) (n : Fin 1024) : (res_main_v50 m c : FVec Ideal S128x1024 .f32) (ix2 i n)
    = OUT (HID (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) (m ((c : Thread nD τ).loc main_arg9)) (m ((c : Thread nD τ).loc main_arg10)) (m ((c : Thread nD τ).loc main_arg11)) (m ((c : Thread nD τ).loc main_arg12)) i n := by
  rw [res_eq]
  refine (YR_at _ _ _ _ _ i n).trans ?_
  unfold OUT
  exact congrArg (fun h => out h _ _ _ _ n) (funext fun k => HR_at _ _ _ _ _ _ _ _ _ i k)

end Cert.Reference7Ideal.Value

namespace Cert.FfnStep

open Idealize.ShloMosaic Idealize.ShloMosaic.TcCoe Idealize.SL.Sem

/-- Kernel and reference of the merge of the decoding step end with the same result. -/
theorem same : Cert.algebraic_Kernel7Ideal_Reference7Ideal (hKernel7Ideal := Cert.Kernel7Ideal.Gen.facts) (hReference7Ideal := Cert.Reference7Ideal.Gen.facts) := by
  intro m g m' g' _ hagree
  refine ⟨_, Cert.Kernel7Ideal.Value.run_blocks m g, (θ_run Cert.Reference7Ideal.defs _ _).mono (fun r h c => ?_) (Cert.Reference7Ideal.Value.run m' g')⟩
  refine ⟨(h c).1.trans (Eq.trans ?_ (Cert.Kernel7Ideal.Value.final m c).symm), (h c).2⟩
  obtain ⟨h0, h1, h2, h3, h4, h5, h6, h7, h8, h9, h10, h11, h12⟩ := hagree c
  have e : ∀ (i : Fin 128) (n : Fin 1024), (Cert.Reference7Ideal.Value.res_main_v50 m' c : FVec Ideal Cert.Kernel7Ideal.S128x1024 .f32) (ix2 i n)
      = Cert.Kernel7Ideal.Value.YV m c (ix2 i n) := fun i n => by
    refine (Cert.Reference7Ideal.Value.res_at m' c i n).trans ?_
    rw [h0, h1, h2, h3, h4, h5, h6, h7, h8, h9, h10, h11, h12]
    rfl
  funext i
  rw [eq_ix2 i]
  exact e _ _

/-- The plain merge's frame. -/
theorem ref_frame : Cert.quiescent_Reference7Ideal (hReference7Ideal := Cert.Reference7Ideal.Gen.facts) := fun m ρ _ =>
  (θ_run Cert.Reference7Ideal.defs _ _).mono (fun r h => ⟨fun c => (h c).2, sem_eq_zero_of_no_sems rfl r.2⟩) (Cert.Reference7Ideal.Value.run m ρ)

end Cert.FfnStep

end
-- ==== Proof.ProjStep.lean ====
/-
  The projection kernel on the 128 rows of the decoding step: the compressed, selected and windowed keys and values it stores.
-/
module

public import proofs.«01_k».proof.Proof.Gen.Kernel8Ideal.Value
public import proofs.«01_k».proof.Proof.ProjHost

@[expose] public section

set_option maxRecDepth 16384

noncomputable section

namespace Cert.MixStep

open Idealize.ShloMosaic Cert.Kernel8Ideal Cert.Ffn Cert.Mix

/-- The normalised row `i` times column `c` of the weights. -/
def ZS (x : FVec Ideal S128x1x1024 .f32) (g : FVec Ideal S1x1024 .f32) (w : FVec Ideal S1x1024x6936 .f32) (i : Fin 128) (c : Fin 6936) : EReal :=
  ∑ k, nrm (fun j => x (ix3 i 0 j)) (fun j => g (ix2 0 j)) k * w (ix3 0 k c)

/-- The 256 columns of the first branch. -/
def cpr (z : Fin 6936 → EReal) (n : Fin 256) : EReal := z ⟨2560 + n.val, by omega⟩

/-- The 128 keys that begin at column `o` of a row, each group of 64 divided by its root mean square, times the gain. -/
def key (o : ℕ) (ho : o + 256 ≤ 6936) (z : Fin 6936 → EReal) (g : Fin 64 → EReal) (n : Fin 128) : EReal :=
  grp (Ideal.ofBits .f32 0x42800000#32)
    (∑ l : Fin 64, z ⟨o + (n.val / 64 * 64 + l.val), by omega⟩ * z ⟨o + (n.val / 64 * 64 + l.val), by omega⟩) (z ⟨o + n.val, by omega⟩) (g ⟨n.val % 64, by omega⟩)

/-- These keys and the 128 values past them. -/
def kv (o : ℕ) (ho : o + 256 ≤ 6936) (z : Fin 6936 → EReal) (g : Fin 64 → EReal) (n : Fin 256) : EReal :=
  if h : n.val < 128 then key o ho z g ⟨n.val, h⟩ else z ⟨o + n.val, by omega⟩

end Cert.MixStep

namespace Cert.Kernel8Ideal.Value

open Cert.Kernel8Ideal Cert.Kernel8Ideal.Gen Idealize.ShloMosaic Idealize.ShloMosaic.TcCoe Idealize.SL.Sem Cert.Ffn Cert.Mix Cert.MixStep
open Cert.Kernel3Ideal.Value (wpk wpk_lo bdK gidK bdK64_at gks gks_at gkw gkw_at)

theorem pay4_at (v0 : Vec Ideal S128x1024 .f32) (v12 : Vec Ideal S1x1024 .f32) (p : Fin 128) (k : Fin 1024) :
    k0_pay4 v0 v12 (ix2 p k) = nrm (fun j => v0 (ix2 p j)) (fun j => v12 (ix2 0 j)) k := by
  unfold nrm
  pointwise [k0_pay4]

section
variable (v16 : FVec Ideal S128x1024 .bf16) (p : Fin 128)
theorem pay8_at (w : Vec Ideal S1024x256 .bf16) (n : Fin 256) :
    k0_pay8 v16 w (ix2 p n) = ∑ k, v16 (ix2 p k) * w (ix2 k n) := by
  pointwise [k0_pay8]
theorem pay9_at (w : Vec Ideal S1024x256 .bf16) (n : Fin 256) :
    k0_pay9 v16 w (ix3 0 n p) = ∑ k, v16 (ix2 p k) * w (ix2 k n) := by
  rw [← pay8_at]
  pointwise [k0_pay9]
theorem pay18_at (w : Vec Ideal S1024x256 .bf16) (n : Fin 256) :
    k0_pay18 v16 w (ix2 p n) = ∑ k, v16 (ix2 p k) * w (ix2 k n) := by
  pointwise [k0_pay18]
theorem pay11_at (w : Vec Ideal S1024x256 .bf16) (n : Fin 256) :
    k0_pay11 v16 (k0_pay10 w) (constant S128x256 .f32 0x00000000#32) (ix2 p n) = ∑ k, v16 (ix2 p k) * w (ix2 k n) := by
  pointwise [k0_pay11, k0_pay10]
end

section
variable (v16 : FVec Ideal S128x1024 .bf16) (w : FVec Ideal S1024x256 .bf16) (a : FVec Ideal S128x256 .f32) (b : Vec Ideal S128x128 .bf16)
  (g : Vec Ideal S1x128 .f32) (p : Fin 128) (n : Fin 128)
theorem pay12_at : k0_pay12 v16 w a b g (ix2 p n) = grm (Ideal.ofBits .f32 0x3C800000#32)
    (∑ j : Fin 128, k0_pay11 v16 w a (ix2 p ⟨j.val, by omega⟩) * k0_pay11 v16 w a (ix2 p ⟨j.val, by omega⟩) * b (ix2 j n))
    (k0_pay11 v16 w a (ix2 p ⟨n.val, by omega⟩)) (g (ix2 0 n)) := by
  unfold grm
  pointwise [k0_pay12]
theorem pay14_at : k0_pay14 v16 w a b g (ix3 0 n p) = k0_pay12 v16 w a b g (ix2 p n) := by
  pointwise [k0_pay14]
theorem pay15_at : k0_pay15 v16 w a (ix3 0 n p) = k0_pay11 v16 w a (ix2 p ⟨128 + n.val, by omega⟩) := by
  pointwise [k0_pay15, k0_pay13]
end

section
variable (z : FVec Ideal S128x256 .f32) (b : Vec Ideal S128x128 .bf16) (g : Vec Ideal S1x128 .f32) (p : Fin 128) (n : Fin 128)
theorem pay19_at : k0_pay19 z b g (ix2 p n) = grm (Ideal.ofBits .f32 0x3C800000#32)
    (∑ j : Fin 128, z (ix2 p ⟨j.val, by omega⟩) * z (ix2 p ⟨j.val, by omega⟩) * b (ix2 j n))
    (z (ix2 p ⟨n.val, by omega⟩)) (g (ix2 0 n)) := by
  unfold grm
  pointwise [k0_pay19]
theorem pay21_at : k0_pay21 z b g (ix3 0 n p) = k0_pay19 z b g (ix2 p n) := by
  pointwise [k0_pay21]
theorem pay22_at : k0_pay22 z (ix3 0 n p) = z (ix2 p ⟨128 + n.val, by omega⟩) := by
  pointwise [k0_pay22, k0_pay20]
end

section
variable (v : Vec Ideal S1024x7168 .bf16) (k : Fin 1024) (n : Fin 256)
theorem ld8 : View.ld v r0_8 (ix2 k n) = v (ix2 k ⟨2560 + n.val, by omega⟩) := by pointwise
theorem ld11 : View.ld v r0_11 (ix2 k n) = v (ix2 k ⟨2816 + n.val, by omega⟩) := by pointwise
theorem ld17 : View.ld v r0_17 (ix2 k n) = v (ix2 k ⟨3072 + n.val, by omega⟩) := by pointwise
end

theorem idx : ∀ t : Fin cfg0.N, win0_0.index t = ![0, 0] ∧ win0_1.index t = ![0, 0] ∧ win0_2.index t = ![0, 0] ∧ win0_4.index t = ![0, 0]
    ∧ win0_7.index t = ![0, 0] ∧ win0_8.index t = ![0, 0] ∧ win0_18.index t = ![0, 0, 0] ∧ win0_19.index t = ![0, 0, 0] ∧ win0_20.index t = ![0, 0, 0] :=
  (by decide +kernel : ∀ t : Fin grid0.N, _)

variable (m : (ℓ : Loc nD τ sig) → Buf (Elt Ideal) ℓ) (c : Dev nD)

section
set_option maxHeartbeats 2000000
theorem V57 : V m c main_v57 = shapeCast S128x1024 (m ((c : Thread nD τ).loc main_arg0) : FVec Ideal S128x1x1024 .f32) shapeCasts_S128x1x1024_S128x1024 := by
  simp only [V, hostOps0, hostOps0_1, hostOps0_2, hostOps0_3, hostOps0_4, hostOps0_5, hostOps0_6, List.flatten_cons, List.flatten_nil, List.append_nil, List.cons_append,
      List.nil_append]
  after_results_simp
  rfl
theorem V12 : V m c main_v12 = shapeCast S1x1024 (shapeCast S1024 (m ((c : Thread nD τ).loc main_arg1) : FVec Ideal S1x1024 .f32) shapeCasts_S1x1024_S1024) shapeCasts_S1024_S1x1024 := by
  simp only [V, hostOps0, hostOps0_1, hostOps0_2, hostOps0_3, hostOps0_4, hostOps0_5, hostOps0_6, List.flatten_cons, List.flatten_nil, List.append_nil, List.cons_append,
      List.nil_append]
  after_results_simp
  rfl
theorem V10 : V m c main_v10 = wpk (m ((c : Thread nD τ).loc main_arg2)) := by
  simp only [V, hostOps0, hostOps0_1, hostOps0_2, hostOps0_3, hostOps0_4, hostOps0_5, hostOps0_6, List.flatten_cons, List.flatten_nil, List.append_nil, List.cons_append,
      List.nil_append]
  after_results_simp
  rfl
theorem V28 : V m c main_v28 = bdK (gidK 64#32) := by
  simp only [V, hostOps0, hostOps0_1, hostOps0_2, hostOps0_3, hostOps0_4, hostOps0_5, hostOps0_6, List.flatten_cons, List.flatten_nil, List.append_nil, List.cons_append,
      List.nil_append]
  after_results_simp
  rfl
theorem V46 : V m c main_v46 = gks (m ((c : Thread nD τ).loc main_arg4)) := by
  simp only [V, hostOps0, hostOps0_1, hostOps0_2, hostOps0_3, hostOps0_4, hostOps0_5, hostOps0_6, List.flatten_cons, List.flatten_nil, List.append_nil, List.cons_append,
      List.nil_append]
  after_results_simp
  rfl
theorem V52 : V m c main_v52 = gkw (m ((c : Thread nD τ).loc main_arg4)) := by
  simp only [V, hostOps0, hostOps0_1, hostOps0_2, hostOps0_3, hostOps0_4, hostOps0_5, hostOps0_6, List.flatten_cons, List.flatten_nil, List.append_nil, List.cons_append,
      List.nil_append]
  after_results_simp
  rfl
end

section
variable (t : Fin cfg0.N) (p : Fin 128)
theorem blk0 (n : Fin 1024) : iblk m c 0 t (ix2 p n) = m ((c : Thread nD τ).loc main_arg0) (ix3 p 0 n) := by
  refine Eq.trans (b := V m c main_v57 (ix2 p n)) ?_ ?_
  · blk_ext [iblk, idx t]
  · rw [V57]; pointwise
theorem blk1 (n : Fin 1024) : iblk m c 1 t (ix2 0 n) = m ((c : Thread nD τ).loc main_arg1) (ix2 0 n) := by
  refine Eq.trans (b := V m c main_v12 (ix2 0 n)) ?_ ?_
  · blk_ext [iblk, idx t]
  · rw [V12]; pointwise
theorem blk2 (k : Fin 1024) (n : Fin 7168) : iblk m c 2 t (ix2 k n) = wpk (m ((c : Thread nD τ).loc main_arg2)) (ix2 k n) := by
  refine Eq.trans (b := V m c main_v10 (ix2 k n)) ?_ ?_
  · blk_ext [iblk, idx t]
  · rw [V10]
theorem blk4 (a b : Fin 128) : iblk m c 4 t (ix2 a b) = if a.val / 64 = b.val / 64 then (1 : EReal) else 0 := by
  refine Eq.trans (b := V m c main_v28 (ix2 a b)) ?_ ?_
  · blk_ext [iblk, idx t]
  · rw [V28]; exact bdK64_at a b
theorem blk7 (n : Fin 128) : iblk m c 7 t (ix2 0 n) = m ((c : Thread nD τ).loc main_arg4) (ix3 0 1 ⟨n.val % 64, by omega⟩) := by
  refine Eq.trans (b := V m c main_v46 (ix2 0 n)) ?_ ?_
  · blk_ext [iblk, idx t]
  · rw [V46]; exact gks_at _ n
theorem blk8 (n : Fin 128) : iblk m c 8 t (ix2 0 n) = m ((c : Thread nD τ).loc main_arg4) (ix3 0 2 ⟨n.val % 64, by omega⟩) := by
  refine Eq.trans (b := V m c main_v52 (ix2 0 n)) ?_ ?_
  · blk_ext [iblk, idx t]
  · rw [V52]; exact gkw_at _ n
end

end Cert.Kernel8Ideal.Value

end
-- ==== Proof.ProjStepRef.lean ====
/-
  The plain projections of the decoding step: the stages of its three results, entry by entry.
-/
module

public import proofs.«01_k».proof.Proof.Gen.Reference8Ideal.Run
public import proofs.«01_k».proof.Proof.ProjStep

@[expose] public section

set_option maxRecDepth 16384

noncomputable section

namespace Cert.Reference8Ideal.Value

open Cert.Reference8Ideal Cert.Reference8Ideal.Gen Idealize.ShloMosaic Idealize.ShloMosaic.TcCoe Idealize.SL.Sem Cert.Ffn Cert.Mix Cert.MixStep

/-- The products of the normalised rows with the weights. -/
def RZ (x : FVec Ideal S128x1x1024 .f32) (g : FVec Ideal S1x1024 .f32) (w : FVec Ideal S1x1024x6936 .f32) : FVec Ideal S128x1x6936 .f32 :=
  Host.dotGeneral dot_S128x1x1024_S1024x6936_S128x1x6936_2_0_01_1_n_n none (mulf (mulf x (broadcastInDim S128x1x1024 ![0, 1, 2] bcast_S128x1x1_S128x1x1024_0_1_2 (Host.rsqrt (addf (Host.divf (broadcastInDim S128x1x1 ![0, 1] bcast_S128x1_S128x1x1_0_1 (Host.reduceAdd (mulf x x) (constant S_ .f32 0x00000000#32) reducesTo_S128x1x1024_S128x1_d2 h_S_)) (broadcastInDim S128x1x1 ![] bcast_S_S128x1x1 (constant S_ .f32 0x44800000#32))) (broadcastInDim S128x1x1 ![] bcast_S_S128x1x1 (constant S_ .f32 0x358637BD#32)))))) (broadcastInDim S128x1x1024 ![0, 1, 2] bcast_S1x1x1024_S128x1x1024_0_1_2 (broadcastInDim S1x1x1024 ![2] bcast_S1024_S1x1x1024_2 (shapeCast _ g shapeCasts_S1x1024_S1024)))) (shapeCast _ w shapeCasts_S1x1024x6936_S1024x6936)
/-- The keys and values of the three branches, and the keys of the second and the third. -/
def RV (z : FVec Ideal S128x1x6936 .f32) : FVec Ideal S128x1x3x2x2x64 .f32 :=
  shapeCast _ (extractStridedSlice S128x1x768 ![0, 0, 2560] z slices_S128x1x6936_S128x1x768_0_0_2560) shapeCasts_S128x1x768_S128x1x3x2x2x64
def K1 (v : FVec Ideal S128x1x3x2x2x64 .f32) : FVec Ideal S128x1x2x64 .f32 :=
  shapeCast _ (extractStridedSlice S128x1x1x1x2x64 ![0, 0, 1, 0, 0, 0] v slices_S128x1x3x2x2x64_S128x1x1x1x2x64_0_0_1_0_0_0) shapeCasts_S128x1x1x1x2x64_S128x1x2x64
def K2 (v : FVec Ideal S128x1x3x2x2x64 .f32) : FVec Ideal S128x1x2x64 .f32 :=
  shapeCast _ (extractStridedSlice S128x1x1x1x2x64 ![0, 0, 2, 0, 0, 0] v slices_S128x1x3x2x2x64_S128x1x1x1x2x64_0_0_2_0_0_0) shapeCasts_S128x1x1x1x2x64_S128x1x2x64

/-! The stacked keys and values of each branch, and their transposed columns. -/

def C0 (v : FVec Ideal S128x1x3x2x2x64 .f32) : FVec Ideal S128x1x2x2x64 .f32 :=
  shapeCast _ (extractStridedSlice S128x1x1x2x2x64 ![0, 0, 0, 0, 0, 0] v slices_S128x1x3x2x2x64_S128x1x1x2x2x64_0_0_0_0_0_0) shapeCasts_S128x1x1x2x2x64_S128x1x2x2x64
def C1 (gk : FVec Ideal S1x3x64 .f32) (v : FVec Ideal S128x1x3x2x2x64 .f32) (u : FVec Ideal S128x1x2x64 .f32) : FVec Ideal S128x1x2x2x64 .f32 :=
  concatenate S128x1x2x2x64 2 [⟨S128x1x1x2x64, (broadcastInDim S128x1x1x2x64 ![0, 1, 3, 4] bcast_S128x1x2x64_S128x1x1x2x64_0_1_3_4 (mulf (mulf u (broadcastInDim S128x1x2x64 ![0, 1, 2, 3] bcast_S128x1x2x1_S128x1x2x64_0_1_2_3 (Host.rsqrt (addf (Host.divf (broadcastInDim S128x1x2x1 ![0, 1, 2] bcast_S128x1x2_S128x1x2x1_0_1_2 (Host.reduceAdd (mulf u u) (constant S_ .f32 0x00000000#32) reducesTo_S128x1x2x64_S128x1x2_d3 h_S_)) (broadcastInDim S128x1x2x1 ![] bcast_S_S128x1x2x1 (constant S_ .f32 0x42800000#32))) (broadcastInDim S128x1x2x1 ![] bcast_S_S128x1x2x1 (constant S_ .f32 0x358637BD#32)))))) (broadcastInDim S128x1x2x64 ![0, 1, 2, 3] bcast_S1x1x1x64_S128x1x2x64_0_1_2_3 (broadcastInDim S1x1x1x64 ![3] bcast_S64_S1x1x1x64_3 (shapeCast _ (extractStridedSlice S1x1x64 ![0, 1, 0] gk slices_S1x3x64_S1x1x64_0_1_0) shapeCasts_S1x1x64_S64)))))⟩, ⟨S128x1x1x2x64, (broadcastInDim S128x1x1x2x64 ![0, 1, 3, 4] bcast_S128x1x2x64_S128x1x1x2x64_0_1_3_4 (shapeCast _ (extractStridedSlice S128x1x1x1x2x64 ![0, 0, 1, 1, 0, 0] v slices_S128x1x3x2x2x64_S128x1x1x1x2x64_0_0_1_1_0_0) shapeCasts_S128x1x1x1x2x64_S128x1x2x64))⟩] concatenates_S128x1x1x2x64_S128x1x1x2x64_S128x1x2x2x64_d2
def C2 (gk : FVec Ideal S1x3x64 .f32) (v : FVec Ideal S128x1x3x2x2x64 .f32) (u : FVec Ideal S128x1x2x64 .f32) : FVec Ideal S128x1x2x2x64 .f32 :=
  concatenate S128x1x2x2x64 2 [⟨S128x1x1x2x64, (broadcastInDim S128x1x1x2x64 ![0, 1, 3, 4] bcast_S128x1x2x64_S128x1x1x2x64_0_1_3_4 (mulf (mulf u (broadcastInDim S128x1x2x64 ![0, 1, 2, 3] bcast_S128x1x2x1_S128x1x2x64_0_1_2_3 (Host.rsqrt (addf (Host.divf (broadcastInDim S128x1x2x1 ![0, 1, 2] bcast_S128x1x2_S128x1x2x1_0_1_2 (Host.reduceAdd (mulf u u) (constant S_ .f32 0x00000000#32) reducesTo_S128x1x2x64_S128x1x2_d3 h_S_)) (broadcastInDim S128x1x2x1 ![] bcast_S_S128x1x2x1 (constant S_ .f32 0x42800000#32))) (broadcastInDim S128x1x2x1 ![] bcast_S_S128x1x2x1 (constant S_ .f32 0x358637BD#32)))))) (broadcastInDim S128x1x2x64 ![0, 1, 2, 3] bcast_S1x1x1x64_S128x1x2x64_0_1_2_3 (broadcastInDim S1x1x1x64 ![3] bcast_S64_S1x1x1x64_3 (shapeCast _ (extractStridedSlice S1x1x64 ![0, 2, 0] gk slices_S1x3x64_S1x1x64_0_2_0) shapeCasts_S1x1x64_S64)))))⟩, ⟨S128x1x1x2x64, (broadcastInDim S128x1x1x2x64 ![0, 1, 3, 4] bcast_S128x1x2x64_S128x1x1x2x64_0_1_3_4 (shapeCast _ (extractStridedSlice S128x1x1x1x2x64 ![0, 0, 2, 1, 0, 0] v slices_S128x1x3x2x2x64_S128x1x1x1x2x64_0_0_2_1_0_0) shapeCasts_S128x1x1x1x2x64_S128x1x2x64))⟩] concatenates_S128x1x1x2x64_S128x1x1x2x64_S128x1x2x2x64_d2
def CC (s : FVec Ideal S128x1x2x2x64 .f32) : FVec Ideal S1x256x128 .f32 :=
  transpose S1x256x128 [0, 2, 1] (shapeCast _ s shapeCasts_S128x1x2x2x64_S1x128x256) transposes_S1x128x256_S1x256x128_0_2_1

theorem RZ_at (x : FVec Ideal S128x1x1024 .f32) (g : FVec Ideal S1x1024 .f32) (w : FVec Ideal S1x1024x6936 .f32) (i : Fin 128) (n : Fin 6936) :
    RZ x g w (ix3 i 0 n) = ZS x g w i n := by
  unfold ZS nrm
  pointwise [RZ]

theorem K1_at (z : FVec Ideal S128x1x6936 .f32) (i : Fin 128) (h : Fin 2) (d : Fin 64) : K1 (RV z) (ix4 i 0 h d) = z (ix3 i 0 ⟨2816 + (h.val * 64 + d.val), by omega⟩) := by
  pointwise [K1, RV]
  exact congrArg (fun c => z (ix3 i 0 c)) (Fin.ext (by show 2560 + (256 + h.val * 64 + d.val) = 2816 + (h.val * 64 + d.val); omega))
theorem K2_at (z : FVec Ideal S128x1x6936 .f32) (i : Fin 128) (h : Fin 2) (d : Fin 64) : K2 (RV z) (ix4 i 0 h d) = z (ix3 i 0 ⟨3072 + (h.val * 64 + d.val), by omega⟩) := by
  pointwise [K2, RV]
  exact congrArg (fun c => z (ix3 i 0 c)) (Fin.ext (by show 2560 + (512 + h.val * 64 + d.val) = 3072 + (h.val * 64 + d.val); omega))

theorem CC_at (s : FVec Ideal S128x1x2x2x64 .f32) (i : Fin 128) (n : Fin 256) : CC s (ix3 0 n i)
    = s (ix5 i 0 ⟨n.val / 128, by omega⟩ ⟨n.val / 64 % 2, by omega⟩ ⟨n.val % 64, by omega⟩) := by
  pointwise [CC]

theorem ix5_eq {s : FVec Ideal S128x1x2x2x64 .f32} (i : Fin 128) {e e' h h' : Fin 2} {d d' : Fin 64} (he : e = e') (hh : h = h') (hd : d = d') :
    s (ix5 i 0 e h d) = s (ix5 i 0 e' h' d') := by rw [he, hh, hd]

section
variable (i : Fin 128) (z : FVec Ideal S128x1x6936 .f32)
theorem C0_at (n : Fin 256) : CC (C0 (RV z)) (ix3 0 n i) = cpr (fun c => z (ix3 i 0 c)) n := by
  rw [CC_at]
  unfold cpr
  pointwise [C0, RV]
  all_goals exact congrArg (fun c => z (ix3 i 0 c)) (Fin.ext (by show 2560 + (n.val / 128 * 128 + n.val / 64 % 2 * 64 + n.val % 64) = 2560 + n.val; omega))
theorem C1_k (v : FVec Ideal S128x1x3x2x2x64 .f32) (u : FVec Ideal S128x1x2x64 .f32) (gk : FVec Ideal S1x3x64 .f32) (h : Fin 2) (d : Fin 64) : C1 gk v u (ix5 i 0 0 h d)
    = grp (Ideal.ofBits .f32 0x42800000#32) (∑ l : Fin 64, u (ix4 i 0 h l) * u (ix4 i 0 h l)) (u (ix4 i 0 h d)) (gk (ix3 0 1 d)) := by
  unfold grp
  pointwise [C1]
theorem C1_v (u : FVec Ideal S128x1x2x64 .f32) (gk : FVec Ideal S1x3x64 .f32) (h : Fin 2) (d : Fin 64) : C1 gk (RV z) u (ix5 i 0 1 h d)
    = z (ix3 i 0 ⟨2944 + (h.val * 64 + d.val), by omega⟩) := by
  pointwise [C1, RV]
  exact congrArg (fun c => z (ix3 i 0 c)) (Fin.ext (by show 2560 + (384 + h.val * 64 + d.val) = 2944 + (h.val * 64 + d.val); omega))
theorem C1_at (gk : FVec Ideal S1x3x64 .f32) (n : Fin 256) : CC (C1 gk (RV z) (K1 (RV z))) (ix3 0 n i)
    = kv 2816 (by decide) (fun c => z (ix3 i 0 c)) (fun l => gk (ix3 0 1 l)) n := by
  rw [CC_at]
  unfold kv
  by_cases h : n.val < 128
  · rw [dif_pos h]
    refine (ix5_eq i (Fin.ext (by show n.val / 128 = 0; omega)) (Fin.ext (by show n.val / 64 % 2 = n.val / 64; omega)) rfl).trans
      ((C1_k i _ _ gk (⟨n.val / 64, by omega⟩ : Fin 2) ⟨n.val % 64, by omega⟩).trans ?_)
    simp only [K1_at]
    have e : (⟨2816 + (n.val / 64 * 64 + n.val % 64), by omega⟩ : Fin 6936) = ⟨2816 + n.val, by omega⟩ := Fin.ext (by show 2816 + (n.val / 64 * 64 + n.val % 64) = 2816 + n.val; omega)
    rw [e]
    rfl
  · rw [dif_neg h]
    refine (ix5_eq i (Fin.ext (by show n.val / 128 = 1; omega)) (Fin.ext (by show n.val / 64 % 2 = (n.val - 128) / 64; omega)) (Fin.ext (by show n.val % 64 = (n.val - 128) % 64; omega))).trans
      ((C1_v i z _ gk (⟨(n.val - 128) / 64, by omega⟩ : Fin 2) ⟨(n.val - 128) % 64, by omega⟩).trans ?_)
    exact congrArg (fun c => z (ix3 i 0 c)) (Fin.ext (by show 2944 + ((n.val - 128) / 64 * 64 + (n.val - 128) % 64) = 2816 + n.val; omega))
theorem C2_k (v : FVec Ideal S128x1x3x2x2x64 .f32) (u : FVec Ideal S128x1x2x64 .f32) (gk : FVec Ideal S1x3x64 .f32) (h : Fin 2) (d : Fin 64) : C2 gk v u (ix5 i 0 0 h d)
    = grp (Ideal.ofBits .f32 0x42800000#32) (∑ l : Fin 64, u (ix4 i 0 h l) * u (ix4 i 0 h l)) (u (ix4 i 0 h d)) (gk (ix3 0 2 d)) := by
  unfold grp
  pointwise [C2]
theorem C2_v (u : FVec Ideal S128x1x2x64 .f32) (gk : FVec Ideal S1x3x64 .f32) (h : Fin 2) (d : Fin 64) : C2 gk (RV z) u (ix5 i 0 1 h d)
    = z (ix3 i 0 ⟨3200 + (h.val * 64 + d.val), by omega⟩) := by
  pointwise [C2, RV]
  exact congrArg (fun c => z (ix3 i 0 c)) (Fin.ext (by show 2560 + (640 + h.val * 64 + d.val) = 3200 + (h.val * 64 + d.val); omega))
theorem C2_at (gk : FVec Ideal S1x3x64 .f32) (n : Fin 256) : CC (C2 gk (RV z) (K2 (RV z))) (ix3 0 n i)
    = kv 3072 (by decide) (fun c => z (ix3 i 0 c)) (fun l => gk (ix3 0 2 l)) n := by
  rw [CC_at]
  unfold kv
  by_cases h : n.val < 128
  · rw [dif_pos h]
    refine (ix5_eq i (Fin.ext (by show n.val / 128 = 0; omega)) (Fin.ext (by show n.val / 64 % 2 = n.val / 64; omega)) rfl).trans
      ((C2_k i _ _ gk (⟨n.val / 64, by omega⟩ : Fin 2) ⟨n.val % 64, by omega⟩).trans ?_)
    simp only [K2_at]
    have e : (⟨3072 + (n.val / 64 * 64 + n.val % 64), by omega⟩ : Fin 6936) = ⟨3072 + n.val, by omega⟩ := Fin.ext (by show 3072 + (n.val / 64 * 64 + n.val % 64) = 3072 + n.val; omega)
    rw [e]
    rfl
  · rw [dif_neg h]
    refine (ix5_eq i (Fin.ext (by show n.val / 128 = 1; omega)) (Fin.ext (by show n.val / 64 % 2 = (n.val - 128) / 64; omega)) (Fin.ext (by show n.val % 64 = (n.val - 128) % 64; omega))).trans
      ((C2_v i z _ gk (⟨(n.val - 128) / 64, by omega⟩ : Fin 2) ⟨(n.val - 128) % 64, by omega⟩).trans ?_)
    exact congrArg (fun c => z (ix3 i 0 c)) (Fin.ext (by show 3200 + ((n.val - 128) / 64 * 64 + (n.val - 128) % 64) = 3072 + n.val; omega))
end

end Cert.Reference8Ideal.Value

end
-- ==== Proof.ProjStepFinal.lean ====
/-
  The keys' and values' arrays of the decoding step after the run.
-/
module

public import proofs.«01_k».proof.Proof.ProjStep

@[expose] public section

set_option maxRecDepth 16384

noncomputable section

namespace Cert.Kernel8Ideal.Value

open Cert.Kernel8Ideal Cert.Kernel8Ideal.Gen Idealize.ShloMosaic Idealize.ShloMosaic.TcCoe Idealize.SL.Sem Cert.Ffn Cert.Mix Cert.MixStep
open Cert.Kernel3Ideal.Value (wpk wpk_lo)

variable (m : (ℓ : Loc nD τ sig) → Buf (Elt Ideal) ℓ) (c : Dev nD)

/-- Row `p` of the product with the weights. -/
abbrev Z (p : Fin 128) : Fin 6936 → EReal := ZS (m ((c : Thread nD τ).loc main_arg0)) (m ((c : Thread nD τ).loc main_arg1)) (m ((c : Thread nD τ).loc main_arg2)) p

/-- The gains of the second and the third branch. -/
abbrev G1 : Fin 64 → EReal := fun l => m ((c : Thread nD τ).loc main_arg4) (ix3 0 1 l)
abbrev G2 : Fin 64 → EReal := fun l => m ((c : Thread nD τ).loc main_arg4) (ix3 0 2 l)

/-- The three arrays, feature by feature. -/
def Y18 : FVec Ideal S1x256x128 .f32 := fun i => cpr (Z m c (i 2)) (i 1)
def Y19 : FVec Ideal S1x256x128 .f32 := fun i => kv 2816 (by decide) (Z m c (i 2)) (G1 m c) (i 1)
def Y20 : FVec Ideal S1x256x128 .f32 := fun i => kv 3072 (by decide) (Z m c (i 2)) (G2 m c) (i 1)

section
variable (t : Fin cfg0.N) (p : Fin 128)

/-- The point's normalised rows. -/
abbrev NN : FVec Ideal S128x1024 .bf16 := k0_pay4 (iblk m c 0 t) (iblk m c 1 t)

theorem nn_at (k : Fin 1024) : NN m c t (ix2 p k)
    = nrm (fun j => m ((c : Thread nD τ).loc main_arg0) (ix3 p 0 j)) (fun j => m ((c : Thread nD τ).loc main_arg1) (ix2 0 j)) k := by
  have e0 : (fun j : Fin 1024 => iblk m c 0 t (ix2 p j)) = fun j => m ((c : Thread nD τ).loc main_arg0) (ix3 p 0 j) := funext (blk0 m c t p)
  have e1 : (fun j : Fin 1024 => iblk m c 1 t (ix2 0 j)) = fun j => m ((c : Thread nD τ).loc main_arg1) (ix2 0 j) := funext (blk1 m c t)
  exact (pay4_at _ _ p k).trans (congr (congrArg nrm e0) e1 ▸ rfl)

/-- The products with 256 columns of the packed weights, from column `o`. -/
theorem z_lo (o : ℕ) (ho : o + 256 ≤ 3328) (b : FVec Ideal S1024x256 .bf16) (n : Fin 256)
    (hb : ∀ k : Fin 1024, b (ix2 k n) = iblk m c 2 t (ix2 k (⟨o + n.val, by omega⟩ : Fin 7168))) :
    ∑ k : Fin 1024, NN m c t (ix2 p k) * b (ix2 k n) = Z m c p ⟨o + n.val, by omega⟩ :=
  Finset.sum_congr rfl fun k _ => by rw [hb, nn_at, blk2, wpk_lo _ _ _ (show o + n.val < 3328 by omega)]

theorem a8_at (n : Fin 256) : k0_pay9 (NN m c t) (View.ld (iblk m c 2 t) r0_8) (ix3 0 n p) = Z m c p ⟨2560 + n.val, by omega⟩ :=
  (pay9_at _ p _ n).trans (z_lo m c t p 2560 (by decide) _ n fun k => ld8 (iblk m c 2 t) k n)
theorem a11_at (n : Fin 256) : k0_pay11 (NN m c t) (k0_pay10 (View.ld (iblk m c 2 t) r0_11)) (constant S128x256 .f32 0x00000000#32) (ix2 p n)
    = Z m c p ⟨2816 + n.val, by omega⟩ := (pay11_at _ p _ n).trans (z_lo m c t p 2816 (by decide) _ n fun k => ld11 (iblk m c 2 t) k n)
theorem a17_at (n : Fin 256) : k0_pay18 (NN m c t) (View.ld (iblk m c 2 t) r0_17) (ix2 p n)
    = Z m c p ⟨3072 + n.val, by omega⟩ := (pay18_at _ p _ n).trans (z_lo m c t p 3072 (by decide) _ n fun k => ld17 (iblk m c 2 t) k n)

/-- The sum of squares weighted by the groups' indicator is the group's own. -/
theorem grp_sum (o : ℕ) (ho : o + 256 ≤ 6936) (z : Fin 6936 → EReal) (n : Fin 128) :
    ∑ j : Fin 128, z ⟨o + j.val, by omega⟩ * z ⟨o + j.val, by omega⟩ * (if j.val / 64 = n.val / 64 then 1 else 0)
      = ∑ l : Fin 64, z ⟨o + (n.val / 64 * 64 + l.val), by omega⟩ * z ⟨o + (n.val / 64 * 64 + l.val), by omega⟩ :=
  sum_group (N := 128) (W := 64) (by decide) (fun j => z ⟨o + j.val, by omega⟩ * z ⟨o + j.val, by omega⟩) (n.val / 64) (by intro l; omega)

theorem k12_at (n : Fin 128) : k0_pay12 (NN m c t) (k0_pay10 (View.ld (iblk m c 2 t) r0_11)) (constant S128x256 .f32 0x00000000#32) (iblk m c 4 t) (iblk m c 7 t) (ix2 p n)
    = key 2816 (by decide) (Z m c p) (G1 m c) n := by
  rw [pay12_at, grm64]
  have hs := grp_sum 2816 (by decide) (Z m c p) n
  simp only [a11_at, blk4, blk7]
  rw [hs]
  rfl
theorem k19_at (n : Fin 128) : k0_pay19 (k0_pay18 (NN m c t) (View.ld (iblk m c 2 t) r0_17)) (iblk m c 4 t) (iblk m c 8 t) (ix2 p n)
    = key 3072 (by decide) (Z m c p) (G2 m c) n := by
  rw [pay19_at, grm64]
  have hs := grp_sum 3072 (by decide) (Z m c p) n
  simp only [a17_at, blk4, blk8]
  rw [hs]
  rfl

/-- Two stores of 128 features each, read at feature `n`. -/
theorem two_at (u v : FVec Ideal S1x128x128 .f32) (n : Fin 256) (p : Fin 128) :
    View.canon (Val := Elt Ideal) [(⟨r0_15, u⟩ : View.Piece (Elt Ideal) S1x256x128 EltTy.f32), ⟨r0_14, v⟩] (ix3 0 n p)
      = if h : n.val < 128 then v (ix3 0 ⟨n.val, h⟩ p) else u (ix3 0 ⟨n.val - 128, by omega⟩ p) := by
  by_cases h : n.val < 128
  · rw [dif_pos h]
    canon_tiles x hx
    all_goals first | (exfalso; replace hx1 : n.val = 128 + (x 1).val := hx1; omega) | (exfalso; replace hx1 : n.val = (x 1).val := hx1; omega) | (blk_ext <;> first | exact hx1.symm | exact hx2.symm | (replace hx1 : n.val = 128 + (x 1).val := hx1; show (x 1).val = n.val - 128; omega))
  · rw [dif_neg h]
    canon_tiles x hx
    all_goals first | (exfalso; replace hx1 : n.val = 128 + (x 1).val := hx1; omega) | (exfalso; replace hx1 : n.val = (x 1).val := hx1; omega) | (blk_ext <;> first | exact hx1.symm | exact hx2.symm | (replace hx1 : n.val = 128 + (x 1).val := hx1; show (x 1).val = n.val - 128; omega))

/-- A store of keys and one of values hold the row's `kv`. -/
theorem kv_two (o : ℕ) (ho : o + 256 ≤ 6936) (z : Fin 6936 → EReal) (g : Fin 64 → EReal) (u v : FVec Ideal S1x128x128 .f32) (n : Fin 256)
    (hk : ∀ n : Fin 128, v (ix3 0 n p) = key o ho z g n) (hv : ∀ n : Fin 128, u (ix3 0 n p) = z ⟨o + (128 + n.val), by omega⟩) :
    View.canon (Val := Elt Ideal) [(⟨r0_15, u⟩ : View.Piece (Elt Ideal) S1x256x128 EltTy.f32), ⟨r0_14, v⟩] (ix3 0 n p) = kv o ho z g n := by
  rw [two_at]
  unfold kv
  by_cases h : n.val < 128
  · rw [dif_pos h, dif_pos h, hk]
  · rw [dif_neg h, dif_neg h, hv]
    exact congrArg z (Fin.ext (by show o + (128 + (n.val - 128)) = o + n.val; omega))

theorem pt19 (n : Fin 256) : View.canon (Val := Elt Ideal) [(⟨r0_15, k0_pay15 (NN m c t) (k0_pay10 (View.ld (iblk m c 2 t) r0_11)) (constant S128x256 .f32 0x00000000#32)⟩ : View.Piece (Elt Ideal) S1x256x128 EltTy.f32),
      ⟨r0_14, k0_pay14 (NN m c t) (k0_pay10 (View.ld (iblk m c 2 t) r0_11)) (constant S128x256 .f32 0x00000000#32) (iblk m c 4 t) (iblk m c 7 t)⟩] (ix3 0 n p)
    = kv 2816 (by decide) (Z m c p) (G1 m c) n :=
  kv_two p 2816 _ _ _ _ _ n (fun n => (pay14_at _ _ _ _ _ p n).trans (k12_at m c t p n)) fun n => (pay15_at _ _ _ p n).trans (a11_at m c t p _)
theorem pt20 (n : Fin 256) : View.canon (Val := Elt Ideal) [(⟨r0_15, k0_pay22 (k0_pay18 (NN m c t) (View.ld (iblk m c 2 t) r0_17))⟩ : View.Piece (Elt Ideal) S1x256x128 EltTy.f32),
      ⟨r0_14, k0_pay21 (k0_pay18 (NN m c t) (View.ld (iblk m c 2 t) r0_17)) (iblk m c 4 t) (iblk m c 8 t)⟩] (ix3 0 n p)
    = kv 3072 (by decide) (Z m c p) (G2 m c) n :=
  kv_two p 3072 _ _ _ _ _ n (fun n => (pay21_at _ _ _ p n).trans (k19_at m c t p n)) fun n => (pay22_at _ p n).trans (a17_at m c t p _)

/-! The point's blocks are the whole arrays. -/
theorem place18 (n : Fin 256) : Y18 m c (ix3 0 n p) = Y18 m c (((cfg0.win 18).blk t).view.emb (ix3 0 n p : S1x256x128.Idx)) := by
  blk_ext [idx t]
theorem place19 (n : Fin 256) : Y19 m c (ix3 0 n p) = Y19 m c (((cfg0.win 19).blk t).view.emb (ix3 0 n p : S1x256x128.Idx)) := by
  blk_ext [idx t]
theorem place20 (n : Fin 256) : Y20 m c (ix3 0 n p) = Y20 m c (((cfg0.win 20).blk t).view.emb (ix3 0 n p : S1x256x128.Idx)) := by
  blk_ext [idx t]
end

section
variable (x0 : Vec Ideal S128x1024 .f32) (x1 : Vec Ideal S1x1024 .f32) (x2 : Vec Ideal S1024x7168 .bf16) (x3 : Vec Ideal S512x512 .bf16) (x4 : Vec Ideal S128x128 .bf16)
  (x5 : Vec Ideal S512x512 .bf16) (x6 : Vec Ideal S1x512 .f32) (x7 : Vec Ideal S1x128 .f32) (x8 : Vec Ideal S1x128 .f32) (x9 : Vec Ideal S1x512 .f32)
theorem pay26_eq : k0_pay26 x0 x1 x2 x3 x4 x5 x6 x7 x8 x9 = k0_pay4 x0 x1 := by
  unfold k0_pay26
  rw [View.ld_unit_zero (by decide +kernel), View.ld_unit_zero (by decide +kernel)]
theorem pay27_eq : k0_pay27 x0 x1 x2 x3 x4 x5 x6 x7 x8 x9 = constant S128x256 .f32 0x00000000#32 := rfl
theorem pay28_eq : k0_pay28 x0 x1 x2 x3 x4 x5 x6 x7 x8 x9 = k0_pay10 (View.ld x2 r0_11) := rfl
theorem pay29_eq : k0_pay29 x0 x1 x2 x3 x4 x5 x6 x7 x8 x9 = k0_pay18 (k0_pay4 x0 x1) (View.ld x2 r0_17) := by
  unfold k0_pay29
  rw [pay26_eq]
end

theorem ex3 (y : S1x256x128.Idx) : ∃ (k : Fin 256) (p : Fin 128), y = ix3 (0 : Fin 1) k p :=
  ⟨y 1, y 2, (eq_ix3 y).trans (congrArg (fun i : Fin 1 => ix3 i (y 1 : Fin 256) (y 2 : Fin 128)) (Subsingleton.elim (α := Fin 1) (y 0) 0))⟩

theorem final18 : (dats m 0 c).arrAt 18 (cfgs 0).N = Y18 m c := by
  refine (dats m 0 c).arrAt_eq_of_covers 18 _ (by decide +kernel) fun t _ y => ?_
  blk_simp [idx t]
  rw [after0_18]
  frame_out
  rw [pay26_eq]
  obtain ⟨n, p, rfl⟩ := ex3 y
  exact (a8_at m c t p n).trans (place18 m c t p n)
theorem final19 : (dats m 0 c).arrAt 19 (cfgs 0).N = Y19 m c := by
  refine (dats m 0 c).arrAt_eq_of_covers 19 _ (by decide +kernel) fun t _ y => ?_
  blk_simp [idx t]
  rw [after0_19]
  frame_out
  rw [pay26_eq, pay28_eq, pay27_eq]
  obtain ⟨n, p, rfl⟩ := ex3 y
  exact (pt19 m c t p n).trans (place19 m c t p n)
theorem final20 : (dats m 0 c).arrAt 20 (cfgs 0).N = Y20 m c := by
  refine (dats m 0 c).arrAt_eq_of_covers 20 _ (by decide +kernel) fun t _ y => ?_
  blk_simp [idx t]
  rw [after0_20]
  frame_out
  rw [pay29_eq]
  obtain ⟨n, p, rfl⟩ := ex3 y
  exact (pt20 m c t p n).trans (place20 m c t p n)

end Cert.Kernel8Ideal.Value

end
-- ==== Proof.ProjStepEqual.lean ====
/-
  The projection kernel and the plain projections hold the same keys and values on the rows of the decoding step.
-/
module

public import proofs.«01_k».proof.Proof.ProjStepRef
public import proofs.«01_k».proof.Proof.ProjStepFinal
public import proofs.«01_k».proof.Defs
public import Idealize.ShloMosaic.Adequacy
public import Idealize.ShloMosaic.Lib.Quiescent

@[expose] public section

set_option maxRecDepth 16384

noncomputable section

namespace Cert.Reference8Ideal.Value

open Cert.Reference8Ideal Cert.Reference8Ideal.Gen Idealize.ShloMosaic Idealize.ShloMosaic.TcCoe Idealize.SL.Sem Cert.Ffn Cert.Mix Cert.MixStep

variable (m : (ℓ : Loc nD τ sig) → Buf (Elt Ideal) ℓ) (c : Dev nD)

/-- The run's products with the weights. -/
abbrev ZM : FVec Ideal S128x1x6936 .f32 := RZ (m ((c : Thread nD τ).loc main_arg0)) (m ((c : Thread nD τ).loc main_arg1)) (m ((c : Thread nD τ).loc main_arg2))

theorem zm_row (i : Fin 128) : (fun n => ZM m c (ix3 i 0 n)) = ZS (m ((c : Thread nD τ).loc main_arg0)) (m ((c : Thread nD τ).loc main_arg1)) (m ((c : Thread nD τ).loc main_arg2)) i :=
  funext fun n => RZ_at _ _ _ i n

/-- The three results of the run, in terms of the stages. -/
abbrev W0 : FVec Ideal S1x256x128 .f32 := CC (C0 (RV (ZM m c)))
abbrev W1 : FVec Ideal S1x256x128 .f32 := CC (C1 (m ((c : Thread nD τ).loc main_arg4)) (RV (ZM m c)) (K1 (RV (ZM m c))))
abbrev W2 : FVec Ideal S1x256x128 .f32 := CC (C2 (m ((c : Thread nD τ).loc main_arg4)) (RV (ZM m c)) (K2 (RV (ZM m c))))

theorem W0_at (n : Fin 256) (i : Fin 128) : W0 m c (ix3 0 n i) = cpr (ZS (m ((c : Thread nD τ).loc main_arg0)) (m ((c : Thread nD τ).loc main_arg1)) (m ((c : Thread nD τ).loc main_arg2)) i) n :=
  (C0_at i _ n).trans (congrArg (fun z => cpr z n) (zm_row m c i))
theorem W1_at (n : Fin 256) (i : Fin 128) : W1 m c (ix3 0 n i)
    = kv 2816 (by decide) (ZS (m ((c : Thread nD τ).loc main_arg0)) (m ((c : Thread nD τ).loc main_arg1)) (m ((c : Thread nD τ).loc main_arg2)) i) (fun l => m ((c : Thread nD τ).loc main_arg4) (ix3 0 1 l)) n :=
  (C1_at i _ _ n).trans (congrArg (fun z => kv 2816 (by decide) z (fun l => m ((c : Thread nD τ).loc main_arg4) (ix3 0 1 l)) n) (zm_row m c i))
theorem W2_at (n : Fin 256) (i : Fin 128) : W2 m c (ix3 0 n i)
    = kv 3072 (by decide) (ZS (m ((c : Thread nD τ).loc main_arg0)) (m ((c : Thread nD τ).loc main_arg1)) (m ((c : Thread nD τ).loc main_arg2)) i) (fun l => m ((c : Thread nD τ).loc main_arg4) (ix3 0 2 l)) n :=
  (C2_at i _ _ n).trans (congrArg (fun z => kv 3072 (by decide) z (fun l => m ((c : Thread nD τ).loc main_arg4) (ix3 0 2 l)) n) (zm_row m c i))

end Cert.Reference8Ideal.Value

namespace Cert.MixStep

open Idealize.ShloMosaic Idealize.ShloMosaic.TcCoe Idealize.SL.Sem

/-- Two arrays of one sheet with the same entries are the same. -/
theorem sheet_ext {a b : FVec Ideal Cert.Kernel8Ideal.S1x256x128 .f32} (h : ∀ (n : Fin 256) (i : Fin 128), a (ix3 0 n i) = b (ix3 0 n i)) : a = b := by
  funext y
  obtain ⟨n, i, rfl⟩ := Cert.Kernel8Ideal.Value.ex3 y
  exact h n i

/-- Kernel and reference of the decoding step's projections end with the same keys and values. -/
theorem same : Cert.algebraic_Kernel8Ideal_Reference8Ideal (hKernel8Ideal := Cert.Kernel8Ideal.Gen.facts) (hReference8Ideal := Cert.Reference8Ideal.Gen.facts) := by
  intro m g m' g' _ hagree
  refine ⟨Cert.Kernel8Ideal.Value.Y18 m, Cert.Kernel8Ideal.Value.Y19 m, Cert.Kernel8Ideal.Value.Y20 m,
    (θ_run Cert.Kernel8Ideal.defs _ _).mono (fun r h c => ?_) (Cert.Kernel8Ideal.Value.run_blocks m g),
    (θ_run Cert.Reference8Ideal.defs _ _).mono (fun r h c => ?_) (Cert.Reference8Ideal.Value.run m' g')⟩
  · obtain ⟨_, _, _, _, _, _, _, _, h18, h19, h20, _, _, _, hk⟩ := h c
    exact ⟨h18.trans (Cert.Kernel8Ideal.Value.final18 m c), h19.trans (Cert.Kernel8Ideal.Value.final19 m c), h20.trans (Cert.Kernel8Ideal.Value.final20 m c), hk⟩
  · obtain ⟨r0, r1, r2, hk⟩ := h c
    obtain ⟨a0, a1, a2, _, a4, _⟩ := hagree c
    have e0 : Cert.Reference8Ideal.Value.W0 m' c = Cert.Kernel8Ideal.Value.Y18 m c := sheet_ext fun n i => by
      refine (Cert.Reference8Ideal.Value.W0_at m' c n i).trans ?_
      rw [a0, a1, a2]
      rfl
    have e1 : Cert.Reference8Ideal.Value.W1 m' c = Cert.Kernel8Ideal.Value.Y19 m c := sheet_ext fun n i => by
      refine (Cert.Reference8Ideal.Value.W1_at m' c n i).trans ?_
      rw [a0, a1, a2, a4]
      rfl
    have e2 : Cert.Reference8Ideal.Value.W2 m' c = Cert.Kernel8Ideal.Value.Y20 m c := sheet_ext fun n i => by
      refine (Cert.Reference8Ideal.Value.W2_at m' c n i).trans ?_
      rw [a0, a1, a2, a4]
      rfl
    exact ⟨r0.trans e0, r1.trans e1, r2.trans e2, hk⟩

/-- The plain projections' frame. -/
theorem ref_frame : Cert.quiescent_Reference8Ideal (hReference8Ideal := Cert.Reference8Ideal.Gen.facts) := fun m ρ _ =>
  (θ_run Cert.Reference8Ideal.defs _ _).mono (fun r h => ⟨fun c => (h c).2.2.2, sem_eq_zero_of_no_sems rfl r.2⟩) (Cert.Reference8Ideal.Value.run m ρ)

end Cert.MixStep

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Kernel3Ideal.Value
public import proofs.«01_k».proof.Proof.Gen.Reference3Ideal.Run
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Kernel2Ideal.Value
public import proofs.«01_k».proof.Proof.Gen.Reference2Ideal.Run
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Kernel4Ideal.Value
public import proofs.«01_k».proof.Proof.Gen.Reference4Ideal.Run
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import proofs.«01_k».proof.Proof.Gen.Kernel5Ideal.Value
public import proofs.«01_k».proof.Proof.Gen.Reference5Ideal.Run
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Reference6Ideal
public import proofs.«01_k».proof.Proof.Gen.Kernel6Ideal.Value
public import proofs.«01_k».proof.Proof.Gen.Reference6Ideal.Run
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Reference7Ideal
public import proofs.«01_k».proof.Proof.Gen.Kernel7Ideal.Value
public import proofs.«01_k».proof.Proof.Gen.Reference7Ideal.Run
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Reference8Ideal
public import proofs.«01_k».proof.Proof.Gen.Kernel8Ideal.Value
public import proofs.«01_k».proof.Proof.Gen.Reference8Ideal.Run
public import proofs.«01_k».proof.Proof.Equal
public import proofs.«01_k».proof.Proof.MergeEqual
public import proofs.«01_k».proof.Proof.ProjEqual
public import proofs.«01_k».proof.Proof.MemKvEqual
public import proofs.«01_k».proof.Proof.MemAttnEqual
public import proofs.«01_k».proof.Proof.StepEqual
public import proofs.«01_k».proof.Proof.MergeStepEqual
public import proofs.«01_k».proof.Proof.ProjStepEqual
public import Idealize.ShloMosaic.Adequacy
public import Idealize.ShloMosaic.Lib.Quiescent
public import Idealize.ShloMosaic.Init

@[expose] public section

noncomputable section

namespace Cert.Proof

open Idealize.ShloMosaic Idealize.SL.Sem Cert.Kernel

/-- The reference's frame: its run leaves the arguments unchanged, and it has no semaphore. -/
theorem ref_frame : Cert.quiescent_ReferenceIdeal (hReferenceIdeal := Cert.ReferenceIdeal.Gen.facts) := fun m ρ _ =>
  (θ_run Cert.ReferenceIdeal.defs _ _).mono (fun r h => ⟨fun c => (h c).2.2.2, sem_eq_zero_of_no_sems rfl r.2⟩) (Cert.ReferenceIdeal.Value.run_ref m ρ)

/-- Kernel and reference end with the same results. -/
theorem same : Cert.algebraic_KernelIdeal_ReferenceIdeal (hKernelIdeal := Cert.KernelIdeal.Gen.facts) (hReferenceIdeal := Cert.ReferenceIdeal.Gen.facts) := by
  intro m g m' g' _ hagree
  refine ⟨_, _, _, Cert.KernelIdeal.Value.run m g, (θ_run Cert.ReferenceIdeal.defs _ _).mono (fun r h c => ?_) (Cert.ReferenceIdeal.Value.run_ref m' g')⟩
  obtain ⟨h0, h1, h2, hk⟩ := h c
  have hs : Cert.Lru.Same m m' c := hagree c
  exact ⟨h0.trans (Cert.Lru.same0 m m' c hs), h1.trans (Cert.Lru.same1 m m' c hs), h2.trans (Cert.Lru.same2 m m' c hs), hk⟩

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  fun m ρ _ => Cert.Kernel.Gen.frame m ρ, fun m ρ _ => Cert.KernelIdeal.Gen.frame m ρ, ref_frame,
  fun m ρ _ => Cert.Kernel2.Gen.frame m ρ, fun m ρ _ => Cert.Kernel2Ideal.Gen.frame m ρ, Cert.Ffn.ref_frame,
  fun m ρ _ => Cert.Kernel3.Gen.frame m ρ, fun m ρ _ => Cert.Kernel3Ideal.Gen.frame m ρ, Cert.Mix.ref_frame,
  fun m ρ _ => Cert.Kernel4.Gen.frame m ρ, fun m ρ _ => Cert.Kernel4Ideal.Gen.frame m ρ, Cert.Mem.ref_frame,
  fun m ρ _ => Cert.Kernel5.Gen.frame m ρ, fun m ρ _ => Cert.Kernel5Ideal.Gen.frame m ρ, Cert.Att.ref_frame,
  fun m ρ _ => Cert.Kernel6.Gen.frame m ρ, fun m ρ _ => Cert.Kernel6Ideal.Gen.frame m ρ, Cert.Step.ref_frame,
  fun m ρ _ => Cert.Kernel7.Gen.frame m ρ, fun m ρ _ => Cert.Kernel7Ideal.Gen.frame m ρ, Cert.FfnStep.ref_frame,
  fun m ρ _ => Cert.Kernel8.Gen.frame m ρ, fun m ρ _ => Cert.Kernel8Ideal.Gen.frame m ρ, Cert.MixStep.ref_frame,
  trivial, same, trivial, Cert.Ffn.same, trivial, Cert.Mix.same,
  trivial, Cert.Mem.same, trivial, Cert.Att.same, trivial, Cert.Step.same,
  trivial, Cert.FfnStep.same, trivial, Cert.MixStep.same⟩

end Cert.Proof

end
